-- ==== Defs.lean ====
def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Attend [hPre_ascending_positions : Cert.Pre_ascending_positions.Facts] (m : (ℓ : Loc Cert.Attend.nD Cert.Attend.τ Cert.Attend.sig) → Buf (Elt Bits) ℓ) : Prop :=
  ∀ c : Dev Cert.Attend.nD,
    (Cert.Pre_ascending_positions.fn (F := Bits) (m ((c.tc : Thread Cert.Attend.nD Cert.Attend.τ).loc Cert.Attend.main_arg0)) (m ((c.tc : Thread Cert.Attend.nD Cert.Attend.τ).loc Cert.Attend.main_arg1)) (m ((c.tc : Thread Cert.Attend.nD Cert.Attend.τ).loc Cert.Attend.main_arg2)) (m ((c.tc : Thread Cert.Attend.nD Cert.Attend.τ).loc Cert.Attend.main_arg3)) (m ((c.tc : Thread Cert.Attend.nD Cert.Attend.τ).loc Cert.Attend.main_arg4)) (m ((c.tc : Thread Cert.Attend.nD Cert.Attend.τ).loc Cert.Attend.main_arg5))).1 = (fun _ => 1#1)
    ∧ (Cert.Pre_ascending_positions.fn (F := Bits) (m ((c.tc : Thread Cert.Attend.nD Cert.Attend.τ).loc Cert.Attend.main_arg0)) (m ((c.tc : Thread Cert.Attend.nD Cert.Attend.τ).loc Cert.Attend.main_arg1)) (m ((c.tc : Thread Cert.Attend.nD Cert.Attend.τ).loc Cert.Attend.main_arg2)) (m ((c.tc : Thread Cert.Attend.nD Cert.Attend.τ).loc Cert.Attend.main_arg3)) (m ((c.tc : Thread Cert.Attend.nD Cert.Attend.τ).loc Cert.Attend.main_arg4)) (m ((c.tc : Thread Cert.Attend.nD Cert.Attend.τ).loc Cert.Attend.main_arg5))).2 = (fun _ => 1#1)

def Pre_AttendIdeal [hPre_ascending_positions : Cert.Pre_ascending_positions.Facts] (m : (ℓ : Loc Cert.AttendIdeal.nD Cert.AttendIdeal.τ Cert.AttendIdeal.sig) → Buf (Elt Ideal) ℓ) : Prop :=
  ∀ c : Dev Cert.AttendIdeal.nD,
    (Cert.Pre_ascending_positions.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5))).1 = (fun _ => 1#1)
    ∧ (Cert.Pre_ascending_positions.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5))).2 = (fun _ => 1#1)

def Pre_AttendReferenceIdeal [hPre_ascending_positions : Cert.Pre_ascending_positions.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_ascending_positions.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3)) (m ((c.tc : Thread Cert.AttendReferenceIdeal.nD Cert.AttendReferenceIdeal.τ).loc Cert.AttendReferenceIdeal.main_arg4)) (m ((c.tc : Thread Cert.AttendReferenceIdeal.nD Cert.AttendReferenceIdeal.τ).loc Cert.AttendReferenceIdeal.main_arg5))).1 = (fun _ => 1#1)
    ∧ (Cert.Pre_ascending_positions.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3)) (m ((c.tc : Thread Cert.AttendReferenceIdeal.nD Cert.AttendReferenceIdeal.τ).loc Cert.AttendReferenceIdeal.main_arg4)) (m ((c.tc : Thread Cert.AttendReferenceIdeal.nD Cert.AttendReferenceIdeal.τ).loc Cert.AttendReferenceIdeal.main_arg5))).2 = (fun _ => 1#1)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_Attend [hAttend : Cert.Attend.Facts] [hPre_ascending_positions : Cert.Pre_ascending_positions.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5))
      ∧ r.2.sem = fun _ => 0)

def quiescent_AttendIdeal [hAttendIdeal : Cert.AttendIdeal.Facts] [hPre_ascending_positions : Cert.Pre_ascending_positions.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ r.2.sem = fun _ => 0)

def quiescent_AttendReferenceIdeal [hAttendReferenceIdeal : Cert.AttendReferenceIdeal.Facts] [hPre_ascending_positions : Cert.Pre_ascending_positions.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5))
      ∧ r.2.sem = fun _ => 0)

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v0_0) = v0 c
          ∧ r.2.mem ((c.tc : Thread Cert.OprojReferenceIdeal.nD Cert.OprojReferenceIdeal.τ).loc Cert.OprojReferenceIdeal.main_v0_1) = v1 c
          ∧ r.2.mem ((c.tc : Thread Cert.OprojReferenceIdeal.nD Cert.OprojReferenceIdeal.τ).loc Cert.OprojReferenceIdeal.main_v0_2) = v2 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_v4) = v4 c
          ∧ r.2.mem ((c.tc : Thread Cert.QkvReferenceIdeal.nD Cert.QkvReferenceIdeal.τ).loc Cert.QkvReferenceIdeal.main_v0_5) = v5 c
          ∧ r.2.mem ((c.tc : Thread Cert.QkvReferenceIdeal.nD Cert.QkvReferenceIdeal.τ).loc Cert.QkvReferenceIdeal.main_v5) = v6 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_Attend_AttendIdeal : Prop :=
  True

def algebraic_AttendIdeal_AttendReferenceIdeal [hAttendIdeal : Cert.AttendIdeal.Facts] [hAttendReferenceIdeal : Cert.AttendReferenceIdeal.Facts] [hPre_ascending_positions : Cert.Pre_ascending_positions.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)
      ∧ m' ((c.tc : Thread Cert.AttendReferenceIdeal.nD Cert.AttendReferenceIdeal.τ).loc Cert.AttendReferenceIdeal.main_arg5) = m ((c.tc : Thread Cert.AttendIdeal.nD Cert.AttendIdeal.τ).loc Cert.AttendIdeal.main_arg5)) →
    ∃ (v0 : (c : Dev Cert.AttendIdeal.nD) → Buf (Elt Ideal) ((c.tc : Thread Cert.AttendIdeal.nD Cert.AttendIdeal.τ).loc Cert.AttendIdeal.main_v3)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v3) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v13) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4)
          ∧ r.2.mem ((c.tc : Thread Cert.AttendReferenceIdeal.nD Cert.AttendReferenceIdeal.τ).loc Cert.AttendReferenceIdeal.main_arg5) = m' ((c.tc : Thread Cert.AttendReferenceIdeal.nD Cert.AttendReferenceIdeal.τ).loc Cert.AttendReferenceIdeal.main_arg5))

def Claim : Prop :=
  ∃ (hOproj : Cert.Oproj.Facts) (hOprojIdeal : Cert.OprojIdeal.Facts) (hOprojReferenceIdeal : Cert.OprojReferenceIdeal.Facts) (hQkv : Cert.Qkv.Facts) (hQkvIdeal : Cert.QkvIdeal.Facts) (hQkvReferenceIdeal : Cert.QkvReferenceIdeal.Facts) (hAttend : Cert.Attend.Facts) (hAttendIdeal : Cert.AttendIdeal.Facts) (hAttendReferenceIdeal : Cert.AttendReferenceIdeal.Facts) (hPre_ascending_positions : Cert.Pre_ascending_positions.Facts),
    quiescent_Oproj (hOproj := hOproj)
    ∧ quiescent_OprojIdeal (hOprojIdeal := hOprojIdeal)
    ∧ quiescent_OprojReferenceIdeal (hOprojReferenceIdeal := hOprojReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Attend (hAttend := hAttend) (hPre_ascending_positions := hPre_ascending_positions)
    ∧ quiescent_AttendIdeal (hAttendIdeal := hAttendIdeal) (hPre_ascending_positions := hPre_ascending_positions)
    ∧ quiescent_AttendReferenceIdeal (hAttendReferenceIdeal := hAttendReferenceIdeal) (hPre_ascending_positions := hPre_ascending_positions)
    ∧ preserves_Oproj_OprojIdeal
    ∧ algebraic_OprojIdeal_OprojReferenceIdeal (hOprojIdeal := hOprojIdeal) (hOprojReferenceIdeal := hOprojReferenceIdeal)
    ∧ preserves_Qkv_QkvIdeal
    ∧ algebraic_QkvIdeal_QkvReferenceIdeal (hQkvIdeal := hQkvIdeal) (hQkvReferenceIdeal := hQkvReferenceIdeal)
    ∧ preserves_Attend_AttendIdeal
    ∧ algebraic_AttendIdeal_AttendReferenceIdeal (hAttendIdeal := hAttendIdeal) (hAttendReferenceIdeal := hAttendReferenceIdeal) (hPre_ascending_positions := hPre_ascending_positions)
-- ==== Pre_ascending_positions.lean ====
abbrev S6x1280 : Shape := ⟨2, ![6, 1280]⟩
abbrev S6x8x20x128x256 : Shape := ⟨5, ![6, 8, 20, 128, 256]⟩
abbrev S6x8x8192x128 : Shape := ⟨4, ![6, 8, 8192, 128]⟩
abbrev S6x8x8192 : Shape := ⟨3, ![6, 8, 8192]⟩
abbrev S_ : Shape := ⟨0, ![]⟩
abbrev S6x1279 : Shape := ⟨2, ![6, 1279]⟩

class Facts : Prop where
  bcast_S_S6x1280 : S_.BroadcastsInDim S6x1280 (![] : Fin 0 → Fin S6x1280.rank)
  slices_S6x1280_S6x1279_0_0 : S6x1280.Slices ![0, 0] S6x1279
  slices_S6x1280_S6x1279_0_1 : S6x1280.Slices ![0, 1] S6x1279

variable [Facts]

def fn {F : FTy → Type} [FloatOps F] (main_arg0 : IVec S6x1280 32) (main_arg1 : FVec F S6x8x20x128x256 .bf16) (main_arg2 : FVec F S6x8x8192x128 .fp8e4m3) (main_arg3 : FVec F S6x8x8192 .f32) (main_arg4 : FVec F S6x8x8192x128 .fp8e4m3) (main_arg5 : FVec F S6x8x8192 .f32) : IVec S6x1280 1 × IVec S6x1279 1 :=
  let main_c : IVec S_ 32 := constantI S_ 32 8192#32
  let main_v0 : IVec S6x1280 32 := broadcastInDim S6x1280 ![] bcast_S_S6x1280 main_c
  let main_v1 : IVec S6x1280 1 := cmpi .slt main_arg0 main_v0
  let main_v2 : IVec S6x1279 32 := (extractStridedSlice S6x1279 ![0, 0] · slices_S6x1280_S6x1279_0_0) main_arg0
  let main_v3 : IVec S6x1279 32 := (extractStridedSlice S6x1279 ![0, 1] · slices_S6x1280_S6x1279_0_1) main_arg0
  let main_v4 : IVec S6x1279 1 := cmpi .sle main_v2 main_v3
  (main_v1, main_v4)
-- ==== Oproj.lean ====
abbrev S7680x4096 : Shape := ⟨2, ![7680, 4096]⟩
abbrev S7680x5120 : Shape := ⟨2, ![7680, 5120]⟩
abbrev S4096x5120 : Shape := ⟨2, ![4096, 5120]⟩
abbrev S1x5120 : Shape := ⟨2, ![1, 5120]⟩
abbrev S7680x1 : Shape := ⟨2, ![7680, 1]⟩
abbrev S256x4096 : Shape := ⟨2, ![256, 4096]⟩
abbrev S256x5120 : Shape := ⟨2, ![256, 5120]⟩
abbrev S256x1 : Shape := ⟨2, ![256, 1]⟩
abbrev S32x4096 : Shape := ⟨2, ![32, 4096]⟩
abbrev S32 : Shape := ⟨1, ![32]⟩
abbrev S32x1 : Shape := ⟨2, ![32, 1]⟩
abbrev S4096x512 : Shape := ⟨2, ![4096, 512]⟩
abbrev S256x512 : Shape := ⟨2, ![256, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S7680x4096, .f32⟩
  | .hbm, ⟨1, _⟩ => ⟨S7680x5120, .bf16⟩
  | .hbm, ⟨2, _⟩ => ⟨S4096x5120, .fp8e4m3⟩
  | .hbm, ⟨3, _⟩ => ⟨S1x5120, .f32⟩
  | .hbm, ⟨4, _⟩ => ⟨S7680x5120, .bf16⟩
  | .hbm, ⟨5, _⟩ => ⟨S7680x4096, .fp8e4m3⟩
  | .hbm, ⟨6, _⟩ => ⟨S7680x1, .f32⟩
  | .local _ .vmem, ⟨0, _⟩ => ⟨S256x4096, .f32⟩
  | .local _ .vmem, ⟨1, _⟩ => ⟨S256x4096, .f32⟩
  | .local _ .vmem, ⟨2, _⟩ => ⟨S256x5120, .bf16⟩
  | .local _ .vmem, ⟨3, _⟩ => ⟨S256x5120, .bf16⟩
  | .local _ .vmem, ⟨4, _⟩ => ⟨S4096x5120, .fp8e4m3⟩
  | .local _ .vmem, ⟨5, _⟩ => ⟨S1x5120, .f32⟩
  | .local _ .vmem, ⟨6, _⟩ => ⟨S256x5120, .bf16⟩
  | .local _ .vmem, ⟨7, _⟩ => ⟨S256x5120, .bf16⟩
  | .local _ .vmem, ⟨8, _⟩ => ⟨S256x4096, .fp8e4m3⟩
  | .local _ .vmem, ⟨9, _⟩ => ⟨S256x4096, .fp8e4m3⟩
  | .local _ .vmem, ⟨10, _⟩ => ⟨S256x1, .f32⟩
  | .local _ .vmem, ⟨11, _⟩ => ⟨S256x1, .f32⟩
  | _, _ => ⟨S7680x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![30], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v143 : BitVec 32 := Scalar.muli arg8 c32_i32
  v143
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v143 : BitVec 32 := Scalar.muli arg8 c32_i32
  let v144 : BitVec 32 := v143
  let v145 : Index := Scalar.indexCast v144
  let c0_102 : Index := 0#32
  ![v145.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v143 : BitVec 32 := Scalar.muli arg8 c32_i32
  let v144 : BitVec 32 := v143
  let v165 : Index := Scalar.indexCast v144
  let c0_110 : Index := 0#32
  ![v165.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OprojReferenceIdeal.lean ====
abbrev S7680x4096 : Shape := ⟨2, ![7680, 4096]⟩
abbrev S7680x5120 : Shape := ⟨2, ![7680, 5120]⟩
abbrev S4096x5120 : Shape := ⟨2, ![4096, 5120]⟩
abbrev S1x5120 : Shape := ⟨2, ![1, 5120]⟩
abbrev S7680x1 : Shape := ⟨2, ![7680, 1]⟩
abbrev S7680 : Shape := ⟨1, ![7680]⟩

abbrev nBuf : Space → Nat
  | .hbm => 7
  | .vmem => 7
  | .smem => 0
  | _ => 0

abbrev bufTy : (tb : Table) → Fin (tcTables nBuf tb) → BufTy
  | .hbm, ⟨0, _⟩ => ⟨S7680x4096, .f32⟩
  | .hbm, ⟨1, _⟩ => ⟨S7680x5120, .bf16⟩
  | .hbm, ⟨2, _⟩ => ⟨S4096x5120, .fp8e4m3⟩
  | .hbm, ⟨3, _⟩ => ⟨S1x5120, .f32⟩
  | .hbm, ⟨4, _⟩ => ⟨S7680x5120, .bf16⟩
  | .hbm, ⟨5, _⟩ => ⟨S7680x4096, .fp8e4m3⟩
  | .hbm, ⟨6, _⟩ => ⟨S7680x1, .f32⟩
  | .local _ .vmem, ⟨0, _⟩ => ⟨S7680x4096, .f32⟩
  | .local _ .vmem, ⟨1, _⟩ => ⟨S7680x5120, .bf16⟩
  | .local _ .vmem, ⟨2, _⟩ => ⟨S4096x5120, .fp8e4m3⟩
  | .local _ .vmem, ⟨3, _⟩ => ⟨S1x5120, .f32⟩
  | .local _ .vmem, ⟨4, _⟩ => ⟨S7680x5120, .bf16⟩
  | .local _ .vmem, ⟨5, _⟩ => ⟨S7680x4096, .fp8e4m3⟩
  | .local _ .vmem, ⟨6, _⟩ => ⟨S7680x1, .f32⟩
  | _, _ => ⟨S7680x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7680x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S7680x5120 : Shape := ⟨2, ![7680, 5120]⟩
abbrev S1x5120 : Shape := ⟨2, ![1, 5120]⟩
abbrev S5120x6144 : Shape := ⟨2, ![5120, 6144]⟩
abbrev S1x6144 : Shape := ⟨2, ![1, 6144]⟩
abbrev S7680x64 : Shape := ⟨2, ![7680, 64]⟩
abbrev S6x8x20x128x256 : Shape := ⟨5, ![6, 8, 20, 128, 256]⟩
abbrev S7680x1 : Shape := ⟨2, ![7680, 1]⟩
abbrev S7680x8x128 : Shape := ⟨3, ![7680, 8, 128]⟩
abbrev S7680x8 : Shape := ⟨2, ![7680, 8]⟩
abbrev S256x5120 : Shape := ⟨2, ![256, 5120]⟩
abbrev S256x64 : Shape := ⟨2, ![256, 64]⟩
abbrev S1x8x4x128x256 : Shape := ⟨5, ![1, 8, 4, 128, 256]⟩
abbrev S256x1 : Shape := ⟨2, ![256, 1]⟩
abbrev S256x8x128 : Shape := ⟨3, ![256, 8, 128]⟩
abbrev S256x8 : Shape := ⟨2, ![256, 8]⟩
abbrev S32x5120 : Shape := ⟨2, ![32, 5120]⟩
abbrev S32 : Shape := ⟨1, ![32]⟩
abbrev S32x1 : Shape := ⟨2, ![32, 1]⟩
abbrev S256x128 : Shape := ⟨2, ![256, 128]⟩
abbrev S5120x512 : Shape := ⟨2, ![5120, 512]⟩
abbrev S256x512 : Shape := ⟨2, ![256, 512]⟩
abbrev S1x512 : Shape := ⟨2, ![1, 512]⟩
abbrev S64x128 : Shape := ⟨2, ![64, 128]⟩
abbrev S128x128 : Shape := ⟨2, ![128, 128]⟩
abbrev S128x256 : Shape := ⟨2, ![128, 256]⟩
abbrev S1x1x1x128x256 : Shape := ⟨5, ![1, 1, 1, 128, 256]⟩
abbrev S256 : Shape := ⟨1, ![256]⟩
abbrev S256x1x128 : Shape := ⟨3, ![256, 1, 128]⟩

abbrev nBuf : Space → Nat
  | .hbm => 13
  | .vmem => 25
  | .smem => 0
  | _ => 0

abbrev bufTy : (tb : Table) → Fin (tcTables nBuf tb) → BufTy
  | .hbm, ⟨0, _⟩ => ⟨S7680x5120, .bf16⟩
  | .hbm, ⟨1, _⟩ => ⟨S1x5120, .f32⟩
  | .hbm, ⟨2, _⟩ => ⟨S5120x6144, .fp8e4m3⟩
  | .hbm, ⟨3, _⟩ => ⟨S1x6144, .f32⟩
  | .hbm, ⟨4, _⟩ => ⟨S7680x64, .f32⟩
  | .hbm, ⟨5, _⟩ => ⟨S7680x64, .f32⟩
  | .hbm, ⟨6, _⟩ => ⟨S6x8x20x128x256, .bf16⟩
  | .hbm, ⟨7, _⟩ => ⟨S7680x5120, .fp8e4m3⟩
  | .hbm, ⟨8, _⟩ => ⟨S7680x1, .f32⟩
  | .hbm, ⟨9, _⟩ => ⟨S7680x8x128, .fp8e4m3⟩
  | .hbm, ⟨10, _⟩ => ⟨S7680x8, .f32⟩
  | .hbm, ⟨11, _⟩ => ⟨S7680x8x128, .fp8e4m3⟩
  | .hbm, ⟨12, _⟩ => ⟨S7680x8, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x6144, .fp8e4m3⟩
  | .local _ .vmem, ⟨4, _⟩ => ⟨S1x6144, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S1x8x4x128x256, .bf16⟩
  | .local _ .vmem, ⟨10, _⟩ => ⟨S1x8x4x128x256, .bf16⟩
  | .local _ .vmem, ⟨11, _⟩ => ⟨S256x5120, .fp8e4m3⟩
  | .local _ .vmem, ⟨12, _⟩ => ⟨S256x5120, .fp8e4m3⟩
  | .local _ .vmem, ⟨13, _⟩ => ⟨S256x1, .f32⟩
  | .local _ .vmem, ⟨14, _⟩ => ⟨S256x1, .f32⟩
  | .local _ .vmem, ⟨15, _⟩ => ⟨S256x8x128, .fp8e4m3⟩
  | .local _ .vmem, ⟨16, _⟩ => ⟨S256x8x128, .fp8e4m3⟩
  | .local _ .vmem, ⟨17, _⟩ => ⟨S256x8, .f32⟩
  | .local _ .vmem, ⟨18, _⟩ => ⟨S256x8, .f32⟩
  | .local _ .vmem, ⟨19, _⟩ => ⟨S256x8x128, .fp8e4m3⟩
  | .local _ .vmem, ⟨20, _⟩ => ⟨S256x8x128, .fp8e4m3⟩
  | .local _ .vmem, ⟨21, _⟩ => ⟨S256x8, .f32⟩
  | .local _ .vmem, ⟨22, _⟩ => ⟨S256x8, .f32⟩
  | .local _ .vmem, ⟨23, _⟩ => ⟨S256x8x128, .f32⟩
  | .local _ .vmem, ⟨24, _⟩ => ⟨S256x8x128, .f32⟩
  | _, _ => ⟨S7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![30], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c32_i32 : BitVec 32 := 32#32
  let v1659 : BitVec 32 := Scalar.muli arg16 c32_i32
  v1659
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c32_i32 : BitVec 32 := 32#32
  let v1659 : BitVec 32 := Scalar.muli arg16 c32_i32
  let v1660 : BitVec 32 := v1659
  let v1661 : Index := Scalar.indexCast v1660
  let c0_555 : Index := 0#32
  ![v1661.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c32_i32 : BitVec 32 := 32#32
  let v1659 : BitVec 32 := Scalar.muli arg16 c32_i32
  let v1660 : BitVec 32 := v1659
  let v1695 : Index := Scalar.indexCast v1660
  let c0_568 : Index := 0#32
  ![v1695.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvReferenceIdeal.lean ====
abbrev S7680x5120 : Shape := ⟨2, ![7680, 5120]⟩
abbrev S1x5120 : Shape := ⟨2, ![1, 5120]⟩
abbrev S5120x6144 : Shape := ⟨2, ![5120, 6144]⟩
abbrev S1x6144 : Shape := ⟨2, ![1, 6144]⟩
abbrev S7680x64 : Shape := ⟨2, ![7680, 64]⟩
abbrev S7680x32x128 : Shape := ⟨3, ![7680, 32, 128]⟩
abbrev S7680x1 : Shape := ⟨2, ![7680, 1]⟩
abbrev S7680x8x128 : Shape := ⟨3, ![7680, 8, 128]⟩
abbrev S7680x8x1 : Shape := ⟨3, ![7680, 8, 1]⟩
abbrev S7680 : Shape := ⟨1, ![7680]⟩
abbrev S7680x6144 : Shape := ⟨2, ![7680, 6144]⟩
abbrev S7680x1x64 : Shape := ⟨3, ![7680, 1, 64]⟩
abbrev S7680x4096 : Shape := ⟨2, ![7680, 4096]⟩
abbrev S7680x1024 : Shape := ⟨2, ![7680, 1024]⟩
abbrev S7680x32x64 : Shape := ⟨3, ![7680, 32, 64]⟩
abbrev S7680x8x64 : Shape := ⟨3, ![7680, 8, 64]⟩
abbrev S7680x8 : Shape := ⟨2, ![7680, 8]⟩
abbrev S6x20x64x8x4x128 : Shape := ⟨6, ![6, 20, 64, 8, 4, 128]⟩
abbrev S6x8x20x128x4x64 : Shape := ⟨6, ![6, 8, 20, 128, 4, 64]⟩
abbrev S6x8x20x128x256 : Shape := ⟨5, ![6, 8, 20, 128, 256]⟩

abbrev nBuf : Space → Nat
  | .hbm => 18
  | .vmem => 13
  | .smem => 0
  | _ => 0

abbrev bufTy : (tb : Table) → Fin (tcTables nBuf tb) → BufTy
  | .hbm, ⟨0, _⟩ => ⟨S7680x5120, .bf16⟩
  | .hbm, ⟨1, _⟩ => ⟨S1x5120, .f32⟩
  | .hbm, ⟨2, _⟩ => ⟨S5120x6144, .fp8e4m3⟩
  | .hbm, ⟨3, _⟩ => ⟨S1x6144, .f32⟩
  | .hbm, ⟨4, _⟩ => ⟨S7680x64, .f32⟩
  | .hbm, ⟨5, _⟩ => ⟨S7680x64, .f32⟩
  | .hbm, ⟨6, _⟩ => ⟨S7680x32x128, .bf16⟩
  | .hbm, ⟨7, _⟩ => ⟨S7680x5120, .fp8e4m3⟩
  | .hbm, ⟨8, _⟩ => ⟨S7680x1, .f32⟩
  | .hbm, ⟨9, _⟩ => ⟨S7680x8x128, .fp8e4m3⟩
  | .hbm, ⟨10, _⟩ => ⟨S7680x8x1, .f32⟩
  | .hbm, ⟨11, _⟩ => ⟨S7680x8x128, .fp8e4m3⟩
  | .hbm, ⟨12, _⟩ => ⟨S7680x8x1, .f32⟩
  | .hbm, ⟨13, _⟩ => ⟨S6x20x64x8x4x128, .bf16⟩
  | .hbm, ⟨14, _⟩ => ⟨S6x8x20x128x4x64, .bf16⟩
  | .hbm, ⟨15, _⟩ => ⟨S6x8x20x128x256, .bf16⟩
  | .hbm, ⟨16, _⟩ => ⟨S7680x8, .f32⟩
  | .hbm, ⟨17, _⟩ => ⟨S7680x8, .f32⟩
  | .local _ .vmem, ⟨0, _⟩ => ⟨S7680x5120, .bf16⟩
  | .local _ .vmem, ⟨1, _⟩ => ⟨S1x5120, .f32⟩
  | .local _ .vmem, ⟨2, _⟩ => ⟨S5120x6144, .fp8e4m3⟩
  | .local _ .vmem, ⟨3, _⟩ => ⟨S1x6144, .f32⟩
  | .local _ .vmem, ⟨4, _⟩ => ⟨S7680x64, .f32⟩
  | .local _ .vmem, ⟨5, _⟩ => ⟨S7680x64, .f32⟩
  | .local _ .vmem, ⟨6, _⟩ => ⟨S7680x32x128, .bf16⟩
  | .local _ .vmem, ⟨7, _⟩ => ⟨S7680x5120, .fp8e4m3⟩
  | .local _ .vmem, ⟨8, _⟩ => ⟨S7680x1, .f32⟩
  | .local _ .vmem, ⟨9, _⟩ => ⟨S7680x8x128, .fp8e4m3⟩
  | .local _ .vmem, ⟨10, _⟩ => ⟨S7680x8x1, .f32⟩
  | .local _ .vmem, ⟨11, _⟩ => ⟨S7680x8x128, .fp8e4m3⟩
  | .local _ .vmem, ⟨12, _⟩ => ⟨S7680x8x1, .f32⟩
  | _, _ => ⟨S7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S7680x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7680x8x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7680x8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Attend.lean ====
abbrev S6x1280 : Shape := ⟨2, ![6, 1280]⟩
abbrev S6x8x20x128x256 : Shape := ⟨5, ![6, 8, 20, 128, 256]⟩
abbrev S6x8x8192x128 : Shape := ⟨4, ![6, 8, 8192, 128]⟩
abbrev S6x8x8192 : Shape := ⟨3, ![6, 8, 8192]⟩
abbrev S6x8x1x8192 : Shape := ⟨4, ![6, 8, 1, 8192]⟩
abbrev S6x20x1x64 : Shape := ⟨4, ![6, 20, 1, 64]⟩
abbrev S6x1280x4096 : Shape := ⟨3, ![6, 1280, 4096]⟩
abbrev S1x1x1x128x256 : Shape := ⟨5, ![1, 1, 1, 128, 256]⟩
abbrev S1x1x8192x128 : Shape := ⟨4, ![1, 1, 8192, 128]⟩
abbrev S1x1x1x8192 : Shape := ⟨4, ![1, 1, 1, 8192]⟩
abbrev S1x1x1x64 : Shape := ⟨4, ![1, 1, 1, 64]⟩
abbrev S1x64x512 : Shape := ⟨3, ![1, 64, 512]⟩
abbrev S8192x128 : Shape := ⟨2, ![8192, 128]⟩
abbrev S128x8192 : Shape := ⟨2, ![128, 8192]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x128 : Shape := ⟨2, ![1, 128]⟩
abbrev S128x256 : Shape := ⟨2, ![128, 256]⟩
abbrev S1x64 : Shape := ⟨2, ![1, 64]⟩
abbrev S1x256 : Shape := ⟨2, ![1, 256]⟩
abbrev S1x1 : Shape := ⟨2, ![1, 1]⟩
abbrev S512x128 : Shape := ⟨2, ![512, 128]⟩
abbrev S512x256 : Shape := ⟨2, ![512, 256]⟩
abbrev S256 : Shape := ⟨1, ![256]⟩
abbrev S128x512 : Shape := ⟨2, ![128, 512]⟩
abbrev S64x128 : Shape := ⟨2, ![64, 128]⟩
abbrev S1x64x128 : Shape := ⟨3, ![1, 64, 128]⟩

abbrev nBuf : Space → Nat
  | .hbm => 9
  | .vmem => 18
  | .smem => 1
  | _ => 0

abbrev bufTy : (tb : Table) → Fin (tcTables nBuf tb) → BufTy
  | .hbm, ⟨0, _⟩ => ⟨S6x8x20x128x256, .bf16⟩
  | .hbm, ⟨1, _⟩ => ⟨S6x8x8192x128, .fp8e4m3⟩
  | .hbm, ⟨2, _⟩ => ⟨S6x8x8192, .f32⟩
  | .hbm, ⟨3, _⟩ => ⟨S6x8x8192x128, .fp8e4m3⟩
  | .hbm, ⟨4, _⟩ => ⟨S6x8x8192, .f32⟩
  | .hbm, ⟨5, _⟩ => ⟨S6x8x1x8192, .f32⟩
  | .hbm, ⟨6, _⟩ => ⟨S6x8x1x8192, .f32⟩
  | .hbm, ⟨7, _⟩ => ⟨S6x20x1x64, .i32⟩
  | .hbm, ⟨8, _⟩ => ⟨S6x1280x4096, .f32⟩
  | .local _ .vmem, ⟨0, _⟩ => ⟨S1x1x1x128x256, .bf16⟩
  | .local _ .vmem, ⟨1, _⟩ => ⟨S1x1x1x128x256, .bf16⟩
  | .local _ .vmem, ⟨2, _⟩ => ⟨S1x1x8192x128, .fp8e4m3⟩
  | .local _ .vmem, ⟨3, _⟩ => ⟨S1x1x8192x128, .fp8e4m3⟩
  | .local _ .vmem, ⟨4, _⟩ => ⟨S1x1x1x8192, .f32⟩
  | .local _ .vmem, ⟨5, _⟩ => ⟨S1x1x1x8192, .f32⟩
  | .local _ .vmem, ⟨6, _⟩ => ⟨S1x1x8192x128, .fp8e4m3⟩
  | .local _ .vmem, ⟨7, _⟩ => ⟨S1x1x8192x128, .fp8e4m3⟩
  | .local _ .vmem, ⟨8, _⟩ => ⟨S1x1x1x8192, .f32⟩
  | .local _ .vmem, ⟨9, _⟩ => ⟨S1x1x1x8192, .f32⟩
  | .local _ .vmem, ⟨10, _⟩ => ⟨S1x1x1x64, .i32⟩
  | .local _ .vmem, ⟨11, _⟩ => ⟨S1x1x1x64, .i32⟩
  | .local _ .vmem, ⟨12, _⟩ => ⟨S1x64x512, .f32⟩
  | .local _ .vmem, ⟨13, _⟩ => ⟨S1x64x512, .f32⟩
  | .local _ .vmem, ⟨14, _⟩ => ⟨S8192x128, .bf16⟩
  | .local _ .vmem, ⟨15, _⟩ => ⟨S128x8192, .bf16⟩
  | .local _ .vmem, ⟨16, _⟩ => ⟨S8192x128, .f32⟩
  | .local _ .vmem, ⟨17, _⟩ => ⟨S8192x128, .f32⟩
  | .local _ .smem, ⟨0, _⟩ => ⟨S6x1280, .i32⟩
  | _, _ => ⟨S6x8x20x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 8, 20], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c64_i32_33 : BitVec 32 := 64#32
  let v64 : BitVec 32 := Scalar.addi c0_i32_32 c64_i32_33
  let c1_i32_34 : BitVec 32 := 1#32
  ⟨c0_i32_32, v64, c1_i32_34⟩
def k0_mult1 (k0_t1 : Fin k0_t1_loop.trips) : BitVec 32 :=
  let c0_i32_32 : BitVec 32 := 0#32
  let c1_i32_34 : BitVec 32 := 1#32
  let arg15 : BitVec 32 := Scf.iv c0_i32_32 c1_i32_34 k0_t1
  let c128_i32 : BitVec 32 := 128#32
  let v65 : BitVec 32 := Scalar.muli arg15 c128_i32
  v65
def k0_off1 (k0_t1 : Fin k0_t1_loop.trips) : Fin 4 → Nat :=
  let c0_36 : Index := 0#32
  let c0_37 : Index := 0#32
  let c0_i32_32 : BitVec 32 := 0#32
  let c1_i32_34 : BitVec 32 := 1#32
  let arg15 : BitVec 32 := Scf.iv c0_i32_32 c1_i32_34 k0_t1
  let c128_i32 : BitVec 32 := 128#32
  let v65 : BitVec 32 := Scalar.muli arg15 c128_i32
  let v66 : BitVec 32 := v65
  let v67 : Index := Scalar.indexCast v66
  let c0_38 : Index := 0#32
  ![0, 0, v67.toNat, 0]
def k0_off2 (k0_t1 : Fin k0_t1_loop.trips) : Fin 2 → Nat :=
  let c0_i32_32 : BitVec 32 := 0#32
  let c1_i32_34 : BitVec 32 := 1#32
  let arg15 : BitVec 32 := Scf.iv c0_i32_32 c1_i32_34 k0_t1
  let c128_i32 : BitVec 32 := 128#32
  let v65 : BitVec 32 := Scalar.muli arg15 c128_i32
  let v66 : BitVec 32 := v65
  let v71 : Index := Scalar.indexCast v66
  let c0_39 : Index := 0#32
  ![v71.toNat, 0]
def k0_off3 (k0_t1 : Fin k0_t1_loop.trips) : Fin 2 → Nat :=
  let c0_43 : Index := 0#32
  let c0_i32_32 : BitVec 32 := 0#32
  let c1_i32_34 : BitVec 32 := 1#32
  let arg15 : BitVec 32 := Scf.iv c0_i32_32 c1_i32_34 k0_t1
  let c128_i32 : BitVec 32 := 128#32
  let v65 : BitVec 32 := Scalar.muli arg15 c128_i32
  let v66 : BitVec 32 := v65
  let v81 : Index := Scalar.indexCast v66
  ![0, v81.toNat]
def k0_off4 (k0_t1 : Fin k0_t1_loop.trips) : Fin 4 → Nat :=
  let c0_44 : Index := 0#32
  let c0_45 : Index := 0#32
  let c0_46 : Index := 0#32
  let c0_i32_32 : BitVec 32 := 0#32
  let c1_i32_34 : BitVec 32 := 1#32
  let arg15 : BitVec 32 := Scf.iv c0_i32_32 c1_i32_34 k0_t1
  let c128_i32 : BitVec 32 := 128#32
  let v65 : BitVec 32 := Scalar.muli arg15 c128_i32
  let v66 : BitVec 32 := v65
  let v85 : Index := Scalar.indexCast v66
  ![0, 0, 0, v85.toNat]
def k0_off5 (i : grid0.Coords) : Fin 2 → Nat :=
  let arg0 : BitVec 32 := BitVec.ofNat 32 (i 0).val
  let v11 : Index := Scalar.indexCast arg0
  let arg2 : BitVec 32 := BitVec.ofNat 32 (i 2).val
  let c64_i32 : BitVec 32 := 64#32
  let v8 : BitVec 32 := Scalar.muli arg2 c64_i32
  let c64_i32_9 : BitVec 32 := 64#32
  let v9 : BitVec 32 := Scalar.addi v8 c64_i32_9
  let c1_i32 : BitVec 32 := 1#32
  let v10 : BitVec 32 := Scalar.subi v9 c1_i32
  let v12 : Index := Scalar.indexCast v10
  ![v11.toNat, v12.toNat]
@[reducible] def k0_t2_loop (v13 : BitVec 32) : Scf.Loop 32 :=
  let c0_i32_19 : BitVec 32 := 0#32
  let c0_i32_12 : BitVec 32 := 0#32
  let v18 : BitVec 1 := Scalar.cmpi .sgt v13 c0_i32_12
  let v19 : BitVec 32 := Scalar.extui v18
  let c0_i32_13 : BitVec 32 := 0#32
  let v20 : BitVec 1 := Scalar.cmpi .slt v13 c0_i32_13
  let v21 : BitVec 32 := Scalar.extui v20
  let v22 : BitVec 32 := Scalar.subi v19 v21
  let c512_i32 : BitVec 32 := 512#32
  let c0_i32_14 : BitVec 32 := 0#32
  let v23 : BitVec 1 := Scalar.cmpi .sgt c512_i32 c0_i32_14
  let v24 : BitVec 32 := Scalar.extui v23
  let c0_i32_15 : BitVec 32 := 0#32
  let v25 : BitVec 1 := Scalar.cmpi .slt c512_i32 c0_i32_15
  let v26 : BitVec 32 := Scalar.extui v25
  let v27 : BitVec 32 := Scalar.subi v24 v26
  let v28 : BitVec 1 := Scalar.cmpi .ne v22 v27
  let v29 : BitVec 32 := Scalar.remsi v13 c512_i32
  let c0_i32_16 : BitVec 32 := 0#32
  let v30 : BitVec 1 := Scalar.cmpi .ne v29 c0_i32_16
  let v31 : BitVec 1 := Scalar.andi v28 v30
  let v17 : BitVec 32 := Scalar.divsi v13 c512_i32
  let c1_i32_17 : BitVec 32 := 1#32
  let v32 : BitVec 32 := Scalar.subi v17 c1_i32_17
  let v33 : BitVec 32 := Scalar.select v31 v32 v17
  let c1_i32_18 : BitVec 32 := 1#32
  let v34 : BitVec 32 := Scalar.addi v33 c1_i32_18
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let c1_i32_21 : BitVec 32 := 1#32
  ⟨c0_i32_19, v39, c1_i32_21⟩

def k0_mult2 (v13 : BitVec 32) (k0_t2 : Fin (k0_t2_loop v13).trips) : BitVec 32 :=
  let c0_i32_19 : BitVec 32 := 0#32
  let c1_i32_21 : BitVec 32 := 1#32
  let arg15 : BitVec 32 := Scf.iv c0_i32_19 c1_i32_21 k0_t2
  let c512_i32_32 : BitVec 32 := 512#32
  let v64 : BitVec 32 := Scalar.muli arg15 c512_i32_32
  v64
def k0_off6 (v13 : BitVec 32) (k0_t2 : Fin (k0_t2_loop v13).trips) : Fin 2 → Nat :=
  let c0_i32_19 : BitVec 32 := 0#32
  let c1_i32_21 : BitVec 32 := 1#32
  let arg15 : BitVec 32 := Scf.iv c0_i32_19 c1_i32_21 k0_t2
  let c512_i32_32 : BitVec 32 := 512#32
  let v64 : BitVec 32 := Scalar.muli arg15 c512_i32_32
  let v65 : BitVec 32 := v64
  let v66 : Index := Scalar.indexCast v65
  let c0_33 : Index := 0#32
  ![v66.toNat, 0]
def k0_off7 (v13 : BitVec 32) (k0_t2 : Fin (k0_t2_loop v13).trips) : Fin 2 → Nat :=
  let c0_41 : Index := 0#32
  let c0_i32_19 : BitVec 32 := 0#32
  let c1_i32_21 : BitVec 32 := 1#32
  let arg15 : BitVec 32 := Scf.iv c0_i32_19 c1_i32_21 k0_t2
  let c512_i32_32 : BitVec 32 := 512#32
  let v64 : BitVec 32 := Scalar.muli arg15 c512_i32_32
  let v65 : BitVec 32 := v64
  let v101 : Index := Scalar.indexCast v65
  ![0, v101.toNat]
@[reducible] def k0_t3_loop (v13 : BitVec 32) : Scf.Loop 32 :=
  let c0_i32_19 : BitVec 32 := 0#32
  let c0_i32_12 : BitVec 32 := 0#32
  let v18 : BitVec 1 := Scalar.cmpi .sgt v13 c0_i32_12
  let v19 : BitVec 32 := Scalar.extui v18
  let c0_i32_13 : BitVec 32 := 0#32
  let v20 : BitVec 1 := Scalar.cmpi .slt v13 c0_i32_13
  let v21 : BitVec 32 := Scalar.extui v20
  let v22 : BitVec 32 := Scalar.subi v19 v21
  let c512_i32 : BitVec 32 := 512#32
  let c0_i32_14 : BitVec 32 := 0#32
  let v23 : BitVec 1 := Scalar.cmpi .sgt c512_i32 c0_i32_14
  let v24 : BitVec 32 := Scalar.extui v23
  let c0_i32_15 : BitVec 32 := 0#32
  let v25 : BitVec 1 := Scalar.cmpi .slt c512_i32 c0_i32_15
  let v26 : BitVec 32 := Scalar.extui v25
  let v27 : BitVec 32 := Scalar.subi v24 v26
  let v28 : BitVec 1 := Scalar.cmpi .ne v22 v27
  let v29 : BitVec 32 := Scalar.remsi v13 c512_i32
  let c0_i32_16 : BitVec 32 := 0#32
  let v30 : BitVec 1 := Scalar.cmpi .ne v29 c0_i32_16
  let v31 : BitVec 1 := Scalar.andi v28 v30
  let v17 : BitVec 32 := Scalar.divsi v13 c512_i32
  let c1_i32_17 : BitVec 32 := 1#32
  let v32 : BitVec 32 := Scalar.subi v17 c1_i32_17
  let v33 : BitVec 32 := Scalar.select v31 v32 v17
  let c1_i32_18 : BitVec 32 := 1#32
  let v34 : BitVec 32 := Scalar.addi v33 c1_i32_18
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let v36 : BitVec 32 := Scalar.addi c0_i32_19 v35
  let c1_i32_22 : BitVec 32 := 1#32
  ⟨v39, v36, c1_i32_22⟩
def k0_mult3 (v13 : BitVec 32) (k0_t3 : Fin (k0_t3_loop v13).trips) : BitVec 32 :=
  let c0_i32_19 : BitVec 32 := 0#32
  let c0_i32_12 : BitVec 32 := 0#32
  let v18 : BitVec 1 := Scalar.cmpi .sgt v13 c0_i32_12
  let v19 : BitVec 32 := Scalar.extui v18
  let c0_i32_13 : BitVec 32 := 0#32
  let v20 : BitVec 1 := Scalar.cmpi .slt v13 c0_i32_13
  let v21 : BitVec 32 := Scalar.extui v20
  let v22 : BitVec 32 := Scalar.subi v19 v21
  let c512_i32 : BitVec 32 := 512#32
  let c0_i32_14 : BitVec 32 := 0#32
  let v23 : BitVec 1 := Scalar.cmpi .sgt c512_i32 c0_i32_14
  let v24 : BitVec 32 := Scalar.extui v23
  let c0_i32_15 : BitVec 32 := 0#32
  let v25 : BitVec 1 := Scalar.cmpi .slt c512_i32 c0_i32_15
  let v26 : BitVec 32 := Scalar.extui v25
  let v27 : BitVec 32 := Scalar.subi v24 v26
  let v28 : BitVec 1 := Scalar.cmpi .ne v22 v27
  let v29 : BitVec 32 := Scalar.remsi v13 c512_i32
  let c0_i32_16 : BitVec 32 := 0#32
  let v30 : BitVec 1 := Scalar.cmpi .ne v29 c0_i32_16
  let v31 : BitVec 1 := Scalar.andi v28 v30
  let v17 : BitVec 32 := Scalar.divsi v13 c512_i32
  let c1_i32_17 : BitVec 32 := 1#32
  let v32 : BitVec 32 := Scalar.subi v17 c1_i32_17
  let v33 : BitVec 32 := Scalar.select v31 v32 v17
  let c1_i32_18 : BitVec 32 := 1#32
  let v34 : BitVec 32 := Scalar.addi v33 c1_i32_18
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let c1_i32_22 : BitVec 32 := 1#32
  let arg15 : BitVec 32 := Scf.iv v39 c1_i32_22 k0_t3
  let c512_i32_32 : BitVec 32 := 512#32
  let v64 : BitVec 32 := Scalar.muli arg15 c512_i32_32
  v64
def k0_off8 (v13 : BitVec 32) (k0_t3 : Fin (k0_t3_loop v13).trips) : Fin 2 → Nat :=
  let c0_i32_19 : BitVec 32 := 0#32
  let c0_i32_12 : BitVec 32 := 0#32
  let v18 : BitVec 1 := Scalar.cmpi .sgt v13 c0_i32_12
  let v19 : BitVec 32 := Scalar.extui v18
  let c0_i32_13 : BitVec 32 := 0#32
  let v20 : BitVec 1 := Scalar.cmpi .slt v13 c0_i32_13
  let v21 : BitVec 32 := Scalar.extui v20
  let v22 : BitVec 32 := Scalar.subi v19 v21
  let c512_i32 : BitVec 32 := 512#32
  let c0_i32_14 : BitVec 32 := 0#32
  let v23 : BitVec 1 := Scalar.cmpi .sgt c512_i32 c0_i32_14
  let v24 : BitVec 32 := Scalar.extui v23
  let c0_i32_15 : BitVec 32 := 0#32
  let v25 : BitVec 1 := Scalar.cmpi .slt c512_i32 c0_i32_15
  let v26 : BitVec 32 := Scalar.extui v25
  let v27 : BitVec 32 := Scalar.subi v24 v26
  let v28 : BitVec 1 := Scalar.cmpi .ne v22 v27
  let v29 : BitVec 32 := Scalar.remsi v13 c512_i32
  let c0_i32_16 : BitVec 32 := 0#32
  let v30 : BitVec 1 := Scalar.cmpi .ne v29 c0_i32_16
  let v31 : BitVec 1 := Scalar.andi v28 v30
  let v17 : BitVec 32 := Scalar.divsi v13 c512_i32
  let c1_i32_17 : BitVec 32 := 1#32
  let v32 : BitVec 32 := Scalar.subi v17 c1_i32_17
  let v33 : BitVec 32 := Scalar.select v31 v32 v17
  let c1_i32_18 : BitVec 32 := 1#32
  let v34 : BitVec 32 := Scalar.addi v33 c1_i32_18
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let c1_i32_22 : BitVec 32 := 1#32
  let arg15 : BitVec 32 := Scf.iv v39 c1_i32_22 k0_t3
  let c512_i32_32 : BitVec 32 := 512#32
  let v64 : BitVec 32 := Scalar.muli arg15 c512_i32_32
  let v65 : BitVec 32 := v64
  let v66 : Index := Scalar.indexCast v65
  let c0_33 : Index := 0#32
  ![v66.toNat, 0]
def k0_off9 (v13 : BitVec 32) (k0_t3 : Fin (k0_t3_loop v13).trips) : Fin 2 → Nat :=
  let c0_41 : Index := 0#32
  let c0_i32_19 : BitVec 32 := 0#32
  let c0_i32_12 : BitVec 32 := 0#32
  let v18 : BitVec 1 := Scalar.cmpi .sgt v13 c0_i32_12
  let v19 : BitVec 32 := Scalar.extui v18
  let c0_i32_13 : BitVec 32 := 0#32
  let v20 : BitVec 1 := Scalar.cmpi .slt v13 c0_i32_13
  let v21 : BitVec 32 := Scalar.extui v20
  let v22 : BitVec 32 := Scalar.subi v19 v21
  let c512_i32 : BitVec 32 := 512#32
  let c0_i32_14 : BitVec 32 := 0#32
  let v23 : BitVec 1 := Scalar.cmpi .sgt c512_i32 c0_i32_14
  let v24 : BitVec 32 := Scalar.extui v23
  let c0_i32_15 : BitVec 32 := 0#32
  let v25 : BitVec 1 := Scalar.cmpi .slt c512_i32 c0_i32_15
  let v26 : BitVec 32 := Scalar.extui v25
  let v27 : BitVec 32 := Scalar.subi v24 v26
  let v28 : BitVec 1 := Scalar.cmpi .ne v22 v27
  let v29 : BitVec 32 := Scalar.remsi v13 c512_i32
  let c0_i32_16 : BitVec 32 := 0#32
  let v30 : BitVec 1 := Scalar.cmpi .ne v29 c0_i32_16
  let v31 : BitVec 1 := Scalar.andi v28 v30
  let v17 : BitVec 32 := Scalar.divsi v13 c512_i32
  let c1_i32_17 : BitVec 32 := 1#32
  let v32 : BitVec 32 := Scalar.subi v17 c1_i32_17
  let v33 : BitVec 32 := Scalar.select v31 v32 v17
  let c1_i32_18 : BitVec 32 := 1#32
  let v34 : BitVec 32 := Scalar.addi v33 c1_i32_18
  let v35 : BitVec 32 := Scalar.subi v34 c0_i32_19
  let c1_i32_20 : BitVec 32 := 1#32
  let v37 : BitVec 32 := Scalar.divsi v35 c1_i32_20
  let v38 : BitVec 32 := Scalar.muli v37 c1_i32_20
  let v39 : BitVec 32 := Scalar.addi c0_i32_19 v38
  let c1_i32_22 : BitVec 32 := 1#32
  let arg15 : BitVec 32 := Scf.iv v39 c1_i32_22 k0_t3
  let c512_i32_32 : BitVec 32 := 512#32
  let v64 : BitVec 32 := Scalar.muli arg15 c512_i32_32
  let v65 : BitVec 32 := v64
  let v101 : Index := Scalar.indexCast v65
  ![0, v101.toNat]

def k0_chk1 (v13 : BitVec 32) : Prop :=
  ((k0_t2_loop v13).OK) ∧
  (∀ k0_t2 : Fin (k0_t2_loop v13).trips, 512 ∣ (k0_mult2 v13 k0_t2).toNat) ∧
  (∀ k0_t2 : Fin (k0_t2_loop v13).trips, ∀ a, (k0_off6 v13 k0_t2) a + S512x128.size a ≤ S8192x128.size a) ∧
  (∀ k0_t2 : Fin (k0_t2_loop v13).trips, ∀ a, (k0_off7 v13 k0_t2) a + S128x512.size a ≤ S128x8192.size a) ∧
  ((k0_t3_loop v13).OK) ∧
  (∀ k0_t3 : Fin (k0_t3_loop v13).trips, 512 ∣ (k0_mult3 v13 k0_t3).toNat) ∧
  (∀ k0_t3 : Fin (k0_t3_loop v13).trips, ∀ a, (k0_off8 v13 k0_t3) a + S512x128.size a ≤ S8192x128.size a) ∧
  (∀ k0_t3 : Fin (k0_t3_loop v13).trips, ∀ a, (k0_off9 v13 k0_t3) a + S128x512.size a ≤ S128x8192.size a)
theorem k0_t2_ok : ∀ (v13 : BitVec 32) (k0_hw1 : k0_chk1 v13), (k0_t2_loop v13).OK := fun v13 k0_hw1 => k0_hw1.1
theorem k0_mult2_dvd : ∀ (v13 : BitVec 32) (k0_hw1 : k0_chk1 v13) (k0_t2 : Fin (k0_t2_loop v13).trips), 512 ∣ (k0_mult2 v13 k0_t2).toNat := fun v13 k0_hw1 k0_t2 => k0_hw1.2.1 k0_t2
theorem k0_off6_inb : ∀ (v13 : BitVec 32) (k0_hw1 : k0_chk1 v13) (k0_t2 : Fin (k0_t2_loop v13).trips), ∀ a, (k0_off6 v13 k0_t2) a + S512x128.size a ≤ S8192x128.size a := fun v13 k0_hw1 k0_t2 => k0_hw1.2.2.1 k0_t2
theorem k0_off7_inb : ∀ (v13 : BitVec 32) (k0_hw1 : k0_chk1 v13) (k0_t2 : Fin (k0_t2_loop v13).trips), ∀ a, (k0_off7 v13 k0_t2) a + S128x512.size a ≤ S128x8192.size a := fun v13 k0_hw1 k0_t2 => k0_hw1.2.2.2.1 k0_t2
theorem k0_t3_ok : ∀ (v13 : BitVec 32) (k0_hw1 : k0_chk1 v13), (k0_t3_loop v13).OK := fun v13 k0_hw1 => k0_hw1.2.2.2.2.1
theorem k0_mult3_dvd : ∀ (v13 : BitVec 32) (k0_hw1 : k0_chk1 v13) (k0_t3 : Fin (k0_t3_loop v13).trips), 512 ∣ (k0_mult3 v13 k0_t3).toNat := fun v13 k0_hw1 k0_t3 => k0_hw1.2.2.2.2.2.1 k0_t3
theorem k0_off8_inb : ∀ (v13 : BitVec 32) (k0_hw1 : k0_chk1 v13) (k0_t3 : Fin (k0_t3_loop v13).trips), ∀ a, (k0_off8 v13 k0_t3) a + S512x128.size a ≤ S8192x128.size a := fun v13 k0_hw1 k0_t3 => k0_hw1.2.2.2.2.2.2.1 k0_t3
theorem k0_off9_inb : ∀ (v13 : BitVec 32) (k0_hw1 : k0_chk1 v13) (k0_t3 : Fin (k0_t3_loop v13).trips), ∀ a, (k0_off9 v13 k0_t3) a + S128x512.size a ≤ S128x8192.size a := fun v13 k0_hw1 k0_t3 => k0_hw1.2.2.2.2.2.2.2 k0_t3

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttendReferenceIdeal.lean ====
abbrev S6x1280 : Shape := ⟨2, ![6, 1280]⟩
abbrev S6x8x20x128x256 : Shape := ⟨5, ![6, 8, 20, 128, 256]⟩
abbrev S6x8x8192x128 : Shape := ⟨4, ![6, 8, 8192, 128]⟩
abbrev S6x8x8192 : Shape := ⟨3, ![6, 8, 8192]⟩
abbrev S6x8x20x128x4x64 : Shape := ⟨6, ![6, 8, 20, 128, 4, 64]⟩
abbrev S6x8x4x20x64x128 : Shape := ⟨6, ![6, 8, 4, 20, 64, 128]⟩
abbrev S48x5120x128 : Shape := ⟨3, ![48, 5120, 128]⟩
abbrev S6x1x1x1280 : Shape := ⟨4, ![6, 1, 1, 1280]⟩
abbrev S6x8x4x1280 : Shape := ⟨4, ![6, 8, 4, 1280]⟩
abbrev S48x5120x1 : Shape := ⟨3, ![48, 5120, 1]⟩
abbrev S48x8192x128 : Shape := ⟨3, ![48, 8192, 128]⟩
abbrev S48x1x8192 : Shape := ⟨3, ![48, 1, 8192]⟩
abbrev S48x5120x8192 : Shape := ⟨3, ![48, 5120, 8192]⟩
abbrev S48x5120 : Shape := ⟨2, ![48, 5120]⟩
abbrev S6x8x4x1280x128 : Shape := ⟨5, ![6, 8, 4, 1280, 128]⟩
abbrev S6x1280x8x4x128 : Shape := ⟨5, ![6, 1280, 8, 4, 128]⟩
abbrev S6x1280x4096 : Shape := ⟨3, ![6, 1280, 4096]⟩

abbrev nBuf : Space → Nat
  | .hbm => 20
  | .vmem => 7
  | .smem => 0
  | _ => 0

abbrev bufTy : (tb : Table) → Fin (tcTables nBuf tb) → BufTy
  | .hbm, ⟨0, _⟩ => ⟨S6x1280, .i32⟩
  | .hbm, ⟨1, _⟩ => ⟨S6x8x20x128x256, .bf16⟩
  | .hbm, ⟨2, _⟩ => ⟨S6x8x8192x128, .fp8e4m3⟩
  | .hbm, ⟨3, _⟩ => ⟨S6x8x8192, .f32⟩
  | .hbm, ⟨4, _⟩ => ⟨S6x8x8192x128, .fp8e4m3⟩
  | .hbm, ⟨5, _⟩ => ⟨S6x8x8192, .f32⟩
  | .hbm, ⟨6, _⟩ => ⟨S6x8x20x128x4x64, .bf16⟩
  | .hbm, ⟨7, _⟩ => ⟨S6x8x4x20x64x128, .bf16⟩
  | .hbm, ⟨8, _⟩ => ⟨S48x5120x128, .bf16⟩
  | .hbm, ⟨9, _⟩ => ⟨S6x1x1x1280, .i32⟩
  | .hbm, ⟨10, _⟩ => ⟨S6x8x4x1280, .i32⟩
  | .hbm, ⟨11, _⟩ => ⟨S48x5120x1, .i32⟩
  | .hbm, ⟨12, _⟩ => ⟨S48x8192x128, .fp8e4m3⟩
  | .hbm, ⟨13, _⟩ => ⟨S48x1x8192, .f32⟩
  | .hbm, ⟨14, _⟩ => ⟨S48x8192x128, .fp8e4m3⟩
  | .hbm, ⟨15, _⟩ => ⟨S48x1x8192, .f32⟩
  | .hbm, ⟨16, _⟩ => ⟨S48x5120x128, .f32⟩
  | .hbm, ⟨17, _⟩ => ⟨S6x8x4x1280x128, .f32⟩
  | .hbm, ⟨18, _⟩ => ⟨S6x1280x8x4x128, .f32⟩
  | .hbm, ⟨19, _⟩ => ⟨S6x1280x4096, .f32⟩
  | .local _ .vmem, ⟨0, _⟩ => ⟨S48x5120x1, .i32⟩
  | .local _ .vmem, ⟨1, _⟩ => ⟨S48x5120x128, .bf16⟩
  | .local _ .vmem, ⟨2, _⟩ => ⟨S48x8192x128, .fp8e4m3⟩
  | .local _ .vmem, ⟨3, _⟩ => ⟨S48x1x8192, .f32⟩
  | .local _ .vmem, ⟨4, _⟩ => ⟨S48x8192x128, .fp8e4m3⟩
  | .local _ .vmem, ⟨5, _⟩ => ⟨S48x1x8192, .f32⟩
  | .local _ .vmem, ⟨6, _⟩ => ⟨S48x5120x128, .f32⟩
  | _, _ => ⟨S6x1280, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S48x5120x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x5120x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x8192x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x8192x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RowQuant.lean ====
/- Hand-written, untrusted: QUANTISING A ROW, at the extended reals. A row `x` has the scale `rowScale x`: its largest magnitude
   over 448, or one where that is zero; its element `a` has the code `code (rowScale x) a`: `a` over the scale, clipped to
   ±448. Below them, the vector operations by which a kernel states this for every row of a matrix at once, read at an index,
   and a plain matrix product read at an index: for matrices of any extents, so that a tile and a whole array are read by the
   same lemma. -/
module

public import Idealize.ShloMosaic.Lib.Pointwise
public import Idealize.ShloMosaic.Lib.MatmulPlain
public import Idealize.ShloMosaic.Lib.Pipeline.ValueKit

@[expose] public section

noncomputable section
namespace Cert.RowQuant

open Idealize.ShloMosaic
open scoped BigOperators

/-- The largest magnitude of a row. -/
def rowMax {K : ℕ} (x : Fin K → EReal) : EReal :=
  (Finset.univ : Finset (Fin K)).fold max (Ideal.ofBits .f32 0xFF800000#32) (fun k => FloatOps.absf (F := Ideal) (φ := .f32) (x k))

/-- The scale for a largest magnitude `m`: `m / 448`, and one where `m` is zero. -/
def scaleOf (m : EReal) : EReal :=
  Scalar.select (FloatOps.cmpf (F := Ideal) (φ := .f32) .oeq m (Ideal.ofBits .f32 0x00000000#32)) (Ideal.ofBits .f32 0x3F800000#32)
    (Ideal.div m (Ideal.ofBits .f32 0x43E00000#32))

/-- The scale of a row. -/
def rowScale {K : ℕ} (x : Fin K → EReal) : EReal := scaleOf (rowMax x)

/-- The code of `a` at the scale `s`: `a / s` clipped to ±448. -/
def code (s a : EReal) : EReal :=
  min (Ideal.ofBits .f32 0x43E00000#32) (max (Ideal.ofBits .f32 0xC3E00000#32) (Ideal.div a s))

/-- Every row's scale as the vector operations state it. -/
def scaleVec {M K : ℕ} (x : FVec Ideal ⟨2, ![M, K]⟩ .f32) (hr : Shape.Reduces ⟨2, ![M, K]⟩ [1] ⟨1, ![M]⟩)
    (hc : (⟨1, ![M]⟩ : Shape).ShapeCasts ⟨2, ![M, 1]⟩) : FVec Ideal ⟨2, ![M, 1]⟩ .f32 :=
  select (cmpf .oeq (shapeCast ⟨2, ![M, 1]⟩ (multiReduction .maximumf [1] ⟨1, ![M]⟩ (absf x) 0xFF800000#32 hr) hc)
      (broadcast ⟨2, ![M, 1]⟩ (Scalar.ofBits .f32 0x00000000#32)))
    (broadcast ⟨2, ![M, 1]⟩ (Scalar.ofBits .f32 0x3F800000#32))
    (divf (shapeCast ⟨2, ![M, 1]⟩ (multiReduction .maximumf [1] ⟨1, ![M]⟩ (absf x) 0xFF800000#32 hr) hc)
      (broadcast ⟨2, ![M, 1]⟩ (Scalar.ofBits .f32 0x43E00000#32)))

/-- The rows' largest magnitudes, kept as a column, read at a row. -/
theorem maxCol_apply {M K : ℕ} (x : FVec Ideal ⟨2, ![M, K]⟩ .f32) (hr : Shape.Reduces ⟨2, ![M, K]⟩ [1] ⟨1, ![M]⟩)
    (hc : (⟨1, ![M]⟩ : Shape).ShapeCasts ⟨2, ![M, 1]⟩) (r : Fin M) (z : Fin 1) :
    shapeCast ⟨2, ![M, 1]⟩ (multiReduction .maximumf [1] ⟨1, ![M]⟩ (absf x) 0xFF800000#32 hr) hc (ValueIdx.ix2 r z)
      = rowMax fun k => x (ValueIdx.ix2 r k) := by
  obtain rfl : z = 0 := Subsingleton.elim _ _
  rw [shapeCast_apply _ hc (ValueIdx.ix2 r 0) (ValueIdx.ix1 r) (by
    rw [Shape.rowMajor_val_one, Shape.rowMajor_val_two]; show r.val = r.val * 1 + 0; omega)]
  refine (Ideal.multiReduction_maximumf_single _ _ _ _ _ _).trans ?_
  unfold rowMax
  refine congrArg (fun f => (Finset.univ : Finset (Fin K)).fold max (Ideal.ofBits .f32 0xFF800000#32) f) (funext fun k => ?_)
  show FloatOps.absf (x (hr.lift (ValueIdx.ix1 r) k)) = FloatOps.absf (x (ValueIdx.ix2 r k))
  congr 2
  funext a
  match a with
  | ⟨0, _⟩ => rfl
  | ⟨1, _⟩ => rfl

theorem scaleVec_apply {M K : ℕ} (x : FVec Ideal ⟨2, ![M, K]⟩ .f32) (hr : Shape.Reduces ⟨2, ![M, K]⟩ [1] ⟨1, ![M]⟩)
    (hc : (⟨1, ![M]⟩ : Shape).ShapeCasts ⟨2, ![M, 1]⟩) (r : Fin M) (z : Fin 1) :
    scaleVec x hr hc (ValueIdx.ix2 r z) = rowScale fun k => x (ValueIdx.ix2 r k) := by
  have h := maxCol_apply x hr hc r z
  show Scalar.select (FloatOps.cmpf .oeq (shapeCast ⟨2, ![M, 1]⟩ _ hc (ValueIdx.ix2 r z)) _) _ (Ideal.div (shapeCast ⟨2, ![M, 1]⟩ _ hc (ValueIdx.ix2 r z)) _) = _
  rw [h]; rfl

/-- Every element's code as the vector operations state it, at a column of scales. -/
def codeVec {M K : ℕ} (x : FVec Ideal ⟨2, ![M, K]⟩ .f32) (s : FVec Ideal ⟨2, ![M, 1]⟩ .f32)
    (hb : (⟨2, ![M, 1]⟩ : Shape).Broadcasts ⟨2, ![M, K]⟩) (hl : FTy.fp8e4m3.bits < FTy.f32.bits) : FVec Ideal ⟨2, ![M, K]⟩ .fp8e4m3 :=
  truncf .fp8e4m3 (minimumf (broadcast ⟨2, ![M, K]⟩ (Scalar.ofBits .f32 0x43E00000#32))
    (maximumf (broadcast ⟨2, ![M, K]⟩ (Scalar.ofBits .f32 0xC3E00000#32)) (divf x (broadcastTo ⟨2, ![M, K]⟩ s hb)))) hl

/-- A column broadcast over the columns of a matrix, read at an index. -/
theorem bcastCol_apply {M K : ℕ} {φ : FTy} (s : FVec Ideal ⟨2, ![M, 1]⟩ φ) (hb : (⟨2, ![M, 1]⟩ : Shape).Broadcasts ⟨2, ![M, K]⟩)
    (r : Fin M) (k : Fin K) : broadcastTo ⟨2, ![M, K]⟩ s hb (ValueIdx.ix2 r k) = s (ValueIdx.ix2 r 0) := by
  refine broadcastTo_apply s hb (ValueIdx.ix2 r k) (ValueIdx.ix2 r 0) fun a => ?_
  match a with
  | ⟨0, _⟩ =>
    show r.val = if M = 1 then 0 else r.val
    split
    · have := r.isLt; omega
    · rfl
  | ⟨1, _⟩ => rfl

/-- A row broadcast over the rows of a matrix, read at an index. -/
theorem bcastRow_apply {M K : ℕ} {φ : FTy} (s : FVec Ideal ⟨2, ![1, K]⟩ φ) (hb : (⟨2, ![1, K]⟩ : Shape).Broadcasts ⟨2, ![M, K]⟩)
    (r : Fin M) (k : Fin K) : broadcastTo ⟨2, ![M, K]⟩ s hb (ValueIdx.ix2 r k) = s (ValueIdx.ix2 0 k) := by
  refine broadcastTo_apply s hb (ValueIdx.ix2 r k) (ValueIdx.ix2 0 k) fun a => ?_
  match a with
  | ⟨0, _⟩ => rfl
  | ⟨1, _⟩ =>
    show k.val = if K = 1 then 0 else k.val
    split
    · have := k.isLt; omega
    · rfl

theorem codeVec_apply {M K : ℕ} (x : FVec Ideal ⟨2, ![M, K]⟩ .f32) (s : FVec Ideal ⟨2, ![M, 1]⟩ .f32)
    (hb : (⟨2, ![M, 1]⟩ : Shape).Broadcasts ⟨2, ![M, K]⟩) (hl : FTy.fp8e4m3.bits < FTy.f32.bits) (r : Fin M) (k : Fin K) :
    codeVec x s hb hl (ValueIdx.ix2 r k) = code (s (ValueIdx.ix2 r 0)) (x (ValueIdx.ix2 r k)) := by
  show min _ (max _ (Ideal.div _ (broadcastTo ⟨2, ![M, K]⟩ s hb (ValueIdx.ix2 r k)))) = _
  rw [bcastCol_apply]; rfl

/-- A plain product into a zero accumulator, read at an index. -/
theorem product_apply {M K N : ℕ} {φ₁ φ₂ : FTy} (d : DotDims ⟨2, ![M, K]⟩ ⟨2, ![K, N]⟩ ⟨2, ![M, N]⟩) (hd : d = DotDims.plain M K N)
    (prec : Option ContractPrecision) (lhs : FVec Ideal ⟨2, ![M, K]⟩ φ₁) (rhs : FVec Ideal ⟨2, ![K, N]⟩ φ₂) (r : Fin M) (j : Fin N) :
    matmul d prec lhs rhs (constant ⟨2, ![M, N]⟩ .f32 0x00000000#32) (ValueIdx.ix2 r j) = ∑ k : Fin K, lhs (ValueIdx.ix2 r k) * rhs (ValueIdx.ix2 k j) := by
  subst hd
  refine (Ideal.matmul_plain_apply prec lhs rhs _ r j).trans ?_
  show Ideal.ofBits .f32 0x00000000#32 + _ = _
  rw [show Ideal.ofBits .f32 0x00000000#32 = 0 from by simp, zero_add]

end Cert.RowQuant
-- ==== Proof.WholeWrites.lean ====
/- Hand-written, untrusted: WRITING A WHOLE BUFFER OVER. When the pieces cover a whole memref, what it held before is forgotten. -/
module

public import proofs.«01_k».proof.Proof.RowQuant

@[expose] public section

namespace Cert.WholeWrites

open Idealize.ShloMosaic

variable {sig : RefSig} {κ : Kind} {sp : Space} {s : Shape} {e : EltTy} {Val : EltTy → Type} [∀ e, Nonempty (Val e)]

/-- Pieces covering a whole memref leave the same contents over any earlier ones. -/
theorem writes_eq_junk (m : Memref sig κ sp s e) (h : m.IsWhole) (f : m.view.ty.Contents Val) (L : List (View.Piece Val s e))
    (hL : ∀ y, ∃ p ∈ L, y ∈ p.1.set) :
    m.view.writes Val f L = m.view.writes Val m.view.junk L :=
  (h.eq_unread (View.read_writes_of_cover m.view f m.view m.view.junk L hL)).trans (h.eq_unread rfl).symm

/-- … and they are the contents that read as the pieces laid over junk. -/
theorem writes_junk_eq_unread (m : Memref sig κ sp s e) (h : m.IsWhole) (L : List (View.Piece Val s e)) :
    m.view.writes Val m.view.junk L = h.unread (View.canon L) :=
  h.eq_unread (View.read_writes_junk_eq_canon m.view L)

end Cert.WholeWrites
-- ==== Proof.AttendRunA.lean ====
/- Hand-written, untrusted: THE KERNEL'S BODY RUN at the first of the twenty points of a head, where it widens the head's keys and values
   into its four buffers before it attends. The loops that attend carry the contents of the four buffers; the widening
   covers each buffer, so what they held before is forgotten (`WholeWrites.writes_eq_junk`) and the pieces the body
   leaves do not depend on it. -/
module

public import proofs.«01_k».proof.Proof.WholeWrites
public import proofs.«01_k».proof.Proof.Gen.Attend.Frame.Runs

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 20, … 940: 48 of 960), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) :
    Σ' (L6 : List (View.Piece (Elt F) S1x64x512 .f32)), Σ' (LS0 : List (View.Piece (Elt F) S8192x128 .bf16)), Σ' (LS1 : List (View.Piece (Elt F) S128x8192 .bf16)), Σ' (LS2 : List (View.Piece (Elt F) S8192x128 .f32)), { LS3 : List (View.Piece (Elt F) S8192x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_attend_eq_skeleton]; unfold cc0_attend_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    rw [Cert.WholeWrites.writes_eq_junk arg11 harg11 fs0 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).1
      (View.cover_of_tiledL _ S128x128.size (by sl_kernel_rfl))]
    rw [Cert.WholeWrites.writes_eq_junk arg12 harg12 fs1 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.1
      (View.cover_of_tiledL _ S128x128.size (by sl_kernel_rfl))]
    rw [Cert.WholeWrites.writes_eq_junk arg13 harg13 fs2 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.2.1
      (View.cover_of_tiledL _ S128x128.size (by sl_kernel_rfl))]
    rw [Cert.WholeWrites.writes_eq_junk arg14 harg14 fs3 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.2.2
      (View.cover_of_tiledL _ S128x128.size (by sl_kernel_rfl))]
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexact HT0

end Cert.Attend.Gen

end
-- ==== Proof.AttendRunB.lean ====
/- Hand-written, untrusted: THE KERNEL'S BODY RUN at the points of a head after its first, where the four buffers are read as the point
   before left them. -/
module

public import proofs.«01_k».proof.Proof.AttendRunA

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken: points 1, 2, … 959: 912 of 960), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) :
    Σ' (L6 : List (View.Piece (Elt F) S1x64x512 .f32)), Σ' (LS0 : List (View.Piece (Elt F) S8192x128 .bf16)), Σ' (LS1 : List (View.Piece (Elt F) S128x8192 .bf16)), Σ' (LS2 : List (View.Piece (Elt F) S8192x128 .f32)), { LS3 : List (View.Piece (Elt F) S8192x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ owns (c : Thread nD τ) arg11 fullShare xs0 ∗ owns (c : Thread nD τ) arg12 fullShare xs1 ∗ owns (c : Thread nD τ) arg13 fullShare xs2 ∗ owns (c : Thread nD τ) arg14 fullShare xs3 ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, [], [], [], [], fun E K => ?run⟩
  case run =>
    simp only [cc0_attend_eq_skeleton]; unfold cc0_attend_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0; obtain rfl := harg12.eq_unread hfs1; obtain rfl := harg13.eq_unread hfs2; obtain rfl := harg14.eq_unread hfs3
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HS3]
    · iexists _; isplitr; · ipureintro; exact harg14.read_unread _
      iexact HS3
    iexact HT0

end Cert.Attend.Gen

end
-- ==== Proof.AttendFrame.lean ====
/- Hand-written, untrusted: THE FRAME CERTIFICATE of the attention call: what the body leaves in its output and in its four buffers point by
   point, the proof data of the pipeline, the body's obligation, the run and the frame claim. -/
module

public import proofs.«01_k».proof.Proof.AttendRunB
public import Idealize.ShloMosaic.Lib.Claim

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i) (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (k0_hw1 : k0_chk1 (tbM0_0.view.readAt (Elt F) (Rect.unit (s := S6x1280) (k0_off5 i) S1x1.size (k0_off5_inb i)).toLoadRect xt0 (Shape.Idx.first (numel1_S1x1.symm ▸ Nat.one_pos))))

/-- Case A's pieces for output 6 tile its block (4 stores of `S1x64x128`, checked by the kernel's evaluation: Lib/Ring.lean `Piece.tiledL`, linear in the pieces, through a loop's `@[irreducible]` trip theorem too), so they cover it. -/
theorem cover0_A_6 (y : S1x64x512.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1 S1x64x128.size (by sl_kernel_rfl) y

/-- What case A leaves in output 6's staging buffer: its pieces read back over junk. -/
def out0_A_6 : Vec F S1x64x512 .f32 :=
  VO0_6.read (Elt F) (VO0_6.writes (Elt F) VO0_6.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1)

/-- Case A's pieces for scratch `arg11`, which the kernel carries between points, cover it: 64 pieces of `S128x128` tiling it (Lib/Ring.lean `Piece.tiledL`). -/
theorem scover0_A_0 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1 S128x128.size (by sl_kernel_rfl) y

/-- What case A leaves in scratch `arg11`: its pieces read back over junk. -/
def sout0_A_0 : Vec F S8192x128 .bf16 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1)

/-- Case A's pieces for scratch `arg12`, which the kernel carries between points, cover it: 64 pieces of `S128x128` tiling it (Lib/Ring.lean `Piece.tiledL`). -/
theorem scover0_A_1 (y : S128x8192.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1 S128x128.size (by sl_kernel_rfl) y

/-- What case A leaves in scratch `arg12`: its pieces read back over junk. -/
def sout0_A_1 : Vec F S128x8192 .bf16 :=
  VS0_1.read (Elt F) (VS0_1.writes (Elt F) VS0_1.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1)

/-- Case A's pieces for scratch `arg13`, which the kernel carries between points, cover it: 64 pieces of `S128x128` tiling it (Lib/Ring.lean `Piece.tiledL`). -/
theorem scover0_A_2 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1 S128x128.size (by sl_kernel_rfl) y

/-- What case A leaves in scratch `arg13`: its pieces read back over junk. -/
def sout0_A_2 : Vec F S8192x128 .f32 :=
  VS0_2.read (Elt F) (VS0_2.writes (Elt F) VS0_2.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1)

/-- Case A's pieces for scratch `arg14`, which the kernel carries between points, cover it: 64 pieces of `S128x128` tiling it (Lib/Ring.lean `Piece.tiledL`). -/
theorem scover0_A_3 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1 S128x128.size (by sl_kernel_rfl) y

/-- What case A leaves in scratch `arg14`: its pieces read back over junk. -/
def sout0_A_3 : Vec F S8192x128 .f32 :=
  VS0_3.read (Elt F) (VS0_3.writes (Elt F) VS0_3.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1)

end

/-- Case B's pieces for output 6 tile its block (4 stores of `S1x64x128`, checked by the kernel's evaluation: Lib/Ring.lean `Piece.tiledL`, linear in the pieces, through a loop's `@[irreducible]` trip theorem too), so they cover it. -/
theorem cover0_B_6 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) (y : S1x64x512.Idx) :
    ∃ pc ∈ (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1 S1x64x128.size (by sl_kernel_rfl) y

/-- What case B leaves in output 6's staging buffer: its pieces read back over junk. -/
def out0_B_6 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S1x64x512 .f32 :=
  VO0_6.read (Elt F) (VO0_6.writes (Elt F) VO0_6.junk (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1)

/-- Case B stores nothing into scratch `arg11`: it holds what the point before left. -/
def sout0_B_0 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .bf16 := xs0

/-- Case B stores nothing into scratch `arg12`: it holds what the point before left. -/
def sout0_B_1 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S128x8192 .bf16 := xs1

/-- Case B stores nothing into scratch `arg13`: it holds what the point before left. -/
def sout0_B_2 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .f32 := xs2

/-- Case B stores nothing into scratch `arg14`: it holds what the point before left. -/
def sout0_B_3 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S1x64x512 .f32 × Vec F S8192x128 .bf16 × Vec F S128x8192 .bf16 × Vec F S8192x128 .f32 × Vec F S8192x128 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩))
  | n + 1, hn =>
    if h0 : (n + 1) % 20 = 0 then
      (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩))
    else
      (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩))

/-- `outsAt0` at a point of case A: that case's contents. -/
theorem outsAt0_A (hO : Ok m) (hH : Hyps m hO) (c : Dev nD) (t : Fin (cfgM m hO).N) (h0 : t.val % 20 = 0) :
    outsAt0 m hO hH c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 20 = 0) :
    outsAt0 m hO hH c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.1) ∗ owns (c : Thread nD τ) scM0_1 fullShare ((outsAt0 m hO hH c n hn).2.2.1) ∗ owns (c : Thread nD τ) scM0_2 fullShare ((outsAt0 m hO hH c n hn).2.2.2.1) ∗ owns (c : Thread nD τ) scM0_3 fullShare ((outsAt0 m hO hH c n hn).2.2.2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.1) ∗ owns (c : Thread nD τ) scM0_1 fullShare ((outsAt0 m hO hH c n hn).2.2.1) ∗ owns (c : Thread nD τ) scM0_2 fullShare ((outsAt0 m hO hH c n hn).2.2.2.1) ∗ owns (c : Thread nD τ) scM0_3 fullShare ((outsAt0 m hO hH c n hn).2.2.2.2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.1) ∗ owns (c : Thread nD τ) scM0_1 fullShare ((outsAt0 m hO hH c (n - 1) (by omega)).2.2.1) ∗ owns (c : Thread nD τ) scM0_2 fullShare ((outsAt0 m hO hH c (n - 1) (by omega)).2.2.2.1) ∗ owns (c : Thread nD τ) scM0_3 fullShare ((outsAt0 m hO hH c (n - 1) (by omega)).2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t.val t.isLt).1
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = (outsAt0 m hO hH c t.val t.isLt).1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_6]
  rw [show (dats m hO hH 0 c).Φ t.succ = PhiS m hO hH c (t.val + 1) t.isLt from rfl, PhiS_succ, PhiT0_eq]
  have hN : t.val < 960 := lt_of_lt_of_eq t.isLt (show (cfgM m hO).N = 960 from N_0)
  by_cases h0 : t.val % 20 = 0
  · by_cases hz : t.val = 0
    · rw [PhiS_castSucc m hO hH c t, PhiS_zero m hO hH c _ _ hz, PhiT0_eq, PhiA0_eq]
      rw [outsAt0_A m hO hH c t h0]
      unfold out0_A_6 sout0_A_0 sout0_A_1 sout0_A_2 sout0_A_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, ⟨%es0, HS0⟩, ⟨%es1, HS1⟩, ⟨%es2, HS2⟩, ⟨%es3, HS3⟩, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    · rw [PhiS_castSucc m hO hH c t, PhiS_pos m hO hH c _ _ hz, PhiT0_eq]
      rw [outsAt0_A m hO hH c t h0]
      unfold out0_A_6 sout0_A_0 sout0_A_1 sout0_A_2 sout0_A_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      isplitl [HS3]; · iexists _; iexact HS3
      isplitl [HT0]; · iexact HT0
      iintro ⟨H0, H1, H2, H3, H4, H5, ⟨%e6, H6⟩, ⟨%es0, HS0⟩, ⟨%es1, HS1⟩, ⟨%es2, HS2⟩, ⟨%es3, HS3⟩, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
  · by_cases hz : t.val = 0
    · exfalso; have hN : t.val < 960 := lt_of_lt_of_eq t.isLt (show (cfgM m hO).N = 960 from N_0); omega
    · rw [PhiS_castSucc m hO hH c t, PhiS_pos m hO hH c _ _ hz, PhiT0_eq]
      rw [outsAt0_B m hO hH c t h0]
      unfold out0_B_6 sout0_B_0 sout0_B_1 sout0_B_2 sout0_B_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _ _ _ _ (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 960 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- THE FRAME: `Cert.quiescent_Attend`'s statement (Defs.lean) at any `F` — Proof.lean cites it at `Bits`:
    `theorem Cert.Proof.claim : Cert.Claim := ⟨Cert.Attend.Gen.facts, fun m ρ _ => Cert.Attend.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Attend.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Attend.Gen

end
-- ==== Proof.AttendIdealRunA.lean ====
/- Hand-written, untrusted: THE KERNEL'S BODY RUN at the first of the twenty points of a head, where it widens the head's keys and values
   into its four buffers before it attends. The loops that attend carry the contents of the four buffers; the widening
   covers each buffer, so what they held before is forgotten (`WholeWrites.writes_eq_junk`) and the pieces the body
   leaves do not depend on it. -/
module

public import proofs.«01_k».proof.Proof.WholeWrites
public import proofs.«01_k».proof.Proof.Gen.AttendIdeal.Frame.Runs

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 20, … 940: 48 of 960), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) :
    Σ' (L6 : List (View.Piece (Elt F) S1x64x512 .f32)), Σ' (LS0 : List (View.Piece (Elt F) S8192x128 .bf16)), Σ' (LS1 : List (View.Piece (Elt F) S128x8192 .bf16)), Σ' (LS2 : List (View.Piece (Elt F) S8192x128 .f32)), { LS3 : List (View.Piece (Elt F) S8192x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3) ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_attend_eq_skeleton]; unfold cc0_attend_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact k0_hw1)
    sl_step
    rw [Cert.WholeWrites.writes_eq_junk arg11 harg11 fs0 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).1
      (View.cover_of_tiledL _ S128x128.size (by sl_kernel_rfl))]
    rw [Cert.WholeWrites.writes_eq_junk arg12 harg12 fs1 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.1
      (View.cover_of_tiledL _ S128x128.size (by sl_kernel_rfl))]
    rw [Cert.WholeWrites.writes_eq_junk arg13 harg13 fs2 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.2.1
      (View.cover_of_tiledL _ S128x128.size (by sl_kernel_rfl))]
    rw [Cert.WholeWrites.writes_eq_junk arg14 harg14 fs3 (pb_k0_t1 (F := F) Variants.none c none i tbM0_0 htbM0_0 arg4 harg4 arg5 harg5 arg6 harg6 arg7 harg7 arg8 harg8 arg9 harg9 arg10 harg10 arg11 harg11 arg12 harg12 arg13 harg13 arg14 harg14 hc0 (harg5.unread x1) (harg6.unread x2) (harg7.unread x3) (harg8.unread x4) (Scf.trips k0_t1_loop.lb k0_t1_loop.ub k0_t1_loop.st)).2.2.2
      (View.cover_of_tiledL _ S128x128.size (by sl_kernel_rfl))]
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexact HT0

end Cert.AttendIdeal.Gen

end
-- ==== Proof.AttendIdealRunB.lean ====
/- Hand-written, untrusted: THE KERNEL'S BODY RUN at the points of a head after its first, where the four buffers are read as the point
   before left them. -/
module

public import proofs.«01_k».proof.Proof.AttendIdealRunA

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken: points 1, 2, … 959: 912 of 960), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) :
    Σ' (L6 : List (View.Piece (Elt F) S1x64x512 .f32)), Σ' (LS0 : List (View.Piece (Elt F) S8192x128 .bf16)), Σ' (LS1 : List (View.Piece (Elt F) S128x8192 .bf16)), Σ' (LS2 : List (View.Piece (Elt F) S8192x128 .f32)), { LS3 : List (View.Piece (Elt F) S8192x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ owns (c : Thread nD τ) arg11 fullShare xs0 ∗ owns (c : Thread nD τ) arg12 fullShare xs1 ∗ owns (c : Thread nD τ) arg13 fullShare xs2 ∗ owns (c : Thread nD τ) arg14 fullShare xs3 ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, [], [], [], [], fun E K => ?run⟩
  case run =>
    simp only [cc0_attend_eq_skeleton]; unfold cc0_attend_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0; obtain rfl := harg12.eq_unread hfs1; obtain rfl := harg13.eq_unread hfs2; obtain rfl := harg14.eq_unread hfs3
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HS3]
    · iexists _; isplitr; · ipureintro; exact harg14.read_unread _
      iexact HS3
    iexact HT0

end Cert.AttendIdeal.Gen

end
-- ==== Proof.AttendIdealFrame.lean ====
/- Hand-written, untrusted: THE FRAME CERTIFICATE of the attention call: what the body leaves in its output and in its four buffers point by
   point, the proof data of the pipeline, the body's obligation, the run and the frame claim. -/
module

public import proofs.«01_k».proof.Proof.AttendIdealRunB
public import Idealize.ShloMosaic.Lib.Claim

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i) (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (k0_hw1 : k0_chk1 (tbM0_0.view.readAt (Elt F) (Rect.unit (s := S6x1280) (k0_off5 i) S1x1.size (k0_off5_inb i)).toLoadRect xt0 (Shape.Idx.first (numel1_S1x1.symm ▸ Nat.one_pos))))

/-- Case A's pieces for output 6 tile its block (4 stores of `S1x64x128`, checked by the kernel's evaluation: Lib/Ring.lean `Piece.tiledL`, linear in the pieces, through a loop's `@[irreducible]` trip theorem too), so they cover it. -/
theorem cover0_A_6 (y : S1x64x512.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1 S1x64x128.size (by sl_kernel_rfl) y

/-- What case A leaves in output 6's staging buffer: its pieces read back over junk. -/
def out0_A_6 : Vec F S1x64x512 .f32 :=
  VO0_6.read (Elt F) (VO0_6.writes (Elt F) VO0_6.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).1)

/-- Case A's pieces for scratch `arg11`, which the kernel carries between points, cover it: 64 pieces of `S128x128` tiling it (Lib/Ring.lean `Piece.tiledL`). -/
theorem scover0_A_0 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1 S128x128.size (by sl_kernel_rfl) y

/-- What case A leaves in scratch `arg11`: its pieces read back over junk. -/
def sout0_A_0 : Vec F S8192x128 .bf16 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.1)

/-- Case A's pieces for scratch `arg12`, which the kernel carries between points, cover it: 64 pieces of `S128x128` tiling it (Lib/Ring.lean `Piece.tiledL`). -/
theorem scover0_A_1 (y : S128x8192.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1 S128x128.size (by sl_kernel_rfl) y

/-- What case A leaves in scratch `arg12`: its pieces read back over junk. -/
def sout0_A_1 : Vec F S128x8192 .bf16 :=
  VS0_1.read (Elt F) (VS0_1.writes (Elt F) VS0_1.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.1)

/-- Case A's pieces for scratch `arg13`, which the kernel carries between points, cover it: 64 pieces of `S128x128` tiling it (Lib/Ring.lean `Piece.tiledL`). -/
theorem scover0_A_2 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1 S128x128.size (by sl_kernel_rfl) y

/-- What case A leaves in scratch `arg13`: its pieces read back over junk. -/
def sout0_A_2 : Vec F S8192x128 .f32 :=
  VS0_2.read (Elt F) (VS0_2.writes (Elt F) VS0_2.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.1)

/-- Case A's pieces for scratch `arg14`, which the kernel carries between points, cover it: 64 pieces of `S128x128` tiling it (Lib/Ring.lean `Piece.tiledL`). -/
theorem scover0_A_3 (y : S8192x128.Idx) :
    ∃ pc ∈ (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1 S128x128.size (by sl_kernel_rfl) y

/-- What case A leaves in scratch `arg14`: its pieces read back over junk. -/
def sout0_A_3 : Vec F S8192x128 .f32 :=
  VS0_3.read (Elt F) (VS0_3.writes (Elt F) VS0_3.junk (kernelRun0_A c i arg4 harg4 arg5 harg5 arg6 harg6 arg7 harg7 arg8 harg8 arg9 harg9 arg10 harg10 arg11 harg11 arg12 harg12 arg13 harg13 arg14 harg14 hc0 x0 x1 x2 x3 x4 x5 xt0 k0_hw1).2.2.2.2.1)

end

/-- Case B's pieces for output 6 tile its block (4 stores of `S1x64x128`, checked by the kernel's evaluation: Lib/Ring.lean `Piece.tiledL`, linear in the pieces, through a loop's `@[irreducible]` trip theorem too), so they cover it. -/
theorem cover0_B_6 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) (y : S1x64x512.Idx) :
    ∃ pc ∈ (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1 S1x64x128.size (by sl_kernel_rfl) y

/-- What case B leaves in output 6's staging buffer: its pieces read back over junk. -/
def out0_B_6 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S1x64x512 .f32 :=
  VO0_6.read (Elt F) (VO0_6.writes (Elt F) VO0_6.junk (kernelRun0_B c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1).1)

/-- Case B stores nothing into scratch `arg11`: it holds what the point before left. -/
def sout0_B_0 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .bf16 := xs0

/-- Case B stores nothing into scratch `arg12`: it holds what the point before left. -/
def sout0_B_1 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S128x8192 .bf16 := xs1

/-- Case B stores nothing into scratch `arg13`: it holds what the point before left. -/
def sout0_B_2 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .f32 := xs2

/-- Case B stores nothing into scratch `arg14`: it holds what the point before left. -/
def sout0_B_3 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec F S1x1x1x128x256 .bf16) (x1 : Vec F S1x1x8192x128 .fp8e4m3) (x2 : Vec F S1x1x1x8192 .f32) (x3 : Vec F S1x1x8192x128 .fp8e4m3) (x4 : Vec F S1x1x1x8192 .f32) (x5 : Vec F S1x1x1x64 .i32) (xt0 : TbBuf0 (F := F) c tbM0_0) (xs0 : Vec F S8192x128 .bf16) (xs1 : Vec F S128x8192 .bf16) (xs2 : Vec F S8192x128 .f32) (xs3 : Vec F S8192x128 .f32) (k0_hw1 : k0_chk1 (tbM0_0.view.readAt (Elt F) (Rect.unit (s := S6x1280) (k0_off5 i) S1x1.size (k0_off5_inb i)).toLoadRect xt0 (Shape.Idx.first (numel1_S1x1.symm ▸ Nat.one_pos)))) : Vec F S8192x128 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S1x64x512 .f32 × Vec F S8192x128 .bf16 × Vec F S128x8192 .bf16 × Vec F S8192x128 .f32 × Vec F S8192x128 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (Hyps.c0 hH c ⟨0, hn⟩))
  | n + 1, hn =>
    if h0 : (n + 1) % 20 = 0 then
      (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (Hyps.c0 hH c ⟨n + 1, hn⟩))
    else
      (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩), sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)).2.1 (outsAt0 hO hH c n (Nat.lt_of_succ_lt hn)).2.2.1 (outsAt0 hO hH c n (Nat.lt_of_succ_lt hn)).2.2.2.1 (outsAt0 hO hH c n (Nat.lt_of_succ_lt hn)).2.2.2.2 (Hyps.c0 hH c ⟨n + 1, hn⟩))

/-- `outsAt0` at a point of case A: that case's contents. -/
theorem outsAt0_A (hO : Ok m) (hH : Hyps m hO) (c : Dev nD) (t : Fin (cfgM m hO).N) (h0 : t.val % 20 = 0) :
    outsAt0 m hO hH c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (tbl m 0) (Hyps.c0 hH c t)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 20 = 0) :
    outsAt0 m hO hH c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t), sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2.1 (outsAt0 m hO hH c (t.val - 1) (Nat.lt_of_le_of_lt (Nat.sub_le _ _) t.isLt)).2.2.2.2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.1) ∗ owns (c : Thread nD τ) scM0_1 fullShare ((outsAt0 m hO hH c n hn).2.2.1) ∗ owns (c : Thread nD τ) scM0_2 fullShare ((outsAt0 m hO hH c n hn).2.2.2.1) ∗ owns (c : Thread nD τ) scM0_3 fullShare ((outsAt0 m hO hH c n hn).2.2.2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.1) ∗ owns (c : Thread nD τ) scM0_1 fullShare ((outsAt0 m hO hH c n hn).2.2.1) ∗ owns (c : Thread nD τ) scM0_2 fullShare ((outsAt0 m hO hH c n hn).2.2.2.1) ∗ owns (c : Thread nD τ) scM0_3 fullShare ((outsAt0 m hO hH c n hn).2.2.2.2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.1) ∗ owns (c : Thread nD τ) scM0_1 fullShare ((outsAt0 m hO hH c (n - 1) (by omega)).2.2.1) ∗ owns (c : Thread nD τ) scM0_2 fullShare ((outsAt0 m hO hH c (n - 1) (by omega)).2.2.2.1) ∗ owns (c : Thread nD τ) scM0_3 fullShare ((outsAt0 m hO hH c (n - 1) (by omega)).2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t.val t.isLt).1
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = (outsAt0 m hO hH c t.val t.isLt).1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).owesAt () t.succ = (dats m hO hH 0 c).owesAt () t.castSucc from rfl,
    after0_0, after0_1, after0_2, after0_3, after0_4, after0_5, after0_6]
  rw [show (dats m hO hH 0 c).Φ t.succ = PhiS m hO hH c (t.val + 1) t.isLt from rfl, PhiS_succ, PhiT0_eq]
  have hN : t.val < 960 := lt_of_lt_of_eq t.isLt (show (cfgM m hO).N = 960 from N_0)
  by_cases h0 : t.val % 20 = 0
  · by_cases hz : t.val = 0
    · rw [PhiS_castSucc m hO hH c t, PhiS_zero m hO hH c _ _ hz, PhiT0_eq, PhiA0_eq]
      rw [outsAt0_A m hO hH c t h0]
      unfold out0_A_6 sout0_A_0 sout0_A_1 sout0_A_2 sout0_A_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, ⟨%es0, HS0⟩, ⟨%es1, HS1⟩, ⟨%es2, HS2⟩, ⟨%es3, HS3⟩, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    · rw [PhiS_castSucc m hO hH c t, PhiS_pos m hO hH c _ _ hz, PhiT0_eq]
      rw [outsAt0_A m hO hH c t h0]
      unfold out0_A_6 sout0_A_0 sout0_A_1 sout0_A_2 sout0_A_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      isplitl [HS3]; · iexists _; iexact HS3
      isplitl [HT0]; · iexact HT0
      iintro ⟨H0, H1, H2, H3, H4, H5, ⟨%e6, H6⟩, ⟨%es0, HS0⟩, ⟨%es1, HS1⟩, ⟨%es2, HS2⟩, ⟨%es3, HS3⟩, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
  · by_cases hz : t.val = 0
    · exfalso; have hN : t.val < 960 := lt_of_lt_of_eq t.isLt (show (cfgM m hO).N = 960 from N_0); omega
    · rw [PhiS_castSucc m hO hH c t, PhiS_pos m hO hH c _ _ hz, PhiT0_eq]
      rw [outsAt0_B m hO hH c t h0]
      unfold out0_B_6 sout0_B_0 sout0_B_1 sout0_B_2 sout0_B_3; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _ _ _ _ (Hyps.c0 hH c t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 960 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- THE FRAME: `Cert.quiescent_AttendIdeal`'s statement (Defs.lean) at any `F` — Proof.lean cites it at `Bits`:
    `theorem Cert.Proof.claim : Cert.Claim := ⟨Cert.AttendIdeal.Gen.facts, fun m ρ _ => Cert.AttendIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.AttendIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.AttendIdeal.Gen

end
-- ==== Proof.OprojTile.lean ====
/- Hand-written, untrusted: THE OUTPUT PROJECTION'S ARITHMETIC, at the extended reals: an attention row is quantised, its codes are
   multiplied with a weight column, and the sum is scaled back and added to the residual. `tileVec` is that for a matrix of codes
   with the vector operations; it is read at an index for matrices of any extents. -/
module

public import proofs.«01_k».proof.Proof.RowQuant

@[expose] public section

noncomputable section
namespace Cert.OprojTile

open Idealize.ShloMosaic Cert.RowQuant
open scoped BigOperators

/-- One element of the projection: of the attention row `a`, the weight column `w` with its scale `ws`, and the residual `x`. -/
def outAt {K : ℕ} (a w : Fin K → EReal) (ws x : EReal) : EReal :=
  (∑ k, code (rowScale a) (a k) * w k) * rowScale a * ws + x

/-- The product of codes `c` and weights `w`, scaled by rows and by columns, added to the residual. -/
def tileVec {M K N : ℕ} (d : DotDims ⟨2, ![M, K]⟩ ⟨2, ![K, N]⟩ ⟨2, ![M, N]⟩) (hb : (⟨2, ![M, 1]⟩ : Shape).Broadcasts ⟨2, ![M, N]⟩)
    (hb' : (⟨2, ![1, N]⟩ : Shape).Broadcasts ⟨2, ![M, N]⟩) (hl : FTy.bf16.bits < FTy.f32.bits) (s : FVec Ideal ⟨2, ![M, 1]⟩ .f32)
    (c : FVec Ideal ⟨2, ![M, K]⟩ .fp8e4m3) (w : FVec Ideal ⟨2, ![K, N]⟩ .fp8e4m3) (ws : FVec Ideal ⟨2, ![1, N]⟩ .f32)
    (x : FVec Ideal ⟨2, ![M, N]⟩ .bf16) : FVec Ideal ⟨2, ![M, N]⟩ .bf16 :=
  truncf .bf16 (addf (mulf (mulf (matmul d none c w (constant ⟨2, ![M, N]⟩ .f32 0x00000000#32)) (broadcastTo ⟨2, ![M, N]⟩ s hb))
    (broadcastTo ⟨2, ![M, N]⟩ ws hb')) (extf .f32 x hl)) hl

theorem tileVec_apply {M K N : ℕ} (d : DotDims ⟨2, ![M, K]⟩ ⟨2, ![K, N]⟩ ⟨2, ![M, N]⟩) (hd : d = DotDims.plain M K N)
    (hb : (⟨2, ![M, 1]⟩ : Shape).Broadcasts ⟨2, ![M, N]⟩) (hb' : (⟨2, ![1, N]⟩ : Shape).Broadcasts ⟨2, ![M, N]⟩)
    (hl : FTy.bf16.bits < FTy.f32.bits) (s : FVec Ideal ⟨2, ![M, 1]⟩ .f32) (c : FVec Ideal ⟨2, ![M, K]⟩ .fp8e4m3)
    (w : FVec Ideal ⟨2, ![K, N]⟩ .fp8e4m3) (ws : FVec Ideal ⟨2, ![1, N]⟩ .f32) (x : FVec Ideal ⟨2, ![M, N]⟩ .bf16)
    (r : Fin M) (j : Fin N) :
    tileVec d hb hb' hl s c w ws x (ValueIdx.ix2 r j)
      = (∑ k : Fin K, c (ValueIdx.ix2 r k) * w (ValueIdx.ix2 k j)) * s (ValueIdx.ix2 r 0) * ws (ValueIdx.ix2 0 j)
        + x (ValueIdx.ix2 r j) := by
  show (matmul d none c w _ (ValueIdx.ix2 r j) * broadcastTo ⟨2, ![M, N]⟩ s hb (ValueIdx.ix2 r j))
    * broadcastTo ⟨2, ![M, N]⟩ ws hb' (ValueIdx.ix2 r j) + x (ValueIdx.ix2 r j) = _
  rw [product_apply d hd, bcastCol_apply, bcastRow_apply]

end Cert.OprojTile
-- ==== Proof.OprojBlock.lean ====
/- Hand-written, untrusted: WHAT ONE GRID POINT OF THE OUTPUT PROJECTION LEAVES in its three output blocks, as a function of its
   input blocks. The loop quantises the 256 rows in eight strips of 32; ten products of 512 columns each then read the codes
   and scales back. -/
module

public import proofs.«01_k».proof.Proof.OprojTile
public import proofs.«01_k».proof.Proof.Gen.OprojIdeal.Value
public import Idealize.ShloMosaic.Lib.Pipeline.ReadBack

@[expose] public section

noncomputable section
namespace Cert.OprojBlock

open Idealize.ShloMosaic Idealize.SL.Sem Cert.RowQuant Cert.OprojTile Cert.OprojIdeal Cert.OprojIdeal.Gen

/-- The codes of a block of rows. -/
def codeBlk (x0 : Vec Ideal S256x4096 .f32) : Vec Ideal S256x4096 .fp8e4m3 :=
  fun y => code (rowScale fun k : Fin 4096 => x0 (ValueIdx.ix2 (y 0 : Fin 256) k)) (x0 y)

/-- The scales of a block of rows. -/
def scaleBlk (x0 : Vec Ideal S256x4096 .f32) : Vec Ideal S256x1 .f32 :=
  fun y => rowScale fun k : Fin 4096 => x0 (ValueIdx.ix2 (y 0 : Fin 256) k)

/-- The projection of a block of rows. -/
def outBlk (x0 : Vec Ideal S256x4096 .f32) (x1 : Vec Ideal S256x5120 .bf16) (x2 : Vec Ideal S4096x5120 .fp8e4m3)
    (x3 : Vec Ideal S1x5120 .f32) : Vec Ideal S256x5120 .bf16 :=
  fun y => outAt (fun k : Fin 4096 => x0 (ValueIdx.ix2 (y 0 : Fin 256) k)) (fun k => x2 (ValueIdx.ix2 k (y 1 : Fin 5120)))
    (x3 (ValueIdx.ix2 0 (y 1 : Fin 5120))) (x1 y)

/-- Row `r` of strip `k` is row `32 k + r` of the block. -/
theorem strip_idx (k : Fin k0_t1_loop.trips) (r : Fin 32) (l : Fin 4096)
    (x : (Rect.unit (s := S256x1) (k0_off2 k) S32x1.size (k0_off2_inb k)).shape.Idx) (hx : (x 0).val = r.val) :
    (Rect.unit (s := S256x4096) (k0_off1 k) S32x4096.size (k0_off1_inb k)).idx (ValueIdx.ix2 r l)
      = ValueIdx.ix2 ((Rect.unit (s := S256x1) (k0_off2 k) S32x1.size (k0_off2_inb k)).emb x 0 : Fin 256) l := by
  have e1 := k0_off1_eq k
  have e2 := k0_off2_eq k
  funext a
  refine Fin.ext ?_
  match a with
  | ⟨0, _⟩ =>
    show k0_off1 k 0 + 1 * r.val = k0_off2 k 0 + 1 * (x 0).val
    rw [congrFun e1 0, congrFun e2 0, hx]
  | ⟨1, _⟩ =>
    show k0_off1 k 1 + 1 * l.val = l.val
    rw [congrFun e1 1]; show 0 + 1 * l.val = l.val; omega

/-- A strip's scales are the block's, at the strip's rows. -/
theorem strip_scale (x0 : Vec Ideal S256x4096 .f32) (k : Fin k0_t1_loop.trips)
    (x : (Rect.unit (s := S256x1) (k0_off2 k) S32x1.size (k0_off2_inb k)).shape.Idx) :
    k0_pay3 (F := Ideal) (View.ld x0 (Rect.unit (s := S256x4096) (k0_off1 k) S32x4096.size (k0_off1_inb k))) x
      = scaleBlk x0 ((Rect.unit (s := S256x1) (k0_off2 k) S32x1.size (k0_off2_inb k)).emb x) := by
  obtain ⟨r, z, rfl⟩ : ∃ (r : Fin 32) (z : Fin 1), x = ValueIdx.ix2 r z := ⟨x 0, x 1, ValueIdx.eq_ix2 x⟩
  refine (scaleVec_apply _ reduces_S32x4096_S32 shapeCasts_S32_S32x1 r z).trans ?_
  unfold scaleBlk
  refine congrArg rowScale (funext fun l => ?_)
  rw [View.ld_apply, strip_idx k r l (ValueIdx.ix2 r z) rfl]; rfl

/-- A strip's codes are the block's, at the strip's rows. -/
theorem strip_code (x0 : Vec Ideal S256x4096 .f32) (k : Fin k0_t1_loop.trips)
    (x : (Rect.unit (s := S256x4096) (k0_off1 k) S32x4096.size (k0_off1_inb k)).shape.Idx) :
    k0_pay4 (F := Ideal) (View.ld x0 (Rect.unit (s := S256x4096) (k0_off1 k) S32x4096.size (k0_off1_inb k))) x
      = codeBlk x0 ((Rect.unit (s := S256x4096) (k0_off1 k) S32x4096.size (k0_off1_inb k)).emb x) := by
  obtain ⟨r, l, rfl⟩ : ∃ (r : Fin 32) (l : Fin 4096), x = ValueIdx.ix2 r l := ⟨x 0, x 1, ValueIdx.eq_ix2 x⟩
  refine (codeVec_apply _ (k0_pay3 (F := Ideal) _) broadcasts_S32x1_S32x4096 bitsLt_fp8e4m3_f32 r l).trans ?_
  rw [strip_scale x0 k (ValueIdx.ix2 r (0 : Fin 1))]
  unfold codeBlk scaleBlk
  have h0 : ((Rect.unit (s := S256x1) (k0_off2 k) S32x1.size (k0_off2_inb k)).emb (ValueIdx.ix2 r (0 : Fin 1)) 0 : Fin 256)
      = ((Rect.unit (s := S256x4096) (k0_off1 k) S32x4096.size (k0_off1_inb k)).emb (ValueIdx.ix2 r l) 0 : Fin 256) := by
    refine Fin.ext ?_
    show k0_off2 k 0 + 1 * r.val = k0_off1 k 0 + 1 * r.val
    rw [congrFun (k0_off1_eq k) 0, congrFun (k0_off2_eq k) 0]
  rw [h0]; rfl

/-- One trip stores the strip's codes and scales. -/
theorem trip_eq (𝒱 : Variants) (bd : Option 𝒱.V) (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (k : Fin k0_t1_loop.trips) :
    tripL_k0_t1 (F := Ideal) 𝒱 c bd i arg1 harg1 arg2 harg2 arg3 harg3 arg4 harg4 arg5 harg5 arg6 harg6 arg7 harg7 (harg1.unread x0) k
      = ([⟨Rect.unit (s := S256x4096) (k0_off1 k) S32x4096.size (k0_off1_inb k),
            k0_pay4 (F := Ideal) (View.ld x0 (Rect.unit (s := S256x4096) (k0_off1 k) S32x4096.size (k0_off1_inb k)))⟩],
         [⟨Rect.unit (s := S256x1) (k0_off2 k) S32x1.size (k0_off2_inb k),
            k0_pay3 (F := Ideal) (View.ld x0 (Rect.unit (s := S256x4096) (k0_off1 k) S32x4096.size (k0_off1_inb k)))⟩]) := by
  have h : View.readAt (Elt Ideal) arg1.view (Rect.unit (s := S256x4096) (k0_off1 k) S32x4096.size (k0_off1_inb k)).toLoadRect (harg1.unread x0)
      = View.ld x0 (Rect.unit (s := S256x4096) (k0_off1 k) S32x4096.size (k0_off1_inb k)) := by
    rw [View.readAt_eq_ld, harg1.read_unread]
  rw [← h]
  unfold tripL_k0_t1 trip_k0_t1
  rfl

/-- One more store that is a block. -/
theorem piecesOf_cons {Val : EltTy → Type} {s : Shape} {e : EltTy} (G : s.Idx → Val e) (p : View.Piece Val s e) (L : List (View.Piece Val s e))
    (h : ∀ x : p.1.shape.Idx, p.2 x = G (p.1.emb x)) (hL : View.PiecesOf G L) : View.PiecesOf G ([p] ++ L) := ⟨h, hL⟩

set_option maxRecDepth 4000 in
/-- Every store of the first `n` trips is a block of the codes and of the scales. -/
theorem pieces (𝒱 : Variants) (bd : Option 𝒱.V) (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (n : ℕ) (hn : n ≤ k0_t1_loop.trips) :
    View.PiecesOf (codeBlk x0) (pb_k0_t1 (F := Ideal) 𝒱 c bd i arg1 harg1 arg2 harg2 arg3 harg3 arg4 harg4 arg5 harg5 arg6 harg6 arg7 harg7 (harg1.unread x0) n).1 ∧ View.PiecesOf (scaleBlk x0) (pb_k0_t1 (F := Ideal) 𝒱 c bd i arg1 harg1 arg2 harg2 arg3 harg3 arg4 harg4 arg5 harg5 arg6 harg6 arg7 harg7 (harg1.unread x0) n).2 := by
  induction n with
  | zero => rw [pb_k0_t1.eq_1]; exact ⟨trivial, trivial⟩
  | succ n ih =>
    have ih := ih (Nat.le_of_succ_le hn)
    rw [pb_k0_t1_succ (F := Ideal) 𝒱 c bd i arg1 harg1 arg2 harg2 arg3 harg3 arg4 harg4 arg5 harg5 arg6 harg6 arg7 harg7 (harg1.unread x0) ⟨n, hn⟩, trip_eq]
    refine ⟨piecesOf_cons _ _ _ ?_ ih.1, piecesOf_cons _ _ _ ?_ ih.2⟩
    · exact strip_code x0 ⟨n, hn⟩
    · intro x
      have := strip_scale x0 ⟨n, hn⟩ x
      dsimp only
      exact this

theorem out5_apply (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32) (y : S256x4096.Idx) :
    out0_A_5 (F := Ideal) c i arg1 harg1 arg2 harg2 arg3 harg3 arg4 harg4 arg5 harg5 arg6 harg6 arg7 harg7 x0 x1 x2 x3 y = codeBlk x0 y := by
  have hc := cover0_A_5 (F := Ideal) c i arg1 harg1 arg2 harg2 arg3 harg3 arg4 harg4 arg5 harg5 arg6 harg6 arg7 harg7 x0 x1 x2 x3 y
  unfold kernelRun0_A at hc
  frame_out
  exact View.canon_apply_of_pieces _ _ (pieces Variants.none none c i arg1 harg1 arg2 harg2 arg3 harg3 arg4 harg4 arg5 harg5 arg6 harg6 arg7 harg7 x0 _ (by decide +kernel)).1.mem y hc

theorem out6_apply (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32) (y : S256x1.Idx) :
    out0_A_6 (F := Ideal) c i arg1 harg1 arg2 harg2 arg3 harg3 arg4 harg4 arg5 harg5 arg6 harg6 arg7 harg7 x0 x1 x2 x3 y = scaleBlk x0 y := by
  have hc := cover0_A_6 (F := Ideal) c i arg1 harg1 arg2 harg2 arg3 harg3 arg4 harg4 arg5 harg5 arg6 harg6 arg7 harg7 x0 x1 x2 x3 y
  unfold kernelRun0_A at hc
  frame_out
  exact View.canon_apply_of_pieces _ _ (pieces Variants.none none c i arg1 harg1 arg2 harg2 arg3 harg3 arg4 harg4 arg5 harg5 arg6 harg6 arg7 harg7 x0 _ (by decide +kernel)).2.mem y hc

/-- The codes read back after the loop. -/
theorem codes_back (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32)
    (inb : ∀ a, (![0, 0] : Fin 2 → ℕ) a + (![256, 4096] : Fin 2 → ℕ) a ≤ S256x4096.size a) :
    arg6.view.readCov (pb_k0_t1 (F := Ideal) Variants.none c none i arg1 harg1 arg2 harg2 arg3 harg3 arg4 harg4 arg5 harg5 arg6 harg6 arg7 harg7 (harg1.unread x0) (Scf.trips (0#32) (Scalar.addi 0#32 8#32) 1#32)).1
      (Rect.unit (s := S256x4096) ![0, 0] ![256, 4096] inb).toLoadRect = codeBlk x0 := by
  rw [View.readCov_eq_canon']
  funext j
  have hj : (Rect.unit (s := S256x4096) ![0, 0] ![256, 4096] inb).toLoadRect.idx j = j := by
    funext a
    refine Fin.ext ?_
    match a with
    | ⟨0, _⟩ => show 0 + 1 * (j 0).val = (j 0).val; omega
    | ⟨1, _⟩ => show 0 + 1 * (j 1).val = (j 1).val; omega
  have hc := cover0_A_5 (F := Ideal) c i arg1 harg1 arg2 harg2 arg3 harg3 arg4 harg4 arg5 harg5 arg6 harg6 arg7 harg7 x0 x1 x2 x3 j
  unfold kernelRun0_A at hc
  rw [hj]
  exact View.canon_apply_of_pieces _ _ (pieces Variants.none none c i arg1 harg1 arg2 harg2 arg3 harg3 arg4 harg4 arg5 harg5 arg6 harg6 arg7 harg7 x0 _ (by decide +kernel)).1.mem j hc

/-- The scales read back after the loop. -/
theorem scales_back (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32)
    (inb : ∀ a, (![0, 0] : Fin 2 → ℕ) a + (![256, 1] : Fin 2 → ℕ) a ≤ S256x1.size a) :
    arg7.view.readCov (pb_k0_t1 (F := Ideal) Variants.none c none i arg1 harg1 arg2 harg2 arg3 harg3 arg4 harg4 arg5 harg5 arg6 harg6 arg7 harg7 (harg1.unread x0) (Scf.trips (0#32) (Scalar.addi 0#32 8#32) 1#32)).2
      (Rect.unit (s := S256x1) ![0, 0] ![256, 1] inb).toLoadRect = scaleBlk x0 := by
  rw [View.readCov_eq_canon']
  funext j
  have hj : (Rect.unit (s := S256x1) ![0, 0] ![256, 1] inb).toLoadRect.idx j = j := by
    funext a
    refine Fin.ext ?_
    match a with
    | ⟨0, _⟩ => show 0 + 1 * (j 0).val = (j 0).val; omega
    | ⟨1, _⟩ => show 0 + 1 * (j 1).val = (j 1).val; omega
  have hc := cover0_A_6 (F := Ideal) c i arg1 harg1 arg2 harg2 arg3 harg3 arg4 harg4 arg5 harg5 arg6 harg6 arg7 harg7 x0 x1 x2 x3 j
  unfold kernelRun0_A at hc
  rw [hj]
  exact View.canon_apply_of_pieces _ _ (pieces Variants.none none c i arg1 harg1 arg2 harg2 arg3 harg3 arg4 harg4 arg5 harg5 arg6 harg6 arg7 harg7 x0 _ (by decide +kernel)).2.mem j hc

/-- The product of 512 columns from column `o` on, of the block's codes and scales, is the block's projection at those columns. -/
theorem tile_eq (x0 : Vec Ideal S256x4096 .f32) (x1 : Vec Ideal S256x5120 .bf16) (x2 : Vec Ideal S4096x5120 .fp8e4m3) (x3 : Vec Ideal S1x5120 .f32) (o : ℕ) (h2 : ∀ a, (![0, o] : Fin 2 → ℕ) a + (![4096, 512] : Fin 2 → ℕ) a ≤ S4096x5120.size a)
    (h3 : ∀ a, (![0, o] : Fin 2 → ℕ) a + (![1, 512] : Fin 2 → ℕ) a ≤ S1x5120.size a)
    (h1 : ∀ a, (![0, o] : Fin 2 → ℕ) a + (![256, 512] : Fin 2 → ℕ) a ≤ S256x5120.size a)
    (x : (Rect.unit (s := S256x5120) ![0, o] ![256, 512] h1).shape.Idx) :
    tileVec dot_S256x4096_S4096x512_S256x512_1_0_0_1_n_n broadcasts_S256x1_S256x512 broadcasts_S1x512_S256x512 bitsLt_bf16_f32
        (scaleBlk x0) (codeBlk x0) (View.ld x2 (Rect.unit (s := S4096x5120) ![0, o] ![4096, 512] h2))
        (View.ld x3 (Rect.unit (s := S1x5120) ![0, o] ![1, 512] h3)) (View.ld x1 (Rect.unit (s := S256x5120) ![0, o] ![256, 512] h1)) x
      = outBlk x0 x1 x2 x3 ((Rect.unit (s := S256x5120) ![0, o] ![256, 512] h1).emb x) := by
  obtain ⟨r, j, rfl⟩ : ∃ (r : Fin 256) (j : Fin 512), x = ValueIdx.ix2 r j := ⟨x 0, x 1, ValueIdx.eq_ix2 x⟩
  refine (tileVec_apply _ rfl _ _ _ _ _ _ _ _ r j).trans ?_
  have hr : ((Rect.unit (s := S256x5120) ![0, o] ![256, 512] h1).emb (ValueIdx.ix2 r j) 0 : Fin 256) = r :=
    Fin.ext (show 0 + 1 * r.val = r.val by omega)
  unfold outBlk outAt
  rw [hr]
  have e2 : ∀ k : Fin 4096, (Rect.unit (s := S4096x5120) ![0, o] ![4096, 512] h2).idx (ValueIdx.ix2 k j)
      = ValueIdx.ix2 k ((Rect.unit (s := S256x5120) ![0, o] ![256, 512] h1).emb (ValueIdx.ix2 r j) 1 : Fin 5120) := fun k => by
    funext a
    refine Fin.ext ?_
    match a with
    | ⟨0, _⟩ => show 0 + 1 * k.val = k.val; omega
    | ⟨1, _⟩ => rfl
  have e3 : (Rect.unit (s := S1x5120) ![0, o] ![1, 512] h3).idx (ValueIdx.ix2 (0 : Fin 1) j)
      = ValueIdx.ix2 (0 : Fin 1) ((Rect.unit (s := S256x5120) ![0, o] ![256, 512] h1).emb (ValueIdx.ix2 r j) 1 : Fin 5120) := by
    funext a
    refine Fin.ext ?_
    match a with
    | ⟨0, _⟩ => rfl
    | ⟨1, _⟩ => rfl
  rw [View.ld_apply, View.ld_apply, e3, Finset.sum_congr rfl fun k _ => by rw [View.ld_apply, e2 k]]
  rfl

/-- Every store of the output is a block of the projection. -/
theorem pieces4 (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32) :
    View.PiecesOf (outBlk x0 x1 x2 x3) (kernelRun0_A (F := Ideal) c i arg1 harg1 arg2 harg2 arg3 harg3 arg4 harg4 arg5 harg5 arg6 harg6 arg7 harg7 x0 x1 x2 x3).1 := by
  unfold kernelRun0_A
  dsimp only
  simp only [kernelRun0_A.sl.r, kernelRun0_A.sl.r_1, kernelRun0_A.sl.r_2, kernelRun0_A.sl.r_3, kernelRun0_A.sl.r_4, View.readAt_eq_ld,
    Memref.IsWhole.read_unread, codes_back c i arg1 harg1 arg2 harg2 arg3 harg3 arg4 harg4 arg5 harg5 arg6 harg6 arg7 harg7 x0 x1 x2 x3, scales_back c i arg1 harg1 arg2 harg2 arg3 harg3 arg4 harg4 arg5 harg5 arg6 harg6 arg7 harg7 x0 x1 x2 x3, k0_pay1, k0_pay2, k0_pay5, k0_pay6,
    k0_pay7, k0_pay8, k0_pay9, k0_pay10, k0_pay11, k0_pay12, k0_pay13, k0_pay14, k0_pay15, k0_pay16, shapeCast_self]
  exact
    And.intro (tile_eq x0 x1 x2 x3 4608 _ _ _) <|
    And.intro (tile_eq x0 x1 x2 x3 4096 _ _ _) <|
    And.intro (tile_eq x0 x1 x2 x3 3584 _ _ _) <|
    And.intro (tile_eq x0 x1 x2 x3 3072 _ _ _) <|
    And.intro (tile_eq x0 x1 x2 x3 2560 _ _ _) <|
    And.intro (tile_eq x0 x1 x2 x3 2048 _ _ _) <|
    And.intro (tile_eq x0 x1 x2 x3 1536 _ _ _) <|
    And.intro (tile_eq x0 x1 x2 x3 1024 _ _ _) <|
    And.intro (tile_eq x0 x1 x2 x3 512 _ _ _) <|
    And.intro (tile_eq x0 x1 x2 x3 0 _ _ _) <| trivial

theorem out4_apply (c : Dev nD) (i : grid0.Coords) (arg1 : Memref sig .tc .vmem S256x4096 .f32) (harg1 : arg1.IsWhole) (arg2 : Memref sig .tc .vmem S256x5120 .bf16) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S256x4096 .fp8e4m3) (harg6 : arg6.IsWhole) (arg7 : Memref sig .tc .vmem S256x1 .f32) (harg7 : arg7.IsWhole) (x0 : Vec Ideal S256x4096 .f32) (x1 : Vec Ideal S256x5120 .bf16) (x2 : Vec Ideal S4096x5120 .fp8e4m3) (x3 : Vec Ideal S1x5120 .f32) (y : S256x5120.Idx) :
    out0_A_4 (F := Ideal) c i arg1 harg1 arg2 harg2 arg3 harg3 arg4 harg4 arg5 harg5 arg6 harg6 arg7 harg7 x0 x1 x2 x3 y = outBlk x0 x1 x2 x3 y :=
  (View.read_writes_junk_apply_eq_canon VO0_4 y _).trans
    (View.canon_apply_of_pieces _ _ (pieces4 c i arg1 harg1 arg2 harg2 arg3 harg3 arg4 harg4 arg5 harg5 arg6 harg6 arg7 harg7 x0 x1 x2 x3).mem y (cover0_A_4 (F := Ideal) c i arg1 harg1 arg2 harg2 arg3 harg3 arg4 harg4 arg5 harg5 arg6 harg6 arg7 harg7 x0 x1 x2 x3 y))

end Cert.OprojBlock
-- ==== Proof.OprojArray.lean ====
/- Hand-written, untrusted: WHAT THE OUTPUT PROJECTION'S KERNEL LEAVES IN ITS RESULTS, at an index: point `t` of the grid writes rows
   `256 t … 256 t + 255`, from the same rows of the attention and of the residual and from the whole weight. -/
module

public import proofs.«01_k».proof.Proof.OprojBlock

@[expose] public section

noncomputable section
namespace Cert.OprojArray

open Idealize.ShloMosaic Idealize.ShloMosaic.TcCoe Idealize.SL.Sem Cert.RowQuant Cert.OprojTile Cert.OprojBlock Cert.OprojIdeal
  Cert.OprojIdeal.Gen

/-- Row `r` of the block of point `t`. -/
def rowOf (t : Fin cfg0.N) (r : Fin 256) : Fin 7680 :=
  ⟨256 * t.val + r.val, by have h : t.val < 30 := t.isLt; have := r.isLt; omega⟩

/-- Every row is a row of some point's block. -/
theorem exists_row (R : Fin 7680) : ∃ (t : Fin cfg0.N) (r : Fin 256), R = rowOf t r :=
  ⟨⟨R.val / 256, by have := R.isLt; show R.val / 256 < 30; omega⟩, ⟨R.val % 256, Nat.mod_lt _ (by omega)⟩,
    Fin.ext (show R.val = 256 * (R.val / 256) + R.val % 256 by omega)⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (r : Fin 256) (j : Fin 4096) :
    ((cfg0.win 0).blk t).view.emb (ValueIdx.ix2 r j) = ValueIdx.ix2 (rowOf t r) j := by
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 4096 + 1 * j.val = j.val; omega

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (r : Fin 256) (j : Fin 5120) :
    ((cfg0.win 1).blk t).view.emb (ValueIdx.ix2 r j) = ValueIdx.ix2 (rowOf t r) j := by
  obtain ⟨e0, e1⟩ := idx1 t
  funext a; apply Fin.ext
  match a with
  | ⟨0, _⟩ => show win0_1.index t (0 : Fin 2) * 256 + 1 * r.val = 256 * t.val + r.val; omega
  | ⟨1, _⟩ => show win0_1.index t (1 : Fin 2) * 5120 + 1 * j.val = j.val; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (r : Fin 4096) (j : Fin 5120) :
    ((cfg0.win 2).blk t).view.emb (ValueIdx.ix2 r j) = ValueIdx.ix2 (r) j := by
  obtain ⟨e0, e1⟩ := idx2 t
  funext a; apply Fin.ext
  match a with
  | ⟨0, _⟩ => show win0_2.index t (0 : Fin 2) * 4096 + 1 * r.val = r.val; omega
  | ⟨1, _⟩ => show win0_2.index t (1 : Fin 2) * 5120 + 1 * j.val = j.val; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (r : Fin 1) (j : Fin 5120) :
    ((cfg0.win 3).blk t).view.emb (ValueIdx.ix2 r j) = ValueIdx.ix2 (r) j := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 5120 + 1 * j.val = j.val; omega

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem emb4 (t : Fin cfg0.N) (r : Fin 256) (j : Fin 5120) :
    ((cfg0.win 4).blk t).view.emb (ValueIdx.ix2 r j) = ValueIdx.ix2 (rowOf t r) j := by
  obtain ⟨e0, e1⟩ := idx4 t
  funext a; apply Fin.ext
  match a with
  | ⟨0, _⟩ => show win0_4.index t (0 : Fin 2) * 256 + 1 * r.val = 256 * t.val + r.val; omega
  | ⟨1, _⟩ => show win0_4.index t (1 : Fin 2) * 5120 + 1 * j.val = j.val; omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (r : Fin 256) (j : Fin 4096) :
    ((cfg0.win 5).blk t).view.emb (ValueIdx.ix2 r j) = ValueIdx.ix2 (rowOf t r) j := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 4096 + 1 * j.val = j.val; omega

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem emb6 (t : Fin cfg0.N) (r : Fin 256) (j : Fin 1) :
    ((cfg0.win 6).blk t).view.emb (ValueIdx.ix2 r j) = ValueIdx.ix2 (rowOf t r) j := by
  obtain ⟨e0, e1⟩ := idx6 t
  funext a; apply Fin.ext
  match a with
  | ⟨0, _⟩ => show win0_6.index t (0 : Fin 2) * 256 + 1 * r.val = 256 * t.val + r.val; omega
  | ⟨1, _⟩ => show win0_6.index t (1 : Fin 2) * 1 + 1 * j.val = j.val; omega

variable (m : (ℓ : Loc nD τ sig) → Buf (Elt Ideal) ℓ)

theorem iblk0_apply (c : Dev nD) (t : Fin cfg0.N) (r : Fin 256) (j : Fin 4096) :
    iblk m c 0 t (ValueIdx.ix2 r j) = m ((c : Thread nD τ).loc main_arg0) (ValueIdx.ix2 (rowOf t r) j) := by
  show V m c main_arg0 (((cfg0.win 0).blk t).view.emb (ValueIdx.ix2 r j)) = _
  rw [emb0]

theorem iblk1_apply (c : Dev nD) (t : Fin cfg0.N) (r : Fin 256) (j : Fin 5120) :
    iblk m c 1 t (ValueIdx.ix2 r j) = m ((c : Thread nD τ).loc main_arg1) (ValueIdx.ix2 (rowOf t r) j) := by
  show V m c main_arg1 (((cfg0.win 1).blk t).view.emb (ValueIdx.ix2 r j)) = _
  rw [emb1]

theorem iblk2_apply (c : Dev nD) (t : Fin cfg0.N) (r : Fin 4096) (j : Fin 5120) :
    iblk m c 2 t (ValueIdx.ix2 r j) = m ((c : Thread nD τ).loc main_arg2) (ValueIdx.ix2 (r) j) := by
  show V m c main_arg2 (((cfg0.win 2).blk t).view.emb (ValueIdx.ix2 r j)) = _
  rw [emb2]

theorem iblk3_apply (c : Dev nD) (t : Fin cfg0.N) (r : Fin 1) (j : Fin 5120) :
    iblk m c 3 t (ValueIdx.ix2 r j) = m ((c : Thread nD τ).loc main_arg3) (ValueIdx.ix2 (r) j) := by
  show V m c main_arg3 (((cfg0.win 3).blk t).view.emb (ValueIdx.ix2 r j)) = _
  rw [emb3]

theorem flush4 : ∀ t : Fin cfg0.N, (cfg0.win 4).flush t = true :=
  (by decide +kernel : ∀ t : Fin grid0.N, (cfg0.win 4).flush t = true)

theorem flush5 : ∀ t : Fin cfg0.N, (cfg0.win 5).flush t = true :=
  (by decide +kernel : ∀ t : Fin grid0.N, (cfg0.win 5).flush t = true)

theorem flush6 : ∀ t : Fin cfg0.N, (cfg0.win 6).flush t = true :=
  (by decide +kernel : ∀ t : Fin grid0.N, (cfg0.win 6).flush t = true)

set_option maxRecDepth 20000 in
/-- The codes. -/
theorem final5 (c : Dev nD) (R : Fin 7680) (j : Fin 4096) :
    (dats m 0 c).arrAt 5 cfg0.N (ValueIdx.ix2 R j) = code (rowScale fun k : Fin 4096 => m ((c : Thread nD τ).loc main_arg0) (ValueIdx.ix2 R k)) (m ((c : Thread nD τ).loc main_arg0) (ValueIdx.ix2 R j)) := by
  obtain ⟨t, r, rfl⟩ := exists_row R
  have b := congrFun (Cert.OprojIdeal.Value.blocks5 m c t (flush5 t)) (ValueIdx.ix2 r j)
  rw [Cert.OprojIdeal.Value.flushed5_A] at b
  have b' : (dats m 0 c).arrAt 5 cfg0.N (((cfg0.win 5).blk t).view.emb (ValueIdx.ix2 r j))
      = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (ValueIdx.ix2 r j) := b
  rw [emb5, out5_apply] at b'
  refine b'.trans ?_
  show code (rowScale fun k : Fin 4096 => iblk m c 0 t (ValueIdx.ix2 r k)) (iblk m c 0 t (ValueIdx.ix2 r j)) = _
  rw [iblk0_apply, show (fun k : Fin 4096 => iblk m c 0 t (ValueIdx.ix2 r k)) = _ from funext fun k => iblk0_apply m c t r k]

set_option maxRecDepth 20000 in
/-- The scales. -/
theorem final6 (c : Dev nD) (R : Fin 7680) (j : Fin 1) :
    (dats m 0 c).arrAt 6 cfg0.N (ValueIdx.ix2 R j) = rowScale fun k : Fin 4096 => m ((c : Thread nD τ).loc main_arg0) (ValueIdx.ix2 R k) := by
  obtain ⟨t, r, rfl⟩ := exists_row R
  have b := congrFun (Cert.OprojIdeal.Value.blocks6 m c t (flush6 t)) (ValueIdx.ix2 r j)
  rw [Cert.OprojIdeal.Value.flushed6_A] at b
  have b' : (dats m 0 c).arrAt 6 cfg0.N (((cfg0.win 6).blk t).view.emb (ValueIdx.ix2 r j))
      = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (ValueIdx.ix2 r j) := b
  rw [emb6, out6_apply] at b'
  refine b'.trans ?_
  show (rowScale fun k : Fin 4096 => iblk m c 0 t (ValueIdx.ix2 r k)) = _
  rw [show (fun k : Fin 4096 => iblk m c 0 t (ValueIdx.ix2 r k)) = _ from funext fun k => iblk0_apply m c t r k]

set_option maxRecDepth 20000 in
/-- The projection. -/
theorem final4 (c : Dev nD) (R : Fin 7680) (j : Fin 5120) :
    (dats m 0 c).arrAt 4 cfg0.N (ValueIdx.ix2 R j) = outAt (fun k : Fin 4096 => m ((c : Thread nD τ).loc main_arg0) (ValueIdx.ix2 R k)) (fun k => m ((c : Thread nD τ).loc main_arg2) (ValueIdx.ix2 k j)) (m ((c : Thread nD τ).loc main_arg3) (ValueIdx.ix2 0 j)) (m ((c : Thread nD τ).loc main_arg1) (ValueIdx.ix2 R j)) := by
  obtain ⟨t, r, rfl⟩ := exists_row R
  have b := congrFun (Cert.OprojIdeal.Value.blocks4 m c t (flush4 t)) (ValueIdx.ix2 r j)
  rw [Cert.OprojIdeal.Value.flushed4_A] at b
  have b' : (dats m 0 c).arrAt 4 cfg0.N (((cfg0.win 4).blk t).view.emb (ValueIdx.ix2 r j))
      = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (ValueIdx.ix2 r j) := b
  rw [emb4, out4_apply] at b'
  refine b'.trans ?_
  show outAt (fun k : Fin 4096 => iblk m c 0 t (ValueIdx.ix2 r k)) (fun k => iblk m c 2 t (ValueIdx.ix2 k j)) (iblk m c 3 t (ValueIdx.ix2 0 j))
    (iblk m c 1 t (ValueIdx.ix2 r j)) = _
  rw [iblk1_apply, iblk3_apply, show (fun k : Fin 4096 => iblk m c 0 t (ValueIdx.ix2 r k)) = _ from funext fun k => iblk0_apply m c t r k,
    show (fun k : Fin 4096 => iblk m c 2 t (ValueIdx.ix2 k j)) = _ from funext fun k => iblk2_apply m c t k j]

end Cert.OprojArray
-- ==== Proof.OprojRef.lean ====
/- Hand-written, untrusted: WHAT THE REFERENCE OF THE OUTPUT PROJECTION RETURNS, at an index, as a function of its arguments. -/
module

public import proofs.«01_k».proof.Proof.OprojTile
public import proofs.«01_k».proof.Proof.Gen.OprojReferenceIdeal.Value

@[expose] public section

noncomputable section
namespace Cert.OprojRef

open Idealize.ShloMosaic Cert.RowQuant Cert.OprojTile Cert.OprojReferenceIdeal Cert.OprojReferenceIdeal.Gen

variable (a : Vec Ideal S7680x4096 .f32) (x : Vec Ideal S7680x5120 .bf16) (w : Vec Ideal S4096x5120 .fp8e4m3)
  (ws : Vec Ideal S1x5120 .f32)

theorem scale_apply (r : Fin 7680) : k0_pay1 (F := Ideal) a (ValueIdx.ix2 r 0) = rowScale fun k : Fin 4096 => a (ValueIdx.ix2 r k) :=
  scaleVec_apply a reduces_S7680x4096_S7680 shapeCasts_S7680_S7680x1 r 0

theorem code_apply (r : Fin 7680) (k : Fin 4096) :
    k0_pay2 (F := Ideal) a (ValueIdx.ix2 r k) = code (rowScale fun k : Fin 4096 => a (ValueIdx.ix2 r k)) (a (ValueIdx.ix2 r k)) := by
  rw [← scale_apply a r]
  exact codeVec_apply a (k0_pay1 (F := Ideal) a) broadcasts_S7680x1_S7680x4096 bitsLt_fp8e4m3_f32 r k

theorem out_apply (r : Fin 7680) (j : Fin 5120) :
    k0_pay3 (F := Ideal) a w ws x (ValueIdx.ix2 r j)
      = outAt (fun k : Fin 4096 => a (ValueIdx.ix2 r k)) (fun k => w (ValueIdx.ix2 k j)) (ws (ValueIdx.ix2 0 j)) (x (ValueIdx.ix2 r j)) := by
  refine (tileVec_apply dot_S7680x4096_S4096x5120_S7680x5120_1_0_0_1_n_n rfl broadcasts_S7680x1_S7680x5120
    broadcasts_S1x5120_S7680x5120 bitsLt_bf16_f32 (k0_pay1 (F := Ideal) a) (k0_pay2 (F := Ideal) a) w ws x r j).trans ?_
  rw [scale_apply a r, Finset.sum_congr rfl fun k _ => by rw [code_apply a r k]]
  rfl

end Cert.OprojRef
-- ==== Proof.OprojEq.lean ====
/- Hand-written, untrusted: THE OUTPUT PROJECTION'S EQUATION: over the extended reals the kernel's three results are the reference's. -/
module

public import proofs.«01_k».proof.Defs
public import proofs.«01_k».proof.Proof.OprojArray
public import proofs.«01_k».proof.Proof.OprojRef

@[expose] public section

noncomputable section
namespace Cert.OprojEq

open Idealize.ShloMosaic Idealize.ShloMosaic.TcCoe Idealize.SL.Sem

variable (m : (ℓ : Loc Cert.OprojIdeal.nD Cert.OprojIdeal.τ Cert.OprojIdeal.sig) → Buf (Elt Ideal) ℓ)

theorem out_eq (c : Dev Cert.OprojIdeal.nD) :
    Cert.OprojReferenceIdeal.Gen.k0_pay3 (F := Ideal) (m ((c : Thread Cert.OprojIdeal.nD Cert.OprojIdeal.τ).loc Cert.OprojIdeal.main_arg0))
        (m ((c : Thread Cert.OprojIdeal.nD Cert.OprojIdeal.τ).loc Cert.OprojIdeal.main_arg2))
        (m ((c : Thread Cert.OprojIdeal.nD Cert.OprojIdeal.τ).loc Cert.OprojIdeal.main_arg3))
        (m ((c : Thread Cert.OprojIdeal.nD Cert.OprojIdeal.τ).loc Cert.OprojIdeal.main_arg1))
      = (Cert.OprojIdeal.Gen.dats m 0 c).arrAt 4 Cert.OprojIdeal.cfg0.N := by
  funext y
  obtain ⟨R, j, rfl⟩ : ∃ (R : Fin 7680) (j : Fin 5120), y = ValueIdx.ix2 R j := ⟨y 0, y 1, ValueIdx.eq_ix2 y⟩
  exact (Cert.OprojRef.out_apply _ _ _ _ R j).trans (Cert.OprojArray.final4 m c R j).symm

theorem code_eq (c : Dev Cert.OprojIdeal.nD) :
    Cert.OprojReferenceIdeal.Gen.k0_pay2 (F := Ideal) (m ((c : Thread Cert.OprojIdeal.nD Cert.OprojIdeal.τ).loc Cert.OprojIdeal.main_arg0))
      = (Cert.OprojIdeal.Gen.dats m 0 c).arrAt 5 Cert.OprojIdeal.cfg0.N := by
  funext y
  obtain ⟨R, j, rfl⟩ : ∃ (R : Fin 7680) (j : Fin 4096), y = ValueIdx.ix2 R j := ⟨y 0, y 1, ValueIdx.eq_ix2 y⟩
  exact (Cert.OprojRef.code_apply _ R j).trans (Cert.OprojArray.final5 m c R j).symm

theorem scale_eq (c : Dev Cert.OprojIdeal.nD) :
    Cert.OprojReferenceIdeal.Gen.k0_pay1 (F := Ideal) (m ((c : Thread Cert.OprojIdeal.nD Cert.OprojIdeal.τ).loc Cert.OprojIdeal.main_arg0))
      = (Cert.OprojIdeal.Gen.dats m 0 c).arrAt 6 Cert.OprojIdeal.cfg0.N := by
  funext y
  obtain ⟨R, z, rfl⟩ : ∃ (R : Fin 7680) (z : Fin 1), y = ValueIdx.ix2 R z := ⟨y 0, y 1, ValueIdx.eq_ix2 y⟩
  obtain rfl : z = 0 := Subsingleton.elim _ _
  exact (Cert.OprojRef.scale_apply _ R).trans (Cert.OprojArray.final6 m c R 0).symm

theorem algebraic : Cert.algebraic_OprojIdeal_OprojReferenceIdeal (hOprojIdeal := Cert.OprojIdeal.Gen.facts)
    (hOprojReferenceIdeal := Cert.OprojReferenceIdeal.Gen.facts) := by
  intro m g m' g' _ hm
  refine ⟨fun c => (Cert.OprojIdeal.Gen.dats m 0 c).arrAt 4 Cert.OprojIdeal.cfg0.N,
    fun c => (Cert.OprojIdeal.Gen.dats m 0 c).arrAt 5 Cert.OprojIdeal.cfg0.N,
    fun c => (Cert.OprojIdeal.Gen.dats m 0 c).arrAt 6 Cert.OprojIdeal.cfg0.N,
    Cert.OprojIdeal.Value.run_blocks m g, ?_⟩
  refine (θ_run _ _ _).mono (fun r h c => ?_) (Cert.OprojReferenceIdeal.Value.run m' g')
  obtain ⟨h4, h5, h6, h⟩ := h c
  obtain ⟨e0, e1, e2, e3⟩ := hm c
  refine ⟨h4.trans ?_, h5.trans ?_, h6.trans ?_, h⟩
  · refine Eq.trans ?_ (out_eq m c)
    unfold Cert.OprojReferenceIdeal.Value.G4
    rw [e0, e1, e2, e3]
  · refine Eq.trans ?_ (code_eq m c)
    unfold Cert.OprojReferenceIdeal.Value.G5
    rw [e0]
  · refine Eq.trans ?_ (scale_eq m c)
    unfold Cert.OprojReferenceIdeal.Value.G6
    rw [e0]

end Cert.OprojEq
-- ==== Proof.Softmax.lean ====
/- Hand-written, untrusted: THE STREAMING SOFTMAX OVER THE EXTENDED REALS. A softmax in base 2, whose exponents are taken relative to
   the rounded-up maximum, can be summed block by block: when a block raises the maximum, what was summed so far is scaled down by a
   power of two. That gives the sums of the plain softmax exactly, for all extended reals: an infinite score or a masked key included. -/
module

public import proofs.«01_k».proof.Proof.RowQuant

@[expose] public section

noncomputable section
namespace Cert.Softmax

open Idealize.ShloMosaic
open scoped BigOperators

/-- Rounding up, infinities fixed. -/
abbrev up (x : EReal) : EReal := Ideal.liftRound Int.ceil x

theorem le_up (x : EReal) : x ≤ up x := by
  induction x with
  | bot => simp [up]
  | top => simp [up]
  | coe r => simpa [up] using Int.le_ceil r

theorem up_mono {x y : EReal} (h : x ≤ y) : up x ≤ up y := by
  induction x with
  | bot => simp [up]
  | top => obtain rfl := top_le_iff.1 h; exact le_refl _
  | coe r =>
    induction y with
    | bot => exact absurd h (by simp)
    | top => simp [up]
    | coe s =>
      have : r ≤ s := EReal.coe_le_coe_iff.1 h
      simpa [up] using Int.ceil_mono this

theorem up_max (x y : EReal) : up (max x y) = max (up x) (up y) := by
  rcases le_total x y with h | h
  · rw [max_eq_right h, max_eq_right (up_mono h)]
  · rw [max_eq_left h, max_eq_left (up_mono h)]

/-- The maximum of the first `n` scores. -/
def top (s : ℕ → EReal) (n : ℕ) : EReal := (Finset.range n).sup s

/-- A key's weight relative to the rounded-up maximum of the first `n` scores. -/
def weight (s : ℕ → EReal) (n j : ℕ) : EReal := Ideal.exp2 (s j - up (top s n))

/-- The weights of the first `n` keys, summed. -/
def den (s : ℕ → EReal) (n : ℕ) : EReal := ∑ j ∈ Finset.range n, weight s n j

/-- The weights of the first `n` keys, each with a factor `vs` and a value `v`, summed. -/
def num (s vs v : ℕ → EReal) (n : ℕ) : EReal := ∑ j ∈ Finset.range n, v j * (weight s n j * vs j)

/-- What a raised maximum scales the sums by. -/
def shrink (a b : EReal) : EReal := Ideal.exp2 (a - b)

theorem exp2_nonneg (x : EReal) : 0 ≤ Ideal.exp2 x := by
  induction x with
  | bot => simp
  | top => simp
  | coe r => rw [Ideal.exp2_coe]; exact EReal.coe_nonneg.2 (Real.rpow_nonneg (by norm_num) r)

theorem shrink_ne_top {a b : EReal} (h : a ≤ b) : shrink a b ≠ ⊤ := by
  unfold shrink
  induction a with
  | bot => rw [EReal.bot_sub]; simp
  | top => obtain rfl := top_le_iff.1 h; simp
  | coe r =>
    induction b with
    | bot => exact absurd h (by simp)
    | top => simp
    | coe s => rw [← EReal.coe_sub, Ideal.exp2_coe]; exact EReal.coe_ne_top _

theorem exp2_mul_shrink {s a b : EReal} (hs : s ≤ a) (h : a ≤ b) : Ideal.exp2 (s - a) * shrink a b = Ideal.exp2 (s - b) := by
  unfold shrink
  induction a with
  | bot => obtain rfl := le_bot_iff.1 hs; rw [EReal.bot_sub, EReal.bot_sub]; simp
  | top => obtain rfl := top_le_iff.1 h; rw [EReal.sub_top, EReal.sub_top]; simp
  | coe a =>
    induction s with
    | bot => rw [EReal.bot_sub, EReal.bot_sub]; simp
    | top => exact absurd hs (by simp)
    | coe s =>
      induction b with
      | bot => exact absurd h (by simp)
      | top => rw [EReal.sub_top, EReal.sub_top]; simp
      | coe b =>
        rw [← EReal.coe_sub, ← EReal.coe_sub, ← EReal.coe_sub, Ideal.exp2_coe, Ideal.exp2_coe, Ideal.exp2_coe, ← EReal.coe_mul]
        congr 1
        have := Real.rpow_add (x := 2) (by norm_num) (s - a) (a - b)
        rw [sub_add_sub_cancel] at this
        exact this.symm

theorem sum_mul {ι : Type*} (S : Finset ι) (f : ι → EReal) {c : EReal} (h : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h ht, ih]

theorem le_top (s : ℕ → EReal) {n j : ℕ} (h : j < n) : s j ≤ up (top s n) :=
  (Finset.le_sup (f := s) (Finset.mem_range.2 h)).trans (le_up _)

theorem top_mono (s : ℕ → EReal) {n n' : ℕ} (h : n ≤ n') : up (top s n) ≤ up (top s n') :=
  up_mono (Finset.sup_mono (Finset.range_subset_range.2 h))

theorem weight_mul_shrink (s : ℕ → EReal) {n n' j : ℕ} (hj : j < n) (h : n ≤ n') :
    weight s n j * shrink (up (top s n)) (up (top s n')) = weight s n' j :=
  exp2_mul_shrink (le_top s hj) (top_mono s h)

/-- The next block's maximum, rounded up, against the maximum so far. -/
theorem top_add (s : ℕ → EReal) (n b : ℕ) :
    max (up (top s n)) (up ((Finset.range b).sup fun r => s (n + r))) = up (top s (n + b)) := by
  rw [← up_max]; congr 1
  unfold top
  refine le_antisymm (max_le (Finset.sup_mono (Finset.range_subset_range.2 (by omega))) ?_) ?_
  · exact Finset.sup_le fun r hr => Finset.le_sup (f := s) (Finset.mem_range.2 (by have := Finset.mem_range.1 hr; omega))
  · refine Finset.sup_le fun j hj => ?_
    have hj := Finset.mem_range.1 hj
    by_cases h : j < n
    · exact le_max_of_le_left (Finset.le_sup (f := s) (Finset.mem_range.2 h))
    · refine le_max_of_le_right ?_
      have := Finset.le_sup (f := fun r => s (n + r)) (Finset.mem_range.2 (show j - n < b by omega))
      simpa [Nat.add_sub_cancel' (Nat.le_of_not_lt h)] using this

theorem den_add (s : ℕ → EReal) (n b : ℕ) :
    den s n * shrink (up (top s n)) (up (top s (n + b))) + ∑ r ∈ Finset.range b, weight s (n + b) (n + r) = den s (n + b) := by
  unfold den
  rw [sum_mul _ _ (show 0 ≤ shrink _ _ from exp2_nonneg _) (shrink_ne_top (top_mono s (Nat.le_add_right n b))), Finset.sum_range_add]
  congr 1
  exact Finset.sum_congr rfl fun j hj => weight_mul_shrink s (Finset.mem_range.1 hj) (Nat.le_add_right n b)

theorem num_add (s vs v : ℕ → EReal) (n b : ℕ) :
    num s vs v n * shrink (up (top s n)) (up (top s (n + b)))
      + ∑ r ∈ Finset.range b, v (n + r) * (weight s (n + b) (n + r) * vs (n + r)) = num s vs v (n + b) := by
  unfold num
  rw [sum_mul _ _ (show 0 ≤ shrink _ _ from exp2_nonneg _) (shrink_ne_top (top_mono s (Nat.le_add_right n b))), Finset.sum_range_add]
  congr 1
  refine Finset.sum_congr rfl fun j hj => ?_
  rw [mul_assoc, mul_right_comm (weight s n j), weight_mul_shrink s (Finset.mem_range.1 hj) (Nat.le_add_right n b)]

/-- Masked keys past `n` change nothing. -/
theorem top_of_masked (s : ℕ → EReal) {n N : ℕ} (h : n ≤ N) (hm : ∀ j, n ≤ j → s j = ⊥) : top s N = top s n := by
  unfold top
  refine le_antisymm (Finset.sup_le fun j _ => ?_) (Finset.sup_mono (Finset.range_subset_range.2 h))
  by_cases hj : j < n
  · exact Finset.le_sup (f := s) (Finset.mem_range.2 hj)
  · rw [hm j (Nat.le_of_not_lt hj)]; exact bot_le

theorem weight_of_masked (s : ℕ → EReal) (n j : ℕ) (h : s j = ⊥) : weight s n j = 0 := by
  unfold weight; rw [h, EReal.bot_sub]; simp

theorem den_of_masked (s : ℕ → EReal) {n N : ℕ} (h : n ≤ N) (hm : ∀ j, n ≤ j → s j = ⊥) : den s N = den s n := by
  obtain ⟨b, rfl⟩ := Nat.exists_eq_add_of_le h
  unfold den
  rw [Finset.sum_range_add, Finset.sum_eq_zero (s := Finset.range b) fun r _ => weight_of_masked s _ _ (hm _ (Nat.le_add_right n r)),
    add_zero]
  exact Finset.sum_congr rfl fun j _ => by unfold weight; rw [top_of_masked s h hm]

theorem num_of_masked (s vs v : ℕ → EReal) {n N : ℕ} (h : n ≤ N) (hm : ∀ j, n ≤ j → s j = ⊥) : num s vs v N = num s vs v n := by
  obtain ⟨b, rfl⟩ := Nat.exists_eq_add_of_le h
  unfold num
  rw [Finset.sum_range_add, Finset.sum_eq_zero (s := Finset.range b), add_zero]
  · exact Finset.sum_congr rfl fun j _ => by unfold weight; rw [top_of_masked s h hm]
  · intro r _; rw [weight_of_masked s _ _ (hm _ (Nat.le_add_right n r)), zero_mul, mul_zero]

/-- One query's attention to its first `n` keys. -/
def attn (s vs v : ℕ → EReal) (n : ℕ) : EReal := Ideal.div (num s vs v n) (den s n)

theorem attn_of_masked (s vs v : ℕ → EReal) {n N : ℕ} (h : n ≤ N) (hm : ∀ j, n ≤ j → s j = ⊥) : attn s vs v N = attn s vs v n := by
  unfold attn; rw [num_of_masked s vs v h hm, den_of_masked s h hm]

end Cert.Softmax
end
end
-- ==== Proof.AttendStep.lean ====
/- Hand-written, untrusted: ONE BLOCK OF KEYS OF THE STREAMING SOFTMAX, as vector operations state it for all columns of queries at once, read
   at a column: the block's scores, the raised maximum, the weights, and the two sums. For blocks of any extents. -/
module

public import proofs.«01_k».proof.Proof.Softmax
public import Idealize.ShloMosaic.Lib.Affine

@[expose] public section

noncomputable section
namespace Cert.AttendStep

open Idealize.ShloMosaic Cert.RowQuant Cert.Softmax
open scoped BigOperators

theorem negInf : Ideal.ofBits .f32 0xFF800000#32 = ⊥ := by simp [Ideal.ofBits, Ideal.ieee]

theorem sup_fin (K : ℕ) (g : ℕ → EReal) : (Finset.univ : Finset (Fin K)).sup (fun r => g r.val) = (Finset.range K).sup g := by
  refine le_antisymm (Finset.sup_le fun r _ => Finset.le_sup (f := g) (Finset.mem_range.2 r.isLt)) (Finset.sup_le fun r hr => ?_)
  exact Finset.le_sup (f := fun r : Fin K => g r.val) (Finset.mem_univ ⟨r, Finset.mem_range.1 hr⟩)

theorem fold_max (K : ℕ) (f : Fin K → EReal) :
    (Finset.univ : Finset (Fin K)).fold max (Ideal.ofBits .f32 0xFF800000#32) f = Finset.univ.sup f := by
  rw [negInf]; rfl

/-- Two copies side by side of a matrix whose rows are constant. -/
theorem concat2_apply {R L N : ℕ} (x : FVec Ideal ⟨2, ![R, L]⟩ .f32) (h : Shape.Concatenates [⟨2, ![R, L]⟩, ⟨2, ![R, L]⟩] ⟨2, ![R, N]⟩ 1)
    (f : ℕ → EReal) (hf : ∀ r l, x (ValueIdx.ix2 r l) = f r.val) (hL : 0 < L) (r : Fin R) (c : Fin N) :
    concatenate ⟨2, ![R, N]⟩ 1 [⟨⟨2, ![R, L]⟩, x⟩, ⟨⟨2, ![R, L]⟩, x⟩] h (ValueIdx.ix2 r c) = f r.val := by
  refine (concatenate_replicate_apply (t := ⟨2, ![R, N]⟩) 1 2 x h rfl (ValueIdx.ix2 r c) (ValueIdx.ix2 r ⟨c.val % L, Nat.mod_lt _ hL⟩) rfl
    (fun b hb => ?_)).trans (hf _ _)
  match b, hb with
  | ⟨0, _⟩, _ => rfl
  | ⟨1, _⟩, hb => exact absurd rfl hb

/-- The scores of a block of keys: products of keys with queries, scaled by the keys' scales, and minus infinity at a key past the query. -/
def scores {R K L C : ℕ} (d : DotDims ⟨2, ![R, K]⟩ ⟨2, ![K, C]⟩ ⟨2, ![R, C]⟩)
    (hcat : Shape.Concatenates [⟨2, ![R, L]⟩, ⟨2, ![R, L]⟩] ⟨2, ![R, C]⟩ 1) (hio : Shape.Iotas ⟨2, ![R, C]⟩ .tc 32 [0])
    (hb : (⟨2, ![1, C]⟩ : Shape).Broadcasts ⟨2, ![R, C]⟩)
    (start : BitVec 32) (q : FVec Ideal ⟨2, ![K, C]⟩ .bf16) (pos : IVec ⟨2, ![1, C]⟩ 32) (kb : FVec Ideal ⟨2, ![R, K]⟩ .bf16)
    (ksb : FVec Ideal ⟨2, ![R, L]⟩ .f32) : FVec Ideal ⟨2, ![R, C]⟩ .f32 :=
  select (cmpi .sle (addi (broadcast ⟨2, ![R, C]⟩ start) (iota .tc ⟨2, ![R, C]⟩ 32 [0] hio)) (broadcastTo ⟨2, ![R, C]⟩ pos hb))
    (mulf (matmul d none kb q (constant ⟨2, ![R, C]⟩ .f32 0x00000000#32))
      (concatenate ⟨2, ![R, C]⟩ 1 [⟨⟨2, ![R, L]⟩, ksb⟩, ⟨⟨2, ![R, L]⟩, ksb⟩] hcat))
    (broadcast ⟨2, ![R, C]⟩ (Scalar.ofBits .f32 0xFF800000#32))

theorem bcastRowI_apply {M K : ℕ} (s : IVec ⟨2, ![1, K]⟩ 32) (hb : (⟨2, ![1, K]⟩ : Shape).Broadcasts ⟨2, ![M, K]⟩)
    (r : Fin M) (k : Fin K) : broadcastTo ⟨2, ![M, K]⟩ s hb (ValueIdx.ix2 r k) = s (ValueIdx.ix2 0 k) := by
  refine broadcastTo_apply s hb (ValueIdx.ix2 r k) (ValueIdx.ix2 0 k) fun a => ?_
  match a with
  | ⟨0, _⟩ => rfl
  | ⟨1, _⟩ =>
    show k.val = if K = 1 then 0 else k.val
    split
    · have := k.isLt; omega
    · rfl

theorem scores_apply {R K L C : ℕ} (d : DotDims ⟨2, ![R, K]⟩ ⟨2, ![K, C]⟩ ⟨2, ![R, C]⟩) (hd : d = DotDims.plain R K C)
    (hcat : Shape.Concatenates [⟨2, ![R, L]⟩, ⟨2, ![R, L]⟩] ⟨2, ![R, C]⟩ 1) (hio : Shape.Iotas ⟨2, ![R, C]⟩ .tc 32 [0])
    (hb : (⟨2, ![1, C]⟩ : Shape).Broadcasts ⟨2, ![R, C]⟩)
    (n : ℕ) (hn : n + R ≤ 8192) (q : FVec Ideal ⟨2, ![K, C]⟩ .bf16) (pos : IVec ⟨2, ![1, C]⟩ 32) (kb : FVec Ideal ⟨2, ![R, K]⟩ .bf16)
    (ksb : FVec Ideal ⟨2, ![R, L]⟩ .f32) (hL : 0 < L) (f : ℕ → EReal) (hf : ∀ r l, ksb (ValueIdx.ix2 r l) = f r.val) (r : Fin R) (c : Fin C) :
    scores d hcat hio hb (BitVec.ofNat 32 n) q pos kb ksb (ValueIdx.ix2 r c)
      = if ((n + r.val : ℕ) : ℤ) ≤ (pos (ValueIdx.ix2 0 c)).toInt then (∑ k : Fin K, kb (ValueIdx.ix2 r k) * q (ValueIdx.ix2 k c)) * f r.val else ⊥ := by
  show (if IntOp.cmpi .sle (BitVec.ofNat 32 n + BitVec.ofNat 32 (0 * R + r.val)) (broadcastTo ⟨2, ![R, C]⟩ pos hb (ValueIdx.ix2 r c)) = 1#1 then
      matmul d none kb q (constant ⟨2, ![R, C]⟩ .f32 0x00000000#32) (ValueIdx.ix2 r c) * concatenate ⟨2, ![R, C]⟩ 1 [⟨⟨2, ![R, L]⟩, ksb⟩, ⟨⟨2, ![R, L]⟩, ksb⟩] hcat (ValueIdx.ix2 r c)
      else Ideal.ofBits .f32 0xFF800000#32) = _
  rw [bcastRowI_apply, product_apply d hd, concat2_apply ksb hcat f hf hL, negInf]
  have e : (BitVec.ofNat 32 n + BitVec.ofNat 32 (0 * R + r.val)) = BitVec.ofNat 32 (n + r.val) := by
    rw [Nat.zero_mul, Nat.zero_add, BitVec.ofNat_add]
  have e' : (BitVec.ofNat 32 (n + r.val)).toInt = ((n + r.val : ℕ) : ℤ) := by
    have := r.isLt
    rw [BitVec.toInt_ofNat']
    simp only [Int.bmod_def]; omega
  rw [e]
  exact if_congr (IntOp.cmpi_sle.trans (by rw [e'])) rfl rfl

/-- The maximum raised by a block's scores, rounded up. -/
def newTop {R C : ℕ} (m : FVec Ideal ⟨2, ![1, C]⟩ .f32) (s : FVec Ideal ⟨2, ![R, C]⟩ .f32) (hr : Shape.Reduces ⟨2, ![R, C]⟩ [0] ⟨1, ![C]⟩)
    (hc : (⟨1, ![C]⟩ : Shape).ShapeCasts ⟨2, ![1, C]⟩) : FVec Ideal ⟨2, ![1, C]⟩ .f32 :=
  maximumf m (ceil (shapeCast ⟨2, ![1, C]⟩ (multiReduction .maximumf [0] ⟨1, ![C]⟩ s 0xFF800000#32 hr) hc))

theorem asRow_apply {C : ℕ} (x : FVec Ideal ⟨1, ![C]⟩ .f32) (hc : (⟨1, ![C]⟩ : Shape).ShapeCasts ⟨2, ![1, C]⟩) (c : Fin C) :
    shapeCast ⟨2, ![1, C]⟩ x hc (ValueIdx.ix2 0 c) = x (ValueIdx.ix1 c) :=
  shapeCast_apply _ hc (ValueIdx.ix2 0 c) (ValueIdx.ix1 c) (by
    rw [Shape.rowMajor_val_one, Shape.rowMajor_val_two]; show c.val = 0 * C + c.val; omega)

theorem lift_col {R C : ℕ} (hr : Shape.Reduces ⟨2, ![R, C]⟩ [0] ⟨1, ![C]⟩) (c : Fin C) (r : Fin R) :
    hr.lift (ValueIdx.ix1 c) r = ValueIdx.ix2 r c := by
  funext a
  match a with
  | ⟨0, _⟩ => rfl
  | ⟨1, _⟩ => rfl

theorem newTop_apply {R C : ℕ} (m : FVec Ideal ⟨2, ![1, C]⟩ .f32) (s : FVec Ideal ⟨2, ![R, C]⟩ .f32) (hr : Shape.Reduces ⟨2, ![R, C]⟩ [0] ⟨1, ![C]⟩)
    (hc : (⟨1, ![C]⟩ : Shape).ShapeCasts ⟨2, ![1, C]⟩) (c : Fin C) :
    newTop m s hr hc (ValueIdx.ix2 0 c) = max (m (ValueIdx.ix2 0 c)) (up (Finset.univ.sup fun r : Fin R => s (ValueIdx.ix2 r c))) := by
  show max _ (up (shapeCast ⟨2, ![1, C]⟩ _ hc (ValueIdx.ix2 0 c))) = _
  rw [asRow_apply]
  congr 2
  refine (Ideal.multiReduction_maximumf_single _ _ _ _ _ _).trans ((fold_max R _).trans ?_)
  refine congrArg (Finset.univ.sup) (funext fun r => ?_)
  exact congrArg s (lift_col hr c r)

/-- The weights of a block's keys. -/
def weights {R C : ℕ} (m' : FVec Ideal ⟨2, ![1, C]⟩ .f32) (s : FVec Ideal ⟨2, ![R, C]⟩ .f32)
    (hb : (⟨2, ![1, C]⟩ : Shape).Broadcasts ⟨2, ![R, C]⟩) : FVec Ideal ⟨2, ![R, C]⟩ .f32 :=
  exp2 (subf s (broadcastTo ⟨2, ![R, C]⟩ m' hb))

theorem weights_apply {R C : ℕ} (m' : FVec Ideal ⟨2, ![1, C]⟩ .f32) (s : FVec Ideal ⟨2, ![R, C]⟩ .f32)
    (hb : (⟨2, ![1, C]⟩ : Shape).Broadcasts ⟨2, ![R, C]⟩) (r : Fin R) (c : Fin C) :
    weights m' s hb (ValueIdx.ix2 r c) = Ideal.exp2 (s (ValueIdx.ix2 r c) - m' (ValueIdx.ix2 0 c)) := by
  show Ideal.exp2 (_ - broadcastTo ⟨2, ![R, C]⟩ m' hb (ValueIdx.ix2 r c)) = _
  rw [bcastRow_apply]

/-- The sum of weights after a block. -/
def newDen {R C : ℕ} (l a : FVec Ideal ⟨2, ![1, C]⟩ .f32) (p : FVec Ideal ⟨2, ![R, C]⟩ .f32) (hr : Shape.Reduces ⟨2, ![R, C]⟩ [0] ⟨1, ![C]⟩)
    (hc : (⟨1, ![C]⟩ : Shape).ShapeCasts ⟨2, ![1, C]⟩) : FVec Ideal ⟨2, ![1, C]⟩ .f32 :=
  addf (mulf l a) (shapeCast ⟨2, ![1, C]⟩ (multiReduction .add [0] ⟨1, ![C]⟩ p 0x00000000#32 hr) hc)

theorem newDen_apply {R C : ℕ} (l a : FVec Ideal ⟨2, ![1, C]⟩ .f32) (p : FVec Ideal ⟨2, ![R, C]⟩ .f32) (hr : Shape.Reduces ⟨2, ![R, C]⟩ [0] ⟨1, ![C]⟩)
    (hc : (⟨1, ![C]⟩ : Shape).ShapeCasts ⟨2, ![1, C]⟩) (c : Fin C) :
    newDen l a p hr hc (ValueIdx.ix2 0 c) = l (ValueIdx.ix2 0 c) * a (ValueIdx.ix2 0 c) + ∑ r : Fin R, p (ValueIdx.ix2 r c) := by
  show _ * _ + shapeCast ⟨2, ![1, C]⟩ _ hc (ValueIdx.ix2 0 c) = _
  rw [asRow_apply]
  congr 1
  refine (Ideal.multiReduction_add_single _ _ _ _ _ _).trans (Finset.sum_congr rfl fun r _ => ?_)
  exact congrArg p (lift_col hr c r)

/-- The weighted sum of values after a block. -/
def newNum {R D L C : ℕ} (d : DotDims ⟨2, ![D, R]⟩ ⟨2, ![R, C]⟩ ⟨2, ![D, C]⟩)
    (hcat : Shape.Concatenates [⟨2, ![R, L]⟩, ⟨2, ![R, L]⟩] ⟨2, ![R, C]⟩ 1) (hb : (⟨2, ![1, C]⟩ : Shape).Broadcasts ⟨2, ![D, C]⟩)
    (hl : FTy.bf16.bits < FTy.f32.bits) (acc : FVec Ideal ⟨2, ![D, C]⟩ .f32) (a : FVec Ideal ⟨2, ![1, C]⟩ .f32)
    (p : FVec Ideal ⟨2, ![R, C]⟩ .f32) (vt : FVec Ideal ⟨2, ![D, R]⟩ .bf16) (vsb : FVec Ideal ⟨2, ![R, L]⟩ .f32) : FVec Ideal ⟨2, ![D, C]⟩ .f32 :=
  addf (mulf acc (broadcastTo ⟨2, ![D, C]⟩ a hb))
    (matmul d none vt (truncf .bf16 (mulf p (concatenate ⟨2, ![R, C]⟩ 1 [⟨⟨2, ![R, L]⟩, vsb⟩, ⟨⟨2, ![R, L]⟩, vsb⟩] hcat)) hl)
      (constant ⟨2, ![D, C]⟩ .f32 0x00000000#32))

theorem newNum_apply {R D L C : ℕ} (d : DotDims ⟨2, ![D, R]⟩ ⟨2, ![R, C]⟩ ⟨2, ![D, C]⟩) (hd : d = DotDims.plain D R C)
    (hcat : Shape.Concatenates [⟨2, ![R, L]⟩, ⟨2, ![R, L]⟩] ⟨2, ![R, C]⟩ 1) (hb : (⟨2, ![1, C]⟩ : Shape).Broadcasts ⟨2, ![D, C]⟩)
    (hl : FTy.bf16.bits < FTy.f32.bits) (acc : FVec Ideal ⟨2, ![D, C]⟩ .f32) (a : FVec Ideal ⟨2, ![1, C]⟩ .f32)
    (p : FVec Ideal ⟨2, ![R, C]⟩ .f32) (vt : FVec Ideal ⟨2, ![D, R]⟩ .bf16) (vsb : FVec Ideal ⟨2, ![R, L]⟩ .f32)
    (hL : 0 < L) (g : ℕ → EReal) (hg : ∀ r l, vsb (ValueIdx.ix2 r l) = g r.val) (e : Fin D) (c : Fin C) :
    newNum d hcat hb hl acc a p vt vsb (ValueIdx.ix2 e c)
      = acc (ValueIdx.ix2 e c) * a (ValueIdx.ix2 0 c) + ∑ r : Fin R, vt (ValueIdx.ix2 e r) * (p (ValueIdx.ix2 r c) * g r.val) := by
  show _ * broadcastTo ⟨2, ![D, C]⟩ a hb (ValueIdx.ix2 e c) + matmul d none vt _ (constant ⟨2, ![D, C]⟩ .f32 0x00000000#32) (ValueIdx.ix2 e c) = _
  rw [bcastRow_apply, product_apply d hd]
  congr 1
  refine Finset.sum_congr rfl fun r _ => ?_
  show _ * (_ * concatenate ⟨2, ![R, C]⟩ 1 [⟨⟨2, ![R, L]⟩, vsb⟩, ⟨⟨2, ![R, L]⟩, vsb⟩] hcat (ValueIdx.ix2 r c)) = _
  rw [concat2_apply vsb hcat g hg hL]

/-- What the streaming softmax carries, for one column: the rounded-up maximum of the first `n` scores and the two sums over them. -/
structure Carried {D C : ℕ} (s vs : ℕ → EReal) (v : Fin D → ℕ → EReal) (c : Fin C) (n : ℕ)
    (st : FVec Ideal ⟨2, ![1, C]⟩ .f32 × FVec Ideal ⟨2, ![1, C]⟩ .f32 × FVec Ideal ⟨2, ![D, C]⟩ .f32) : Prop where
  top : st.1 (ValueIdx.ix2 0 c) = up (Softmax.top s n)
  den : st.2.1 (ValueIdx.ix2 0 c) = Softmax.den s n
  num : ∀ e, st.2.2 (ValueIdx.ix2 e c) = Softmax.num s vs (v e) n

/-- A block more. -/
theorem Carried.step {R D L C : ℕ} {s vs : ℕ → EReal} {v : Fin D → ℕ → EReal} {c : Fin C} {n : ℕ}
    {st : FVec Ideal ⟨2, ![1, C]⟩ .f32 × FVec Ideal ⟨2, ![1, C]⟩ .f32 × FVec Ideal ⟨2, ![D, C]⟩ .f32} (h : Carried s vs v c n st)
    (d : DotDims ⟨2, ![D, R]⟩ ⟨2, ![R, C]⟩ ⟨2, ![D, C]⟩) (hd : d = DotDims.plain D R C)
    (hcat : Shape.Concatenates [⟨2, ![R, L]⟩, ⟨2, ![R, L]⟩] ⟨2, ![R, C]⟩ 1)
    (hb : (⟨2, ![1, C]⟩ : Shape).Broadcasts ⟨2, ![R, C]⟩) (hb' : (⟨2, ![1, C]⟩ : Shape).Broadcasts ⟨2, ![D, C]⟩)
    (hr : Shape.Reduces ⟨2, ![R, C]⟩ [0] ⟨1, ![C]⟩) (hc : (⟨1, ![C]⟩ : Shape).ShapeCasts ⟨2, ![1, C]⟩)
    (hl : FTy.bf16.bits < FTy.f32.bits) (S : FVec Ideal ⟨2, ![R, C]⟩ .f32) (vt : FVec Ideal ⟨2, ![D, R]⟩ .bf16)
    (vsb : FVec Ideal ⟨2, ![R, L]⟩ .f32) (hL : 0 < L)
    (hS : ∀ r, S (ValueIdx.ix2 r c) = s (n + r.val)) (hv : ∀ e r, vt (ValueIdx.ix2 e r) = v e (n + r.val))
    (hvs : ∀ r l, vsb (ValueIdx.ix2 r l) = vs (n + r.val)) :
    Carried s vs v c (n + R)
      (newTop st.1 S hr hc,
       newDen st.2.1 (exp2 (subf st.1 (newTop st.1 S hr hc))) (weights (newTop st.1 S hr hc) S hb) hr hc,
       newNum d hcat hb' hl st.2.2 (exp2 (subf st.1 (newTop st.1 S hr hc))) (weights (newTop st.1 S hr hc) S hb) vt vsb) := by
  have ht : newTop st.1 S hr hc (ValueIdx.ix2 0 c) = up (Softmax.top s (n + R)) := by
    rw [newTop_apply, h.top, ← top_add, ← sup_fin]
    congr 3; exact funext fun r => hS r
  have ha : (exp2 (subf st.1 (newTop st.1 S hr hc))) (ValueIdx.ix2 0 c) = shrink (up (Softmax.top s n)) (up (Softmax.top s (n + R))) := by
    show Ideal.exp2 (_ - newTop st.1 S hr hc (ValueIdx.ix2 0 c)) = _
    rw [ht, h.top]; rfl
  have hp : ∀ r, weights (newTop st.1 S hr hc) S hb (ValueIdx.ix2 r c) = weight s (n + R) (n + r.val) := fun r => by
    rw [weights_apply, ht, hS r]; rfl
  refine ⟨ht, ?_, fun e => ?_⟩
  · show newDen _ _ _ hr hc (ValueIdx.ix2 0 c) = _
    rw [newDen_apply, ha, h.den, ← den_add, Finset.sum_range]
    congr 1
    exact Finset.sum_congr rfl fun r _ => hp r
  · show newNum d hcat hb' hl _ _ _ _ _ (ValueIdx.ix2 e c) = _
    rw [newNum_apply d hd hcat hb' hl _ _ _ vt vsb hL (fun r => vs (n + r)) hvs, ha, h.num e, ← num_add, Finset.sum_range]
    congr 1
    exact Finset.sum_congr rfl fun r _ => by rw [hp r, hv e r]

/-- Before the first block. -/
theorem Carried.zero {D C : ℕ} (s vs : ℕ → EReal) (v : Fin D → ℕ → EReal) (c : Fin C) :
    Carried s vs v c 0 (broadcast ⟨2, ![1, C]⟩ (Scalar.ofBits .f32 0xFF800000#32), broadcast ⟨2, ![1, C]⟩ (Scalar.ofBits .f32 0x00000000#32),
      broadcast ⟨2, ![D, C]⟩ (Scalar.ofBits .f32 0x00000000#32)) where
  top := by show Ideal.ofBits .f32 0xFF800000#32 = _; rw [negInf]; simp [Softmax.top, up]
  den := by show Ideal.ofBits .f32 0x00000000#32 = _; simp [Softmax.den]
  num _ := by show Ideal.ofBits .f32 0x00000000#32 = _; simp [Softmax.num]

end Cert.AttendStep
end
-- ==== Proof.AttnAt.lean ====
/- Hand-written, untrusted: ONE ENTRY OF THE ATTENTION, as a function of one query, its position, and the keys and values it may see: what
   both the kernel's and the reference's result are, at an index. -/
module

public import proofs.«01_k».proof.Proof.Softmax

@[expose] public section

noncomputable section
namespace Cert.AttnAt

open Idealize.ShloMosaic

/-- The score of key `j`: the product of the key and the query, scaled; minus infinity for a key past the query's position. -/
def score (q : Fin 128 → EReal) (p : ℤ) (k : Fin 8192 → Fin 128 → EReal) (ks : Fin 8192 → EReal) (j : ℕ) : EReal :=
  if h : j < 8192 then if (j : ℤ) ≤ p then (∑ d : Fin 128, k ⟨j, h⟩ d * q d) * ks ⟨j, h⟩ else ⊥ else ⊥

/-- A function of the keys, zero past them. -/
def spread (f : Fin 8192 → EReal) (j : ℕ) : EReal := if h : j < 8192 then f ⟨j, h⟩ else 0

/-- The softmax of the scores over all keys, applied to one feature of the values. -/
def attnAt (q : Fin 128 → EReal) (p : ℤ) (k : Fin 8192 → Fin 128 → EReal) (ks : Fin 8192 → EReal) (v vs : Fin 8192 → EReal) : EReal :=
  Softmax.attn (score q p k ks) (spread vs) (spread v) 8192

/-- Keys past the query's position do not count. -/
theorem attn_prefix (q : Fin 128 → EReal) (p : ℤ) (k : Fin 8192 → Fin 128 → EReal) (ks : Fin 8192 → EReal) (v vs : Fin 8192 → EReal) {n : ℕ}
    (hn : n ≤ 8192) (h : ∀ j : ℕ, n ≤ j → p < j) :
    Softmax.attn (score q p k ks) (spread vs) (spread v) n = attnAt q p k ks v vs :=
  (Softmax.attn_of_masked _ _ _ hn fun j hj => by
    unfold score
    split
    · rw [if_neg (not_le.mpr (h j hj))]
    · rfl).symm

end Cert.AttnAt
end
-- ==== Proof.AttendDots.lean ====
/- Hand-written, untrusted: MASKED ATTENTION WRITTEN PLAINLY, as whole-array operations on stacks of queries, keys and values state it, read at an
   index: the scores, the weights, their sum, and the weighted sum of values. For stacks of any extents. -/
module

public import proofs.«01_k».proof.Proof.AttendStep
public import proofs.«01_k».proof.Proof.AttnAt

@[expose] public section

noncomputable section
namespace Cert.AttendDots

open Idealize.ShloMosaic Cert.RowQuant Cert.Softmax Cert.AttendStep
open scoped BigOperators

/-! ## The two stacked products -/

/-- Stacks of queries with keys, contracted over the lanes: `nqd,nkd->nqk`. -/
def pairDims (B Q K D : ℕ) (hB : 0 < B) : DotDims ⟨3, ![B, Q, D]⟩ ⟨3, ![B, K, D]⟩ ⟨3, ![B, Q, K]⟩ where
  lhsContracting := [2]
  rhsContracting := [2]
  lhsNonContracting := [1]
  rhsNonContracting := [1]
  lhsBatch := [0]
  rhsBatch := [0]
  wf := ⟨rfl, by simp, rfl, by simpa using hB, by simp, by simp,
    (by decide : (([0] ++ [1] ++ [2] : List (Fin 3))).Perm (List.finRange 3)),
    (by decide : (([0] ++ [1] ++ [2] : List (Fin 3))).Perm (List.finRange 3)),
    rfl, by show 0 < 3; decide, fun a => by fin_cases a <;> rfl⟩

/-- Stacks of weights with values, contracted over the keys: `nqk,nkd->nqd`. -/
def mixDims (B Q K D : ℕ) (hB : 0 < B) : DotDims ⟨3, ![B, Q, K]⟩ ⟨3, ![B, K, D]⟩ ⟨3, ![B, Q, D]⟩ where
  lhsContracting := [2]
  rhsContracting := [1]
  lhsNonContracting := [1]
  rhsNonContracting := [2]
  lhsBatch := [0]
  rhsBatch := [0]
  wf := ⟨rfl, by simp, rfl, by simpa using hB, by simp, by simp,
    (by decide : (([0] ++ [1] ++ [2] : List (Fin 3))).Perm (List.finRange 3)),
    (by decide : (([0] ++ [2] ++ [1] : List (Fin 3))).Perm (List.finRange 3)),
    rfl, by show 0 < 3; decide, fun a => by fin_cases a <;> rfl⟩

theorem pair_rank (B Q K D : ℕ) (hB : 0 < B) : (pairDims B Q K D hB).contr.rank = 1 := rfl
theorem pair_size (B Q K D : ℕ) (hB : 0 < B) :
    (pairDims B Q K D hB).contr.size ⟨0, by rw [pair_rank]; exact Nat.one_pos⟩ = D := rfl
theorem mix_rank (B Q K D : ℕ) (hB : 0 < B) : (mixDims B Q K D hB).contr.rank = 1 := rfl
theorem mix_size (B Q K D : ℕ) (hB : 0 < B) :
    (mixDims B Q K D hB).contr.size ⟨0, by rw [mix_rank]; exact Nat.one_pos⟩ = K := rfl

theorem pair_apply {B Q K D : ℕ} (hB : 0 < B) (d : DotDims ⟨3, ![B, Q, D]⟩ ⟨3, ![B, K, D]⟩ ⟨3, ![B, Q, K]⟩) (hd : d = pairDims B Q K D hB)
    {φ₁ φ₂ : FTy} (l : FVec Ideal ⟨3, ![B, Q, D]⟩ φ₁) (r : FVec Ideal ⟨3, ![B, K, D]⟩ φ₂) (n : Fin B) (q : Fin Q) (k : Fin K) :
    matmul d none l r (constant ⟨3, ![B, Q, K]⟩ .f32 0x00000000#32) (ValueIdx.ix3 n q k) = ∑ e : Fin D, l (ValueIdx.ix3 n q e) * r (ValueIdx.ix3 n k e) := by
  subst hd
  refine (Ideal.matmul_apply _ _ _ _ _ _).trans ?_
  rw [← Equiv.sum_comp (ValueIdx.contrEquiv1 (pairDims B Q K D hB) D (pair_rank B Q K D hB) (pair_size B Q K D hB)).symm]
  have z : (constant (F := Ideal) ⟨3, ![B, Q, K]⟩ .f32 0x00000000#32) (ValueIdx.ix3 n q k) = (0 : EReal) := by
    show Ideal.ofBits .f32 0x00000000#32 = 0
    simp
  rw [z, zero_add]
  refine Finset.sum_congr rfl fun e _ => ?_
  have hk := ValueIdx.contrEquiv1_symm_val _ D (pair_rank B Q K D hB) (pair_size B Q K D hB) e
  have el : (pairDims B Q K D hB).lhsIdx (ValueIdx.ix3 n q k) ((ValueIdx.contrEquiv1 (pairDims B Q K D hB) D (pair_rank B Q K D hB) (pair_size B Q K D hB)).symm e) = ValueIdx.ix3 n q e := by
    funext a; apply Fin.ext
    match a with
    | ⟨0, _⟩ => rfl
    | ⟨1, _⟩ => rfl
    | ⟨2, _⟩ => exact hk
  have er : (pairDims B Q K D hB).rhsIdx (ValueIdx.ix3 n q k) ((ValueIdx.contrEquiv1 (pairDims B Q K D hB) D (pair_rank B Q K D hB) (pair_size B Q K D hB)).symm e) = ValueIdx.ix3 n k e := by
    funext a; apply Fin.ext
    match a with
    | ⟨0, _⟩ => rfl
    | ⟨1, _⟩ => rfl
    | ⟨2, _⟩ => exact hk
  rw [el, er]

theorem mix_apply {B Q K D : ℕ} (hB : 0 < B) (d : DotDims ⟨3, ![B, Q, K]⟩ ⟨3, ![B, K, D]⟩ ⟨3, ![B, Q, D]⟩) (hd : d = mixDims B Q K D hB)
    {φ₁ φ₂ : FTy} (l : FVec Ideal ⟨3, ![B, Q, K]⟩ φ₁) (r : FVec Ideal ⟨3, ![B, K, D]⟩ φ₂) (n : Fin B) (q : Fin Q) (e : Fin D) :
    matmul d none l r (constant ⟨3, ![B, Q, D]⟩ .f32 0x00000000#32) (ValueIdx.ix3 n q e) = ∑ k : Fin K, l (ValueIdx.ix3 n q k) * r (ValueIdx.ix3 n k e) := by
  subst hd
  refine (Ideal.matmul_apply _ _ _ _ _ _).trans ?_
  rw [← Equiv.sum_comp (ValueIdx.contrEquiv1 (mixDims B Q K D hB) K (mix_rank B Q K D hB) (mix_size B Q K D hB)).symm]
  have z : (constant (F := Ideal) ⟨3, ![B, Q, D]⟩ .f32 0x00000000#32) (ValueIdx.ix3 n q e) = (0 : EReal) := by
    show Ideal.ofBits .f32 0x00000000#32 = 0
    simp
  rw [z, zero_add]
  refine Finset.sum_congr rfl fun k _ => ?_
  have hk := ValueIdx.contrEquiv1_symm_val _ K (mix_rank B Q K D hB) (mix_size B Q K D hB) k
  have el : (mixDims B Q K D hB).lhsIdx (ValueIdx.ix3 n q e) ((ValueIdx.contrEquiv1 (mixDims B Q K D hB) K (mix_rank B Q K D hB) (mix_size B Q K D hB)).symm k) = ValueIdx.ix3 n q k := by
    funext a; apply Fin.ext
    match a with
    | ⟨0, _⟩ => rfl
    | ⟨1, _⟩ => rfl
    | ⟨2, _⟩ => exact hk
  have er : (mixDims B Q K D hB).rhsIdx (ValueIdx.ix3 n q e) ((ValueIdx.contrEquiv1 (mixDims B Q K D hB) K (mix_rank B Q K D hB) (mix_size B Q K D hB)).symm k) = ValueIdx.ix3 n k e := by
    funext a; apply Fin.ext
    match a with
    | ⟨0, _⟩ => rfl
    | ⟨1, _⟩ => exact hk
    | ⟨2, _⟩ => rfl
  rw [el, er]

/-! ## Broadcasts and reductions of stacks -/

theorem bcastLast_apply {α : Type} {B Q K : ℕ} (s : (⟨3, ![B, Q, 1]⟩ : Shape).Idx → α) (hb : (⟨3, ![B, Q, 1]⟩ : Shape).Broadcasts ⟨3, ![B, Q, K]⟩)
    (n : Fin B) (q : Fin Q) (k : Fin K) : broadcastTo ⟨3, ![B, Q, K]⟩ s hb (ValueIdx.ix3 n q k) = s (ValueIdx.ix3 n q 0) := by
  refine broadcastTo_apply s hb (ValueIdx.ix3 n q k) (ValueIdx.ix3 n q 0) fun a => ?_
  match a with
  | ⟨0, _⟩ =>
    show n.val = if B = 1 then 0 else n.val
    split
    · have := n.isLt; omega
    · rfl
  | ⟨1, _⟩ =>
    show q.val = if Q = 1 then 0 else q.val
    split
    · have := q.isLt; omega
    · rfl
  | ⟨2, _⟩ => rfl

theorem bcastMid_apply {α : Type} {B Q K : ℕ} (s : (⟨3, ![B, 1, K]⟩ : Shape).Idx → α) (hb : (⟨3, ![B, 1, K]⟩ : Shape).Broadcasts ⟨3, ![B, Q, K]⟩)
    (n : Fin B) (q : Fin Q) (k : Fin K) : broadcastTo ⟨3, ![B, Q, K]⟩ s hb (ValueIdx.ix3 n q k) = s (ValueIdx.ix3 n 0 k) := by
  refine broadcastTo_apply s hb (ValueIdx.ix3 n q k) (ValueIdx.ix3 n 0 k) fun a => ?_
  match a with
  | ⟨0, _⟩ =>
    show n.val = if B = 1 then 0 else n.val
    split
    · have := n.isLt; omega
    · rfl
  | ⟨1, _⟩ => rfl
  | ⟨2, _⟩ =>
    show k.val = if K = 1 then 0 else k.val
    split
    · have := k.isLt; omega
    · rfl

theorem asCol_apply {B Q : ℕ} (x : FVec Ideal ⟨2, ![B, Q]⟩ .f32) (hc : (⟨2, ![B, Q]⟩ : Shape).ShapeCasts ⟨3, ![B, Q, 1]⟩) (n : Fin B) (q : Fin Q) :
    shapeCast ⟨3, ![B, Q, 1]⟩ x hc (ValueIdx.ix3 n q 0) = x (ValueIdx.ix2 n q) :=
  shapeCast_apply _ hc (ValueIdx.ix3 n q 0) (ValueIdx.ix2 n q) (by
    rw [Shape.rowMajor_val_two, Shape.rowMajor_val_three]
    show n.val * Q + q.val = (n.val * Q + q.val) * 1 + 0
    omega)

theorem lift_last {B Q K : ℕ} (hr : Shape.Reduces ⟨3, ![B, Q, K]⟩ [2] ⟨2, ![B, Q]⟩) (n : Fin B) (q : Fin Q) (k : Fin K) :
    hr.lift (ValueIdx.ix2 n q) k = ValueIdx.ix3 n q k := by
  funext a
  match a with
  | ⟨0, _⟩ => rfl
  | ⟨1, _⟩ => rfl
  | ⟨2, _⟩ => rfl

theorem maxLast_apply {B Q K : ℕ} (s : FVec Ideal ⟨3, ![B, Q, K]⟩ .f32) (hr : Shape.Reduces ⟨3, ![B, Q, K]⟩ [2] ⟨2, ![B, Q]⟩) (n : Fin B) (q : Fin Q) :
    multiReduction .maximumf [2] ⟨2, ![B, Q]⟩ s 0xFF800000#32 hr (.inl rfl) rfl (ValueIdx.ix2 n q) = Finset.univ.sup fun k : Fin K => s (ValueIdx.ix3 n q k) := by
  refine (Ideal.multiReduction_maximumf_single _ _ _ _ _ _).trans ((fold_max K _).trans ?_)
  exact congrArg (Finset.univ.sup) (funext fun k => congrArg s (lift_last hr n q k))

theorem sumLast_apply {B Q K : ℕ} (s : FVec Ideal ⟨3, ![B, Q, K]⟩ .f32) (hr : Shape.Reduces ⟨3, ![B, Q, K]⟩ [2] ⟨2, ![B, Q]⟩) (n : Fin B) (q : Fin Q) :
    multiReduction .add [2] ⟨2, ![B, Q]⟩ s 0x00000000#32 hr (.inl rfl) rfl (ValueIdx.ix2 n q) = ∑ k : Fin K, s (ValueIdx.ix3 n q k) := by
  refine (Ideal.multiReduction_add_single _ _ _ _ _ _).trans (Finset.sum_congr rfl fun k _ => ?_)
  exact congrArg s (lift_last hr n q k)

/-! ## The masked scores and their weights -/

/-- The scores: products of queries with keys, scaled, and minus infinity at a key past the query. -/
def scores3 {B Q K D : ℕ} (d : DotDims ⟨3, ![B, Q, D]⟩ ⟨3, ![B, K, D]⟩ ⟨3, ![B, Q, K]⟩) (hio : Shape.Iotas ⟨3, ![B, Q, K]⟩ .tc 32 [2])
    (hp : (⟨3, ![B, Q, 1]⟩ : Shape).Broadcasts ⟨3, ![B, Q, K]⟩) (hs : (⟨3, ![B, 1, K]⟩ : Shape).Broadcasts ⟨3, ![B, Q, K]⟩)
    (u : BitVec 32) (q : FVec Ideal ⟨3, ![B, Q, D]⟩ .bf16) (pos : IVec ⟨3, ![B, Q, 1]⟩ 32) (k : FVec Ideal ⟨3, ![B, K, D]⟩ .bf16)
    (ks : FVec Ideal ⟨3, ![B, 1, K]⟩ .f32) : FVec Ideal ⟨3, ![B, Q, K]⟩ .f32 :=
  select (cmpi .sle (iota .tc ⟨3, ![B, Q, K]⟩ 32 [2] hio) (broadcastTo ⟨3, ![B, Q, K]⟩ pos hp))
    (mulf (matmul d none q k (constant ⟨3, ![B, Q, K]⟩ .f32 0x00000000#32))
      (broadcastTo ⟨3, ![B, Q, K]⟩ (mulf ks (broadcast ⟨3, ![B, 1, K]⟩ (Scalar.ofBits .f32 u))) hs))
    (broadcast ⟨3, ![B, Q, K]⟩ (Scalar.ofBits .f32 0xFF800000#32))

theorem scores3_apply {B Q D : ℕ} (hB : 0 < B) (d : DotDims ⟨3, ![B, Q, D]⟩ ⟨3, ![B, 8192, D]⟩ ⟨3, ![B, Q, 8192]⟩) (hd : d = pairDims B Q 8192 D hB)
    (hio : Shape.Iotas ⟨3, ![B, Q, 8192]⟩ .tc 32 [2])
    (hp : (⟨3, ![B, Q, 1]⟩ : Shape).Broadcasts ⟨3, ![B, Q, 8192]⟩) (hs : (⟨3, ![B, 1, 8192]⟩ : Shape).Broadcasts ⟨3, ![B, Q, 8192]⟩)
    (u : BitVec 32) (q : FVec Ideal ⟨3, ![B, Q, D]⟩ .bf16) (pos : IVec ⟨3, ![B, Q, 1]⟩ 32) (k : FVec Ideal ⟨3, ![B, 8192, D]⟩ .bf16)
    (ks : FVec Ideal ⟨3, ![B, 1, 8192]⟩ .f32) (n : Fin B) (r : Fin Q) (j : Fin 8192) :
    scores3 d hio hp hs u q pos k ks (ValueIdx.ix3 n r j)
      = if (j.val : ℤ) ≤ (pos (ValueIdx.ix3 n r 0)).toInt then (∑ e : Fin D, k (ValueIdx.ix3 n j e) * q (ValueIdx.ix3 n r e)) * (ks (ValueIdx.ix3 n 0 j) * Ideal.ofBits .f32 u) else ⊥ := by
  show (if IntOp.cmpi .sle (BitVec.ofNat 32 (0 * 8192 + j.val)) (broadcastTo ⟨3, ![B, Q, 8192]⟩ pos hp (ValueIdx.ix3 n r j)) = 1#1 then
      matmul d none q k (constant ⟨3, ![B, Q, 8192]⟩ .f32 0x00000000#32) (ValueIdx.ix3 n r j)
        * broadcastTo ⟨3, ![B, Q, 8192]⟩ (mulf ks (broadcast ⟨3, ![B, 1, 8192]⟩ (Scalar.ofBits .f32 u))) hs (ValueIdx.ix3 n r j)
      else Ideal.ofBits .f32 0xFF800000#32) = _
  rw [bcastLast_apply, pair_apply hB d hd, bcastMid_apply, negInf]
  have e' : (BitVec.ofNat 32 (0 * 8192 + j.val)).toInt = (j.val : ℤ) := by
    have := j.isLt
    rw [BitVec.toInt_ofNat']
    simp only [Int.bmod_def]; omega
  refine if_congr (IntOp.cmpi_sle.trans (by rw [e'])) ?_ rfl
  show _ = _ * (ks (ValueIdx.ix3 n 0 j) * Ideal.ofBits .f32 u)
  exact congrArg (· * (ks (ValueIdx.ix3 n 0 j) * Ideal.ofBits .f32 u)) (Finset.sum_congr rfl fun e _ => mul_comm _ _)

/-- The weights of the keys. -/
def weights3 {B Q K : ℕ} (s : FVec Ideal ⟨3, ![B, Q, K]⟩ .f32) (hr : Shape.Reduces ⟨3, ![B, Q, K]⟩ [2] ⟨2, ![B, Q]⟩)
    (hc : (⟨2, ![B, Q]⟩ : Shape).ShapeCasts ⟨3, ![B, Q, 1]⟩) (hp : (⟨3, ![B, Q, 1]⟩ : Shape).Broadcasts ⟨3, ![B, Q, K]⟩) : FVec Ideal ⟨3, ![B, Q, K]⟩ .f32 :=
  exp2 (subf s (broadcastTo ⟨3, ![B, Q, K]⟩
    (ceil (shapeCast ⟨3, ![B, Q, 1]⟩ (multiReduction .maximumf [2] ⟨2, ![B, Q]⟩ s 0xFF800000#32 hr (.inl rfl) rfl) hc)) hp))

theorem weights3_apply {B Q K : ℕ} (s : FVec Ideal ⟨3, ![B, Q, K]⟩ .f32) (hr : Shape.Reduces ⟨3, ![B, Q, K]⟩ [2] ⟨2, ![B, Q]⟩)
    (hc : (⟨2, ![B, Q]⟩ : Shape).ShapeCasts ⟨3, ![B, Q, 1]⟩) (hp : (⟨3, ![B, Q, 1]⟩ : Shape).Broadcasts ⟨3, ![B, Q, K]⟩)
    (f : ℕ → EReal) (n : Fin B) (r : Fin Q) (hf : ∀ j : Fin K, s (ValueIdx.ix3 n r j) = f j.val) (j : Fin K) :
    weights3 s hr hc hp (ValueIdx.ix3 n r j) = weight f K j.val := by
  show Ideal.exp2 (s (ValueIdx.ix3 n r j) - broadcastTo ⟨3, ![B, Q, K]⟩ _ hp (ValueIdx.ix3 n r j)) = _
  rw [bcastLast_apply]
  show Ideal.exp2 (s (ValueIdx.ix3 n r j) - up (shapeCast ⟨3, ![B, Q, 1]⟩ _ hc (ValueIdx.ix3 n r 0))) = _
  rw [asCol_apply, maxLast_apply, hf, show (fun k : Fin K => s (ValueIdx.ix3 n r k)) = fun k => f k.val from funext hf, sup_fin]
  rfl

/-- The weighted sum of values divided by the sum of weights, for weights `w` known at an index. -/
theorem mixed_apply {B Q K D : ℕ} (hB : 0 < B) (d : DotDims ⟨3, ![B, Q, K]⟩ ⟨3, ![B, K, D]⟩ ⟨3, ![B, Q, D]⟩) (hd : d = mixDims B Q K D hB)
    (hl : FTy.bf16.bits < FTy.f32.bits) (hr : Shape.Reduces ⟨3, ![B, Q, K]⟩ [2] ⟨2, ![B, Q]⟩)
    (hc : (⟨2, ![B, Q]⟩ : Shape).ShapeCasts ⟨3, ![B, Q, 1]⟩) (hs : (⟨3, ![B, 1, K]⟩ : Shape).Broadcasts ⟨3, ![B, Q, K]⟩)
    (ho : (⟨3, ![B, Q, 1]⟩ : Shape).Broadcasts ⟨3, ![B, Q, D]⟩)
    (w : FVec Ideal ⟨3, ![B, Q, K]⟩ .f32) (v : FVec Ideal ⟨3, ![B, K, D]⟩ .bf16) (vs : FVec Ideal ⟨3, ![B, 1, K]⟩ .f32)
    (s f g : ℕ → EReal) (n : Fin B) (r : Fin Q) (e : Fin D) (hw : ∀ j : Fin K, w (ValueIdx.ix3 n r j) = weight s K j.val)
    (hf : ∀ j : Fin K, vs (ValueIdx.ix3 n 0 j) = f j.val) (hg : ∀ j : Fin K, v (ValueIdx.ix3 n j e) = g j.val) :
    divf (matmul d none (truncf .bf16 (mulf w (broadcastTo ⟨3, ![B, Q, K]⟩ vs hs)) hl) v (constant ⟨3, ![B, Q, D]⟩ .f32 0x00000000#32))
        (broadcastTo ⟨3, ![B, Q, D]⟩ (shapeCast ⟨3, ![B, Q, 1]⟩ (multiReduction .add [2] ⟨2, ![B, Q]⟩ w 0x00000000#32 hr (.inl rfl) rfl) hc) ho) (ValueIdx.ix3 n r e)
      = attn s f g K := by
  show Ideal.div (matmul d none _ v (constant ⟨3, ![B, Q, D]⟩ .f32 0x00000000#32) (ValueIdx.ix3 n r e)) (broadcastTo ⟨3, ![B, Q, D]⟩ _ ho (ValueIdx.ix3 n r e)) = _
  rw [mix_apply hB d hd, bcastLast_apply, asCol_apply, sumLast_apply]
  unfold attn num den
  rw [Finset.sum_range, Finset.sum_range]
  refine congrArg₂ Ideal.div (Finset.sum_congr rfl fun j _ => ?_) (Finset.sum_congr rfl fun j _ => hw j)
  show (w (ValueIdx.ix3 n r j) * broadcastTo ⟨3, ![B, Q, K]⟩ vs hs (ValueIdx.ix3 n r j)) * v (ValueIdx.ix3 n j e) = _
  rw [bcastMid_apply, hw, hf, hg, mul_comm]

end Cert.AttendDots
end
-- ==== Proof.QkvTile.lean ====
/- Hand-written, untrusted: THE PROJECTIONS' ARITHMETIC, at the extended reals: a row is normalised by its root mean square and
   quantised, its codes are multiplied with a weight column and the sum is scaled back; a head of 128 such values is rotated by
   the row's angles. Below each definition, the vector operations that state it for every row of a matrix at once, read at an
   index, for matrices with any number of rows. -/
module

public import proofs.«01_k».proof.Proof.AttendDots
public import Idealize.ShloMosaic.Lib.KernelVsHost

@[expose] public section

noncomputable section
namespace Cert.QkvTile

open Idealize.ShloMosaic Cert.RowQuant
open scoped BigOperators

/-! ## One row -/

/-- A row over its root mean square, times the gains `g`. -/
def normRow {K : ℕ} (x g : Fin K → EReal) : Fin K → EReal := fun k =>
  Ideal.div (x k) (Ideal.sqrt (Ideal.div (∑ l, x l * x l) (Ideal.ofBits .f32 0x45A00000#32) + Ideal.ofBits .f32 0x3727C5AC#32)) * g k

/-- One projected value: of the row `x`, the weight column `w` and its scale `ws`. -/
def projAt {K : ℕ} (x g w : Fin K → EReal) (ws : EReal) : EReal :=
  (∑ k, code (rowScale (normRow x g)) (normRow x g k) * w k) * rowScale (normRow x g) * ws

/-- The lane's place in its half of a head. -/
def half (d : Fin 128) : Fin 64 := ⟨d.val % 64, Nat.mod_lt _ (by decide)⟩

/-- The same place in the other half. -/
def other (d : Fin 128) : Fin 128 := ⟨(d.val + 64) % 128, Nat.mod_lt _ (by decide)⟩

/-- A head rotated by the angles of cosines `c` and sines `s`, at a lane. -/
def ropeAt (v : Fin 128 → EReal) (c s : Fin 64 → EReal) (d : Fin 128) : EReal :=
  if d.val < 64 then v d * c (half d) - v (other d) * s (half d) else v d * c (half d) + v (other d) * s (half d)

/-! ## A row of a matrix -/

section Rows
variable {M : ℕ} (X : (⟨2, ![M, 5120]⟩ : Shape).Idx → EReal) (g : (⟨2, ![1, 5120]⟩ : Shape).Idx → EReal)
  (W : (⟨2, ![5120, 6144]⟩ : Shape).Idx → EReal) (ws : (⟨2, ![1, 6144]⟩ : Shape).Idx → EReal)
  (C S : (⟨2, ![M, 64]⟩ : Shape).Idx → EReal)

/-- Row `r` normalised. -/
def normAt (r : Fin M) : Fin 5120 → EReal := normRow (fun k => X (ValueIdx.ix2 r k)) (fun k => g (ValueIdx.ix2 0 k))

/-- Row `r` projected to column `j`. -/
def colAt (r : Fin M) (j : Fin 6144) : EReal :=
  projAt (fun k => X (ValueIdx.ix2 r k)) (fun k => g (ValueIdx.ix2 0 k)) (fun k => W (ValueIdx.ix2 k j)) (ws (ValueIdx.ix2 0 j))

/-- Row `r` projected to head `o`: 128 columns. -/
def headAt (r : Fin M) (o : Fin 48) : Fin 128 → EReal := fun d => colAt X g W ws r ⟨o.val * 128 + d.val, by have := o.isLt; have := d.isLt; omega⟩

/-- The same, rotated by the row's angles. -/
def rotAt (r : Fin M) (o : Fin 48) : Fin 128 → EReal :=
  ropeAt (headAt X g W ws r o) (fun e => C (ValueIdx.ix2 r e)) (fun e => S (ValueIdx.ix2 r e))

end Rows

/-- A normalised row depends on the matrix by that row alone. -/
theorem normAt_congr {M M' : ℕ} (X : (⟨2, ![M, 5120]⟩ : Shape).Idx → EReal) (X' : (⟨2, ![M', 5120]⟩ : Shape).Idx → EReal)
    (g g' : (⟨2, ![1, 5120]⟩ : Shape).Idx → EReal) (r : Fin M) (r' : Fin M') (hX : ∀ k, X (ValueIdx.ix2 r k) = X' (ValueIdx.ix2 r' k))
    (hg : g = g') : normAt X g r = normAt X' g' r' := by
  subst hg
  unfold normAt
  rw [funext hX]

/-- A projected head depends on the matrix by that row alone. -/
theorem headAt_congr {M M' : ℕ} (X : (⟨2, ![M, 5120]⟩ : Shape).Idx → EReal) (X' : (⟨2, ![M', 5120]⟩ : Shape).Idx → EReal)
    (g g' : (⟨2, ![1, 5120]⟩ : Shape).Idx → EReal) (W W' : (⟨2, ![5120, 6144]⟩ : Shape).Idx → EReal)
    (ws ws' : (⟨2, ![1, 6144]⟩ : Shape).Idx → EReal) (r : Fin M) (r' : Fin M') (o o' : Fin 48)
    (hX : ∀ k, X (ValueIdx.ix2 r k) = X' (ValueIdx.ix2 r' k)) (hg : g = g') (hW : W = W') (hws : ws = ws') (ho : o = o') :
    headAt X g W ws r o = headAt X' g' W' ws' r' o' := by
  subst hg hW hws ho
  unfold headAt colAt
  rw [funext hX]

/-- A rotated head depends on the matrices by that row alone. -/
theorem rotAt_congr {M M' : ℕ} (X : (⟨2, ![M, 5120]⟩ : Shape).Idx → EReal) (X' : (⟨2, ![M', 5120]⟩ : Shape).Idx → EReal)
    (g g' : (⟨2, ![1, 5120]⟩ : Shape).Idx → EReal) (W W' : (⟨2, ![5120, 6144]⟩ : Shape).Idx → EReal)
    (ws ws' : (⟨2, ![1, 6144]⟩ : Shape).Idx → EReal) (C S : (⟨2, ![M, 64]⟩ : Shape).Idx → EReal) (C' S' : (⟨2, ![M', 64]⟩ : Shape).Idx → EReal)
    (r : Fin M) (r' : Fin M') (o o' : Fin 48)
    (hX : ∀ k, X (ValueIdx.ix2 r k) = X' (ValueIdx.ix2 r' k)) (hg : g = g') (hW : W = W') (hws : ws = ws')
    (hC : ∀ e, C (ValueIdx.ix2 r e) = C' (ValueIdx.ix2 r' e)) (hS : ∀ e, S (ValueIdx.ix2 r e) = S' (ValueIdx.ix2 r' e)) (ho : o = o') :
    rotAt X g W ws C S r o = rotAt X' g' W' ws' C' S' r' o' := by
  unfold rotAt
  rw [headAt_congr X X' g g' W W' ws ws' r r' o o' hX hg hW hws ho, funext hC, funext hS]

/-! ## Normalised rows -/

/-- Every row normalised, as the vector operations state it. -/
def normVec {M K : ℕ} (x : FVec Ideal ⟨2, ![M, K]⟩ .bf16) (g : FVec Ideal ⟨2, ![1, K]⟩ .f32) (hl : FTy.bf16.bits < FTy.f32.bits)
    (hr : Shape.Reduces ⟨2, ![M, K]⟩ [1] ⟨1, ![M]⟩) (hc : (⟨1, ![M]⟩ : Shape).ShapeCasts ⟨2, ![M, 1]⟩)
    (hb : (⟨2, ![M, 1]⟩ : Shape).Broadcasts ⟨2, ![M, K]⟩) (hb' : (⟨2, ![1, K]⟩ : Shape).Broadcasts ⟨2, ![M, K]⟩) :
    FVec Ideal ⟨2, ![M, K]⟩ .f32 :=
  mulf (divf (extf .f32 x hl) (broadcastTo ⟨2, ![M, K]⟩ (sqrt (addf (divf
    (shapeCast ⟨2, ![M, 1]⟩ (multiReduction .add [1] ⟨1, ![M]⟩ (mulf (extf .f32 x hl) (extf .f32 x hl)) 0x00000000#32 hr) hc)
    (broadcast ⟨2, ![M, 1]⟩ (Scalar.ofBits .f32 0x45A00000#32))) (broadcast ⟨2, ![M, 1]⟩ (Scalar.ofBits .f32 0x3727C5AC#32)))) hb))
    (broadcastTo ⟨2, ![M, K]⟩ g hb')

theorem sumCol_apply {M K : ℕ} (x : FVec Ideal ⟨2, ![M, K]⟩ .f32) (hr : Shape.Reduces ⟨2, ![M, K]⟩ [1] ⟨1, ![M]⟩)
    (hc : (⟨1, ![M]⟩ : Shape).ShapeCasts ⟨2, ![M, 1]⟩) (r : Fin M) :
    shapeCast ⟨2, ![M, 1]⟩ (multiReduction .add [1] ⟨1, ![M]⟩ x 0x00000000#32 hr) hc (ValueIdx.ix2 r 0)
      = ∑ k : Fin K, x (ValueIdx.ix2 r k) := by
  rw [shapeCast_apply _ hc (ValueIdx.ix2 r 0) (ValueIdx.ix1 r) (by
    rw [Shape.rowMajor_val_one, Shape.rowMajor_val_two]; show r.val = r.val * 1 + 0; omega)]
  refine (Ideal.multiReduction_add_single _ _ _ _ _ _).trans ?_
  refine Finset.sum_congr rfl fun k _ => ?_
  congr 1
  funext a
  match a with
  | ⟨0, _⟩ => rfl
  | ⟨1, _⟩ => rfl

theorem normVec_apply {M K : ℕ} (x : FVec Ideal ⟨2, ![M, K]⟩ .bf16) (g : FVec Ideal ⟨2, ![1, K]⟩ .f32) (hl : FTy.bf16.bits < FTy.f32.bits)
    (hr : Shape.Reduces ⟨2, ![M, K]⟩ [1] ⟨1, ![M]⟩) (hc : (⟨1, ![M]⟩ : Shape).ShapeCasts ⟨2, ![M, 1]⟩)
    (hb : (⟨2, ![M, 1]⟩ : Shape).Broadcasts ⟨2, ![M, K]⟩) (hb' : (⟨2, ![1, K]⟩ : Shape).Broadcasts ⟨2, ![M, K]⟩) (r : Fin M) (k : Fin K) :
    normVec x g hl hr hc hb hb' (ValueIdx.ix2 r k) = normRow (fun k => x (ValueIdx.ix2 r k)) (fun k => g (ValueIdx.ix2 0 k)) k := by
  show Ideal.div (x (ValueIdx.ix2 r k)) (broadcastTo ⟨2, ![M, K]⟩ _ hb (ValueIdx.ix2 r k)) * broadcastTo ⟨2, ![M, K]⟩ g hb' (ValueIdx.ix2 r k) = _
  rw [bcastCol_apply, bcastRow_apply]
  show Ideal.div (x (ValueIdx.ix2 r k)) (Ideal.sqrt (Ideal.div (shapeCast ⟨2, ![M, 1]⟩ _ hc (ValueIdx.ix2 r 0)) _ + _)) * _ = _
  rw [sumCol_apply]
  rfl

/-! ## Projected values -/

/-- The product of codes `c` and weights `w`, scaled by rows and by columns. -/
def projVec {M K N : ℕ} (d : DotDims ⟨2, ![M, K]⟩ ⟨2, ![K, N]⟩ ⟨2, ![M, N]⟩) (hb : (⟨2, ![M, 1]⟩ : Shape).Broadcasts ⟨2, ![M, N]⟩)
    (hb' : (⟨2, ![1, N]⟩ : Shape).Broadcasts ⟨2, ![M, N]⟩) (s : FVec Ideal ⟨2, ![M, 1]⟩ .f32)
    (c : FVec Ideal ⟨2, ![M, K]⟩ .fp8e4m3) (w : FVec Ideal ⟨2, ![K, N]⟩ .fp8e4m3) (ws : FVec Ideal ⟨2, ![1, N]⟩ .f32) :
    FVec Ideal ⟨2, ![M, N]⟩ .f32 :=
  mulf (mulf (matmul d none c w (constant ⟨2, ![M, N]⟩ .f32 0x00000000#32)) (broadcastTo ⟨2, ![M, N]⟩ s hb)) (broadcastTo ⟨2, ![M, N]⟩ ws hb')

theorem projVec_apply {M K N : ℕ} (d : DotDims ⟨2, ![M, K]⟩ ⟨2, ![K, N]⟩ ⟨2, ![M, N]⟩) (hd : d = DotDims.plain M K N)
    (hb : (⟨2, ![M, 1]⟩ : Shape).Broadcasts ⟨2, ![M, N]⟩) (hb' : (⟨2, ![1, N]⟩ : Shape).Broadcasts ⟨2, ![M, N]⟩)
    (s : FVec Ideal ⟨2, ![M, 1]⟩ .f32) (c : FVec Ideal ⟨2, ![M, K]⟩ .fp8e4m3) (w : FVec Ideal ⟨2, ![K, N]⟩ .fp8e4m3)
    (ws : FVec Ideal ⟨2, ![1, N]⟩ .f32) (r : Fin M) (j : Fin N) :
    projVec d hb hb' s c w ws (ValueIdx.ix2 r j)
      = (∑ k : Fin K, c (ValueIdx.ix2 r k) * w (ValueIdx.ix2 k j)) * s (ValueIdx.ix2 r 0) * ws (ValueIdx.ix2 0 j) := by
  show (matmul d none c w _ (ValueIdx.ix2 r j) * broadcastTo ⟨2, ![M, N]⟩ s hb (ValueIdx.ix2 r j))
    * broadcastTo ⟨2, ![M, N]⟩ ws hb' (ValueIdx.ix2 r j) = _
  rw [product_apply d hd, bcastCol_apply, bcastRow_apply]

/-! ## Rotated heads -/

/-- The cosines twice. -/
def cosVec {M : ℕ} (c : FVec Ideal ⟨2, ![M, 64]⟩ .f32) (h : Shape.Concatenates [⟨2, ![M, 64]⟩, ⟨2, ![M, 64]⟩] ⟨2, ![M, 128]⟩ 1) :
    FVec Ideal ⟨2, ![M, 128]⟩ .f32 :=
  concatenate ⟨2, ![M, 128]⟩ 1 [⟨⟨2, ![M, 64]⟩, c⟩, ⟨⟨2, ![M, 64]⟩, c⟩] h

/-- The sines negated, then as they are. -/
def sinVec {M : ℕ} (s : FVec Ideal ⟨2, ![M, 64]⟩ .f32) (h : Shape.Concatenates [⟨2, ![M, 64]⟩, ⟨2, ![M, 64]⟩] ⟨2, ![M, 128]⟩ 1) :
    FVec Ideal ⟨2, ![M, 128]⟩ .f32 :=
  concatenate ⟨2, ![M, 128]⟩ 1 [⟨⟨2, ![M, 64]⟩, subf (broadcast ⟨2, ![M, 64]⟩ (Scalar.ofBits .f32 0x00000000#32)) s⟩, ⟨⟨2, ![M, 64]⟩, s⟩] h

/-- Two halves of lanes side by side, read at a lane. -/
theorem lanes_apply {M : ℕ} (a b : FVec Ideal ⟨2, ![M, 64]⟩ .f32) (h : Shape.Concatenates [⟨2, ![M, 64]⟩, ⟨2, ![M, 64]⟩] ⟨2, ![M, 128]⟩ 1)
    (r : Fin M) (d : Fin 128) :
    concatenate ⟨2, ![M, 128]⟩ 1 [⟨⟨2, ![M, 64]⟩, a⟩, ⟨⟨2, ![M, 64]⟩, b⟩] h (ValueIdx.ix2 r d)
      = if d.val < 64 then a (ValueIdx.ix2 r (half d)) else b (ValueIdx.ix2 r (half d)) := by
  have hd := d.isLt
  split
  · next hlt =>
    refine concatenate_pair_apply_left _ _ _ h _ rfl _ fun x => ?_
    match x with
    | ⟨0, _⟩ => rfl
    | ⟨1, _⟩ => show d.val % 64 = d.val; omega
  · next hge =>
    refine concatenate_pair_apply_right _ _ _ h _ rfl rfl _ (fun x hx => ?_) ?_
    · match x with
      | ⟨0, _⟩ => rfl
      | ⟨1, _⟩ => exact absurd rfl hx
    · show d.val % 64 + 64 = d.val; omega

/-- Heads rotated, as the vector operations state it: the lanes turned by half a head carry the other half. -/
def ropeVec {M : ℕ} (v cc ss : FVec Ideal ⟨2, ![M, 128]⟩ .f32) (h : (⟨2, ![M, 128]⟩ : Shape).Rotates 1 none) : FVec Ideal ⟨2, ![M, 128]⟩ .f32 :=
  addf (mulf v cc) (mulf (dynamicRotate 1 64#32 none v h) ss)

theorem ropeVec_apply {M : ℕ} (v cc ss : FVec Ideal ⟨2, ![M, 128]⟩ .f32) (h : (⟨2, ![M, 128]⟩ : Shape).Rotates 1 none) (r : Fin M) (d : Fin 128)
    (c s : Fin 64 → EReal) (hc : cc (ValueIdx.ix2 r d) = c (half d)) (hs : ss (ValueIdx.ix2 r d) = if d.val < 64 then 0 - s (half d) else s (half d)) :
    ropeVec v cc ss h (ValueIdx.ix2 r d) = ropeAt (fun e => v (ValueIdx.ix2 r e)) c s d := by
  show v (ValueIdx.ix2 r d) * cc (ValueIdx.ix2 r d) + dynamicRotate 1 64#32 none v h (ValueIdx.ix2 r d) * ss (ValueIdx.ix2 r d) = _
  rw [dynamicRotate_apply (1 : Fin 2) 64#32 v h (ValueIdx.ix2 r d) (ValueIdx.ix2 r (other d)) (fun b => by
    match b with
    | ⟨0, _⟩ => rfl
    | ⟨1, _⟩ =>
      have e : (64#32 : BitVec 32).toNat = 64 := rfl
      show (d.val + 64) % 128 = (d.val + 128 - (64#32 : BitVec 32).toNat % 128) % 128
      rw [e]; omega), hc, hs]
  unfold ropeAt
  split
  · rw [sub_eq_add_neg, zero_add, mul_neg, ← sub_eq_add_neg]
  · rfl

theorem cosVec_apply {M : ℕ} (c : FVec Ideal ⟨2, ![M, 64]⟩ .f32) (h : Shape.Concatenates [⟨2, ![M, 64]⟩, ⟨2, ![M, 64]⟩] ⟨2, ![M, 128]⟩ 1)
    (r : Fin M) (d : Fin 128) : cosVec c h (ValueIdx.ix2 r d) = c (ValueIdx.ix2 r (half d)) :=
  (lanes_apply c c h r d).trans (by split <;> rfl)

theorem sinVec_apply {M : ℕ} (s : FVec Ideal ⟨2, ![M, 64]⟩ .f32) (h : Shape.Concatenates [⟨2, ![M, 64]⟩, ⟨2, ![M, 64]⟩] ⟨2, ![M, 128]⟩ 1)
    (r : Fin M) (d : Fin 128) :
    sinVec s h (ValueIdx.ix2 r d) = if d.val < 64 then 0 - s (ValueIdx.ix2 r (half d)) else s (ValueIdx.ix2 r (half d)) := by
  refine (lanes_apply _ s h r d).trans ?_
  split
  · show Ideal.ofBits .f32 0x00000000#32 - s _ = _
    rw [show Ideal.ofBits .f32 0x00000000#32 = 0 from by simp]
  · rfl

end Cert.QkvTile
-- ==== Proof.QkvHead.lean ====
/- Hand-written, untrusted: THE HEADS CUT OUT OF 512 PROJECTED COLUMNS, as the vector operations state them, at the extended
   reals, read at an index: a query block is 64 rows of four rotated heads, turned so that the lanes come first and the heads'
   rows lie side by side; a key or value head is 256 rows of 128 columns, quantised row by row. -/
module

public import proofs.«01_k».proof.Proof.QkvTile

@[expose] public section

noncomputable section
namespace Cert.QkvHead

open Idealize.ShloMosaic Cert.RowQuant Cert.QkvTile
open scoped BigOperators

/-! ## Query blocks -/

/-- 64 rows from row `p` on of the head that starts at column `q`, rotated. -/
def rotTile (acc : FVec Ideal ⟨2, ![256, 512]⟩ .f32) (cc ss : FVec Ideal ⟨2, ![256, 128]⟩ .f32) (p q : ℕ)
    (h : (⟨2, ![256, 512]⟩ : Shape).Slices ![p, q] ⟨2, ![64, 128]⟩) (hc : (⟨2, ![256, 128]⟩ : Shape).Slices ![p, 0] ⟨2, ![64, 128]⟩)
    (hr : (⟨2, ![64, 128]⟩ : Shape).Rotates 1 none) : FVec Ideal ⟨2, ![64, 128]⟩ .f32 :=
  ropeVec (extractStridedSlice ⟨2, ![64, 128]⟩ ![p, q] acc h) (extractStridedSlice ⟨2, ![64, 128]⟩ ![p, 0] cc hc)
    (extractStridedSlice ⟨2, ![64, 128]⟩ ![p, 0] ss hc) hr

theorem rotTile_apply (acc : FVec Ideal ⟨2, ![256, 512]⟩ .f32) (c s : FVec Ideal ⟨2, ![256, 64]⟩ .f32) (p q : ℕ)
    (hk : Shape.Concatenates [⟨2, ![256, 64]⟩, ⟨2, ![256, 64]⟩] ⟨2, ![256, 128]⟩ 1)
    (h : (⟨2, ![256, 512]⟩ : Shape).Slices ![p, q] ⟨2, ![64, 128]⟩) (hc : (⟨2, ![256, 128]⟩ : Shape).Slices ![p, 0] ⟨2, ![64, 128]⟩)
    (hr : (⟨2, ![64, 128]⟩ : Shape).Rotates 1 none) (hp : p + 64 ≤ 256) (hq : q + 128 ≤ 512) (r : Fin 64) (d : Fin 128) :
    rotTile acc (cosVec c hk) (sinVec s hk) p q h hc hr (ValueIdx.ix2 r d)
      = ropeAt (fun e => acc (ValueIdx.ix2 (⟨p + r.val, by have := r.isLt; omega⟩ : Fin 256) (⟨q + e.val, by have := e.isLt; omega⟩ : Fin 512)))
          (fun e => c (ValueIdx.ix2 (⟨p + r.val, by have := r.isLt; omega⟩ : Fin 256) e))
          (fun e => s (ValueIdx.ix2 (⟨p + r.val, by have := r.isLt; omega⟩ : Fin 256) e)) d := by
  have hs : ∀ (x : FVec Ideal ⟨2, ![256, 128]⟩ .f32), extractStridedSlice ⟨2, ![64, 128]⟩ ![p, 0] x hc (ValueIdx.ix2 r d)
      = x (ValueIdx.ix2 (⟨p + r.val, by have := r.isLt; omega⟩ : Fin 256) d) := fun x =>
    extractStridedSlice_apply _ x hc _ _ fun a => by
      match a with
      | ⟨0, _⟩ => rfl
      | ⟨1, _⟩ => show d.val = 0 + d.val; omega
  refine (ropeVec_apply _ _ _ hr r d (fun e => c (ValueIdx.ix2 (⟨p + r.val, by have := r.isLt; omega⟩ : Fin 256) e))
    (fun e => s (ValueIdx.ix2 (⟨p + r.val, by have := r.isLt; omega⟩ : Fin 256) e)) ((hs _).trans (cosVec_apply c hk _ d))
    ((hs _).trans (sinVec_apply s hk _ d))).trans ?_
  congr 1
  funext e
  exact extractStridedSlice_apply _ acc h _ _ fun a => by
    match a with
    | ⟨0, _⟩ => rfl
    | ⟨1, _⟩ => rfl

/-- Two heads' rows one under the other, turned: the lanes come first. -/
def turned (a b : FVec Ideal ⟨2, ![64, 128]⟩ .f32) (h : Shape.Concatenates [⟨2, ![64, 128]⟩, ⟨2, ![64, 128]⟩] ⟨2, ![128, 128]⟩ 0)
    (ht : (⟨2, ![128, 128]⟩ : Shape).Transposes [1, 0] ⟨2, ![128, 128]⟩) : FVec Ideal ⟨2, ![128, 128]⟩ .f32 :=
  transpose ⟨2, ![128, 128]⟩ [1, 0] (concatenate ⟨2, ![128, 128]⟩ 0 [⟨⟨2, ![64, 128]⟩, a⟩, ⟨⟨2, ![64, 128]⟩, b⟩] h) ht

theorem turned_apply (a b : FVec Ideal ⟨2, ![64, 128]⟩ .f32) (h : Shape.Concatenates [⟨2, ![64, 128]⟩, ⟨2, ![64, 128]⟩] ⟨2, ![128, 128]⟩ 0)
    (ht : (⟨2, ![128, 128]⟩ : Shape).Transposes [1, 0] ⟨2, ![128, 128]⟩) (d x : Fin 128) :
    turned a b h ht (ValueIdx.ix2 d x) = if x.val < 64 then a (ValueIdx.ix2 (half x) d) else b (ValueIdx.ix2 (half x) d) := by
  have hx := x.isLt
  unfold turned
  rw [transpose_apply [1, 0] _ ht (ValueIdx.ix2 d x) (ValueIdx.ix2 x d) (fun y => by
    match y with
    | ⟨0, _⟩ => rfl
    | ⟨1, _⟩ => rfl)]
  split
  · next hlt =>
    refine concatenate_pair_apply_left _ _ _ h _ rfl _ fun y => ?_
    match y with
    | ⟨0, _⟩ => show x.val % 64 = x.val; omega
    | ⟨1, _⟩ => rfl
  · next hge =>
    refine concatenate_pair_apply_right _ _ _ h _ rfl rfl _ (fun y hy => ?_) ?_
    · match y with
      | ⟨0, _⟩ => exact absurd rfl hy
      | ⟨1, _⟩ => rfl
    · show x.val % 64 + 64 = x.val; omega

/-- Four heads' rows side by side. -/
def qTile (acc : FVec Ideal ⟨2, ![256, 512]⟩ .f32) (cc ss : FVec Ideal ⟨2, ![256, 128]⟩ .f32) (p : ℕ)
    (h0 : (⟨2, ![256, 512]⟩ : Shape).Slices ![p, 0] ⟨2, ![64, 128]⟩) (h1 : (⟨2, ![256, 512]⟩ : Shape).Slices ![p, 128] ⟨2, ![64, 128]⟩)
    (h2 : (⟨2, ![256, 512]⟩ : Shape).Slices ![p, 256] ⟨2, ![64, 128]⟩) (h3 : (⟨2, ![256, 512]⟩ : Shape).Slices ![p, 384] ⟨2, ![64, 128]⟩)
    (hc : (⟨2, ![256, 128]⟩ : Shape).Slices ![p, 0] ⟨2, ![64, 128]⟩) (hr : (⟨2, ![64, 128]⟩ : Shape).Rotates 1 none)
    (h : Shape.Concatenates [⟨2, ![64, 128]⟩, ⟨2, ![64, 128]⟩] ⟨2, ![128, 128]⟩ 0)
    (ht : (⟨2, ![128, 128]⟩ : Shape).Transposes [1, 0] ⟨2, ![128, 128]⟩)
    (h' : Shape.Concatenates [⟨2, ![128, 128]⟩, ⟨2, ![128, 128]⟩] ⟨2, ![128, 256]⟩ 1) (hl : FTy.bf16.bits < FTy.f32.bits)
    (hs : (⟨2, ![128, 256]⟩ : Shape).ShapeCasts ⟨5, ![1, 1, 1, 128, 256]⟩) : FVec Ideal ⟨5, ![1, 1, 1, 128, 256]⟩ .bf16 :=
  shapeCast ⟨5, ![1, 1, 1, 128, 256]⟩ (truncf .bf16 (concatenate ⟨2, ![128, 256]⟩ 1
    [⟨⟨2, ![128, 128]⟩, turned (rotTile acc cc ss p 0 h0 hc hr) (rotTile acc cc ss p 128 h1 hc hr) h ht⟩,
     ⟨⟨2, ![128, 128]⟩, turned (rotTile acc cc ss p 256 h2 hc hr) (rotTile acc cc ss p 384 h3 hc hr) h ht⟩] h') hl) hs

theorem qTile_apply (acc : FVec Ideal ⟨2, ![256, 512]⟩ .f32) (c s : FVec Ideal ⟨2, ![256, 64]⟩ .f32) (p : ℕ)
    (hk : Shape.Concatenates [⟨2, ![256, 64]⟩, ⟨2, ![256, 64]⟩] ⟨2, ![256, 128]⟩ 1)
    (h0 : (⟨2, ![256, 512]⟩ : Shape).Slices ![p, 0] ⟨2, ![64, 128]⟩) (h1 : (⟨2, ![256, 512]⟩ : Shape).Slices ![p, 128] ⟨2, ![64, 128]⟩)
    (h2 : (⟨2, ![256, 512]⟩ : Shape).Slices ![p, 256] ⟨2, ![64, 128]⟩) (h3 : (⟨2, ![256, 512]⟩ : Shape).Slices ![p, 384] ⟨2, ![64, 128]⟩)
    (hc : (⟨2, ![256, 128]⟩ : Shape).Slices ![p, 0] ⟨2, ![64, 128]⟩) (hr : (⟨2, ![64, 128]⟩ : Shape).Rotates 1 none)
    (h : Shape.Concatenates [⟨2, ![64, 128]⟩, ⟨2, ![64, 128]⟩] ⟨2, ![128, 128]⟩ 0)
    (ht : (⟨2, ![128, 128]⟩ : Shape).Transposes [1, 0] ⟨2, ![128, 128]⟩)
    (h' : Shape.Concatenates [⟨2, ![128, 128]⟩, ⟨2, ![128, 128]⟩] ⟨2, ![128, 256]⟩ 1) (hl : FTy.bf16.bits < FTy.f32.bits)
    (hs : (⟨2, ![128, 256]⟩ : Shape).ShapeCasts ⟨5, ![1, 1, 1, 128, 256]⟩) (hp : p + 64 ≤ 256)
    (a b e : Fin 1) (d : Fin 128) (x : Fin 256) :
    qTile acc (cosVec c hk) (sinVec s hk) p h0 h1 h2 h3 hc hr h ht h' hl hs (ValueIdx.ix5 a b e d x)
      = ropeAt (fun e => acc (ValueIdx.ix2 (⟨p + x.val % 64, by have := x.isLt; omega⟩ : Fin 256)
            (⟨x.val / 64 * 128 + e.val, by have := e.isLt; have := x.isLt; omega⟩ : Fin 512)))
          (fun e => c (ValueIdx.ix2 (⟨p + x.val % 64, by have := x.isLt; omega⟩ : Fin 256) e))
          (fun e => s (ValueIdx.ix2 (⟨p + x.val % 64, by have := x.isLt; omega⟩ : Fin 256) e)) d := by
  have hx := x.isLt
  have ha := a.isLt
  have hb := b.isLt
  have he := e.isLt
  unfold qTile
  rw [shapeCast_apply _ hs (ValueIdx.ix5 a b e d x) (ValueIdx.ix2 d x) (by
    rw [Shape.rowMajor_val_two, Shape.rowMajor_val_five]
    show d.val * 256 + x.val = (((a.val * 1 + b.val) * 1 + e.val) * 128 + d.val) * 256 + x.val
    omega)]
  rw [show ∀ (v : FVec Ideal ⟨2, ![128, 256]⟩ .f32) (i : (⟨2, ![128, 256]⟩ : Shape).Idx), truncf .bf16 v hl i = v i from fun _ _ => rfl]
  by_cases hlt : x.val < 128
  · rw [concatenate_pair_apply_left _ _ _ h' _ rfl (ValueIdx.ix2 d (⟨x.val, hlt⟩ : Fin 128)) (fun y => by
      match y with
      | ⟨0, _⟩ => rfl
      | ⟨1, _⟩ => rfl), turned_apply]
    split
    · next h64 =>
      rw [rotTile_apply acc c s p 0 hk h0 hc hr hp (by omega)]
      have h64 : x.val < 64 := h64
      congr 1
      funext e
      refine congrArg acc (congrArg₂ ValueIdx.ix2 rfl (Fin.ext ?_))
      show 0 + e.val = x.val / 64 * 128 + e.val
      omega
    · next h64 =>
      rw [rotTile_apply acc c s p 128 hk h1 hc hr hp (by omega)]
      have h64 : ¬ x.val < 64 := h64
      congr 1
      funext e
      refine congrArg acc (congrArg₂ ValueIdx.ix2 rfl (Fin.ext ?_))
      show 128 + e.val = x.val / 64 * 128 + e.val
      omega
  · rw [concatenate_pair_apply_right _ _ _ h' _ rfl rfl (ValueIdx.ix2 d (⟨x.val - 128, by omega⟩ : Fin 128)) (fun y hy => by
      match y with
      | ⟨0, _⟩ => rfl
      | ⟨1, _⟩ => exact absurd rfl hy) (by show x.val - 128 + 128 = x.val; omega), turned_apply]
    have em : ∀ q : Fin 64, q.val = (x.val - 128) % 64 → (⟨p + q.val, by have := q.isLt; omega⟩ : Fin 256) = ⟨p + x.val % 64, by omega⟩ :=
      fun q hq => Fin.ext (by show p + q.val = p + x.val % 64; omega)
    split
    · next h64 =>
      rw [rotTile_apply acc c s p 256 hk h2 hc hr hp (by omega), em _ rfl]
      have h64 : x.val - 128 < 64 := h64
      congr 1
      funext e
      refine congrArg acc (congrArg₂ ValueIdx.ix2 rfl (Fin.ext ?_))
      show 256 + e.val = x.val / 64 * 128 + e.val
      omega
    · next h64 =>
      rw [rotTile_apply acc c s p 384 hk h3 hc hr hp (by omega), em _ rfl]
      have h64 : ¬ x.val - 128 < 64 := h64
      congr 1
      funext e
      refine congrArg acc (congrArg₂ ValueIdx.ix2 rfl (Fin.ext ?_))
      show 384 + e.val = x.val / 64 * 128 + e.val
      omega

/-! ## Key and value heads -/

/-- The head that starts at column `q`. -/
def vTile (acc : FVec Ideal ⟨2, ![256, 512]⟩ .f32) (q : ℕ) (h : (⟨2, ![256, 512]⟩ : Shape).Slices ![0, q] ⟨2, ![256, 128]⟩) :
    FVec Ideal ⟨2, ![256, 128]⟩ .f32 :=
  extractStridedSlice ⟨2, ![256, 128]⟩ ![0, q] acc h

theorem vTile_apply (acc : FVec Ideal ⟨2, ![256, 512]⟩ .f32) (q : ℕ) (h : (⟨2, ![256, 512]⟩ : Shape).Slices ![0, q] ⟨2, ![256, 128]⟩)
    (hq : q + 128 ≤ 512) (r : Fin 256) (d : Fin 128) :
    vTile acc q h (ValueIdx.ix2 r d) = acc (ValueIdx.ix2 r (⟨q + d.val, by have := d.isLt; omega⟩ : Fin 512)) :=
  extractStridedSlice_apply _ acc h _ _ fun a => by
    match a with
    | ⟨0, _⟩ => show r.val = 0 + r.val; omega
    | ⟨1, _⟩ => rfl

/-- The same, rotated. -/
def kTile (acc : FVec Ideal ⟨2, ![256, 512]⟩ .f32) (cc ss : FVec Ideal ⟨2, ![256, 128]⟩ .f32) (q : ℕ)
    (h : (⟨2, ![256, 512]⟩ : Shape).Slices ![0, q] ⟨2, ![256, 128]⟩) (hr : (⟨2, ![256, 128]⟩ : Shape).Rotates 1 none) :
    FVec Ideal ⟨2, ![256, 128]⟩ .f32 :=
  ropeVec (vTile acc q h) cc ss hr

theorem kTile_apply (acc : FVec Ideal ⟨2, ![256, 512]⟩ .f32) (c s : FVec Ideal ⟨2, ![256, 64]⟩ .f32) (q : ℕ)
    (hk : Shape.Concatenates [⟨2, ![256, 64]⟩, ⟨2, ![256, 64]⟩] ⟨2, ![256, 128]⟩ 1)
    (h : (⟨2, ![256, 512]⟩ : Shape).Slices ![0, q] ⟨2, ![256, 128]⟩) (hr : (⟨2, ![256, 128]⟩ : Shape).Rotates 1 none)
    (hq : q + 128 ≤ 512) (r : Fin 256) (d : Fin 128) :
    kTile acc (cosVec c hk) (sinVec s hk) q h hr (ValueIdx.ix2 r d)
      = ropeAt (fun e => acc (ValueIdx.ix2 r (⟨q + e.val, by have := e.isLt; omega⟩ : Fin 512)))
          (fun e => c (ValueIdx.ix2 r e)) (fun e => s (ValueIdx.ix2 r e)) d := by
  refine (ropeVec_apply _ _ _ hr r d (fun e => c (ValueIdx.ix2 r e)) (fun e => s (ValueIdx.ix2 r e)) (cosVec_apply c hk r d)
    (sinVec_apply s hk r d)).trans ?_
  congr 1
  funext e
  exact vTile_apply acc q h hq r e

/-- A head's rows quantised, with a head axis of extent 1. -/
def codeHead (x : FVec Ideal ⟨2, ![256, 128]⟩ .f32) (hr : Shape.Reduces ⟨2, ![256, 128]⟩ [1] ⟨1, ![256]⟩)
    (hc : (⟨1, ![256]⟩ : Shape).ShapeCasts ⟨2, ![256, 1]⟩) (hb : (⟨2, ![256, 1]⟩ : Shape).Broadcasts ⟨2, ![256, 128]⟩)
    (hs : (⟨2, ![256, 128]⟩ : Shape).ShapeCasts ⟨3, ![256, 1, 128]⟩) : FVec Ideal ⟨3, ![256, 1, 128]⟩ .f32 :=
  shapeCast ⟨3, ![256, 1, 128]⟩ (minimumf (broadcast ⟨2, ![256, 128]⟩ (Scalar.ofBits .f32 0x43E00000#32))
    (maximumf (broadcast ⟨2, ![256, 128]⟩ (Scalar.ofBits .f32 0xC3E00000#32)) (divf x (broadcastTo ⟨2, ![256, 128]⟩ (scaleVec x hr hc) hb)))) hs

theorem codeHead_apply (x : FVec Ideal ⟨2, ![256, 128]⟩ .f32) (hr : Shape.Reduces ⟨2, ![256, 128]⟩ [1] ⟨1, ![256]⟩)
    (hc : (⟨1, ![256]⟩ : Shape).ShapeCasts ⟨2, ![256, 1]⟩) (hb : (⟨2, ![256, 1]⟩ : Shape).Broadcasts ⟨2, ![256, 128]⟩)
    (hs : (⟨2, ![256, 128]⟩ : Shape).ShapeCasts ⟨3, ![256, 1, 128]⟩) (r : Fin 256) (z : Fin 1) (d : Fin 128) (v : Fin 128 → EReal)
    (hv : ∀ e, x (ValueIdx.ix2 r e) = v e) :
    codeHead x hr hc hb hs (ValueIdx.ix3 r z d) = code (rowScale v) (v d) := by
  have hz := z.isLt
  unfold codeHead
  rw [shapeCast_apply _ hs (ValueIdx.ix3 r z d) (ValueIdx.ix2 r d) (by
    rw [Shape.rowMajor_val_two, Shape.rowMajor_val_three]
    show r.val * 128 + d.val = (r.val * 1 + z.val) * 128 + d.val
    omega)]
  refine (codeVec_apply x (scaleVec x hr hc) hb (by decide) r d).trans ?_
  rw [scaleVec_apply, hv d, funext hv]

end Cert.QkvHead
-- ==== Proof.QkvStrip.lean ====
/- Hand-written, untrusted: WHAT THE LOOP OF ONE GRID POINT OF THE PROJECTIONS LEAVES: the codes and scales of its 256 rows, each
   normalised by its root mean square, quantised in eight strips of 32 rows; as functions of the point's input blocks. -/
module

public import proofs.«01_k».proof.Proof.QkvHead
public import proofs.«01_k».proof.Proof.Gen.QkvIdeal.Value
public import Idealize.ShloMosaic.Lib.Pipeline.ReadBack

@[expose] public section

noncomputable section
namespace Cert.QkvBlock

open Idealize.ShloMosaic Idealize.SL.Sem Cert.RowQuant Cert.QkvTile Cert.QkvHead Cert.QkvIdeal Cert.QkvIdeal.Gen

/-- The codes of a block of rows. -/
def codeBlk (x0 : Vec Ideal S256x5120 .bf16) (x1 : Vec Ideal S1x5120 .f32) : Vec Ideal S256x5120 .fp8e4m3 :=
  fun y => code (rowScale (normAt x0 x1 (y 0 : Fin 256))) (normAt x0 x1 (y 0 : Fin 256) (y 1 : Fin 5120))

/-- The scales of a block of rows. -/
def scaleBlk (x0 : Vec Ideal S256x5120 .bf16) (x1 : Vec Ideal S1x5120 .f32) : Vec Ideal S256x1 .f32 :=
  fun y => rowScale (normAt x0 x1 (y 0 : Fin 256))

/-- Row `r` of strip `k`, a row of the block. -/
theorem strip_idx (k : Fin k0_t1_loop.trips) (r : Fin 32) (l : Fin 5120)
    (x : (Rect.unit (s := S256x1) (k0_off2 k) S32x1.size (k0_off2_inb k)).shape.Idx) (hx : (x 0).val = r.val) :
    (Rect.unit (s := S256x5120) (k0_off1 k) S32x5120.size (k0_off1_inb k)).idx (ValueIdx.ix2 r l)
      = ValueIdx.ix2 ((Rect.unit (s := S256x1) (k0_off2 k) S32x1.size (k0_off2_inb k)).emb x 0 : Fin 256) l := by
  have e1 := k0_off1_eq k
  have e2 := k0_off2_eq k
  funext a
  refine Fin.ext ?_
  match a with
  | ⟨0, _⟩ =>
    show k0_off1 k 0 + 1 * r.val = k0_off2 k 0 + 1 * (x 0).val
    rw [congrFun e1 0, congrFun e2 0, hx]
  | ⟨1, _⟩ =>
    show k0_off1 k 1 + 1 * l.val = l.val
    rw [congrFun e1 1]; show 0 + 1 * l.val = l.val; omega

/-- A strip's rows normalised are the block's, at the strip's rows. -/
theorem strip_norm (x0 : Vec Ideal S256x5120 .bf16) (x1 : Vec Ideal S1x5120 .f32) (k : Fin k0_t1_loop.trips)
    (x : (Rect.unit (s := S256x1) (k0_off2 k) S32x1.size (k0_off2_inb k)).shape.Idx) (r : Fin 32) (hx : (x 0).val = r.val) (l : Fin 5120) :
    k0_pay1 (F := Ideal) (View.ld x0 (Rect.unit (s := S256x5120) (k0_off1 k) S32x5120.size (k0_off1_inb k))) x1 (ValueIdx.ix2 r l)
      = normAt x0 x1 ((Rect.unit (s := S256x1) (k0_off2 k) S32x1.size (k0_off2_inb k)).emb x 0 : Fin 256) l := by
  refine (normVec_apply _ x1 bitsLt_bf16_f32 reduces_S32x5120_S32 shapeCasts_S32_S32x1 broadcasts_S32x1_S32x5120 broadcasts_S1x5120_S32x5120 r l).trans ?_
  unfold normAt
  refine congrFun (congrArg₂ normRow (funext fun m => ?_) rfl) l
  rw [View.ld_apply, strip_idx k r m x hx]; rfl

/-- A strip's scales are the block's, at the strip's rows. -/
theorem strip_scale (x0 : Vec Ideal S256x5120 .bf16) (x1 : Vec Ideal S1x5120 .f32) (k : Fin k0_t1_loop.trips)
    (x : (Rect.unit (s := S256x1) (k0_off2 k) S32x1.size (k0_off2_inb k)).shape.Idx) :
    k0_pay2 (F := Ideal) (View.ld x0 (Rect.unit (s := S256x5120) (k0_off1 k) S32x5120.size (k0_off1_inb k))) x1 x
      = scaleBlk x0 x1 ((Rect.unit (s := S256x1) (k0_off2 k) S32x1.size (k0_off2_inb k)).emb x) := by
  obtain ⟨r, z, rfl⟩ : ∃ (r : Fin 32) (z : Fin 1), x = ValueIdx.ix2 r z := ⟨x 0, x 1, ValueIdx.eq_ix2 x⟩
  refine (scaleVec_apply (k0_pay1 (F := Ideal) _ x1) reduces_S32x5120_S32 shapeCasts_S32_S32x1 r z).trans ?_
  unfold scaleBlk
  exact congrArg rowScale (funext fun l => strip_norm x0 x1 k (ValueIdx.ix2 r z) r rfl l)

/-- A strip's codes are the block's, at the strip's rows. -/
theorem strip_code (x0 : Vec Ideal S256x5120 .bf16) (x1 : Vec Ideal S1x5120 .f32) (k : Fin k0_t1_loop.trips)
    (x : (Rect.unit (s := S256x5120) (k0_off1 k) S32x5120.size (k0_off1_inb k)).shape.Idx) :
    k0_pay3 (F := Ideal) (View.ld x0 (Rect.unit (s := S256x5120) (k0_off1 k) S32x5120.size (k0_off1_inb k))) x1 x
      = codeBlk x0 x1 ((Rect.unit (s := S256x5120) (k0_off1 k) S32x5120.size (k0_off1_inb k)).emb x) := by
  obtain ⟨r, l, rfl⟩ : ∃ (r : Fin 32) (l : Fin 5120), x = ValueIdx.ix2 r l := ⟨x 0, x 1, ValueIdx.eq_ix2 x⟩
  refine (codeVec_apply (k0_pay1 (F := Ideal) _ x1) (k0_pay2 (F := Ideal) _ x1) broadcasts_S32x1_S32x5120 bitsLt_fp8e4m3_f32 r l).trans ?_
  rw [strip_scale x0 x1 k (ValueIdx.ix2 r (0 : Fin 1)), strip_norm x0 x1 k (ValueIdx.ix2 r (0 : Fin 1)) r rfl l]
  unfold codeBlk scaleBlk
  have h0 : ((Rect.unit (s := S256x1) (k0_off2 k) S32x1.size (k0_off2_inb k)).emb (ValueIdx.ix2 r (0 : Fin 1)) 0 : Fin 256)
      = ((Rect.unit (s := S256x5120) (k0_off1 k) S32x5120.size (k0_off1_inb k)).emb (ValueIdx.ix2 r l) 0 : Fin 256) := by
    refine Fin.ext ?_
    show k0_off2 k 0 + 1 * r.val = k0_off1 k 0 + 1 * r.val
    rw [congrFun (k0_off1_eq k) 0, congrFun (k0_off2_eq k) 0]
  have h1 : ((Rect.unit (s := S256x5120) (k0_off1 k) S32x5120.size (k0_off1_inb k)).emb (ValueIdx.ix2 r l) 1 : Fin 5120) = l := by
    refine Fin.ext ?_
    show k0_off1 k 1 + 1 * l.val = l.val
    rw [congrFun (k0_off1_eq k) 1]; show 0 + 1 * l.val = l.val; omega
  rw [h0, h1]

theorem zero2 : (![0, 0] : Fin 2 → ℕ) = fun _ => 0 := by funext a; fin_cases a <;> rfl

/-- One trip stores the strip's codes and scales. -/
theorem trip_eq (𝒱 : Variants) (bd : Option 𝒱.V) (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) k
      = ([⟨Rect.unit (s := S256x5120) (k0_off1 k) S32x5120.size (k0_off1_inb k),
            k0_pay3 (F := Ideal) (View.ld x0 (Rect.unit (s := S256x5120) (k0_off1 k) S32x5120.size (k0_off1_inb k))) x1⟩],
         [⟨Rect.unit (s := S256x1) (k0_off2 k) S32x1.size (k0_off2_inb k),
            k0_pay2 (F := Ideal) (View.ld x0 (Rect.unit (s := S256x5120) (k0_off1 k) S32x5120.size (k0_off1_inb k))) x1⟩]) := by
  have h : View.readAt (Elt Ideal) arg1.view (Rect.unit (s := S256x5120) (k0_off1 k) S32x5120.size (k0_off1_inb k)).toLoadRect (harg1.unread x0)
      = View.ld x0 (Rect.unit (s := S256x5120) (k0_off1 k) S32x5120.size (k0_off1_inb k)) := by
    rw [View.readAt_eq_ld, harg1.read_unread]
  have h' : ∀ inb, View.readAt (Elt Ideal) arg2.view (Rect.unit (s := S1x5120) ![0, 0] S1x5120.size inb).toLoadRect (harg2.unread x1) = x1 := fun inb => by
    rw [View.readAt_eq_ld, harg2.read_unread, View.ld_unit_zero zero2]
  have inb : ∀ a, (![0, 0] : Fin 2 → ℕ) a + S1x5120.size a ≤ S1x5120.size a := fun a => by rw [zero2]; exact le_of_eq (Nat.zero_add _)
  rw [← h]
  conv_rhs => rw [← h' inb]
  unfold tripL_k0_t1 trip_k0_t1
  rfl

/-- One more store that is a block. -/
theorem piecesOf_cons {Val : EltTy → Type} {s : Shape} {e : EltTy} (G : s.Idx → Val e) (p : View.Piece Val s e) (L : List (View.Piece Val s e))
    (h : ∀ x : p.1.shape.Idx, p.2 x = G (p.1.emb x)) (hL : View.PiecesOf G L) : View.PiecesOf G ([p] ++ L) := ⟨h, hL⟩

set_option maxRecDepth 4000 in
/-- Every store of the first `n` trips is a block of the codes and of the scales. -/
theorem pieces (𝒱 : Variants) (bd : Option 𝒱.V) (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (n : ℕ) (hn : n ≤ k0_t1_loop.trips) :
    View.PiecesOf (codeBlk x0 x1) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) n).1 ∧ View.PiecesOf (scaleBlk x0 x1) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) n).2 := by
  induction n with
  | zero => rw [pb_k0_t1.eq_1]; exact ⟨trivial, trivial⟩
  | succ n ih =>
    have ih := ih (Nat.le_of_succ_le hn)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) ⟨n, hn⟩, trip_eq]
    refine ⟨piecesOf_cons _ _ _ ?_ ih.1, piecesOf_cons _ _ _ ?_ ih.2⟩
    · exact strip_code x0 x1 ⟨n, hn⟩
    · intro x
      have := strip_scale x0 x1 ⟨n, hn⟩ x
      dsimp only
      exact this

theorem out7_apply (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (y : S256x5120.Idx) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = codeBlk x0 x1 y := by
  have hc := cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
  unfold kernelRun0_A at hc
  frame_out
  exact View.canon_apply_of_pieces _ _ (pieces Variants.none none c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 _ (by decide +kernel)).1.mem y hc

theorem out8_apply (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (y : S256x1.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = scaleBlk x0 x1 y := by
  have hc := cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y
  unfold kernelRun0_A at hc
  frame_out
  exact View.canon_apply_of_pieces _ _ (pieces Variants.none none c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 _ (by decide +kernel)).2.mem y hc

/-- The codes read back after the loop. -/
theorem codes_back (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32)
    (inb : ∀ a, (![0, 0] : Fin 2 → ℕ) a + (![256, 5120] : Fin 2 → ℕ) a ≤ S256x5120.size a) :
    arg8.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (Scf.trips (0#32) (Scalar.addi 0#32 8#32) 1#32)).1
      (Rect.unit (s := S256x5120) ![0, 0] ![256, 5120] inb).toLoadRect = codeBlk x0 x1 := by
  rw [View.readCov_eq_canon']
  funext j
  have hj : (Rect.unit (s := S256x5120) ![0, 0] ![256, 5120] inb).toLoadRect.idx j = j := by
    funext a
    refine Fin.ext ?_
    match a with
    | ⟨0, _⟩ => show 0 + 1 * (j 0).val = (j 0).val; omega
    | ⟨1, _⟩ => show 0 + 1 * (j 1).val = (j 1).val; omega
  have hc := cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 j
  unfold kernelRun0_A at hc
  rw [hj]
  exact View.canon_apply_of_pieces _ _ (pieces Variants.none none c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 _ (by decide +kernel)).1.mem j hc

/-- The scales read back after the loop. -/
theorem scales_back (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32)
    (inb : ∀ a, (![0, 0] : Fin 2 → ℕ) a + (![256, 1] : Fin 2 → ℕ) a ≤ S256x1.size a) :
    arg9.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (Scf.trips (0#32) (Scalar.addi 0#32 8#32) 1#32)).2
      (Rect.unit (s := S256x1) ![0, 0] ![256, 1] inb).toLoadRect = scaleBlk x0 x1 := by
  rw [View.readCov_eq_canon']
  funext j
  have hj : (Rect.unit (s := S256x1) ![0, 0] ![256, 1] inb).toLoadRect.idx j = j := by
    funext a
    refine Fin.ext ?_
    match a with
    | ⟨0, _⟩ => show 0 + 1 * (j 0).val = (j 0).val; omega
    | ⟨1, _⟩ => show 0 + 1 * (j 1).val = (j 1).val; omega
  have hc := cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 j
  unfold kernelRun0_A at hc
  rw [hj]
  exact View.canon_apply_of_pieces _ _ (pieces Variants.none none c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 _ (by decide +kernel)).2.mem j hc

end Cert.QkvBlock
-- ==== Proof.QkvBlock.lean ====
/- Hand-written, untrusted: WHAT ONE GRID POINT OF THE PROJECTIONS LEAVES in its output blocks, as functions of its input blocks.
   Twelve products of 512 columns read the loop's codes and scales back; eight of them are cut into query blocks, two into key
   heads and two into value heads. -/
module

public import proofs.«01_k».proof.Proof.QkvStrip

@[expose] public section

noncomputable section
namespace Cert.QkvBlock

open Idealize.ShloMosaic Idealize.SL.Sem Cert.RowQuant Cert.QkvTile Cert.QkvHead Cert.QkvIdeal Cert.QkvIdeal.Gen

/-! ## The blocks -/

/-- The row of a block that stands at place `x` of 64-row group `j`. -/
def qRowIx (j : Fin 4) (x : Fin 256) : Fin 256 := ⟨j.val * 64 + x.val % 64, by have := j.isLt; omega⟩

/-- The head that stands at place `x` of head group `n`. -/
def qHeadIx (n : Fin 8) (x : Fin 256) : Fin 48 := ⟨n.val * 4 + x.val / 64, by have := n.isLt; have := x.isLt; omega⟩

/-- The rotated queries: per group of four heads and per 64 rows, lanes first, the four heads' rows side by side. -/
def qBlk (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) : Vec Ideal S1x8x4x128x256 .bf16 := fun y =>
  rotAt x0 x1 x2 x3 x4 x5 (qRowIx (y 2 : Fin 4) (y 4 : Fin 256)) (qHeadIx (y 1 : Fin 8) (y 4 : Fin 256)) (y 3 : Fin 128)

/-- A row's key head, rotated. -/
def kRow (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (r : Fin 256) (h : Fin 8) : Fin 128 → EReal :=
  rotAt x0 x1 x2 x3 x4 x5 r ⟨32 + h.val, by have := h.isLt; omega⟩

/-- A row's value head. -/
def vRow (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (r : Fin 256) (h : Fin 8) : Fin 128 → EReal :=
  headAt x0 x1 x2 x3 r ⟨40 + h.val, by have := h.isLt; omega⟩

/-- The keys' scales. -/
def kScaleBlk (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) : Vec Ideal S256x8 .f32 := fun y => rowScale (kRow x0 x1 x2 x3 x4 x5 (y 0 : Fin 256) (y 1 : Fin 8))

/-- The keys' codes. -/
def kCodeBlk (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) : S256x8x128.Idx → EReal := fun y =>
  code (rowScale (kRow x0 x1 x2 x3 x4 x5 (y 0 : Fin 256) (y 1 : Fin 8))) (kRow x0 x1 x2 x3 x4 x5 (y 0 : Fin 256) (y 1 : Fin 8) (y 2 : Fin 128))

/-- The values' scales. -/
def vScaleBlk (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) : Vec Ideal S256x8 .f32 := fun y => rowScale (vRow x0 x1 x2 x3 x4 x5 (y 0 : Fin 256) (y 1 : Fin 8))

/-- The values' codes. -/
def vCodeBlk (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) : S256x8x128.Idx → EReal := fun y =>
  code (rowScale (vRow x0 x1 x2 x3 x4 x5 (y 0 : Fin 256) (y 1 : Fin 8))) (vRow x0 x1 x2 x3 x4 x5 (y 0 : Fin 256) (y 1 : Fin 8) (y 2 : Fin 128))

/-! ## The products -/

/-- The product of 512 columns from column `o` on. -/
def accV (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (o : ℕ) (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a) : FVec Ideal S256x512 .f32 :=
  projVec dot_S256x5120_S5120x512_S256x512_1_0_0_1_n_n broadcasts_S256x1_S256x512 broadcasts_S1x512_S256x512
    (shapeCast S256x1 (scaleBlk x0 x1) shapeCasts_S256x1_S256x1) (shapeCast S256x5120 (codeBlk x0 x1) shapeCasts_S256x5120_S256x5120)
    (View.ld x2 (Rect.unit (s := S5120x6144) ![0, o] ![5120, 512] h2)) (View.ld x3 (Rect.unit (s := S1x6144) ![0, o] ![1, 512] h3))

theorem accV_apply (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (o : ℕ) (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a) (r : Fin 256) (j : Fin 512) (k : Fin 6144)
    (hk : k.val = o + j.val) : accV x0 x1 x2 x3 x4 x5 o h2 h3 (ValueIdx.ix2 r j) = colAt x0 x1 x2 x3 r k := by
  unfold accV
  rw [shapeCast_self, shapeCast_self]
  refine (projVec_apply _ rfl _ _ _ _ _ _ r j).trans ?_
  have e2 : ∀ l : Fin 5120, (Rect.unit (s := S5120x6144) ![0, o] ![5120, 512] h2).idx (ValueIdx.ix2 l j) = ValueIdx.ix2 l k := fun l => by
    funext a
    refine Fin.ext ?_
    match a with
    | ⟨0, _⟩ => show 0 + 1 * l.val = l.val; omega
    | ⟨1, _⟩ => show o + 1 * j.val = k.val; omega
  have e3 : (Rect.unit (s := S1x6144) ![0, o] ![1, 512] h3).idx (ValueIdx.ix2 (0 : Fin 1) j) = ValueIdx.ix2 (0 : Fin 1) k := by
    funext a
    refine Fin.ext ?_
    match a with
    | ⟨0, _⟩ => rfl
    | ⟨1, _⟩ => show o + 1 * j.val = k.val; omega
  rw [View.ld_apply, e3, Finset.sum_congr rfl fun l _ => by rw [View.ld_apply, e2 l]]
  rfl

/-! ## One store each -/

theorem q_piece (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (n j o p : ℕ) (ho : o = 512 * n) (hp : p = 64 * j) (hn : n < 8) (hj : j < 4)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (s0 : S256x512.Slices ![p, 0] S64x128) (s1 : S256x512.Slices ![p, 128] S64x128) (s2 : S256x512.Slices ![p, 256] S64x128)
    (s3 : S256x512.Slices ![p, 384] S64x128) (sc : S256x128.Slices ![p, 0] S64x128)
    (hh : ∀ a, (![0, n, j, 0, 0] : Fin 5 → ℕ) a + (![1, 1, 1, 128, 256] : Fin 5 → ℕ) a ≤ S1x8x4x128x256.size a)
    (x : (Rect.unit (s := S1x8x4x128x256) ![0, n, j, 0, 0] ![1, 1, 1, 128, 256] hh).shape.Idx) :
    qTile (accV x0 x1 x2 x3 x4 x5 o h2 h3) (cosVec x4 concatenates_S256x64_S256x64_S256x128_d1) (sinVec x5 concatenates_S256x64_S256x64_S256x128_d1) p
        s0 s1 s2 s3 sc rotates_S64x128_d1 concatenates_S64x128_S64x128_S128x128_d0 transposes_S128x128_p1_0_S128x128
        concatenates_S128x128_S128x128_S128x256_d1 bitsLt_bf16_f32 shapeCasts_S128x256_S1x1x1x128x256 x
      = qBlk x0 x1 x2 x3 x4 x5 ((Rect.unit (s := S1x8x4x128x256) ![0, n, j, 0, 0] ![1, 1, 1, 128, 256] hh).emb x) := by
  subst ho hp
  obtain ⟨a, b, e, d, z, rfl⟩ : ∃ (a b e : Fin 1) (d : Fin 128) (z : Fin 256), x = ValueIdx.ix5 a b e d z :=
    ⟨x 0, x 1, x 2, x 3, x 4, ValueIdx.eq_ix5 x⟩
  have hz := z.isLt
  have hb := b.isLt
  have he := e.isLt
  refine (qTile_apply _ x4 x5 _ _ _ _ _ _ _ _ _ _ _ _ _ (by omega) a b e d z).trans ?_
  have m1 : ((Rect.unit (s := S1x8x4x128x256) ![0, n, j, 0, 0] ![1, 1, 1, 128, 256] hh).emb (ValueIdx.ix5 a b e d z) 1 : Fin 8) = ⟨n, hn⟩ :=
    Fin.ext (by show n + 1 * b.val = n; omega)
  have m2 : ((Rect.unit (s := S1x8x4x128x256) ![0, n, j, 0, 0] ![1, 1, 1, 128, 256] hh).emb (ValueIdx.ix5 a b e d z) 2 : Fin 4) = ⟨j, hj⟩ :=
    Fin.ext (by show j + 1 * e.val = j; omega)
  have m3 : ((Rect.unit (s := S1x8x4x128x256) ![0, n, j, 0, 0] ![1, 1, 1, 128, 256] hh).emb (ValueIdx.ix5 a b e d z) 3 : Fin 128) = d :=
    Fin.ext (by show 0 + 1 * d.val = d.val; omega)
  have m4 : ((Rect.unit (s := S1x8x4x128x256) ![0, n, j, 0, 0] ![1, 1, 1, 128, 256] hh).emb (ValueIdx.ix5 a b e d z) 4 : Fin 256) = z :=
    Fin.ext (by show 0 + 1 * z.val = z.val; omega)
  unfold qBlk rotAt
  rw [m1, m2, m3, m4]
  have er : (⟨64 * j + z.val % 64, by omega⟩ : Fin 256) = qRowIx ⟨j, hj⟩ z :=
    Fin.ext (by show 64 * j + z.val % 64 = j * 64 + z.val % 64; omega)
  show ropeAt _ _ _ d = ropeAt (headAt x0 x1 x2 x3 (qRowIx (⟨j, hj⟩ : Fin 4) z) (qHeadIx (⟨n, hn⟩ : Fin 8) z))
    (fun l : Fin 64 => x4 (ValueIdx.ix2 (qRowIx (⟨j, hj⟩ : Fin 4) z) l)) (fun l : Fin 64 => x5 (ValueIdx.ix2 (qRowIx (⟨j, hj⟩ : Fin 4) z) l)) d
  rw [← er]
  refine congrArg (fun v => ropeAt v _ _ d) (funext fun l => ?_)
  have hl := l.isLt
  refine accV_apply x0 x1 x2 x3 x4 x5 _ h2 h3 _ _ _ ?_
  show (n * 4 + z.val / 64) * 128 + l.val = 512 * n + (z.val / 64 * 128 + l.val)
  omega

theorem k_row (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h : Fin 8) (o q : ℕ) (hoq : o + q = 4096 + 128 * h.val) (hq : q + 128 ≤ 512)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128) (r : Fin 256) (d : Fin 128) :
    kTile (accV x0 x1 x2 x3 x4 x5 o h2 h3) (cosVec x4 concatenates_S256x64_S256x64_S256x128_d1) (sinVec x5 concatenates_S256x64_S256x64_S256x128_d1) q hs rotates_S256x128_d1 (ValueIdx.ix2 r d) = kRow x0 x1 x2 x3 x4 x5 r h d := by
  refine (kTile_apply _ x4 x5 q _ hs _ hq r d).trans ?_
  unfold kRow rotAt
  refine congrArg (fun v => ropeAt v _ _ d) (funext fun l => ?_)
  have hl := l.isLt
  refine accV_apply x0 x1 x2 x3 x4 x5 _ h2 h3 _ _ _ ?_
  show (32 + h.val) * 128 + l.val = o + (q + l.val)
  omega

theorem k_scale (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h o q : ℕ) (hoq : o + q = 4096 + 128 * h) (hq : q + 128 ≤ 512) (h8 : h < 8)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128)
    (hh : ∀ a, (![0, h] : Fin 2 → ℕ) a + (![256, 1] : Fin 2 → ℕ) a ≤ S256x8.size a)
    (v : FVec Ideal S256x1 .f32) (hv : v = scaleVec (kTile (accV x0 x1 x2 x3 x4 x5 o h2 h3) (cosVec x4 concatenates_S256x64_S256x64_S256x128_d1) (sinVec x5 concatenates_S256x64_S256x64_S256x128_d1) q hs rotates_S256x128_d1) reduces_S256x128_S256 shapeCasts_S256_S256x1)
    (x : (Rect.unit (s := S256x8) ![0, h] ![256, 1] hh).shape.Idx) :
    v x
      = kScaleBlk x0 x1 x2 x3 x4 x5 ((Rect.unit (s := S256x8) ![0, h] ![256, 1] hh).emb x) := by
  subst hv
  obtain ⟨r, z, rfl⟩ : ∃ (r : Fin 256) (z : Fin 1), x = ValueIdx.ix2 r z := ⟨x 0, x 1, ValueIdx.eq_ix2 x⟩
  have hz := z.isLt
  refine (scaleVec_apply _ reduces_S256x128_S256 shapeCasts_S256_S256x1 r z).trans ?_
  have m0 : ((Rect.unit (s := S256x8) ![0, h] ![256, 1] hh).emb (ValueIdx.ix2 r z) 0 : Fin 256) = r :=
    Fin.ext (by show 0 + 1 * r.val = r.val; omega)
  have m1 : ((Rect.unit (s := S256x8) ![0, h] ![256, 1] hh).emb (ValueIdx.ix2 r z) 1 : Fin 8) = ⟨h, h8⟩ :=
    Fin.ext (by show h + 1 * z.val = h; omega)
  unfold kScaleBlk
  rw [m0, m1]
  exact congrArg rowScale (funext fun d => k_row x0 x1 x2 x3 x4 x5 ⟨h, h8⟩ o q hoq hq h2 h3 hs r d)

theorem k_code (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h o q : ℕ) (hoq : o + q = 4096 + 128 * h) (hq : q + 128 ≤ 512) (h8 : h < 8)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128)
    (hh : ∀ a, (![0, h, 0] : Fin 3 → ℕ) a + (![256, 1, 128] : Fin 3 → ℕ) a ≤ S256x8x128.size a)
    (x : (Rect.unit (s := S256x8x128) ![0, h, 0] ![256, 1, 128] hh).shape.Idx) :
    codeHead (kTile (accV x0 x1 x2 x3 x4 x5 o h2 h3) (cosVec x4 concatenates_S256x64_S256x64_S256x128_d1) (sinVec x5 concatenates_S256x64_S256x64_S256x128_d1) q hs rotates_S256x128_d1) reduces_S256x128_S256 shapeCasts_S256_S256x1 broadcasts_S256x1_S256x128 shapeCasts_S256x128_S256x1x128 x
      = kCodeBlk x0 x1 x2 x3 x4 x5 ((Rect.unit (s := S256x8x128) ![0, h, 0] ![256, 1, 128] hh).emb x) := by
  obtain ⟨r, z, d, rfl⟩ : ∃ (r : Fin 256) (z : Fin 1) (d : Fin 128), x = ValueIdx.ix3 r z d := ⟨x 0, x 1, x 2, ValueIdx.eq_ix3 x⟩
  have hz := z.isLt
  refine (codeHead_apply _ reduces_S256x128_S256 shapeCasts_S256_S256x1 broadcasts_S256x1_S256x128 shapeCasts_S256x128_S256x1x128 r z d
    (kRow x0 x1 x2 x3 x4 x5 r ⟨h, h8⟩) fun e => k_row x0 x1 x2 x3 x4 x5 ⟨h, h8⟩ o q hoq hq h2 h3 hs r e).trans ?_
  have m0 : ((Rect.unit (s := S256x8x128) ![0, h, 0] ![256, 1, 128] hh).emb (ValueIdx.ix3 r z d) 0 : Fin 256) = r :=
    Fin.ext (by show 0 + 1 * r.val = r.val; omega)
  have m1 : ((Rect.unit (s := S256x8x128) ![0, h, 0] ![256, 1, 128] hh).emb (ValueIdx.ix3 r z d) 1 : Fin 8) = ⟨h, h8⟩ :=
    Fin.ext (by show h + 1 * z.val = h; omega)
  have m2 : ((Rect.unit (s := S256x8x128) ![0, h, 0] ![256, 1, 128] hh).emb (ValueIdx.ix3 r z d) 2 : Fin 128) = d :=
    Fin.ext (by show 0 + 1 * d.val = d.val; omega)
  unfold kCodeBlk
  rw [m0, m1, m2]
  rfl

theorem v_row (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h : Fin 8) (o q : ℕ) (hoq : o + q = 5120 + 128 * h.val) (hq : q + 128 ≤ 512)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128) (r : Fin 256) (d : Fin 128) :
    vTile (accV x0 x1 x2 x3 x4 x5 o h2 h3) q hs (ValueIdx.ix2 r d) = vRow x0 x1 x2 x3 x4 x5 r h d := by
  refine (vTile_apply _ q hs hq r d).trans ?_
  refine accV_apply x0 x1 x2 x3 x4 x5 _ h2 h3 _ _ _ ?_
  show (40 + h.val) * 128 + d.val = o + (q + d.val)
  omega

theorem v_scale (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h o q : ℕ) (hoq : o + q = 5120 + 128 * h) (hq : q + 128 ≤ 512) (h8 : h < 8)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128)
    (hh : ∀ a, (![0, h] : Fin 2 → ℕ) a + (![256, 1] : Fin 2 → ℕ) a ≤ S256x8.size a)
    (v : FVec Ideal S256x1 .f32) (hv : v = scaleVec (vTile (accV x0 x1 x2 x3 x4 x5 o h2 h3) q hs) reduces_S256x128_S256 shapeCasts_S256_S256x1)
    (x : (Rect.unit (s := S256x8) ![0, h] ![256, 1] hh).shape.Idx) :
    v x
      = vScaleBlk x0 x1 x2 x3 x4 x5 ((Rect.unit (s := S256x8) ![0, h] ![256, 1] hh).emb x) := by
  subst hv
  obtain ⟨r, z, rfl⟩ : ∃ (r : Fin 256) (z : Fin 1), x = ValueIdx.ix2 r z := ⟨x 0, x 1, ValueIdx.eq_ix2 x⟩
  have hz := z.isLt
  refine (scaleVec_apply _ reduces_S256x128_S256 shapeCasts_S256_S256x1 r z).trans ?_
  have m0 : ((Rect.unit (s := S256x8) ![0, h] ![256, 1] hh).emb (ValueIdx.ix2 r z) 0 : Fin 256) = r :=
    Fin.ext (by show 0 + 1 * r.val = r.val; omega)
  have m1 : ((Rect.unit (s := S256x8) ![0, h] ![256, 1] hh).emb (ValueIdx.ix2 r z) 1 : Fin 8) = ⟨h, h8⟩ :=
    Fin.ext (by show h + 1 * z.val = h; omega)
  unfold vScaleBlk
  rw [m0, m1]
  exact congrArg rowScale (funext fun d => v_row x0 x1 x2 x3 x4 x5 ⟨h, h8⟩ o q hoq hq h2 h3 hs r d)

theorem v_code (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32) (h o q : ℕ) (hoq : o + q = 5120 + 128 * h) (hq : q + 128 ≤ 512) (h8 : h < 8)
    (h2 : ∀ a, (![0, o] : Fin 2 → ℕ) a + (![5120, 512] : Fin 2 → ℕ) a ≤ S5120x6144.size a)
    (h3 : ∀ a, (![0, o] : Fin 2 → ℕ) a + (![1, 512] : Fin 2 → ℕ) a ≤ S1x6144.size a)
    (hs : S256x512.Slices ![0, q] S256x128)
    (hh : ∀ a, (![0, h, 0] : Fin 3 → ℕ) a + (![256, 1, 128] : Fin 3 → ℕ) a ≤ S256x8x128.size a)
    (x : (Rect.unit (s := S256x8x128) ![0, h, 0] ![256, 1, 128] hh).shape.Idx) :
    codeHead (vTile (accV x0 x1 x2 x3 x4 x5 o h2 h3) q hs) reduces_S256x128_S256 shapeCasts_S256_S256x1 broadcasts_S256x1_S256x128 shapeCasts_S256x128_S256x1x128 x
      = vCodeBlk x0 x1 x2 x3 x4 x5 ((Rect.unit (s := S256x8x128) ![0, h, 0] ![256, 1, 128] hh).emb x) := by
  obtain ⟨r, z, d, rfl⟩ : ∃ (r : Fin 256) (z : Fin 1) (d : Fin 128), x = ValueIdx.ix3 r z d := ⟨x 0, x 1, x 2, ValueIdx.eq_ix3 x⟩
  have hz := z.isLt
  refine (codeHead_apply _ reduces_S256x128_S256 shapeCasts_S256_S256x1 broadcasts_S256x1_S256x128 shapeCasts_S256x128_S256x1x128 r z d
    (vRow x0 x1 x2 x3 x4 x5 r ⟨h, h8⟩) fun e => v_row x0 x1 x2 x3 x4 x5 ⟨h, h8⟩ o q hoq hq h2 h3 hs r e).trans ?_
  have m0 : ((Rect.unit (s := S256x8x128) ![0, h, 0] ![256, 1, 128] hh).emb (ValueIdx.ix3 r z d) 0 : Fin 256) = r :=
    Fin.ext (by show 0 + 1 * r.val = r.val; omega)
  have m1 : ((Rect.unit (s := S256x8x128) ![0, h, 0] ![256, 1, 128] hh).emb (ValueIdx.ix3 r z d) 1 : Fin 8) = ⟨h, h8⟩ :=
    Fin.ext (by show h + 1 * z.val = h; omega)
  have m2 : ((Rect.unit (s := S256x8x128) ![0, h, 0] ![256, 1, 128] hh).emb (ValueIdx.ix3 r z d) 2 : Fin 128) = d :=
    Fin.ext (by show 0 + 1 * d.val = d.val; omega)
  unfold vCodeBlk
  rw [m0, m1, m2]
  rfl

end Cert.QkvBlock
-- ==== Proof.QkvStores.lean ====
/- Hand-written, untrusted: every store of the query blocks, of the key and value scales, and of the two scratch arrays of key and
   value codes is a block of the functions in QkvBlock.lean. -/
module

public import proofs.«01_k».proof.Proof.QkvBlock

@[expose] public section

noncomputable section
namespace Cert.QkvBlock

open Idealize.ShloMosaic Idealize.SL.Sem Cert.RowQuant Cert.QkvTile Cert.QkvHead Cert.QkvIdeal Cert.QkvIdeal.Gen

theorem ld64 (x4 : Vec Ideal S256x64 .f32) (inb : ∀ a, (![0, 0] : Fin 2 → ℕ) a + (![256, 64] : Fin 2 → ℕ) a ≤ S256x64.size a) :
    View.ld x4 (Rect.unit (s := S256x64) ![0, 0] ![256, 64] inb) = x4 := View.ld_unit_zero zero2 inb x4

/-! The scales' payloads, as the definitions of QkvHead.lean and QkvTile.lean. -/

theorem ks7 (a b : FVec Ideal S256x128 .f32) (v : FVec Ideal S256x512 .f32) : k0_pay144 a b v = scaleVec (kTile (v) a b 384 slices_S256x512_o0_384_S256x128 rotates_S256x128_d1) reduces_S256x128_S256 shapeCasts_S256_S256x1 := rfl
theorem ks6 (a b : FVec Ideal S256x128 .f32) (v : FVec Ideal S256x512 .f32) : k0_pay141 (k0_pay140 a b v) = scaleVec (kTile (v) a b 256 slices_S256x512_o0_256_S256x128 rotates_S256x128_d1) reduces_S256x128_S256 shapeCasts_S256_S256x1 := rfl
theorem ks5 (a b : FVec Ideal S256x128 .f32) (v : FVec Ideal S256x512 .f32) : k0_pay138 a b v = scaleVec (kTile (v) a b 128 slices_S256x512_o0_128_S256x128 rotates_S256x128_d1) reduces_S256x128_S256 shapeCasts_S256_S256x1 := rfl
theorem ks4 (a b : FVec Ideal S256x128 .f32) (s : FVec Ideal S256x1 .f32) (c : Vec Ideal S256x5120 .fp8e4m3) (w : Vec Ideal S5120x512 .fp8e4m3) (ws : Vec Ideal S1x512 .f32) : k0_pay134 s a b c w ws = scaleVec (kTile (k0_pay132 s c w ws) a b 0 slices_S256x512_o0_0_S256x128 rotates_S256x128_d1) reduces_S256x128_S256 shapeCasts_S256_S256x1 := rfl
theorem ks3 (a b : FVec Ideal S256x128 .f32) (v : FVec Ideal S256x512 .f32) : k0_pay130 (k0_pay128 a b v) (k0_pay129 a b v) = scaleVec (kTile (v) a b 384 slices_S256x512_o0_384_S256x128 rotates_S256x128_d1) reduces_S256x128_S256 shapeCasts_S256_S256x1 := rfl
theorem ks2 (a b : FVec Ideal S256x128 .f32) (v : FVec Ideal S256x512 .f32) : k0_pay124 a b v = scaleVec (kTile (v) a b 256 slices_S256x512_o0_256_S256x128 rotates_S256x128_d1) reduces_S256x128_S256 shapeCasts_S256_S256x1 := rfl
theorem ks1 (a b : FVec Ideal S256x128 .f32) (v : FVec Ideal S256x512 .f32) : k0_pay120 a b v = scaleVec (kTile (v) a b 128 slices_S256x512_o0_128_S256x128 rotates_S256x128_d1) reduces_S256x128_S256 shapeCasts_S256_S256x1 := rfl
theorem ks0 (a b : FVec Ideal S256x128 .f32) (s : FVec Ideal S256x1 .f32) (c : Vec Ideal S256x5120 .fp8e4m3) (w : Vec Ideal S5120x512 .fp8e4m3) (ws : Vec Ideal S1x512 .f32) : k0_pay117 (k0_pay116 s a b c w ws) = scaleVec (kTile (k0_pay114 s c w ws) a b 0 slices_S256x512_o0_0_S256x128 rotates_S256x128_d1) reduces_S256x128_S256 shapeCasts_S256_S256x1 := rfl
theorem vs7 (v : FVec Ideal S256x512 .f32) : k0_pay176 v = scaleVec (vTile (v) 384 slices_S256x512_o0_384_S256x128) reduces_S256x128_S256 shapeCasts_S256_S256x1 := rfl
theorem vs6 (v : FVec Ideal S256x512 .f32) : k0_pay173 v = scaleVec (vTile (v) 256 slices_S256x512_o0_256_S256x128) reduces_S256x128_S256 shapeCasts_S256_S256x1 := rfl
theorem vs5 (v : FVec Ideal S256x512 .f32) (ws : Vec Ideal S1x512 .f32) : k0_pay169 v ws = scaleVec (vTile (k0_pay164 v ws) 128 slices_S256x512_o0_128_S256x128) reduces_S256x128_S256 shapeCasts_S256_S256x1 := rfl
theorem vs4 (v : FVec Ideal S256x512 .f32) (ws : Vec Ideal S1x512 .f32) : k0_pay166 v ws = scaleVec (vTile (k0_pay164 v ws) 0 slices_S256x512_o0_0_S256x128) reduces_S256x128_S256 shapeCasts_S256_S256x1 := rfl
theorem vs3 (v : FVec Ideal S256x512 .f32) : k0_pay161 v = scaleVec (vTile (v) 384 slices_S256x512_o0_384_S256x128) reduces_S256x128_S256 shapeCasts_S256_S256x1 := rfl
theorem vs2 (v : FVec Ideal S256x512 .f32) : k0_pay157 v = scaleVec (vTile (v) 256 slices_S256x512_o0_256_S256x128) reduces_S256x128_S256 shapeCasts_S256_S256x1 := rfl
theorem vs1 (v : FVec Ideal S256x512 .f32) : k0_pay154 v = scaleVec (vTile (v) 128 slices_S256x512_o0_128_S256x128) reduces_S256x128_S256 shapeCasts_S256_S256x1 := rfl
theorem vs0 (s : FVec Ideal S256x1 .f32) (c : Vec Ideal S256x5120 .fp8e4m3) (w : Vec Ideal S5120x512 .fp8e4m3) (ws : Vec Ideal S1x512 .f32) : k0_pay150 s c w ws = scaleVec (vTile (k0_pay148 s c w ws) 0 slices_S256x512_o0_0_S256x128) reduces_S256x128_S256 shapeCasts_S256_S256x1 := rfl
theorem prod1 (s : FVec Ideal S256x1 .f32) (c : Vec Ideal S256x5120 .fp8e4m3) (w : Vec Ideal S5120x512 .fp8e4m3) (ws : Vec Ideal S1x512 .f32) : k0_pay114 (k0_pay4 s) c w ws = projVec dot_S256x5120_S5120x512_S256x512_1_0_0_1_n_n broadcasts_S256x1_S256x512 broadcasts_S1x512_S256x512 (shapeCast S256x1 s shapeCasts_S256x1_S256x1) (shapeCast S256x5120 c shapeCasts_S256x5120_S256x5120) w ws := rfl
theorem prod2 (s : FVec Ideal S256x1 .f32) (c : Vec Ideal S256x5120 .fp8e4m3) (w : Vec Ideal S5120x512 .fp8e4m3) (ws : Vec Ideal S1x512 .f32) : k0_pay132 (k0_pay4 s) c w ws = projVec dot_S256x5120_S5120x512_S256x512_1_0_0_1_n_n broadcasts_S256x1_S256x512 broadcasts_S1x512_S256x512 (shapeCast S256x1 s shapeCasts_S256x1_S256x1) (shapeCast S256x5120 c shapeCasts_S256x5120_S256x5120) w ws := rfl
theorem prod3 (s : FVec Ideal S256x1 .f32) (c : Vec Ideal S256x5120 .fp8e4m3) (w : Vec Ideal S5120x512 .fp8e4m3) (ws : Vec Ideal S1x512 .f32) : k0_pay148 (k0_pay4 s) c w ws = projVec dot_S256x5120_S5120x512_S256x512_1_0_0_1_n_n broadcasts_S256x1_S256x512 broadcasts_S1x512_S256x512 (shapeCast S256x1 s shapeCasts_S256x1_S256x1) (shapeCast S256x5120 c shapeCasts_S256x5120_S256x5120) w ws := rfl
theorem prod4 (s : FVec Ideal S256x1 .f32) (c : Vec Ideal S256x5120 .fp8e4m3) (w : Vec Ideal S5120x512 .fp8e4m3) (ws : Vec Ideal S1x512 .f32) : k0_pay164 (k0_pay163 (k0_pay4 s) c w) ws = projVec dot_S256x5120_S5120x512_S256x512_1_0_0_1_n_n broadcasts_S256x1_S256x512 broadcasts_S1x512_S256x512 (shapeCast S256x1 s shapeCasts_S256x1_S256x1) (shapeCast S256x5120 c shapeCasts_S256x5120_S256x5120) w ws := rfl
theorem cos (c : Vec Ideal S256x64 .f32) : k0_pay5 c = cosVec c concatenates_S256x64_S256x64_S256x128_d1 := rfl
theorem sin (c : Vec Ideal S256x64 .f32) : k0_pay6 c = sinVec c concatenates_S256x64_S256x64_S256x128_d1 := rfl

variable (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5

set_option maxRecDepth 20000 in
/-- Every store of the queries is a block of them. -/
theorem pieces6 : View.PiecesOf (qBlk x0 x1 x2 x3 x4 x5) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.cst_400, kernelRun0_A.sl.cst_482,
    View.readAt_eq_ld, Memref.IsWhole.read_unread, codes_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, scales_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, ld64]
  exact
    And.intro (q_piece x0 x1 x2 x3 x4 x5 7 3 3584 192 rfl rfl (by decide) (by decide) inb_S5120x6144_S5120x512_0_3584 inb_S1x6144_S1x512_0_3584 slices_S256x512_o192_0_S64x128 slices_S256x512_o192_128_S64x128 slices_S256x512_o192_256_S64x128 slices_S256x512_o192_384_S64x128 slices_S256x128_o192_0_S64x128 inb_S1x8x4x128x256_S1x1x1x128x256_0_7_3_0_0) <|
    And.intro (q_piece x0 x1 x2 x3 x4 x5 7 2 3584 128 rfl rfl (by decide) (by decide) inb_S5120x6144_S5120x512_0_3584 inb_S1x6144_S1x512_0_3584 slices_S256x512_o128_0_S64x128 slices_S256x512_o128_128_S64x128 slices_S256x512_o128_256_S64x128 slices_S256x512_o128_384_S64x128 slices_S256x128_o128_0_S64x128 inb_S1x8x4x128x256_S1x1x1x128x256_0_7_2_0_0) <|
    And.intro (q_piece x0 x1 x2 x3 x4 x5 7 1 3584 64 rfl rfl (by decide) (by decide) inb_S5120x6144_S5120x512_0_3584 inb_S1x6144_S1x512_0_3584 slices_S256x512_o64_0_S64x128 slices_S256x512_o64_128_S64x128 slices_S256x512_o64_256_S64x128 slices_S256x512_o64_384_S64x128 slices_S256x128_o64_0_S64x128 inb_S1x8x4x128x256_S1x1x1x128x256_0_7_1_0_0) <|
    And.intro (q_piece x0 x1 x2 x3 x4 x5 7 0 3584 0 rfl rfl (by decide) (by decide) inb_S5120x6144_S5120x512_0_3584 inb_S1x6144_S1x512_0_3584 slices_S256x512_o0_0_S64x128 slices_S256x512_o0_128_S64x128 slices_S256x512_o0_256_S64x128 slices_S256x512_o0_384_S64x128 slices_S256x128_o0_0_S64x128 inb_S1x8x4x128x256_S1x1x1x128x256_0_7_0_0_0) <|
    And.intro (q_piece x0 x1 x2 x3 x4 x5 6 3 3072 192 rfl rfl (by decide) (by decide) inb_S5120x6144_S5120x512_0_3072 inb_S1x6144_S1x512_0_3072 slices_S256x512_o192_0_S64x128 slices_S256x512_o192_128_S64x128 slices_S256x512_o192_256_S64x128 slices_S256x512_o192_384_S64x128 slices_S256x128_o192_0_S64x128 inb_S1x8x4x128x256_S1x1x1x128x256_0_6_3_0_0) <|
    And.intro (q_piece x0 x1 x2 x3 x4 x5 6 2 3072 128 rfl rfl (by decide) (by decide) inb_S5120x6144_S5120x512_0_3072 inb_S1x6144_S1x512_0_3072 slices_S256x512_o128_0_S64x128 slices_S256x512_o128_128_S64x128 slices_S256x512_o128_256_S64x128 slices_S256x512_o128_384_S64x128 slices_S256x128_o128_0_S64x128 inb_S1x8x4x128x256_S1x1x1x128x256_0_6_2_0_0) <|
    And.intro (q_piece x0 x1 x2 x3 x4 x5 6 1 3072 64 rfl rfl (by decide) (by decide) inb_S5120x6144_S5120x512_0_3072 inb_S1x6144_S1x512_0_3072 slices_S256x512_o64_0_S64x128 slices_S256x512_o64_128_S64x128 slices_S256x512_o64_256_S64x128 slices_S256x512_o64_384_S64x128 slices_S256x128_o64_0_S64x128 inb_S1x8x4x128x256_S1x1x1x128x256_0_6_1_0_0) <|
    And.intro (q_piece x0 x1 x2 x3 x4 x5 6 0 3072 0 rfl rfl (by decide) (by decide) inb_S5120x6144_S5120x512_0_3072 inb_S1x6144_S1x512_0_3072 slices_S256x512_o0_0_S64x128 slices_S256x512_o0_128_S64x128 slices_S256x512_o0_256_S64x128 slices_S256x512_o0_384_S64x128 slices_S256x128_o0_0_S64x128 inb_S1x8x4x128x256_S1x1x1x128x256_0_6_0_0_0) <|
    And.intro (q_piece x0 x1 x2 x3 x4 x5 5 3 2560 192 rfl rfl (by decide) (by decide) inb_S5120x6144_S5120x512_0_2560 inb_S1x6144_S1x512_0_2560 slices_S256x512_o192_0_S64x128 slices_S256x512_o192_128_S64x128 slices_S256x512_o192_256_S64x128 slices_S256x512_o192_384_S64x128 slices_S256x128_o192_0_S64x128 inb_S1x8x4x128x256_S1x1x1x128x256_0_5_3_0_0) <|
    And.intro (q_piece x0 x1 x2 x3 x4 x5 5 2 2560 128 rfl rfl (by decide) (by decide) inb_S5120x6144_S5120x512_0_2560 inb_S1x6144_S1x512_0_2560 slices_S256x512_o128_0_S64x128 slices_S256x512_o128_128_S64x128 slices_S256x512_o128_256_S64x128 slices_S256x512_o128_384_S64x128 slices_S256x128_o128_0_S64x128 inb_S1x8x4x128x256_S1x1x1x128x256_0_5_2_0_0) <|
    And.intro (q_piece x0 x1 x2 x3 x4 x5 5 1 2560 64 rfl rfl (by decide) (by decide) inb_S5120x6144_S5120x512_0_2560 inb_S1x6144_S1x512_0_2560 slices_S256x512_o64_0_S64x128 slices_S256x512_o64_128_S64x128 slices_S256x512_o64_256_S64x128 slices_S256x512_o64_384_S64x128 slices_S256x128_o64_0_S64x128 inb_S1x8x4x128x256_S1x1x1x128x256_0_5_1_0_0) <|
    And.intro (q_piece x0 x1 x2 x3 x4 x5 5 0 2560 0 rfl rfl (by decide) (by decide) inb_S5120x6144_S5120x512_0_2560 inb_S1x6144_S1x512_0_2560 slices_S256x512_o0_0_S64x128 slices_S256x512_o0_128_S64x128 slices_S256x512_o0_256_S64x128 slices_S256x512_o0_384_S64x128 slices_S256x128_o0_0_S64x128 inb_S1x8x4x128x256_S1x1x1x128x256_0_5_0_0_0) <|
    And.intro (q_piece x0 x1 x2 x3 x4 x5 4 3 2048 192 rfl rfl (by decide) (by decide) inb_S5120x6144_S5120x512_0_2048 inb_S1x6144_S1x512_0_2048 slices_S256x512_o192_0_S64x128 slices_S256x512_o192_128_S64x128 slices_S256x512_o192_256_S64x128 slices_S256x512_o192_384_S64x128 slices_S256x128_o192_0_S64x128 inb_S1x8x4x128x256_S1x1x1x128x256_0_4_3_0_0) <|
    And.intro (q_piece x0 x1 x2 x3 x4 x5 4 2 2048 128 rfl rfl (by decide) (by decide) inb_S5120x6144_S5120x512_0_2048 inb_S1x6144_S1x512_0_2048 slices_S256x512_o128_0_S64x128 slices_S256x512_o128_128_S64x128 slices_S256x512_o128_256_S64x128 slices_S256x512_o128_384_S64x128 slices_S256x128_o128_0_S64x128 inb_S1x8x4x128x256_S1x1x1x128x256_0_4_2_0_0) <|
    And.intro (q_piece x0 x1 x2 x3 x4 x5 4 1 2048 64 rfl rfl (by decide) (by decide) inb_S5120x6144_S5120x512_0_2048 inb_S1x6144_S1x512_0_2048 slices_S256x512_o64_0_S64x128 slices_S256x512_o64_128_S64x128 slices_S256x512_o64_256_S64x128 slices_S256x512_o64_384_S64x128 slices_S256x128_o64_0_S64x128 inb_S1x8x4x128x256_S1x1x1x128x256_0_4_1_0_0) <|
    And.intro (q_piece x0 x1 x2 x3 x4 x5 4 0 2048 0 rfl rfl (by decide) (by decide) inb_S5120x6144_S5120x512_0_2048 inb_S1x6144_S1x512_0_2048 slices_S256x512_o0_0_S64x128 slices_S256x512_o0_128_S64x128 slices_S256x512_o0_256_S64x128 slices_S256x512_o0_384_S64x128 slices_S256x128_o0_0_S64x128 inb_S1x8x4x128x256_S1x1x1x128x256_0_4_0_0_0) <|
    And.intro (q_piece x0 x1 x2 x3 x4 x5 3 3 1536 192 rfl rfl (by decide) (by decide) inb_S5120x6144_S5120x512_0_1536 inb_S1x6144_S1x512_0_1536 slices_S256x512_o192_0_S64x128 slices_S256x512_o192_128_S64x128 slices_S256x512_o192_256_S64x128 slices_S256x512_o192_384_S64x128 slices_S256x128_o192_0_S64x128 inb_S1x8x4x128x256_S1x1x1x128x256_0_3_3_0_0) <|
    And.intro (q_piece x0 x1 x2 x3 x4 x5 3 2 1536 128 rfl rfl (by decide) (by decide) inb_S5120x6144_S5120x512_0_1536 inb_S1x6144_S1x512_0_1536 slices_S256x512_o128_0_S64x128 slices_S256x512_o128_128_S64x128 slices_S256x512_o128_256_S64x128 slices_S256x512_o128_384_S64x128 slices_S256x128_o128_0_S64x128 inb_S1x8x4x128x256_S1x1x1x128x256_0_3_2_0_0) <|
    And.intro (q_piece x0 x1 x2 x3 x4 x5 3 1 1536 64 rfl rfl (by decide) (by decide) inb_S5120x6144_S5120x512_0_1536 inb_S1x6144_S1x512_0_1536 slices_S256x512_o64_0_S64x128 slices_S256x512_o64_128_S64x128 slices_S256x512_o64_256_S64x128 slices_S256x512_o64_384_S64x128 slices_S256x128_o64_0_S64x128 inb_S1x8x4x128x256_S1x1x1x128x256_0_3_1_0_0) <|
    And.intro (q_piece x0 x1 x2 x3 x4 x5 3 0 1536 0 rfl rfl (by decide) (by decide) inb_S5120x6144_S5120x512_0_1536 inb_S1x6144_S1x512_0_1536 slices_S256x512_o0_0_S64x128 slices_S256x512_o0_128_S64x128 slices_S256x512_o0_256_S64x128 slices_S256x512_o0_384_S64x128 slices_S256x128_o0_0_S64x128 inb_S1x8x4x128x256_S1x1x1x128x256_0_3_0_0_0) <|
    And.intro (q_piece x0 x1 x2 x3 x4 x5 2 3 1024 192 rfl rfl (by decide) (by decide) inb_S5120x6144_S5120x512_0_1024 inb_S1x6144_S1x512_0_1024 slices_S256x512_o192_0_S64x128 slices_S256x512_o192_128_S64x128 slices_S256x512_o192_256_S64x128 slices_S256x512_o192_384_S64x128 slices_S256x128_o192_0_S64x128 inb_S1x8x4x128x256_S1x1x1x128x256_0_2_3_0_0) <|
    And.intro (q_piece x0 x1 x2 x3 x4 x5 2 2 1024 128 rfl rfl (by decide) (by decide) inb_S5120x6144_S5120x512_0_1024 inb_S1x6144_S1x512_0_1024 slices_S256x512_o128_0_S64x128 slices_S256x512_o128_128_S64x128 slices_S256x512_o128_256_S64x128 slices_S256x512_o128_384_S64x128 slices_S256x128_o128_0_S64x128 inb_S1x8x4x128x256_S1x1x1x128x256_0_2_2_0_0) <|
    And.intro (q_piece x0 x1 x2 x3 x4 x5 2 1 1024 64 rfl rfl (by decide) (by decide) inb_S5120x6144_S5120x512_0_1024 inb_S1x6144_S1x512_0_1024 slices_S256x512_o64_0_S64x128 slices_S256x512_o64_128_S64x128 slices_S256x512_o64_256_S64x128 slices_S256x512_o64_384_S64x128 slices_S256x128_o64_0_S64x128 inb_S1x8x4x128x256_S1x1x1x128x256_0_2_1_0_0) <|
    And.intro (q_piece x0 x1 x2 x3 x4 x5 2 0 1024 0 rfl rfl (by decide) (by decide) inb_S5120x6144_S5120x512_0_1024 inb_S1x6144_S1x512_0_1024 slices_S256x512_o0_0_S64x128 slices_S256x512_o0_128_S64x128 slices_S256x512_o0_256_S64x128 slices_S256x512_o0_384_S64x128 slices_S256x128_o0_0_S64x128 inb_S1x8x4x128x256_S1x1x1x128x256_0_2_0_0_0) <|
    And.intro (q_piece x0 x1 x2 x3 x4 x5 1 3 512 192 rfl rfl (by decide) (by decide) inb_S5120x6144_S5120x512_0_512 inb_S1x6144_S1x512_0_512 slices_S256x512_o192_0_S64x128 slices_S256x512_o192_128_S64x128 slices_S256x512_o192_256_S64x128 slices_S256x512_o192_384_S64x128 slices_S256x128_o192_0_S64x128 inb_S1x8x4x128x256_S1x1x1x128x256_0_1_3_0_0) <|
    And.intro (q_piece x0 x1 x2 x3 x4 x5 1 2 512 128 rfl rfl (by decide) (by decide) inb_S5120x6144_S5120x512_0_512 inb_S1x6144_S1x512_0_512 slices_S256x512_o128_0_S64x128 slices_S256x512_o128_128_S64x128 slices_S256x512_o128_256_S64x128 slices_S256x512_o128_384_S64x128 slices_S256x128_o128_0_S64x128 inb_S1x8x4x128x256_S1x1x1x128x256_0_1_2_0_0) <|
    And.intro (q_piece x0 x1 x2 x3 x4 x5 1 1 512 64 rfl rfl (by decide) (by decide) inb_S5120x6144_S5120x512_0_512 inb_S1x6144_S1x512_0_512 slices_S256x512_o64_0_S64x128 slices_S256x512_o64_128_S64x128 slices_S256x512_o64_256_S64x128 slices_S256x512_o64_384_S64x128 slices_S256x128_o64_0_S64x128 inb_S1x8x4x128x256_S1x1x1x128x256_0_1_1_0_0) <|
    And.intro (q_piece x0 x1 x2 x3 x4 x5 1 0 512 0 rfl rfl (by decide) (by decide) inb_S5120x6144_S5120x512_0_512 inb_S1x6144_S1x512_0_512 slices_S256x512_o0_0_S64x128 slices_S256x512_o0_128_S64x128 slices_S256x512_o0_256_S64x128 slices_S256x512_o0_384_S64x128 slices_S256x128_o0_0_S64x128 inb_S1x8x4x128x256_S1x1x1x128x256_0_1_0_0_0) <|
    And.intro (q_piece x0 x1 x2 x3 x4 x5 0 3 0 192 rfl rfl (by decide) (by decide) inb_S5120x6144_S5120x512_0_0 inb_S1x6144_S1x512_0_0 slices_S256x512_o192_0_S64x128 slices_S256x512_o192_128_S64x128 slices_S256x512_o192_256_S64x128 slices_S256x512_o192_384_S64x128 slices_S256x128_o192_0_S64x128 inb_S1x8x4x128x256_S1x1x1x128x256_0_0_3_0_0) <|
    And.intro (q_piece x0 x1 x2 x3 x4 x5 0 2 0 128 rfl rfl (by decide) (by decide) inb_S5120x6144_S5120x512_0_0 inb_S1x6144_S1x512_0_0 slices_S256x512_o128_0_S64x128 slices_S256x512_o128_128_S64x128 slices_S256x512_o128_256_S64x128 slices_S256x512_o128_384_S64x128 slices_S256x128_o128_0_S64x128 inb_S1x8x4x128x256_S1x1x1x128x256_0_0_2_0_0) <|
    And.intro (q_piece x0 x1 x2 x3 x4 x5 0 1 0 64 rfl rfl (by decide) (by decide) inb_S5120x6144_S5120x512_0_0 inb_S1x6144_S1x512_0_0 slices_S256x512_o64_0_S64x128 slices_S256x512_o64_128_S64x128 slices_S256x512_o64_256_S64x128 slices_S256x512_o64_384_S64x128 slices_S256x128_o64_0_S64x128 inb_S1x8x4x128x256_S1x1x1x128x256_0_0_1_0_0) <|
    And.intro (q_piece x0 x1 x2 x3 x4 x5 0 0 0 0 rfl rfl (by decide) (by decide) inb_S5120x6144_S5120x512_0_0 inb_S1x6144_S1x512_0_0 slices_S256x512_o0_0_S64x128 slices_S256x512_o0_128_S64x128 slices_S256x512_o0_256_S64x128 slices_S256x512_o0_384_S64x128 slices_S256x128_o0_0_S64x128 inb_S1x8x4x128x256_S1x1x1x128x256_0_0_0_0_0) trivial

set_option maxRecDepth 20000 in
/-- Every store of the keys' scales is a block of them. -/
theorem pieces10 : View.PiecesOf (kScaleBlk x0 x1 x2 x3 x4 x5) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.cst_400, kernelRun0_A.sl.cst_482,
    View.readAt_eq_ld, Memref.IsWhole.read_unread, codes_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, scales_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, ld64, ks7, ks6, ks5, ks4, ks3, ks2, ks1, ks0, vs7, vs6, vs5, vs4, vs3, vs2, vs1, vs0, prod1, prod2, prod3, prod4, cos, sin]
  exact
    And.intro (fun x => by have e := k_scale x0 x1 x2 x3 x4 x5 7 4608 384 (by decide) (by decide) (by decide) inb_S5120x6144_S5120x512_0_4608 inb_S1x6144_S1x512_0_4608 slices_S256x512_o0_384_S256x128 inb_S256x8_S256x1_0_7 _ rfl x; unfold accV at e; dsimp only; exact e) <|
    And.intro (fun x => by have e := k_scale x0 x1 x2 x3 x4 x5 6 4608 256 (by decide) (by decide) (by decide) inb_S5120x6144_S5120x512_0_4608 inb_S1x6144_S1x512_0_4608 slices_S256x512_o0_256_S256x128 inb_S256x8_S256x1_0_6 _ rfl x; unfold accV at e; dsimp only; exact e) <|
    And.intro (fun x => by have e := k_scale x0 x1 x2 x3 x4 x5 5 4608 128 (by decide) (by decide) (by decide) inb_S5120x6144_S5120x512_0_4608 inb_S1x6144_S1x512_0_4608 slices_S256x512_o0_128_S256x128 inb_S256x8_S256x1_0_5 _ rfl x; unfold accV at e; dsimp only; exact e) <|
    And.intro (fun x => by have e := k_scale x0 x1 x2 x3 x4 x5 4 4608 0 (by decide) (by decide) (by decide) inb_S5120x6144_S5120x512_0_4608 inb_S1x6144_S1x512_0_4608 slices_S256x512_o0_0_S256x128 inb_S256x8_S256x1_0_4 _ rfl x; unfold accV at e; dsimp only; exact e) <|
    And.intro (fun x => by have e := k_scale x0 x1 x2 x3 x4 x5 3 4096 384 (by decide) (by decide) (by decide) inb_S5120x6144_S5120x512_0_4096 inb_S1x6144_S1x512_0_4096 slices_S256x512_o0_384_S256x128 inb_S256x8_S256x1_0_3 _ rfl x; unfold accV at e; dsimp only; exact e) <|
    And.intro (fun x => by have e := k_scale x0 x1 x2 x3 x4 x5 2 4096 256 (by decide) (by decide) (by decide) inb_S5120x6144_S5120x512_0_4096 inb_S1x6144_S1x512_0_4096 slices_S256x512_o0_256_S256x128 inb_S256x8_S256x1_0_2 _ rfl x; unfold accV at e; dsimp only; exact e) <|
    And.intro (fun x => by have e := k_scale x0 x1 x2 x3 x4 x5 1 4096 128 (by decide) (by decide) (by decide) inb_S5120x6144_S5120x512_0_4096 inb_S1x6144_S1x512_0_4096 slices_S256x512_o0_128_S256x128 inb_S256x8_S256x1_0_1 _ rfl x; unfold accV at e; dsimp only; exact e) <|
    And.intro (fun x => by have e := k_scale x0 x1 x2 x3 x4 x5 0 4096 0 (by decide) (by decide) (by decide) inb_S5120x6144_S5120x512_0_4096 inb_S1x6144_S1x512_0_4096 slices_S256x512_o0_0_S256x128 inb_S256x8_S256x1_0_0 _ rfl x; unfold accV at e; dsimp only; exact e) trivial

set_option maxRecDepth 20000 in
/-- Every store of the values' scales is a block of them. -/
theorem pieces12 : View.PiecesOf (vScaleBlk x0 x1 x2 x3 x4 x5) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.cst_400, kernelRun0_A.sl.cst_482,
    View.readAt_eq_ld, Memref.IsWhole.read_unread, codes_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, scales_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, ld64, ks7, ks6, ks5, ks4, ks3, ks2, ks1, ks0, vs7, vs6, vs5, vs4, vs3, vs2, vs1, vs0, prod1, prod2, prod3, prod4, cos, sin]
  exact
    And.intro (fun x => by have e := v_scale x0 x1 x2 x3 x4 x5 7 5632 384 (by decide) (by decide) (by decide) inb_S5120x6144_S5120x512_0_5632 inb_S1x6144_S1x512_0_5632 slices_S256x512_o0_384_S256x128 inb_S256x8_S256x1_0_7 _ rfl x; unfold accV at e; dsimp only; exact e) <|
    And.intro (fun x => by have e := v_scale x0 x1 x2 x3 x4 x5 6 5632 256 (by decide) (by decide) (by decide) inb_S5120x6144_S5120x512_0_5632 inb_S1x6144_S1x512_0_5632 slices_S256x512_o0_256_S256x128 inb_S256x8_S256x1_0_6 _ rfl x; unfold accV at e; dsimp only; exact e) <|
    And.intro (fun x => by have e := v_scale x0 x1 x2 x3 x4 x5 5 5632 128 (by decide) (by decide) (by decide) inb_S5120x6144_S5120x512_0_5632 inb_S1x6144_S1x512_0_5632 slices_S256x512_o0_128_S256x128 inb_S256x8_S256x1_0_5 _ rfl x; unfold accV at e; dsimp only; exact e) <|
    And.intro (fun x => by have e := v_scale x0 x1 x2 x3 x4 x5 4 5632 0 (by decide) (by decide) (by decide) inb_S5120x6144_S5120x512_0_5632 inb_S1x6144_S1x512_0_5632 slices_S256x512_o0_0_S256x128 inb_S256x8_S256x1_0_4 _ rfl x; unfold accV at e; dsimp only; exact e) <|
    And.intro (fun x => by have e := v_scale x0 x1 x2 x3 x4 x5 3 5120 384 (by decide) (by decide) (by decide) inb_S5120x6144_S5120x512_0_5120 inb_S1x6144_S1x512_0_5120 slices_S256x512_o0_384_S256x128 inb_S256x8_S256x1_0_3 _ rfl x; unfold accV at e; dsimp only; exact e) <|
    And.intro (fun x => by have e := v_scale x0 x1 x2 x3 x4 x5 2 5120 256 (by decide) (by decide) (by decide) inb_S5120x6144_S5120x512_0_5120 inb_S1x6144_S1x512_0_5120 slices_S256x512_o0_256_S256x128 inb_S256x8_S256x1_0_2 _ rfl x; unfold accV at e; dsimp only; exact e) <|
    And.intro (fun x => by have e := v_scale x0 x1 x2 x3 x4 x5 1 5120 128 (by decide) (by decide) (by decide) inb_S5120x6144_S5120x512_0_5120 inb_S1x6144_S1x512_0_5120 slices_S256x512_o0_128_S256x128 inb_S256x8_S256x1_0_1 _ rfl x; unfold accV at e; dsimp only; exact e) <|
    And.intro (fun x => by have e := v_scale x0 x1 x2 x3 x4 x5 0 5120 0 (by decide) (by decide) (by decide) inb_S5120x6144_S5120x512_0_5120 inb_S1x6144_S1x512_0_5120 slices_S256x512_o0_0_S256x128 inb_S256x8_S256x1_0_0 _ rfl x; unfold accV at e; dsimp only; exact e) trivial

set_option maxRecDepth 20000 in
/-- Every store of the keys' codes in scratch memory is a block of them. -/
theorem piecesK : View.PiecesOf (kCodeBlk x0 x1 x2 x3 x4 x5) (kernelRun0_A.sl.HS0_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) := by
  unfold kernelRun0_A.sl.HS0_8
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.cst_400, kernelRun0_A.sl.cst_482,
    View.readAt_eq_ld, Memref.IsWhole.read_unread, codes_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, scales_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, ld64]
  exact
    And.intro (k_code x0 x1 x2 x3 x4 x5 7 4608 384 (by decide) (by decide) (by decide) inb_S5120x6144_S5120x512_0_4608 inb_S1x6144_S1x512_0_4608 slices_S256x512_o0_384_S256x128 inb_S256x8x128_S256x1x128_0_7_0) <|
    And.intro (k_code x0 x1 x2 x3 x4 x5 6 4608 256 (by decide) (by decide) (by decide) inb_S5120x6144_S5120x512_0_4608 inb_S1x6144_S1x512_0_4608 slices_S256x512_o0_256_S256x128 inb_S256x8x128_S256x1x128_0_6_0) <|
    And.intro (k_code x0 x1 x2 x3 x4 x5 5 4608 128 (by decide) (by decide) (by decide) inb_S5120x6144_S5120x512_0_4608 inb_S1x6144_S1x512_0_4608 slices_S256x512_o0_128_S256x128 inb_S256x8x128_S256x1x128_0_5_0) <|
    And.intro (k_code x0 x1 x2 x3 x4 x5 4 4608 0 (by decide) (by decide) (by decide) inb_S5120x6144_S5120x512_0_4608 inb_S1x6144_S1x512_0_4608 slices_S256x512_o0_0_S256x128 inb_S256x8x128_S256x1x128_0_4_0) <|
    And.intro (k_code x0 x1 x2 x3 x4 x5 3 4096 384 (by decide) (by decide) (by decide) inb_S5120x6144_S5120x512_0_4096 inb_S1x6144_S1x512_0_4096 slices_S256x512_o0_384_S256x128 inb_S256x8x128_S256x1x128_0_3_0) <|
    And.intro (k_code x0 x1 x2 x3 x4 x5 2 4096 256 (by decide) (by decide) (by decide) inb_S5120x6144_S5120x512_0_4096 inb_S1x6144_S1x512_0_4096 slices_S256x512_o0_256_S256x128 inb_S256x8x128_S256x1x128_0_2_0) <|
    And.intro (k_code x0 x1 x2 x3 x4 x5 1 4096 128 (by decide) (by decide) (by decide) inb_S5120x6144_S5120x512_0_4096 inb_S1x6144_S1x512_0_4096 slices_S256x512_o0_128_S256x128 inb_S256x8x128_S256x1x128_0_1_0) <|
    And.intro (k_code x0 x1 x2 x3 x4 x5 0 4096 0 (by decide) (by decide) (by decide) inb_S5120x6144_S5120x512_0_4096 inb_S1x6144_S1x512_0_4096 slices_S256x512_o0_0_S256x128 inb_S256x8x128_S256x1x128_0_0_0) trivial

set_option maxRecDepth 20000 in
/-- Every store of the values' codes in scratch memory is a block of them. -/
theorem piecesV : View.PiecesOf (vCodeBlk x0 x1 x2 x3 x4 x5) (kernelRun0_A.sl.HS1_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3) := by
  unfold kernelRun0_A.sl.HS1_8
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.cst_400, kernelRun0_A.sl.cst_482,
    View.readAt_eq_ld, Memref.IsWhole.read_unread, codes_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, scales_back c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5, ld64]
  exact
    And.intro (v_code x0 x1 x2 x3 x4 x5 7 5632 384 (by decide) (by decide) (by decide) inb_S5120x6144_S5120x512_0_5632 inb_S1x6144_S1x512_0_5632 slices_S256x512_o0_384_S256x128 inb_S256x8x128_S256x1x128_0_7_0) <|
    And.intro (v_code x0 x1 x2 x3 x4 x5 6 5632 256 (by decide) (by decide) (by decide) inb_S5120x6144_S5120x512_0_5632 inb_S1x6144_S1x512_0_5632 slices_S256x512_o0_256_S256x128 inb_S256x8x128_S256x1x128_0_6_0) <|
    And.intro (v_code x0 x1 x2 x3 x4 x5 5 5632 128 (by decide) (by decide) (by decide) inb_S5120x6144_S5120x512_0_5632 inb_S1x6144_S1x512_0_5632 slices_S256x512_o0_128_S256x128 inb_S256x8x128_S256x1x128_0_5_0) <|
    And.intro (v_code x0 x1 x2 x3 x4 x5 4 5632 0 (by decide) (by decide) (by decide) inb_S5120x6144_S5120x512_0_5632 inb_S1x6144_S1x512_0_5632 slices_S256x512_o0_0_S256x128 inb_S256x8x128_S256x1x128_0_4_0) <|
    And.intro (v_code x0 x1 x2 x3 x4 x5 3 5120 384 (by decide) (by decide) (by decide) inb_S5120x6144_S5120x512_0_5120 inb_S1x6144_S1x512_0_5120 slices_S256x512_o0_384_S256x128 inb_S256x8x128_S256x1x128_0_3_0) <|
    And.intro (v_code x0 x1 x2 x3 x4 x5 2 5120 256 (by decide) (by decide) (by decide) inb_S5120x6144_S5120x512_0_5120 inb_S1x6144_S1x512_0_5120 slices_S256x512_o0_256_S256x128 inb_S256x8x128_S256x1x128_0_2_0) <|
    And.intro (v_code x0 x1 x2 x3 x4 x5 1 5120 128 (by decide) (by decide) (by decide) inb_S5120x6144_S5120x512_0_5120 inb_S1x6144_S1x512_0_5120 slices_S256x512_o0_128_S256x128 inb_S256x8x128_S256x1x128_0_1_0) <|
    And.intro (v_code x0 x1 x2 x3 x4 x5 0 5120 0 (by decide) (by decide) (by decide) inb_S5120x6144_S5120x512_0_5120 inb_S1x6144_S1x512_0_5120 slices_S256x512_o0_0_S256x128 inb_S256x8x128_S256x1x128_0_0_0) trivial

end Cert.QkvBlock
-- ==== Proof.QkvOut.lean ====
/- Hand-written, untrusted: WHAT ONE GRID POINT LEAVES IN EVERY OUTPUT BLOCK: the functions of QkvBlock.lean. The codes of keys and values go
   through scratch memory, whole. -/
module

public import proofs.«01_k».proof.Proof.QkvStores

@[expose] public section

noncomputable section
namespace Cert.QkvBlock

open Idealize.ShloMosaic Idealize.SL.Sem Cert.RowQuant Cert.QkvTile Cert.QkvHead Cert.QkvIdeal Cert.QkvIdeal.Gen

variable (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x6144 .fp8e4m3) (harg3 : arg3.IsWhole) (arg4 : Memref sig .tc .vmem S1x6144 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S1x8x4x128x256 .bf16) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8x128 .fp8e4m3) (harg10 : arg10.IsWhole) (arg11 : Memref sig .tc .vmem S256x8 .f32) (harg11 : arg11.IsWhole) (arg12 : Memref sig .tc .vmem S256x8x128 .fp8e4m3) (harg12 : arg12.IsWhole) (arg13 : Memref sig .tc .vmem S256x8 .f32) (harg13 : arg13.IsWhole) (arg14 : Memref sig .tc .vmem S256x8x128 .f32) (harg14 : arg14.IsWhole) (arg15 : Memref sig .tc .vmem S256x8x128 .f32) (harg15 : arg15.IsWhole) (x0 : Vec Ideal S256x5120 .bf16) (x1 : Vec Ideal S1x5120 .f32) (x2 : Vec Ideal S5120x6144 .fp8e4m3) (x3 : Vec Ideal S1x6144 .f32) (x4 : Vec Ideal S256x64 .f32) (x5 : Vec Ideal S256x64 .f32)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5

theorem out6_apply (y : S1x8x4x128x256.Idx) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = qBlk x0 x1 x2 x3 x4 x5 y :=
  (View.read_writes_junk_apply_eq_canon VO0_6 y (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1).trans
    (View.canon_apply_of_pieces _ _ (pieces6 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y (cover0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y))

theorem out10_apply (y : S256x8.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = kScaleBlk x0 x1 x2 x3 x4 x5 y :=
  (View.read_writes_junk_apply_eq_canon VO0_10 y (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1).trans
    (View.canon_apply_of_pieces _ _ (pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y))

theorem out12_apply (y : S256x8.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = vScaleBlk x0 x1 x2 x3 x4 x5 y :=
  (View.read_writes_junk_apply_eq_canon VO0_12 y (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1).trans
    (View.canon_apply_of_pieces _ _ (pieces12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y))

theorem kBack (y : S256x8x128.Idx) :
    kernelRun0_A.sl.v1475 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = kCodeBlk x0 x1 x2 x3 x4 x5 y := by
  unfold kernelRun0_A.sl.v1475
  rw [View.readCov_eq_canon']
  dsimp only
  have hj : (Rect.unit (s := S256x8x128) ![0, 0, 0] S256x8x128.size inb_S256x8x128_S256x8x128_0_0_0).toLoadRect.idx y = y := by
    funext a
    refine Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [hj]
  exact View.canon_apply_of_pieces _ _ (piecesK c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y
    (View.cover_of_tiledL (kernelRun0_A.sl.HS0_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) S256x1x128.size (by sl_kernel_rfl) y)

theorem whole9 : View.PiecesOf (kCodeBlk x0 x1 x2 x3 x4 x5) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 := by
  unfold kernelRun0_A
  dsimp only
  refine ⟨fun x => ?_, trivial⟩
  have hx : (Rect.unit (s := S256x8x128) ![0, 0, 0] S256x8x128.size inb_S256x8x128_S256x8x128_0_0_0).emb x = x := by
    funext a
    refine Fin.ext ?_
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  dsimp only
  exact (kBack c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x).trans (congrArg (kCodeBlk x0 x1 x2 x3 x4 x5) hx.symm)

theorem out9_apply (y : S256x8x128.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = kCodeBlk x0 x1 x2 x3 x4 x5 y :=
  (View.read_writes_junk_apply_eq_canon VO0_9 y (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1).trans
    (View.canon_apply_of_pieces _ _ (whole9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y))

theorem vBack (y : S256x8x128.Idx) :
    kernelRun0_A.sl.v1656 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 y = vCodeBlk x0 x1 x2 x3 x4 x5 y := by
  unfold kernelRun0_A.sl.v1656
  rw [View.readCov_eq_canon']
  dsimp only
  have hj : (Rect.unit (s := S256x8x128) ![0, 0, 0] S256x8x128.size inb_S256x8x128_S256x8x128_0_0_0).toLoadRect.idx y = y := by
    funext a
    refine Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [hj]
  exact View.canon_apply_of_pieces _ _ (piecesV c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y
    (View.cover_of_tiledL (kernelRun0_A.sl.HS1_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3) S256x1x128.size (by sl_kernel_rfl) y)

theorem whole11 : View.PiecesOf (vCodeBlk x0 x1 x2 x3 x4 x5) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1 := by
  unfold kernelRun0_A
  dsimp only
  refine ⟨fun x => ?_, trivial⟩
  have hx : (Rect.unit (s := S256x8x128) ![0, 0, 0] S256x8x128.size inb_S256x8x128_S256x8x128_0_0_0).emb x = x := by
    funext a
    refine Fin.ext ?_
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  dsimp only
  exact (vBack c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x).trans (congrArg (vCodeBlk x0 x1 x2 x3 x4 x5) hx.symm)

theorem out11_apply (y : S256x8x128.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y = vCodeBlk x0 x1 x2 x3 x4 x5 y :=
  (View.read_writes_junk_apply_eq_canon VO0_11 y (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1).trans
    (View.canon_apply_of_pieces _ _ (whole11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).mem y (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y))

end Cert.QkvBlock
-- ==== Proof.QkvArray.lean ====
/- Hand-written, untrusted: WHAT THE KERNEL OF THE INPUT PROJECTIONS LEAVES IN ITS RESULTS, at an index: point `t` of the grid writes what
   belongs to rows `256 t … 256 t + 255`, from the same rows of the matrix and of the angles and from the whole weight. -/
module

public import proofs.«01_k».proof.Proof.QkvOut

@[expose] public section

noncomputable section
namespace Cert.QkvArray

open Idealize.ShloMosaic Idealize.ShloMosaic.TcCoe Idealize.SL.Sem Cert.RowQuant Cert.QkvTile Cert.QkvBlock Cert.QkvIdeal
  Cert.QkvIdeal.Gen

/-- Row `r` of the block of point `t`. -/
def rowOf (t : Fin cfg0.N) (r : Fin 256) : Fin 7680 :=
  ⟨256 * t.val + r.val, by have h : t.val < 30 := t.isLt; have := r.isLt; omega⟩

/-- Every row is a row of some point's block. -/
theorem exists_row (R : Fin 7680) : ∃ (t : Fin cfg0.N) (r : Fin 256), R = rowOf t r :=
  ⟨⟨R.val / 256, by have := R.isLt; show R.val / 256 < 30; omega⟩, ⟨R.val % 256, Nat.mod_lt _ (by omega)⟩,
    Fin.ext (show R.val = 256 * (R.val / 256) + R.val % 256 by omega)⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (r : Fin 256) (j : Fin 5120) :
    ((cfg0.win 0).blk t).view.emb (ValueIdx.ix2 r j) = ValueIdx.ix2 (rowOf t r) j := by
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 5120 + 1 * j.val = j.val; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (r : Fin 1) (j : Fin 5120) :
    ((cfg0.win 1).blk t).view.emb (ValueIdx.ix2 r j) = ValueIdx.ix2 (r) j := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 5120 + 1 * j.val = j.val; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (r : Fin 5120) (j : Fin 6144) :
    ((cfg0.win 2).blk t).view.emb (ValueIdx.ix2 r j) = ValueIdx.ix2 (r) j := by
  obtain ⟨e0, e1⟩ := idx2 t
  funext a; apply Fin.ext
  match a with
  | ⟨0, _⟩ => show win0_2.index t (0 : Fin 2) * 5120 + 1 * r.val = r.val; omega
  | ⟨1, _⟩ => show win0_2.index t (1 : Fin 2) * 6144 + 1 * j.val = j.val; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (r : Fin 1) (j : Fin 6144) :
    ((cfg0.win 3).blk t).view.emb (ValueIdx.ix2 r j) = ValueIdx.ix2 (r) j := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 6144 + 1 * j.val = j.val; omega

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem emb4 (t : Fin cfg0.N) (r : Fin 256) (j : Fin 64) :
    ((cfg0.win 4).blk t).view.emb (ValueIdx.ix2 r j) = ValueIdx.ix2 (rowOf t r) j := by
  obtain ⟨e0, e1⟩ := idx4 t
  funext a; apply Fin.ext
  match a with
  | ⟨0, _⟩ => show win0_4.index t (0 : Fin 2) * 256 + 1 * r.val = 256 * t.val + r.val; omega
  | ⟨1, _⟩ => show win0_4.index t (1 : Fin 2) * 64 + 1 * j.val = j.val; omega

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (r : Fin 256) (j : Fin 64) :
    ((cfg0.win 5).blk t).view.emb (ValueIdx.ix2 r j) = ValueIdx.ix2 (rowOf t r) j := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 64 + 1 * j.val = j.val; omega

theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem emb7 (t : Fin cfg0.N) (r : Fin 256) (j : Fin 5120) :
    ((cfg0.win 7).blk t).view.emb (ValueIdx.ix2 r j) = ValueIdx.ix2 (rowOf t r) j := by
  obtain ⟨e0, e1⟩ := idx7 t
  funext a; apply Fin.ext
  match a with
  | ⟨0, _⟩ => show win0_7.index t (0 : Fin 2) * 256 + 1 * r.val = 256 * t.val + r.val; omega
  | ⟨1, _⟩ => show win0_7.index t (1 : Fin 2) * 5120 + 1 * j.val = j.val; omega

theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem emb8 (t : Fin cfg0.N) (r : Fin 256) (j : Fin 1) :
    ((cfg0.win 8).blk t).view.emb (ValueIdx.ix2 r j) = ValueIdx.ix2 (rowOf t r) j := by
  obtain ⟨e0, e1⟩ := idx8 t
  funext a; apply Fin.ext
  match a with
  | ⟨0, _⟩ => show win0_8.index t (0 : Fin 2) * 256 + 1 * r.val = 256 * t.val + r.val; omega
  | ⟨1, _⟩ => show win0_8.index t (1 : Fin 2) * 1 + 1 * j.val = j.val; omega

theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

theorem emb10 (t : Fin cfg0.N) (r : Fin 256) (j : Fin 8) :
    ((cfg0.win 10).blk t).view.emb (ValueIdx.ix2 r j) = ValueIdx.ix2 (rowOf t r) j := by
  obtain ⟨e0, e1⟩ := idx10 t
  funext a; apply Fin.ext
  match a with
  | ⟨0, _⟩ => show win0_10.index t (0 : Fin 2) * 256 + 1 * r.val = 256 * t.val + r.val; omega
  | ⟨1, _⟩ => show win0_10.index t (1 : Fin 2) * 8 + 1 * j.val = j.val; omega

theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

theorem emb12 (t : Fin cfg0.N) (r : Fin 256) (j : Fin 8) :
    ((cfg0.win 12).blk t).view.emb (ValueIdx.ix2 r j) = ValueIdx.ix2 (rowOf t r) j := by
  obtain ⟨e0, e1⟩ := idx12 t
  funext a; apply Fin.ext
  match a with
  | ⟨0, _⟩ => show win0_12.index t (0 : Fin 2) * 256 + 1 * r.val = 256 * t.val + r.val; omega
  | ⟨1, _⟩ => show win0_12.index t (1 : Fin 2) * 8 + 1 * j.val = j.val; omega

theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)

theorem emb9 (t : Fin cfg0.N) (r : Fin 256) (h : Fin 8) (d : Fin 128) :
    ((cfg0.win 9).blk t).view.emb (ValueIdx.ix3 r h d) = ValueIdx.ix3 (rowOf t r) h d := by
  obtain ⟨e0, e1, e2⟩ := idx9 t
  funext a; apply Fin.ext
  match a with
  | ⟨0, _⟩ => show win0_9.index t (0 : Fin 3) * 256 + 1 * r.val = 256 * t.val + r.val; omega
  | ⟨1, _⟩ => show win0_9.index t (1 : Fin 3) * 8 + 1 * h.val = h.val; omega
  | ⟨2, _⟩ => show win0_9.index t (2 : Fin 3) * 128 + 1 * d.val = d.val; omega

theorem idx11 : ∀ t : Fin cfg0.N, win0_11.index t (0 : Fin 3) = t.val ∧ win0_11.index t (1 : Fin 3) = 0 ∧ win0_11.index t (2 : Fin 3) = 0 :=
  (by decide +kernel : ∀ t : Fin grid0.N, win0_11.index t (0 : Fin 3) = t.val ∧ win0_11.index t (1 : Fin 3) = 0 ∧ win0_11.index t (2 : Fin 3) = 0)

theorem emb11 (t : Fin cfg0.N) (r : Fin 256) (h : Fin 8) (d : Fin 128) :
    ((cfg0.win 11).blk t).view.emb (ValueIdx.ix3 r h d) = ValueIdx.ix3 (rowOf t r) h d := by
  obtain ⟨e0, e1, e2⟩ := idx11 t
  funext a; apply Fin.ext
  match a with
  | ⟨0, _⟩ => show win0_11.index t (0 : Fin 3) * 256 + 1 * r.val = 256 * t.val + r.val; omega
  | ⟨1, _⟩ => show win0_11.index t (1 : Fin 3) * 8 + 1 * h.val = h.val; omega
  | ⟨2, _⟩ => show win0_11.index t (2 : Fin 3) * 128 + 1 * d.val = d.val; omega

/-- The sequence of a block's rows. -/
def seqOf (t : Fin cfg0.N) : Fin 6 := ⟨t.val / 5, by have h : t.val < 30 := t.isLt; omega⟩

/-- The place of 64-row group `j` of a block among its sequence's twenty. -/
def grpOf (t : Fin cfg0.N) (j : Fin 4) : Fin 20 := ⟨t.val % 5 * 4 + j.val, by have := j.isLt; omega⟩

/-- Every sequence and group of rows is some point's. -/
theorem exists_grp (b : Fin 6) (n : Fin 20) : ∃ (t : Fin cfg0.N) (j : Fin 4), b = seqOf t ∧ n = grpOf t j :=
  ⟨⟨b.val * 5 + n.val / 4, by have := b.isLt; have := n.isLt; show b.val * 5 + n.val / 4 < 30; omega⟩, ⟨n.val % 4, Nat.mod_lt _ (by omega)⟩,
    Fin.ext (show b.val = (b.val * 5 + n.val / 4) / 5 by have := n.isLt; omega),
    Fin.ext (show n.val = (b.val * 5 + n.val / 4) % 5 * 4 + n.val % 4 by have := n.isLt; omega)⟩

theorem idx6 : ∀ t : Fin cfg0.N, win0_6.index t (0 : Fin 5) = t.val / 5 ∧ win0_6.index t (1 : Fin 5) = 0 ∧ win0_6.index t (2 : Fin 5) = t.val % 5
    ∧ win0_6.index t (3 : Fin 5) = 0 ∧ win0_6.index t (4 : Fin 5) = 0 :=
  (by decide +kernel : ∀ t : Fin grid0.N, win0_6.index t (0 : Fin 5) = t.val / 5 ∧ win0_6.index t (1 : Fin 5) = 0 ∧ win0_6.index t (2 : Fin 5) = t.val % 5
    ∧ win0_6.index t (3 : Fin 5) = 0 ∧ win0_6.index t (4 : Fin 5) = 0)

theorem emb6 (t : Fin cfg0.N) (n : Fin 8) (j : Fin 4) (d : Fin 128) (x : Fin 256) :
    ((cfg0.win 6).blk t).view.emb (ValueIdx.ix5 (0 : Fin 1) n j d x) = ValueIdx.ix5 (seqOf t) n (grpOf t j) d x := by
  obtain ⟨e0, e1, e2, e3, e4⟩ := idx6 t
  funext a; apply Fin.ext
  match a with
  | ⟨0, _⟩ => show win0_6.index t (0 : Fin 5) * 1 + 1 * 0 = t.val / 5; omega
  | ⟨1, _⟩ => show win0_6.index t (1 : Fin 5) * 8 + 1 * n.val = n.val; omega
  | ⟨2, _⟩ => show win0_6.index t (2 : Fin 5) * 4 + 1 * j.val = t.val % 5 * 4 + j.val; omega
  | ⟨3, _⟩ => show win0_6.index t (3 : Fin 5) * 128 + 1 * d.val = d.val; omega
  | ⟨4, _⟩ => show win0_6.index t (4 : Fin 5) * 256 + 1 * x.val = x.val; omega

/-- The row that stands at place `x` of group `n` of sequence `b`. -/
def qRow (b : Fin 6) (n : Fin 20) (x : Fin 256) : Fin 7680 :=
  ⟨b.val * 1280 + n.val * 64 + x.val % 64, by have := b.isLt; have := n.isLt; have := x.isLt; omega⟩

theorem rowOf_q (t : Fin cfg0.N) (j : Fin 4) (x : Fin 256) : rowOf t (qRowIx j x) = qRow (seqOf t) (grpOf t j) x := by
  apply Fin.ext
  show 256 * t.val + (j.val * 64 + x.val % 64) = t.val / 5 * 1280 + (t.val % 5 * 4 + j.val) * 64 + x.val % 64
  omega

variable (m : (ℓ : Loc nD τ sig) → Buf (Elt Ideal) ℓ)

theorem iblk0_apply (c : Dev nD) (t : Fin cfg0.N) (r : Fin 256) (j : Fin 5120) :
    iblk m c 0 t (ValueIdx.ix2 r j) = m ((c : Thread nD τ).loc main_arg0) (ValueIdx.ix2 (rowOf t r) j) := by
  show V m c main_arg0 (((cfg0.win 0).blk t).view.emb (ValueIdx.ix2 r j)) = _
  rw [emb0]

theorem iblk1_apply (c : Dev nD) (t : Fin cfg0.N) (r : Fin 1) (j : Fin 5120) :
    iblk m c 1 t (ValueIdx.ix2 r j) = m ((c : Thread nD τ).loc main_arg1) (ValueIdx.ix2 (r) j) := by
  show V m c main_arg1 (((cfg0.win 1).blk t).view.emb (ValueIdx.ix2 r j)) = _
  rw [emb1]

theorem iblk1_eq (c : Dev nD) (t : Fin cfg0.N) : iblk m c 1 t = m ((c : Thread nD τ).loc main_arg1) := by
  funext y
  obtain ⟨r, j, rfl⟩ : ∃ (r : Fin 1) (j : Fin 5120), y = ValueIdx.ix2 r j := ⟨y 0, y 1, ValueIdx.eq_ix2 y⟩
  exact iblk1_apply m c t r j

theorem iblk2_apply (c : Dev nD) (t : Fin cfg0.N) (r : Fin 5120) (j : Fin 6144) :
    iblk m c 2 t (ValueIdx.ix2 r j) = m ((c : Thread nD τ).loc main_arg2) (ValueIdx.ix2 (r) j) := by
  show V m c main_arg2 (((cfg0.win 2).blk t).view.emb (ValueIdx.ix2 r j)) = _
  rw [emb2]

theorem iblk2_eq (c : Dev nD) (t : Fin cfg0.N) : iblk m c 2 t = m ((c : Thread nD τ).loc main_arg2) := by
  funext y
  obtain ⟨r, j, rfl⟩ : ∃ (r : Fin 5120) (j : Fin 6144), y = ValueIdx.ix2 r j := ⟨y 0, y 1, ValueIdx.eq_ix2 y⟩
  exact iblk2_apply m c t r j

theorem iblk3_apply (c : Dev nD) (t : Fin cfg0.N) (r : Fin 1) (j : Fin 6144) :
    iblk m c 3 t (ValueIdx.ix2 r j) = m ((c : Thread nD τ).loc main_arg3) (ValueIdx.ix2 (r) j) := by
  show V m c main_arg3 (((cfg0.win 3).blk t).view.emb (ValueIdx.ix2 r j)) = _
  rw [emb3]

theorem iblk3_eq (c : Dev nD) (t : Fin cfg0.N) : iblk m c 3 t = m ((c : Thread nD τ).loc main_arg3) := by
  funext y
  obtain ⟨r, j, rfl⟩ : ∃ (r : Fin 1) (j : Fin 6144), y = ValueIdx.ix2 r j := ⟨y 0, y 1, ValueIdx.eq_ix2 y⟩
  exact iblk3_apply m c t r j

theorem iblk4_apply (c : Dev nD) (t : Fin cfg0.N) (r : Fin 256) (j : Fin 64) :
    iblk m c 4 t (ValueIdx.ix2 r j) = m ((c : Thread nD τ).loc main_arg4) (ValueIdx.ix2 (rowOf t r) j) := by
  show V m c main_arg4 (((cfg0.win 4).blk t).view.emb (ValueIdx.ix2 r j)) = _
  rw [emb4]

theorem iblk5_apply (c : Dev nD) (t : Fin cfg0.N) (r : Fin 256) (j : Fin 64) :
    iblk m c 5 t (ValueIdx.ix2 r j) = m ((c : Thread nD τ).loc main_arg5) (ValueIdx.ix2 (rowOf t r) j) := by
  show V m c main_arg5 (((cfg0.win 5).blk t).view.emb (ValueIdx.ix2 r j)) = _
  rw [emb5]

/-! ## A row of a block is a row of the arrays -/

theorem norm_row (c : Dev nD) (t : Fin cfg0.N) (r : Fin 256) :
    normAt (M := 256) (iblk m c 0 t) (iblk m c 1 t) r = normAt (M := 7680) (m ((c : Thread nD τ).loc main_arg0)) (m ((c : Thread nD τ).loc main_arg1)) (rowOf t r) :=
  normAt_congr _ _ _ _ r (rowOf t r) (fun k => iblk0_apply m c t r k) (iblk1_eq m c t)

theorem head_row (c : Dev nD) (t : Fin cfg0.N) (r : Fin 256) (o : Fin 48) :
    headAt (M := 256) (iblk m c 0 t) (iblk m c 1 t) (iblk m c 2 t) (iblk m c 3 t) r o
      = headAt (M := 7680) (m ((c : Thread nD τ).loc main_arg0)) (m ((c : Thread nD τ).loc main_arg1)) (m ((c : Thread nD τ).loc main_arg2)) (m ((c : Thread nD τ).loc main_arg3)) (rowOf t r) o :=
  headAt_congr _ _ _ _ _ _ _ _ r (rowOf t r) o o (fun k => iblk0_apply m c t r k) (iblk1_eq m c t) (iblk2_eq m c t) (iblk3_eq m c t) rfl

theorem rot_row (c : Dev nD) (t : Fin cfg0.N) (r : Fin 256) (o : Fin 48) :
    rotAt (M := 256) (iblk m c 0 t) (iblk m c 1 t) (iblk m c 2 t) (iblk m c 3 t) (iblk m c 4 t) (iblk m c 5 t) r o
      = rotAt (M := 7680) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t r) o :=
  rotAt_congr _ _ _ _ _ _ _ _ _ _ _ _ r (rowOf t r) o o (fun k => iblk0_apply m c t r k) (iblk1_eq m c t) (iblk2_eq m c t) (iblk3_eq m c t)
    (fun e => iblk4_apply m c t r e) (fun e => iblk5_apply m c t r e) rfl

theorem flush6 : ∀ t : Fin cfg0.N, (cfg0.win 6).flush t = true :=
  (by decide +kernel : ∀ t : Fin grid0.N, (cfg0.win 6).flush t = true)

theorem flush7 : ∀ t : Fin cfg0.N, (cfg0.win 7).flush t = true :=
  (by decide +kernel : ∀ t : Fin grid0.N, (cfg0.win 7).flush t = true)

theorem flush8 : ∀ t : Fin cfg0.N, (cfg0.win 8).flush t = true :=
  (by decide +kernel : ∀ t : Fin grid0.N, (cfg0.win 8).flush t = true)

theorem flush9 : ∀ t : Fin cfg0.N, (cfg0.win 9).flush t = true :=
  (by decide +kernel : ∀ t : Fin grid0.N, (cfg0.win 9).flush t = true)

theorem flush10 : ∀ t : Fin cfg0.N, (cfg0.win 10).flush t = true :=
  (by decide +kernel : ∀ t : Fin grid0.N, (cfg0.win 10).flush t = true)

theorem flush11 : ∀ t : Fin cfg0.N, (cfg0.win 11).flush t = true :=
  (by decide +kernel : ∀ t : Fin grid0.N, (cfg0.win 11).flush t = true)

theorem flush12 : ∀ t : Fin cfg0.N, (cfg0.win 12).flush t = true :=
  (by decide +kernel : ∀ t : Fin grid0.N, (cfg0.win 12).flush t = true)

set_option maxRecDepth 20000 in
/-- The codes. -/
theorem final7 (c : Dev nD) (R : Fin 7680) (j : Fin 5120) :
    (dats m 0 c).arrAt 7 cfg0.N (ValueIdx.ix2 R j) = code (rowScale (normAt (M := 7680) (m ((c : Thread nD τ).loc main_arg0)) (m ((c : Thread nD τ).loc main_arg1)) R)) (normAt (M := 7680) (m ((c : Thread nD τ).loc main_arg0)) (m ((c : Thread nD τ).loc main_arg1)) R j) := by
  obtain ⟨t, r, rfl⟩ := exists_row R
  have b := congrFun (Cert.QkvIdeal.Value.blocks7 m c t (flush7 t)) (ValueIdx.ix2 r j)
  rw [Cert.QkvIdeal.Value.flushed7_A] at b
  have b' : (dats m 0 c).arrAt 7 cfg0.N (((cfg0.win 7).blk t).view.emb (ValueIdx.ix2 r j))
      = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix2 r j) := b
  rw [emb7, out7_apply] at b'
  refine b'.trans ?_
  show code (rowScale (normAt (M := 256) (iblk m c 0 t) (iblk m c 1 t) r)) (normAt (M := 256) (iblk m c 0 t) (iblk m c 1 t) r j) = _
  rw [norm_row]

set_option maxRecDepth 20000 in
/-- The scales. -/
theorem final8 (c : Dev nD) (R : Fin 7680) (j : Fin 1) :
    (dats m 0 c).arrAt 8 cfg0.N (ValueIdx.ix2 R j) = rowScale (normAt (M := 7680) (m ((c : Thread nD τ).loc main_arg0)) (m ((c : Thread nD τ).loc main_arg1)) R) := by
  obtain ⟨t, r, rfl⟩ := exists_row R
  have b := congrFun (Cert.QkvIdeal.Value.blocks8 m c t (flush8 t)) (ValueIdx.ix2 r j)
  rw [Cert.QkvIdeal.Value.flushed8_A] at b
  have b' : (dats m 0 c).arrAt 8 cfg0.N (((cfg0.win 8).blk t).view.emb (ValueIdx.ix2 r j))
      = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix2 r j) := b
  rw [emb8, out8_apply] at b'
  refine b'.trans ?_
  show rowScale (normAt (M := 256) (iblk m c 0 t) (iblk m c 1 t) r) = _
  rw [norm_row]

set_option maxRecDepth 20000 in
/-- The keys' codes. -/
theorem final9 (c : Dev nD) (R : Fin 7680) (h : Fin 8) (d : Fin 128) :
    (dats m 0 c).arrAt 9 cfg0.N (ValueIdx.ix3 R h d) = code (rowScale (rotAt (M := 7680) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R ⟨32 + h.val, by have := h.isLt; omega⟩)) ((rotAt (M := 7680) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R ⟨32 + h.val, by have := h.isLt; omega⟩) d) := by
  obtain ⟨t, r, rfl⟩ := exists_row R
  have b := congrFun (Cert.QkvIdeal.Value.blocks9 m c t (flush9 t)) (ValueIdx.ix3 r h d)
  rw [Cert.QkvIdeal.Value.flushed9_A] at b
  have b' : (dats m 0 c).arrAt 9 cfg0.N (((cfg0.win 9).blk t).view.emb (ValueIdx.ix3 r h d))
      = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix3 r h d) := b
  rw [emb9, out9_apply] at b'
  refine b'.trans ?_
  show code (rowScale (rotAt (M := 256) (iblk m c 0 t) (iblk m c 1 t) (iblk m c 2 t) (iblk m c 3 t) (iblk m c 4 t) (iblk m c 5 t) r ⟨32 + h.val, _⟩)) (rotAt (M := 256) (iblk m c 0 t) (iblk m c 1 t) (iblk m c 2 t) (iblk m c 3 t) (iblk m c 4 t) (iblk m c 5 t) r ⟨32 + h.val, _⟩ d) = _
  rw [rot_row]

set_option maxRecDepth 20000 in
/-- The keys' scales. -/
theorem final10 (c : Dev nD) (R : Fin 7680) (h : Fin 8) :
    (dats m 0 c).arrAt 10 cfg0.N (ValueIdx.ix2 R h) = rowScale (rotAt (M := 7680) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R ⟨32 + h.val, by have := h.isLt; omega⟩) := by
  obtain ⟨t, r, rfl⟩ := exists_row R
  have b := congrFun (Cert.QkvIdeal.Value.blocks10 m c t (flush10 t)) (ValueIdx.ix2 r h)
  rw [Cert.QkvIdeal.Value.flushed10_A] at b
  have b' : (dats m 0 c).arrAt 10 cfg0.N (((cfg0.win 10).blk t).view.emb (ValueIdx.ix2 r h))
      = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix2 r h) := b
  rw [emb10, out10_apply] at b'
  refine b'.trans ?_
  show rowScale (rotAt (M := 256) (iblk m c 0 t) (iblk m c 1 t) (iblk m c 2 t) (iblk m c 3 t) (iblk m c 4 t) (iblk m c 5 t) r ⟨32 + h.val, _⟩) = _
  rw [rot_row]

set_option maxRecDepth 20000 in
/-- The values' codes. -/
theorem final11 (c : Dev nD) (R : Fin 7680) (h : Fin 8) (d : Fin 128) :
    (dats m 0 c).arrAt 11 cfg0.N (ValueIdx.ix3 R h d) = code (rowScale (headAt (M := 7680) (m ((c : Thread nD τ).loc main_arg0)) (m ((c : Thread nD τ).loc main_arg1)) (m ((c : Thread nD τ).loc main_arg2)) (m ((c : Thread nD τ).loc main_arg3)) R ⟨40 + h.val, by have := h.isLt; omega⟩)) ((headAt (M := 7680) (m ((c : Thread nD τ).loc main_arg0)) (m ((c : Thread nD τ).loc main_arg1)) (m ((c : Thread nD τ).loc main_arg2)) (m ((c : Thread nD τ).loc main_arg3)) R ⟨40 + h.val, by have := h.isLt; omega⟩) d) := by
  obtain ⟨t, r, rfl⟩ := exists_row R
  have b := congrFun (Cert.QkvIdeal.Value.blocks11 m c t (flush11 t)) (ValueIdx.ix3 r h d)
  rw [Cert.QkvIdeal.Value.flushed11_A] at b
  have b' : (dats m 0 c).arrAt 11 cfg0.N (((cfg0.win 11).blk t).view.emb (ValueIdx.ix3 r h d))
      = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix3 r h d) := b
  rw [emb11, out11_apply] at b'
  refine b'.trans ?_
  show code (rowScale (headAt (M := 256) (iblk m c 0 t) (iblk m c 1 t) (iblk m c 2 t) (iblk m c 3 t) r ⟨40 + h.val, _⟩)) (headAt (M := 256) (iblk m c 0 t) (iblk m c 1 t) (iblk m c 2 t) (iblk m c 3 t) r ⟨40 + h.val, _⟩ d) = _
  rw [head_row]

set_option maxRecDepth 20000 in
/-- The values' scales. -/
theorem final12 (c : Dev nD) (R : Fin 7680) (h : Fin 8) :
    (dats m 0 c).arrAt 12 cfg0.N (ValueIdx.ix2 R h) = rowScale (headAt (M := 7680) (m ((c : Thread nD τ).loc main_arg0)) (m ((c : Thread nD τ).loc main_arg1)) (m ((c : Thread nD τ).loc main_arg2)) (m ((c : Thread nD τ).loc main_arg3)) R ⟨40 + h.val, by have := h.isLt; omega⟩) := by
  obtain ⟨t, r, rfl⟩ := exists_row R
  have b := congrFun (Cert.QkvIdeal.Value.blocks12 m c t (flush12 t)) (ValueIdx.ix2 r h)
  rw [Cert.QkvIdeal.Value.flushed12_A] at b
  have b' : (dats m 0 c).arrAt 12 cfg0.N (((cfg0.win 12).blk t).view.emb (ValueIdx.ix2 r h))
      = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix2 r h) := b
  rw [emb12, out12_apply] at b'
  refine b'.trans ?_
  show rowScale (headAt (M := 256) (iblk m c 0 t) (iblk m c 1 t) (iblk m c 2 t) (iblk m c 3 t) r ⟨40 + h.val, _⟩) = _
  rw [head_row]

set_option maxRecDepth 20000 in
/-- The queries. -/
theorem final6 (c : Dev nD) (b : Fin 6) (n : Fin 8) (g : Fin 20) (d : Fin 128) (x : Fin 256) :
    (dats m 0 c).arrAt 6 cfg0.N (ValueIdx.ix5 b n g d x) = rotAt (M := 7680) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (qRow b g x) (qHeadIx n x) d := by
  obtain ⟨t, j, rfl, rfl⟩ := exists_grp b g
  have e := congrFun (Cert.QkvIdeal.Value.blocks6 m c t (flush6 t)) (ValueIdx.ix5 (0 : Fin 1) n j d x)
  rw [Cert.QkvIdeal.Value.flushed6_A] at e
  have e' : (dats m 0 c).arrAt 6 cfg0.N (((cfg0.win 6).blk t).view.emb (ValueIdx.ix5 (0 : Fin 1) n j d x))
      = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 1 t) (iblk m c 2 t) (iblk m c 3 t) (iblk m c 4 t) (iblk m c 5 t) (ValueIdx.ix5 (0 : Fin 1) n j d x) := e
  rw [emb6, out6_apply] at e'
  refine e'.trans ?_
  show rotAt (M := 256) (iblk m c 0 t) (iblk m c 1 t) (iblk m c 2 t) (iblk m c 3 t) (iblk m c 4 t) (iblk m c 5 t) (qRowIx j x) (qHeadIx n x) d = _
  rw [rot_row, rowOf_q]

end Cert.QkvArray
-- ==== Proof.QkvRefRun.lean ====
/- Hand-written, untrusted: THE RUN OF THE INPUT PROJECTIONS' REFERENCE: its one call leaves `G6` … `G12` of the arguments, and the host
   operations after it lay three of them out as results. -/
module

public import proofs.«01_k».proof.Proof.Gen.QkvReferenceIdeal.Frame
public import proofs.«01_k».proof.Proof.Gen.QkvReferenceIdeal.Points
public import Idealize.ShloMosaic.Lib.Pipeline.Value
public import Idealize.ShloMosaic.Lib.ValueIdxRank6
public import proofs.«01_k».proof.Proof.Softmax

@[expose] public section

noncomputable section
namespace Cert.QkvRefRun

open Cert.QkvReferenceIdeal Cert.QkvReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

theorem hz3 : (![0, 0, 0] : Fin 3 → Nat) = fun _ => 0 := funext fun a => by fin_cases a <;> rfl

/-! ## Every window's block is its array -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S7680x5120.Idx) : ((cfg0.win 0).blk t).view.emb j = j := by
  obtain ⟨e0, e1⟩ := idx_zero0 t
  funext a; apply Fin.ext
  match a with
  | ⟨0, _⟩ => show win0_0.index t (0 : Fin 2) * 7680 + 1 * (j 0).val = (j 0).val; omega
  | ⟨1, _⟩ => show win0_0.index t (1 : Fin 2) * 5120 + 1 * (j 1).val = (j 1).val; omega

theorem iblk0_eq (c : Dev nD) (t : Fin cfg0.N) : iblk m c 0 t = m ((c : Thread nD τ).loc main_arg0) := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S1x5120.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 5120 + 1 * (j 1).val = (j 1).val; omega

theorem iblk1_eq (c : Dev nD) (t : Fin cfg0.N) : iblk m c 1 t = m ((c : Thread nD τ).loc main_arg1) := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S5120x6144.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 6144 + 1 * (j 1).val = (j 1).val; omega

theorem iblk2_eq (c : Dev nD) (t : Fin cfg0.N) : iblk m c 2 t = m ((c : Thread nD τ).loc main_arg2) := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S1x6144.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 6144 + 1 * (j 1).val = (j 1).val; omega

theorem iblk3_eq (c : Dev nD) (t : Fin cfg0.N) : iblk m c 3 t = m ((c : Thread nD τ).loc main_arg3) := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S7680x64.Idx) : ((cfg0.win 4).blk t).view.emb j = j := by
  obtain ⟨e0, e1⟩ := idx_zero4 t
  funext a; apply Fin.ext
  match a with
  | ⟨0, _⟩ => show win0_4.index t (0 : Fin 2) * 7680 + 1 * (j 0).val = (j 0).val; omega
  | ⟨1, _⟩ => show win0_4.index t (1 : Fin 2) * 64 + 1 * (j 1).val = (j 1).val; omega

theorem iblk4_eq (c : Dev nD) (t : Fin cfg0.N) : iblk m c 4 t = m ((c : Thread nD τ).loc main_arg4) := by
  funext j; show V m c main_arg4 (((cfg0.win 4).blk t).view.emb j) = V m c main_arg4 j; rw [emb4]

theorem idx_zero5 : ∀ t : Fin cfg0.N, win0_5.index t (0 : Fin 2) = 0 ∧ win0_5.index t (1 : Fin 2) = 0 :=
  (by decide +kernel : ∀ t : Fin grid0.N, _)

theorem emb5 (t : Fin cfg0.N) (j : S7680x64.Idx) : ((cfg0.win 5).blk t).view.emb j = j := by
  obtain ⟨e0, e1⟩ := idx_zero5 t
  funext a; apply Fin.ext
  match a with
  | ⟨0, _⟩ => show win0_5.index t (0 : Fin 2) * 7680 + 1 * (j 0).val = (j 0).val; omega
  | ⟨1, _⟩ => show win0_5.index t (1 : Fin 2) * 64 + 1 * (j 1).val = (j 1).val; omega

theorem iblk5_eq (c : Dev nD) (t : Fin cfg0.N) : iblk m c 5 t = m ((c : Thread nD τ).loc main_arg5) := by
  funext j; show V m c main_arg5 (((cfg0.win 5).blk t).view.emb j) = V m c main_arg5 j; rw [emb5]

theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S7680x32x128.Idx) : ((cfg0.win 6).blk t).view.emb j = j := by
  obtain ⟨e0, e1, e2⟩ := idx_zero6 t
  funext a; apply Fin.ext
  match a with
  | ⟨0, _⟩ => show win0_6.index t (0 : Fin 3) * 7680 + 1 * (j 0).val = (j 0).val; omega
  | ⟨1, _⟩ => show win0_6.index t (1 : Fin 3) * 32 + 1 * (j 1).val = (j 1).val; omega
  | ⟨2, _⟩ => show win0_6.index t (2 : Fin 3) * 128 + 1 * (j 2).val = (j 2).val; omega

theorem idx_zero7 : ∀ t : Fin cfg0.N, win0_7.index t (0 : Fin 2) = 0 ∧ win0_7.index t (1 : Fin 2) = 0 :=
  (by decide +kernel : ∀ t : Fin grid0.N, _)

theorem emb7 (t : Fin cfg0.N) (j : S7680x5120.Idx) : ((cfg0.win 7).blk t).view.emb j = j := by
  obtain ⟨e0, e1⟩ := idx_zero7 t
  funext a; apply Fin.ext
  match a with
  | ⟨0, _⟩ => show win0_7.index t (0 : Fin 2) * 7680 + 1 * (j 0).val = (j 0).val; omega
  | ⟨1, _⟩ => show win0_7.index t (1 : Fin 2) * 5120 + 1 * (j 1).val = (j 1).val; omega

theorem idx_zero8 : ∀ t : Fin cfg0.N, win0_8.index t (0 : Fin 2) = 0 ∧ win0_8.index t (1 : Fin 2) = 0 :=
  (by decide +kernel : ∀ t : Fin grid0.N, _)

theorem emb8 (t : Fin cfg0.N) (j : S7680x1.Idx) : ((cfg0.win 8).blk t).view.emb j = j := by
  obtain ⟨e0, e1⟩ := idx_zero8 t
  funext a; apply Fin.ext
  match a with
  | ⟨0, _⟩ => show win0_8.index t (0 : Fin 2) * 7680 + 1 * (j 0).val = (j 0).val; omega
  | ⟨1, _⟩ => show win0_8.index t (1 : Fin 2) * 1 + 1 * (j 1).val = (j 1).val; omega

theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (j : S7680x8x128.Idx) : ((cfg0.win 9).blk t).view.emb j = j := by
  obtain ⟨e0, e1, e2⟩ := idx_zero9 t
  funext a; apply Fin.ext
  match a with
  | ⟨0, _⟩ => show win0_9.index t (0 : Fin 3) * 7680 + 1 * (j 0).val = (j 0).val; omega
  | ⟨1, _⟩ => show win0_9.index t (1 : Fin 3) * 8 + 1 * (j 1).val = (j 1).val; omega
  | ⟨2, _⟩ => show win0_9.index t (2 : Fin 3) * 128 + 1 * (j 2).val = (j 2).val; omega

theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

theorem emb10 (t : Fin cfg0.N) (j : S7680x8x1.Idx) : ((cfg0.win 10).blk t).view.emb j = j := by
  obtain ⟨e0, e1, e2⟩ := idx_zero10 t
  funext a; apply Fin.ext
  match a with
  | ⟨0, _⟩ => show win0_10.index t (0 : Fin 3) * 7680 + 1 * (j 0).val = (j 0).val; omega
  | ⟨1, _⟩ => show win0_10.index t (1 : Fin 3) * 8 + 1 * (j 1).val = (j 1).val; omega
  | ⟨2, _⟩ => show win0_10.index t (2 : Fin 3) * 1 + 1 * (j 2).val = (j 2).val; omega

theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (j : S7680x8x128.Idx) : ((cfg0.win 11).blk t).view.emb j = j := by
  obtain ⟨e0, e1, e2⟩ := idx_zero11 t
  funext a; apply Fin.ext
  match a with
  | ⟨0, _⟩ => show win0_11.index t (0 : Fin 3) * 7680 + 1 * (j 0).val = (j 0).val; omega
  | ⟨1, _⟩ => show win0_11.index t (1 : Fin 3) * 8 + 1 * (j 1).val = (j 1).val; omega
  | ⟨2, _⟩ => show win0_11.index t (2 : Fin 3) * 128 + 1 * (j 2).val = (j 2).val; omega

theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (j : S7680x8x1.Idx) : ((cfg0.win 12).blk t).view.emb j = j := by
  obtain ⟨e0, e1, e2⟩ := idx_zero12 t
  funext a; apply Fin.ext
  match a with
  | ⟨0, _⟩ => show win0_12.index t (0 : Fin 3) * 7680 + 1 * (j 0).val = (j 0).val; omega
  | ⟨1, _⟩ => show win0_12.index t (1 : Fin 3) * 8 + 1 * (j 1).val = (j 1).val; omega
  | ⟨2, _⟩ => show win0_12.index t (2 : Fin 3) * 1 + 1 * (j 2).val = (j 2).val; omega

/-! ## The call's results -/

variable (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32)

theorem ld0 : View.ld x0 r0_0 = x0 := View.ld_unit_zero (S := S7680x5120) hz2 _ x0
theorem ld1 : View.ld x1 r0_1 = x1 := View.ld_unit_zero (S := S1x5120) hz2 _ x1
theorem ld2 : View.ld x2 r0_3 = x2 := View.ld_unit_zero (S := S5120x6144) hz2 _ x2
theorem ld3 : View.ld x3 r0_4 = x3 := View.ld_unit_zero (S := S1x6144) hz2 _ x3
theorem ld4 : View.ld x4 r0_5 = x4 := View.ld_unit_zero (S := S7680x64) hz2 _ x4

/-- The rotated queries, from the arrays the call reads. -/
abbrev G6 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x32x128 .bf16 :=
  k0_pay13 (k0_pay8 x0 x1 x2) x3 x4 x5

theorem out6_eq : out0_6 (F := Ideal) x0 x1 x2 x3 x4 x5 = G6 x0 x1 x2 x3 x4 x5 := by
  unfold out0_6 k0_pay18
  rw [View.canon_unit_zero hz3]
  simp only [ld0, ld1, ld2, ld3, ld4]

theorem cut6 (t : Fin cfg0.N) (X : Vec Ideal S7680x32x128 .bf16) :
    (cfg0.win 6).cut (grid0.coords t) X = ((cfg0.win 6).blk t).view.read (Elt Ideal) X := by
  funext j
  show X j = X (((cfg0.win 6).blk t).view.emb j)
  rw [emb6]

theorem flushed6 (c : Dev nD) (t : Fin cfg0.N) :
    (dats m 0 c).flushed 6 t = ((cfg0.win 6).blk t).view.read (Elt Ideal) (G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6, out6_eq, iblk0_eq, iblk1_eq, iblk2_eq, iblk3_eq, iblk4_eq, iblk5_eq]
  exact cut6 t _

theorem covered6 (i : S7680x32x128.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed6 m c t) covered6

/-- The rows' codes, from the arrays the call reads. -/
abbrev G7 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x5120 .fp8e4m3 :=
  k0_pay7 x0 x1

theorem out7_eq : out0_7 (F := Ideal) x0 x1 x2 x3 x4 x5 = G7 x0 x1 x2 x3 x4 x5 := by
  unfold out0_7
  rw [View.canon_unit_zero hz2]
  simp only [ld0, ld1]

theorem cut7 (t : Fin cfg0.N) (X : Vec Ideal S7680x5120 .fp8e4m3) :
    (cfg0.win 7).cut (grid0.coords t) X = ((cfg0.win 7).blk t).view.read (Elt Ideal) X := by
  funext j
  show X j = X (((cfg0.win 7).blk t).view.emb j)
  rw [emb7]

theorem flushed7 (c : Dev nD) (t : Fin cfg0.N) :
    (dats m 0 c).flushed 7 t = ((cfg0.win 7).blk t).view.read (Elt Ideal) (G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 7).cut (grid0.coords t) ((dats m 0 c).after 7 t) = _
  rw [after0_7, out7_eq, iblk0_eq, iblk1_eq, iblk2_eq, iblk3_eq, iblk4_eq, iblk5_eq]
  exact cut7 t _

theorem covered7 (i : S7680x5120.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => flushed7 m c t) covered7

/-- The rows' scales, from the arrays the call reads. -/
abbrev G8 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x1 .f32 :=
  k0_pay6 x0 x1

theorem out8_eq : out0_8 (F := Ideal) x0 x1 x2 x3 x4 x5 = G8 x0 x1 x2 x3 x4 x5 := by
  unfold out0_8
  rw [View.canon_unit_zero hz2]
  simp only [ld0, ld1]

theorem cut8 (t : Fin cfg0.N) (X : Vec Ideal S7680x1 .f32) :
    (cfg0.win 8).cut (grid0.coords t) X = ((cfg0.win 8).blk t).view.read (Elt Ideal) X := by
  funext j
  show X j = X (((cfg0.win 8).blk t).view.emb j)
  rw [emb8]

theorem flushed8 (c : Dev nD) (t : Fin cfg0.N) :
    (dats m 0 c).flushed 8 t = ((cfg0.win 8).blk t).view.read (Elt Ideal) (G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 8).cut (grid0.coords t) ((dats m 0 c).after 8 t) = _
  rw [after0_8, out8_eq, iblk0_eq, iblk1_eq, iblk2_eq, iblk3_eq, iblk4_eq, iblk5_eq]
  exact cut8 t _

theorem covered8 (i : S7680x1.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 8 _ (fun t _ => flushed8 m c t) covered8

/-- The keys' codes, from the arrays the call reads. -/
abbrev G9 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x8x128 .fp8e4m3 :=
  k0_pay2 (k0_pay14 (k0_pay8 x0 x1 x2) x3 x4 x5) (k0_pay16 (k0_pay8 x0 x1 x2) x3 x4 x5) (k0_pay17 (k0_pay8 x0 x1 x2) x3 x4 x5)

theorem out9_eq : out0_9 (F := Ideal) x0 x1 x2 x3 x4 x5 = G9 x0 x1 x2 x3 x4 x5 := by
  unfold out0_9 k0_pay21 k0_pay20 k0_pay18
  rw [View.canon_unit_zero hz3]
  simp only [ld0, ld1, ld2, ld3, ld4]

theorem cut9 (t : Fin cfg0.N) (X : Vec Ideal S7680x8x128 .fp8e4m3) :
    (cfg0.win 9).cut (grid0.coords t) X = ((cfg0.win 9).blk t).view.read (Elt Ideal) X := by
  funext j
  show X j = X (((cfg0.win 9).blk t).view.emb j)
  rw [emb9]

theorem flushed9 (c : Dev nD) (t : Fin cfg0.N) :
    (dats m 0 c).flushed 9 t = ((cfg0.win 9).blk t).view.read (Elt Ideal) (G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 9).cut (grid0.coords t) ((dats m 0 c).after 9 t) = _
  rw [after0_9, out9_eq, iblk0_eq, iblk1_eq, iblk2_eq, iblk3_eq, iblk4_eq, iblk5_eq]
  exact cut9 t _

theorem covered9 (i : S7680x8x128.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 9 _ (fun t _ => flushed9 m c t) covered9

/-- The keys' scales, from the arrays the call reads. -/
abbrev G10 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x8x1 .f32 :=
  k0_pay1 (k0_pay16 (k0_pay8 x0 x1 x2) x3 x4 x5) (k0_pay17 (k0_pay8 x0 x1 x2) x3 x4 x5)

theorem out10_eq : out0_10 (F := Ideal) x0 x1 x2 x3 x4 x5 = G10 x0 x1 x2 x3 x4 x5 := by
  unfold out0_10 k0_pay21 k0_pay20 k0_pay18
  rw [View.canon_unit_zero hz3]
  simp only [ld0, ld1, ld2, ld3, ld4]

theorem cut10 (t : Fin cfg0.N) (X : Vec Ideal S7680x8x1 .f32) :
    (cfg0.win 10).cut (grid0.coords t) X = ((cfg0.win 10).blk t).view.read (Elt Ideal) X := by
  funext j
  show X j = X (((cfg0.win 10).blk t).view.emb j)
  rw [emb10]

theorem flushed10 (c : Dev nD) (t : Fin cfg0.N) :
    (dats m 0 c).flushed 10 t = ((cfg0.win 10).blk t).view.read (Elt Ideal) (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 10).cut (grid0.coords t) ((dats m 0 c).after 10 t) = _
  rw [after0_10, out10_eq, iblk0_eq, iblk1_eq, iblk2_eq, iblk3_eq, iblk4_eq, iblk5_eq]
  exact cut10 t _

theorem covered10 (i : S7680x8x1.Idx) : ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 10 _ (fun t _ => flushed10 m c t) covered10

/-- The values' codes, from the arrays the call reads. -/
abbrev G11 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x8x128 .fp8e4m3 :=
  k0_pay4 (k0_pay12 (k0_pay8 x0 x1 x2) x3)

theorem out11_eq : out0_11 (F := Ideal) x0 x1 x2 x3 x4 x5 = G11 x0 x1 x2 x3 x4 x5 := by
  unfold out0_11 k0_pay19 k0_pay18
  rw [View.canon_unit_zero hz3]
  simp only [ld0, ld1, ld2, ld3]

theorem cut11 (t : Fin cfg0.N) (X : Vec Ideal S7680x8x128 .fp8e4m3) :
    (cfg0.win 11).cut (grid0.coords t) X = ((cfg0.win 11).blk t).view.read (Elt Ideal) X := by
  funext j
  show X j = X (((cfg0.win 11).blk t).view.emb j)
  rw [emb11]

theorem flushed11 (c : Dev nD) (t : Fin cfg0.N) :
    (dats m 0 c).flushed 11 t = ((cfg0.win 11).blk t).view.read (Elt Ideal) (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 11).cut (grid0.coords t) ((dats m 0 c).after 11 t) = _
  rw [after0_11, out11_eq, iblk0_eq, iblk1_eq, iblk2_eq, iblk3_eq, iblk4_eq, iblk5_eq]
  exact cut11 t _

theorem covered11 (i : S7680x8x128.Idx) : ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩

theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 11 _ (fun t _ => flushed11 m c t) covered11

/-- The values' scales, from the arrays the call reads. -/
abbrev G12 (x0 : Vec Ideal S7680x5120 .bf16) (x1 : Vec Ideal S1x5120 .f32) (x2 : Vec Ideal S5120x6144 .fp8e4m3) (x3 : Vec Ideal S1x6144 .f32) (x4 : Vec Ideal S7680x64 .f32) (x5 : Vec Ideal S7680x64 .f32) : Vec Ideal S7680x8x1 .f32 :=
  k0_pay3 (k0_pay12 (k0_pay8 x0 x1 x2) x3)

theorem out12_eq : out0_12 (F := Ideal) x0 x1 x2 x3 x4 x5 = G12 x0 x1 x2 x3 x4 x5 := by
  unfold out0_12 k0_pay19 k0_pay18
  rw [View.canon_unit_zero hz3]
  simp only [ld0, ld1, ld2, ld3]

theorem cut12 (t : Fin cfg0.N) (X : Vec Ideal S7680x8x1 .f32) :
    (cfg0.win 12).cut (grid0.coords t) X = ((cfg0.win 12).blk t).view.read (Elt Ideal) X := by
  funext j
  show X j = X (((cfg0.win 12).blk t).view.emb j)
  rw [emb12]

theorem flushed12 (c : Dev nD) (t : Fin cfg0.N) :
    (dats m 0 c).flushed 12 t = ((cfg0.win 12).blk t).view.read (Elt Ideal) (G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 12).cut (grid0.coords t) ((dats m 0 c).after 12 t) = _
  rw [after0_12, out12_eq, iblk0_eq, iblk1_eq, iblk2_eq, iblk3_eq, iblk4_eq, iblk5_eq]
  exact cut12 t _

theorem covered12 (i : S7680x8x1.Idx) : ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 12 _ (fun t _ => flushed12 m c t) covered12

/-! ## The results -/

/-- The queries laid out as the program's. -/
abbrev layout (x : Vec Ideal S7680x32x128 .bf16) : Vec Ideal S6x8x20x128x256 .bf16 :=
  shapeCast S6x8x20x128x256 (transpose S6x8x20x128x4x64 [0, 3, 1, 5, 4, 2] (shapeCast S6x20x64x8x4x128 x shapeCasts_S7680x32x128_S6x20x64x8x4x128)
    transposes_S6x20x64x8x4x128_S6x8x20x128x4x64_0_3_1_5_4_2) shapeCasts_S6x8x20x128x4x64_S6x8x20x128x256

/-- A column of scales per head, as a matrix. -/
abbrev flat (x : Vec Ideal S7680x8x1 .f32) : Vec Ideal S7680x8 .f32 := shapeCast S7680x8 x shapeCasts_S7680x8x1_S7680x8

theorem tail6 (c : Dev nD) : Pipeline.afterTail₀ cfgs (dats m) 0 (V0 m) [hostOps1] c main_v3 = layout ((dats m 0 c).arrAt 6 cfg0.N) := by
  have e := Pipeline.withArrays_arr spec0 winFacts0.arr_inj c (V0 m c) (fun w => (dats m 0 c).arrAt w cfg0.N) 6
  unfold Pipeline.afterTail₀
  show StableHlo.after hostOps1 _ _ = _
  after_results
  rw [← e]
  rfl

theorem tail10 (c : Dev nD) : Pipeline.afterTail₀ cfgs (dats m) 0 (V0 m) [hostOps1] c main_v4 = flat ((dats m 0 c).arrAt 10 cfg0.N) := by
  have e := Pipeline.withArrays_arr spec0 winFacts0.arr_inj c (V0 m c) (fun w => (dats m 0 c).arrAt w cfg0.N) 10
  unfold Pipeline.afterTail₀
  show StableHlo.after hostOps1 _ _ = _
  after_results
  rw [← e]
  rfl

theorem tail12 (c : Dev nD) : Pipeline.afterTail₀ cfgs (dats m) 0 (V0 m) [hostOps1] c main_v5 = flat ((dats m 0 c).arrAt 12 cfg0.N) := by
  have e := Pipeline.withArrays_arr spec0 winFacts0.arr_inj c (V0 m c) (fun w => (dats m 0 c).arrAt w cfg0.N) 12
  unfold Pipeline.afterTail₀
  show StableHlo.after hostOps1 _ _ = _
  after_results
  rw [← e]
  rfl

theorem run : θ_run defs (onTc (τ := τ) (main (F := Ideal))) ⟨m, fun _ => 0, ρ⟩ fun r => ∀ c : Dev nD,
      r.2.mem ((c : Thread nD τ).loc main_v3) = layout (G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v4) = flat (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v5) = flat (G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨((hr.1 c).2 main_v3 (Pipeline.mem_restRefs_of main_v3 (by decide) (by decide))).trans ((tail6 m c).trans (congrArg layout (final6 m c))),
      ((hr.1 c).1 7).trans (final7 m c),
      ((hr.1 c).1 8).trans (final8 m c),
      ((hr.1 c).1 9).trans (final9 m c),
      ((hr.1 c).2 main_v4 (Pipeline.mem_restRefs_of main_v4 (by decide) (by decide))).trans ((tail10 m c).trans (congrArg flat (final10 m c))),
      ((hr.1 c).1 11).trans (final11 m c),
      ((hr.1 c).2 main_v5 (Pipeline.mem_restRefs_of main_v5 (by decide) (by decide))).trans ((tail12 m c).trans (congrArg flat (final12 m c))), hr.2 c⟩)
    (θ_run_and (run_main m ρ) (unchanged m ρ))

end Cert.QkvRefRun
-- ==== Proof.QkvRef.lean ====
/- Hand-written, untrusted: WHAT THE REFERENCE OF THE INPUT PROJECTIONS RETURNS, at an index, as a function of its arguments. -/
module

public import proofs.«01_k».proof.Proof.QkvTile
public import proofs.«01_k».proof.Proof.QkvRefRun

@[expose] public section

noncomputable section
namespace Cert.QkvRef

open Idealize.ShloMosaic Cert.RowQuant Cert.QkvTile Cert.AttendDots Cert.QkvReferenceIdeal Cert.QkvReferenceIdeal.Gen Cert.QkvRefRun

/-! ## Heads as a third axis -/

/-- Columns from `o` on, cut into heads of 128. -/
theorem heads_apply {M N C H : ℕ} (o : ℕ) (x : FVec Ideal ⟨2, ![M, N]⟩ .f32) (hs : (⟨2, ![M, N]⟩ : Shape).Slices ![0, o] ⟨2, ![M, C]⟩)
    (hc : (⟨2, ![M, C]⟩ : Shape).ShapeCasts ⟨3, ![M, H, 128]⟩) (hC : C = H * 128) (r : Fin M) (h : Fin H) (d : Fin 128) (j : Fin N)
    (hj : j.val = o + (h.val * 128 + d.val)) :
    shapeCast ⟨3, ![M, H, 128]⟩ (extractStridedSlice ⟨2, ![M, C]⟩ ![0, o] x hs) hc (ValueIdx.ix3 r h d) = x (ValueIdx.ix2 r j) := by
  have hh := h.isLt
  have hd := d.isLt
  refine (shapeCast_apply _ hc (ValueIdx.ix3 r h d) (ValueIdx.ix2 r (⟨h.val * 128 + d.val, by omega⟩ : Fin C)) (by
    rw [Shape.rowMajor_val_two, Shape.rowMajor_val_three]
    show r.val * C + (h.val * 128 + d.val) = (r.val * H + h.val) * 128 + d.val
    rw [hC, Nat.add_mul, Nat.mul_assoc, Nat.add_assoc])).trans ?_
  refine extractStridedSlice_apply _ x hs _ (ValueIdx.ix2 r j) fun a => ?_
  match a with
  | ⟨0, _⟩ => show r.val = 0 + r.val; omega
  | ⟨1, _⟩ => exact hj

/-- Two halves of lanes side by side, per head. -/
theorem lanes3_apply {M H : ℕ} (a b : FVec Ideal ⟨3, ![M, H, 64]⟩ .f32)
    (h : Shape.Concatenates [⟨3, ![M, H, 64]⟩, ⟨3, ![M, H, 64]⟩] ⟨3, ![M, H, 128]⟩ 2) (r : Fin M) (o : Fin H) (d : Fin 128) :
    concatenate ⟨3, ![M, H, 128]⟩ 2 [⟨⟨3, ![M, H, 64]⟩, a⟩, ⟨⟨3, ![M, H, 64]⟩, b⟩] h (ValueIdx.ix3 r o d)
      = if d.val < 64 then a (ValueIdx.ix3 r o (half d)) else b (ValueIdx.ix3 r o (half d)) := by
  have hd := d.isLt
  split
  · next hlt =>
    refine concatenate_pair_apply_left _ _ _ h _ rfl _ fun x => ?_
    match x with
    | ⟨0, _⟩ => rfl
    | ⟨1, _⟩ => rfl
    | ⟨2, _⟩ => show d.val % 64 = d.val; omega
  · next hge =>
    refine concatenate_pair_apply_right _ _ _ h _ rfl rfl _ (fun x hx => ?_) ?_
    · match x with
      | ⟨0, _⟩ => rfl
      | ⟨1, _⟩ => rfl
      | ⟨2, _⟩ => exact absurd rfl hx
    · show d.val % 64 + 64 = d.val; omega

/-- A row of angles, the same for every head. -/
theorem angle_apply {M H : ℕ} (c : FVec Ideal ⟨2, ![M, 64]⟩ .f32) (hc : (⟨2, ![M, 64]⟩ : Shape).ShapeCasts ⟨3, ![M, 1, 64]⟩)
    (hb : (⟨3, ![M, 1, 64]⟩ : Shape).Broadcasts ⟨3, ![M, H, 64]⟩) (r : Fin M) (o : Fin H) (e : Fin 64) :
    broadcastTo ⟨3, ![M, H, 64]⟩ (shapeCast ⟨3, ![M, 1, 64]⟩ c hc) hb (ValueIdx.ix3 r o e) = c (ValueIdx.ix2 r e) := by
  rw [bcastMid_apply]
  exact shapeCast_apply _ hc (ValueIdx.ix3 r 0 e) (ValueIdx.ix2 r e) (by
    rw [Shape.rowMajor_val_two, Shape.rowMajor_val_three]
    show r.val * 64 + e.val = (r.val * 1 + 0) * 64 + e.val
    omega)

/-- Every head rotated by its row's angles, as the vector operations state it. -/
def rope3 {M H : ℕ} (v : FVec Ideal ⟨3, ![M, H, 128]⟩ .f32) (c s : FVec Ideal ⟨2, ![M, 64]⟩ .f32)
    (hl : (⟨3, ![M, H, 128]⟩ : Shape).Slices ![0, 0, 0] ⟨3, ![M, H, 64]⟩) (hr : (⟨3, ![M, H, 128]⟩ : Shape).Slices ![0, 0, 64] ⟨3, ![M, H, 64]⟩)
    (hc : (⟨2, ![M, 64]⟩ : Shape).ShapeCasts ⟨3, ![M, 1, 64]⟩) (hb : (⟨3, ![M, 1, 64]⟩ : Shape).Broadcasts ⟨3, ![M, H, 64]⟩)
    (h : Shape.Concatenates [⟨3, ![M, H, 64]⟩, ⟨3, ![M, H, 64]⟩] ⟨3, ![M, H, 128]⟩ 2) : FVec Ideal ⟨3, ![M, H, 128]⟩ .f32 :=
  concatenate ⟨3, ![M, H, 128]⟩ 2 [
    ⟨⟨3, ![M, H, 64]⟩, subf
      (mulf (extractStridedSlice ⟨3, ![M, H, 64]⟩ ![0, 0, 0] v hl) (broadcastTo ⟨3, ![M, H, 64]⟩ (shapeCast ⟨3, ![M, 1, 64]⟩ c hc) hb))
      (mulf (extractStridedSlice ⟨3, ![M, H, 64]⟩ ![0, 0, 64] v hr) (broadcastTo ⟨3, ![M, H, 64]⟩ (shapeCast ⟨3, ![M, 1, 64]⟩ s hc) hb))⟩,
    ⟨⟨3, ![M, H, 64]⟩, addf
      (mulf (extractStridedSlice ⟨3, ![M, H, 64]⟩ ![0, 0, 64] v hr) (broadcastTo ⟨3, ![M, H, 64]⟩ (shapeCast ⟨3, ![M, 1, 64]⟩ c hc) hb))
      (mulf (extractStridedSlice ⟨3, ![M, H, 64]⟩ ![0, 0, 0] v hl) (broadcastTo ⟨3, ![M, H, 64]⟩ (shapeCast ⟨3, ![M, 1, 64]⟩ s hc) hb))⟩] h

theorem low_apply {M H : ℕ} (v : FVec Ideal ⟨3, ![M, H, 128]⟩ .f32) (hl : (⟨3, ![M, H, 128]⟩ : Shape).Slices ![0, 0, 0] ⟨3, ![M, H, 64]⟩)
    (r : Fin M) (o : Fin H) (e : Fin 64) (d : Fin 128) (hd : d.val = e.val) :
    extractStridedSlice ⟨3, ![M, H, 64]⟩ ![0, 0, 0] v hl (ValueIdx.ix3 r o e) = v (ValueIdx.ix3 r o d) :=
  extractStridedSlice_apply _ v hl _ (ValueIdx.ix3 r o d) fun a => by
    match a with
    | ⟨0, _⟩ => show r.val = 0 + r.val; omega
    | ⟨1, _⟩ => show o.val = 0 + o.val; omega
    | ⟨2, _⟩ => show d.val = 0 + e.val; omega

theorem high_apply {M H : ℕ} (v : FVec Ideal ⟨3, ![M, H, 128]⟩ .f32) (hl : (⟨3, ![M, H, 128]⟩ : Shape).Slices ![0, 0, 64] ⟨3, ![M, H, 64]⟩)
    (r : Fin M) (o : Fin H) (e : Fin 64) (d : Fin 128) (hd : d.val = 64 + e.val) :
    extractStridedSlice ⟨3, ![M, H, 64]⟩ ![0, 0, 64] v hl (ValueIdx.ix3 r o e) = v (ValueIdx.ix3 r o d) :=
  extractStridedSlice_apply _ v hl _ (ValueIdx.ix3 r o d) fun a => by
    match a with
    | ⟨0, _⟩ => show r.val = 0 + r.val; omega
    | ⟨1, _⟩ => show o.val = 0 + o.val; omega
    | ⟨2, _⟩ => exact hd

theorem rope3_apply {M H : ℕ} (v : FVec Ideal ⟨3, ![M, H, 128]⟩ .f32) (c s : FVec Ideal ⟨2, ![M, 64]⟩ .f32)
    (hl : (⟨3, ![M, H, 128]⟩ : Shape).Slices ![0, 0, 0] ⟨3, ![M, H, 64]⟩) (hr : (⟨3, ![M, H, 128]⟩ : Shape).Slices ![0, 0, 64] ⟨3, ![M, H, 64]⟩)
    (hc : (⟨2, ![M, 64]⟩ : Shape).ShapeCasts ⟨3, ![M, 1, 64]⟩) (hb : (⟨3, ![M, 1, 64]⟩ : Shape).Broadcasts ⟨3, ![M, H, 64]⟩)
    (h : Shape.Concatenates [⟨3, ![M, H, 64]⟩, ⟨3, ![M, H, 64]⟩] ⟨3, ![M, H, 128]⟩ 2) (r : Fin M) (o : Fin H) (d : Fin 128) :
    rope3 v c s hl hr hc hb h (ValueIdx.ix3 r o d)
      = ropeAt (fun e => v (ValueIdx.ix3 r o e)) (fun e => c (ValueIdx.ix2 r e)) (fun e => s (ValueIdx.ix2 r e)) d := by
  have hd := d.isLt
  refine (lanes3_apply _ _ h r o d).trans ?_
  unfold ropeAt
  by_cases hlt : d.val < 64
  · rw [if_pos hlt, if_pos hlt]
    show extractStridedSlice _ ![0, 0, 0] v hl (ValueIdx.ix3 r o (half d)) * broadcastTo _ _ hb (ValueIdx.ix3 r o (half d))
      - extractStridedSlice _ ![0, 0, 64] v hr (ValueIdx.ix3 r o (half d)) * broadcastTo _ _ hb (ValueIdx.ix3 r o (half d)) = _
    rw [low_apply v hl r o (half d) d (by show d.val = d.val % 64; omega),
      high_apply v hr r o (half d) (other d) (by show (d.val + 64) % 128 = 64 + d.val % 64; omega), angle_apply, angle_apply]
  · rw [if_neg hlt, if_neg hlt]
    show extractStridedSlice _ ![0, 0, 64] v hr (ValueIdx.ix3 r o (half d)) * broadcastTo _ _ hb (ValueIdx.ix3 r o (half d))
      + extractStridedSlice _ ![0, 0, 0] v hl (ValueIdx.ix3 r o (half d)) * broadcastTo _ _ hb (ValueIdx.ix3 r o (half d)) = _
    rw [high_apply v hr r o (half d) d (by show d.val = 64 + d.val % 64; omega),
      low_apply v hl r o (half d) (other d) (by show (d.val + 64) % 128 = d.val % 64; omega), angle_apply, angle_apply]

/-- Every head's scale as the vector operations state it. -/
def scale3 {M H : ℕ} (x : FVec Ideal ⟨3, ![M, H, 128]⟩ .f32) (hr : Shape.Reduces ⟨3, ![M, H, 128]⟩ [2] ⟨2, ![M, H]⟩)
    (hc : (⟨2, ![M, H]⟩ : Shape).ShapeCasts ⟨3, ![M, H, 1]⟩) : FVec Ideal ⟨3, ![M, H, 1]⟩ .f32 :=
  select (cmpf .oeq (shapeCast ⟨3, ![M, H, 1]⟩ (multiReduction .maximumf [2] ⟨2, ![M, H]⟩ (absf x) 0xFF800000#32 hr) hc)
      (broadcast ⟨3, ![M, H, 1]⟩ (Scalar.ofBits .f32 0x00000000#32)))
    (broadcast ⟨3, ![M, H, 1]⟩ (Scalar.ofBits .f32 0x3F800000#32))
    (divf (shapeCast ⟨3, ![M, H, 1]⟩ (multiReduction .maximumf [2] ⟨2, ![M, H]⟩ (absf x) 0xFF800000#32 hr) hc)
      (broadcast ⟨3, ![M, H, 1]⟩ (Scalar.ofBits .f32 0x43E00000#32)))

theorem max3_apply {M H : ℕ} (x : FVec Ideal ⟨3, ![M, H, 128]⟩ .f32) (hr : Shape.Reduces ⟨3, ![M, H, 128]⟩ [2] ⟨2, ![M, H]⟩)
    (hc : (⟨2, ![M, H]⟩ : Shape).ShapeCasts ⟨3, ![M, H, 1]⟩) (r : Fin M) (h : Fin H) :
    shapeCast ⟨3, ![M, H, 1]⟩ (multiReduction .maximumf [2] ⟨2, ![M, H]⟩ (absf x) 0xFF800000#32 hr) hc (ValueIdx.ix3 r h 0)
      = rowMax fun d => x (ValueIdx.ix3 r h d) := by
  rw [asCol_apply]
  refine (Ideal.multiReduction_maximumf_single _ _ _ _ _ _).trans ?_
  unfold rowMax
  refine congrArg (fun f => (Finset.univ : Finset (Fin 128)).fold max (Ideal.ofBits .f32 0xFF800000#32) f) (funext fun k => ?_)
  exact congrArg (fun i => FloatOps.absf (x i)) (lift_last hr r h k)

theorem scale3_apply {M H : ℕ} (x : FVec Ideal ⟨3, ![M, H, 128]⟩ .f32) (hr : Shape.Reduces ⟨3, ![M, H, 128]⟩ [2] ⟨2, ![M, H]⟩)
    (hc : (⟨2, ![M, H]⟩ : Shape).ShapeCasts ⟨3, ![M, H, 1]⟩) (r : Fin M) (h : Fin H) (f : Fin 128 → EReal)
    (hf : ∀ d, x (ValueIdx.ix3 r h d) = f d) : scale3 x hr hc (ValueIdx.ix3 r h 0) = rowScale f := by
  have e := max3_apply x hr hc r h
  rw [funext hf] at e
  show Scalar.select (FloatOps.cmpf .oeq (shapeCast ⟨3, ![M, H, 1]⟩ _ hc (ValueIdx.ix3 r h 0)) _) _
    (Ideal.div (shapeCast ⟨3, ![M, H, 1]⟩ _ hc (ValueIdx.ix3 r h 0)) _) = _
  rw [e]; rfl

/-- Every element's code as the vector operations state it. -/
def code3 {M H : ℕ} (x : FVec Ideal ⟨3, ![M, H, 128]⟩ .f32) (s : FVec Ideal ⟨3, ![M, H, 1]⟩ .f32)
    (hb : (⟨3, ![M, H, 1]⟩ : Shape).Broadcasts ⟨3, ![M, H, 128]⟩) (hl : FTy.fp8e4m3.bits < FTy.f32.bits) : FVec Ideal ⟨3, ![M, H, 128]⟩ .fp8e4m3 :=
  truncf .fp8e4m3 (minimumf (broadcast ⟨3, ![M, H, 128]⟩ (Scalar.ofBits .f32 0x43E00000#32))
    (maximumf (broadcast ⟨3, ![M, H, 128]⟩ (Scalar.ofBits .f32 0xC3E00000#32)) (divf x (broadcastTo ⟨3, ![M, H, 128]⟩ s hb)))) hl

theorem code3_apply {M H : ℕ} (x : FVec Ideal ⟨3, ![M, H, 128]⟩ .f32) (hr : Shape.Reduces ⟨3, ![M, H, 128]⟩ [2] ⟨2, ![M, H]⟩)
    (hc : (⟨2, ![M, H]⟩ : Shape).ShapeCasts ⟨3, ![M, H, 1]⟩) (hb : (⟨3, ![M, H, 1]⟩ : Shape).Broadcasts ⟨3, ![M, H, 128]⟩)
    (hl : FTy.fp8e4m3.bits < FTy.f32.bits) (r : Fin M) (h : Fin H) (d : Fin 128) (f : Fin 128 → EReal)
    (hf : ∀ d, x (ValueIdx.ix3 r h d) = f d) : code3 x (scale3 x hr hc) hb hl (ValueIdx.ix3 r h d) = code (rowScale f) (f d) := by
  show code (broadcastTo ⟨3, ![M, H, 128]⟩ _ hb (ValueIdx.ix3 r h d)) (x (ValueIdx.ix3 r h d)) = _
  rw [bcastLast_apply, scale3_apply x hr hc r h f hf, hf]

/-! ## The values of the call -/

variable (x0 : Vec Ideal S7680x5120 .bf16) (x1 : Vec Ideal S1x5120 .f32) (x2 : Vec Ideal S5120x6144 .fp8e4m3) (x3 : Vec Ideal S1x6144 .f32)
  (x4 : Vec Ideal S7680x64 .f32) (x5 : Vec Ideal S7680x64 .f32)

theorem norm_apply (r : Fin 7680) (k : Fin 5120) : k0_pay5 (F := Ideal) x0 x1 (ValueIdx.ix2 r k) = normAt x0 x1 r k :=
  normVec_apply x0 x1 bitsLt_bf16_f32 reduces_S7680x5120_S7680 shapeCasts_S7680_S7680x1 broadcasts_S7680x1_S7680x5120
    broadcasts_S1x5120_S7680x5120 r k

theorem rowScale_apply (r : Fin 7680) (z : Fin 1) : k0_pay6 (F := Ideal) x0 x1 (ValueIdx.ix2 r z) = rowScale (normAt x0 x1 r) :=
  (scaleVec_apply (k0_pay5 (F := Ideal) x0 x1) reduces_S7680x5120_S7680 shapeCasts_S7680_S7680x1 r z).trans
    (congrArg rowScale (funext fun k => norm_apply x0 x1 r k))

theorem rowCode_apply (r : Fin 7680) (k : Fin 5120) :
    k0_pay7 (F := Ideal) x0 x1 (ValueIdx.ix2 r k) = code (rowScale (normAt x0 x1 r)) (normAt x0 x1 r k) := by
  refine (codeVec_apply (k0_pay5 (F := Ideal) x0 x1) (k0_pay6 (F := Ideal) x0 x1) broadcasts_S7680x1_S7680x5120 bitsLt_fp8e4m3_f32 r k).trans ?_
  rw [norm_apply, rowScale_apply]

theorem col_apply (r : Fin 7680) (j : Fin 6144) :
    k0_pay9 (F := Ideal) (k0_pay8 x0 x1 x2) x3 (ValueIdx.ix2 r j) = colAt x0 x1 x2 x3 r j := by
  refine (projVec_apply dot_S7680x5120_S5120x6144_S7680x6144_1_0_0_1_n_n rfl broadcasts_S7680x1_S7680x6144 broadcasts_S1x6144_S7680x6144
    (k0_pay6 (F := Ideal) x0 x1) (k0_pay7 (F := Ideal) x0 x1) x2 x3 r j).trans ?_
  rw [rowScale_apply, Finset.sum_congr rfl fun k _ => by rw [rowCode_apply x0 x1 r k]]
  rfl

theorem q_apply (r : Fin 7680) (h : Fin 32) (d : Fin 128) :
    G6 x0 x1 x2 x3 x4 x5 (ValueIdx.ix3 r h d) = rotAt x0 x1 x2 x3 x4 x5 r ⟨h.val, by have := h.isLt; omega⟩ d := by
  refine (rope3_apply (M := 7680) (H := 32) _ x4 x5 slices_S7680x32x128_o0_0_0_S7680x32x64 slices_S7680x32x128_o0_0_64_S7680x32x64
    shapeCasts_S7680x64_S7680x1x64 broadcasts_S7680x1x64_S7680x32x64 concatenates_S7680x32x64_S7680x32x64_S7680x32x128_d2 r h d).trans ?_
  refine congrArg (fun v => ropeAt v _ _ d) (funext fun e => ?_)
  refine (heads_apply 0 _ slices_S7680x6144_o0_0_S7680x4096 shapeCasts_S7680x4096_S7680x32x128 rfl r h e
    ⟨h.val * 128 + e.val, by have := h.isLt; have := e.isLt; omega⟩ (Nat.zero_add _).symm).trans ?_
  exact col_apply x0 x1 x2 x3 r _

theorem k_apply (r : Fin 7680) (h : Fin 8) (d : Fin 128) :
    k0_pay14 (F := Ideal) (k0_pay8 x0 x1 x2) x3 x4 x5 (ValueIdx.ix3 r h d)
      = rotAt x0 x1 x2 x3 x4 x5 r ⟨32 + h.val, by have := h.isLt; omega⟩ d := by
  refine (rope3_apply (M := 7680) (H := 8) _ x4 x5 slices_S7680x8x128_o0_0_0_S7680x8x64 slices_S7680x8x128_o0_0_64_S7680x8x64
    shapeCasts_S7680x64_S7680x1x64 broadcasts_S7680x1x64_S7680x8x64 concatenates_S7680x8x64_S7680x8x64_S7680x8x128_d2 r h d).trans ?_
  refine congrArg (fun v => ropeAt v _ _ d) (funext fun e => ?_)
  refine (heads_apply 4096 _ slices_S7680x6144_o0_4096_S7680x1024 shapeCasts_S7680x1024_S7680x8x128 rfl r h e
    ⟨(32 + h.val) * 128 + e.val, by have := h.isLt; have := e.isLt; omega⟩
    (show (32 + h.val) * 128 + e.val = 4096 + (h.val * 128 + e.val) by omega)).trans ?_
  exact col_apply x0 x1 x2 x3 r _

theorem v_apply (r : Fin 7680) (h : Fin 8) (d : Fin 128) :
    k0_pay12 (F := Ideal) (k0_pay8 x0 x1 x2) x3 (ValueIdx.ix3 r h d)
      = headAt x0 x1 x2 x3 r ⟨40 + h.val, by have := h.isLt; omega⟩ d := by
  refine (heads_apply 5120 _ slices_S7680x6144_o0_5120_S7680x1024 shapeCasts_S7680x1024_S7680x8x128 rfl r h d
    ⟨(40 + h.val) * 128 + d.val, by have := h.isLt; have := d.isLt; omega⟩
    (show (40 + h.val) * 128 + d.val = 5120 + (h.val * 128 + d.val) by omega)).trans ?_
  exact col_apply x0 x1 x2 x3 r _

theorem kScale_apply (r : Fin 7680) (h : Fin 8) :
    G10 x0 x1 x2 x3 x4 x5 (ValueIdx.ix3 r h 0) = rowScale (rotAt x0 x1 x2 x3 x4 x5 r ⟨32 + h.val, by have := h.isLt; omega⟩) :=
  scale3_apply (M := 7680) (H := 8) (k0_pay14 (F := Ideal) (k0_pay8 x0 x1 x2) x3 x4 x5) reduces_S7680x8x128_S7680x8
    shapeCasts_S7680x8_S7680x8x1 r h _ fun d => k_apply x0 x1 x2 x3 x4 x5 r h d

theorem kCode_apply (r : Fin 7680) (h : Fin 8) (d : Fin 128) :
    G9 x0 x1 x2 x3 x4 x5 (ValueIdx.ix3 r h d)
      = code (rowScale (rotAt x0 x1 x2 x3 x4 x5 r ⟨32 + h.val, by have := h.isLt; omega⟩))
        (rotAt x0 x1 x2 x3 x4 x5 r ⟨32 + h.val, by have := h.isLt; omega⟩ d) :=
  code3_apply (M := 7680) (H := 8) (k0_pay14 (F := Ideal) (k0_pay8 x0 x1 x2) x3 x4 x5) reduces_S7680x8x128_S7680x8
    shapeCasts_S7680x8_S7680x8x1 broadcasts_S7680x8x1_S7680x8x128 bitsLt_fp8e4m3_f32 r h d _ fun d => k_apply x0 x1 x2 x3 x4 x5 r h d

theorem vScale_apply (r : Fin 7680) (h : Fin 8) :
    G12 x0 x1 x2 x3 x4 x5 (ValueIdx.ix3 r h 0) = rowScale (headAt x0 x1 x2 x3 r ⟨40 + h.val, by have := h.isLt; omega⟩) :=
  scale3_apply (M := 7680) (H := 8) (k0_pay12 (F := Ideal) (k0_pay8 x0 x1 x2) x3) reduces_S7680x8x128_S7680x8
    shapeCasts_S7680x8_S7680x8x1 r h _ fun d => v_apply x0 x1 x2 x3 r h d

theorem vCode_apply (r : Fin 7680) (h : Fin 8) (d : Fin 128) :
    G11 x0 x1 x2 x3 x4 x5 (ValueIdx.ix3 r h d)
      = code (rowScale (headAt x0 x1 x2 x3 r ⟨40 + h.val, by have := h.isLt; omega⟩))
        (headAt x0 x1 x2 x3 r ⟨40 + h.val, by have := h.isLt; omega⟩ d) :=
  code3_apply (M := 7680) (H := 8) (k0_pay12 (F := Ideal) (k0_pay8 x0 x1 x2) x3) reduces_S7680x8x128_S7680x8
    shapeCasts_S7680x8_S7680x8x1 broadcasts_S7680x8x1_S7680x8x128 bitsLt_fp8e4m3_f32 r h d _ fun d => v_apply x0 x1 x2 x3 r h d

/-! ## The layout of the results -/

theorem flat_apply (x : Vec Ideal S7680x8x1 .f32) (r : Fin 7680) (h : Fin 8) : flat x (ValueIdx.ix2 r h) = x (ValueIdx.ix3 r h 0) :=
  shapeCast_apply _ _ _ (ValueIdx.ix3 r h 0) (by
    rw [Shape.rowMajor_val_two, Shape.rowMajor_val_three]
    show (r.val * 8 + h.val) * 1 + 0 = r.val * 8 + h.val
    omega)

theorem layout_apply (x : Vec Ideal S7680x32x128 .bf16) (b : Fin 6) (n : Fin 8) (g : Fin 20) (d : Fin 128) (z : Fin 256) :
    layout x (ValueIdx.ix5 b n g d z)
      = x (ValueIdx.ix3 (⟨b.val * 1280 + g.val * 64 + z.val % 64, by have := b.isLt; have := g.isLt; omega⟩ : Fin 7680)
        (⟨n.val * 4 + z.val / 64, by have := n.isLt; have := z.isLt; omega⟩ : Fin 32) d) := by
  have hz := z.isLt
  refine (shapeCast_apply _ _ _ (ValueIdx.ix6 b n g d (⟨z.val / 64, by omega⟩ : Fin 4) (⟨z.val % 64, by omega⟩ : Fin 64)) (by
    rw [Shape.rowMajor_val_six, Shape.rowMajor_val_five]
    show ((((b.val * 8 + n.val) * 20 + g.val) * 128 + d.val) * 4 + z.val / 64) * 64 + z.val % 64
      = (((b.val * 8 + n.val) * 20 + g.val) * 128 + d.val) * 256 + z.val
    omega)).trans ?_
  refine (transpose_apply _ _ _ _ (ValueIdx.ix6 b g (⟨z.val % 64, by omega⟩ : Fin 64) n (⟨z.val / 64, by omega⟩ : Fin 4) d) (fun a => by
    match a with
    | ⟨0, _⟩ => rfl
    | ⟨1, _⟩ => rfl
    | ⟨2, _⟩ => rfl
    | ⟨3, _⟩ => rfl
    | ⟨4, _⟩ => rfl
    | ⟨5, _⟩ => rfl)).trans ?_
  exact shapeCast_apply _ _ _ _ (by
    rw [Shape.rowMajor_val_six, Shape.rowMajor_val_three]
    show ((b.val * 1280 + g.val * 64 + z.val % 64) * 32 + (n.val * 4 + z.val / 64)) * 128 + d.val
      = ((((b.val * 20 + g.val) * 64 + z.val % 64) * 8 + n.val) * 4 + z.val / 64) * 128 + d.val
    omega)

end Cert.QkvRef
-- ==== Proof.QkvEq.lean ====
/- Hand-written, untrusted: THE INPUT PROJECTIONS' EQUATION: over the extended reals the kernel's seven results are the reference's. -/
module

public import proofs.«01_k».proof.Defs
public import proofs.«01_k».proof.Proof.QkvArray
public import proofs.«01_k».proof.Proof.QkvRef

@[expose] public section

noncomputable section
namespace Cert.QkvEq

open Idealize.ShloMosaic Idealize.ShloMosaic.TcCoe Idealize.SL.Sem Cert.QkvIdeal Cert.QkvIdeal.Gen
open Cert.QkvRefRun (G6 G7 G8 G9 G10 G11 G12 layout flat)

variable (m : (ℓ : Loc nD τ sig) → Buf (Elt Ideal) ℓ)

theorem q_eq (c : Dev nD) :
    layout (G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      = (dats m 0 c).arrAt 6 cfg0.N := by
  funext y
  obtain ⟨b, n, g, d, z, rfl⟩ : ∃ (b : Fin 6) (n : Fin 8) (g : Fin 20) (d : Fin 128) (z : Fin 256), y = ValueIdx.ix5 b n g d z := ⟨y 0, y 1, y 2, y 3, y 4, ValueIdx.eq_ix5 y⟩
  refine (Cert.QkvRef.layout_apply _ b n g d z).trans ?_
  exact (Cert.QkvRef.q_apply _ _ _ _ _ _ _ _ d).trans (Cert.QkvArray.final6 m c b n g d z).symm

theorem rowCode_eq (c : Dev nD) :
    G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (dats m 0 c).arrAt 7 cfg0.N := by
  funext y
  obtain ⟨R, j, rfl⟩ : ∃ (R : Fin 7680) (j : Fin 5120), y = ValueIdx.ix2 R j := ⟨y 0, y 1, ValueIdx.eq_ix2 y⟩
  exact (Cert.QkvRef.rowCode_apply _ _ R j).trans (Cert.QkvArray.final7 m c R j).symm

theorem rowScale_eq (c : Dev nD) :
    G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (dats m 0 c).arrAt 8 cfg0.N := by
  funext y
  obtain ⟨R, z, rfl⟩ : ∃ (R : Fin 7680) (z : Fin 1), y = ValueIdx.ix2 R z := ⟨y 0, y 1, ValueIdx.eq_ix2 y⟩
  exact (Cert.QkvRef.rowScale_apply _ _ R z).trans (Cert.QkvArray.final8 m c R z).symm

theorem kCode_eq (c : Dev nD) :
    G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (dats m 0 c).arrAt 9 cfg0.N := by
  funext y
  obtain ⟨R, h, d, rfl⟩ : ∃ (R : Fin 7680) (h : Fin 8) (d : Fin 128), y = ValueIdx.ix3 R h d := ⟨y 0, y 1, y 2, ValueIdx.eq_ix3 y⟩
  exact (Cert.QkvRef.kCode_apply _ _ _ _ _ _ R h d).trans (Cert.QkvArray.final9 m c R h d).symm

theorem kScale_eq (c : Dev nD) :
    flat (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      = (dats m 0 c).arrAt 10 cfg0.N := by
  funext y
  obtain ⟨R, h, rfl⟩ : ∃ (R : Fin 7680) (h : Fin 8), y = ValueIdx.ix2 R h := ⟨y 0, y 1, ValueIdx.eq_ix2 y⟩
  exact ((Cert.QkvRef.flat_apply _ R h).trans (Cert.QkvRef.kScale_apply _ _ _ _ _ _ R h)).trans (Cert.QkvArray.final10 m c R h).symm

theorem vCode_eq (c : Dev nD) :
    G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (dats m 0 c).arrAt 11 cfg0.N := by
  funext y
  obtain ⟨R, h, d, rfl⟩ : ∃ (R : Fin 7680) (h : Fin 8) (d : Fin 128), y = ValueIdx.ix3 R h d := ⟨y 0, y 1, y 2, ValueIdx.eq_ix3 y⟩
  exact (Cert.QkvRef.vCode_apply _ _ _ _ _ _ R h d).trans (Cert.QkvArray.final11 m c R h d).symm

theorem vScale_eq (c : Dev nD) :
    flat (G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      = (dats m 0 c).arrAt 12 cfg0.N := by
  funext y
  obtain ⟨R, h, rfl⟩ : ∃ (R : Fin 7680) (h : Fin 8), y = ValueIdx.ix2 R h := ⟨y 0, y 1, ValueIdx.eq_ix2 y⟩
  exact ((Cert.QkvRef.flat_apply _ R h).trans (Cert.QkvRef.vScale_apply _ _ _ _ _ _ R h)).trans (Cert.QkvArray.final12 m c R h).symm

theorem algebraic : Cert.algebraic_QkvIdeal_QkvReferenceIdeal (hQkvIdeal := Cert.QkvIdeal.Gen.facts)
    (hQkvReferenceIdeal := Cert.QkvReferenceIdeal.Gen.facts) := by
  intro m g m' g' _ hm
  refine ⟨fun c => (dats m 0 c).arrAt 6 cfg0.N,
    fun c => (dats m 0 c).arrAt 7 cfg0.N,
    fun c => (dats m 0 c).arrAt 8 cfg0.N,
    fun c => (dats m 0 c).arrAt 9 cfg0.N,
    fun c => (dats m 0 c).arrAt 10 cfg0.N,
    fun c => (dats m 0 c).arrAt 11 cfg0.N,
    fun c => (dats m 0 c).arrAt 12 cfg0.N,
    Cert.QkvIdeal.Value.run_blocks m g, ?_⟩
  refine (θ_run _ _ _).mono (fun r h c => ?_) (Cert.QkvRefRun.run m' g')
  obtain ⟨h6, h7, h8, h9, h10, h11, h12, h⟩ := h c
  obtain ⟨e0, e1, e2, e3, e4, e5⟩ := hm c
  rw [e0, e1, e2, e3, e4, e5] at h6 h7 h8 h9 h10 h11 h12
  exact ⟨h6.trans (q_eq m c), h7.trans (rowCode_eq m c), h8.trans (rowScale_eq m c), h9.trans (kCode_eq m c), h10.trans (kScale_eq m c), h11.trans (vCode_eq m c), h12.trans (vScale_eq m c), h⟩

end Cert.QkvEq
-- ==== Proof.TripCount.lean ====
/- Hand-written, untrusted: HOW MANY BLOCKS OF 512 KEYS A BLOCK OF QUERIES READS, as the kernel computes it: the last position of the
   block, divided by 512 rounded down, plus one. -/
module

public import proofs.«01_k».proof.Proof.RowQuant

@[expose] public section

noncomputable section
namespace Cert.TripCount

open Idealize.ShloMosaic

/-- The quotient by 512 rounded down, plus one, by the operations of the kernel. -/
@[reducible] def stop (v : BitVec 32) : BitVec 32 :=
  Scalar.addi (Scalar.select (Scalar.andi
    (Scalar.cmpi .ne (Scalar.subi (Scalar.extui (Scalar.cmpi .sgt v 0#32)) (Scalar.extui (Scalar.cmpi .slt v 0#32)))
      (Scalar.subi (Scalar.extui (Scalar.cmpi .sgt 512#32 0#32)) (Scalar.extui (Scalar.cmpi .slt 512#32 0#32))))
    (Scalar.cmpi .ne (Scalar.remsi v 512#32) 0#32)) (Scalar.subi (Scalar.divsi v 512#32) 1#32) (Scalar.divsi v 512#32)) 1#32

theorem divsi_one (x : BitVec 32) : Scalar.divsi x 1#32 = x := by
  show (if IntOp.SDivCorner x 1#32 then _ else x.sdiv 1#32) = x
  rw [if_neg (by unfold IntOp.SDivCorner; rintro (h | h); exacts [absurd h (by decide), absurd h.2 (by decide)])]
  exact BitVec.sdiv_one

/-- Past the end: the value of `stop` as the upper bound of a loop. -/
theorem bound_eq (x : BitVec 32) :
    Scalar.addi 0#32 (Scalar.muli (Scalar.divsi (Scalar.subi x 0#32) 1#32) 1#32) = x := by
  rw [divsi_one]
  show 0#32 + (x - 0#32) * 1#32 = x
  simp

theorem bound_eq' (x : BitVec 32) : Scalar.addi 0#32 (Scalar.subi x 0#32) = x := by
  show 0#32 + (x - 0#32) = x
  simp

theorem divsi_512 (v : BitVec 32) : Scalar.divsi v 512#32 = v.sdiv 512#32 := by
  show (if IntOp.SDivCorner v 512#32 then _ else _) = _
  exact if_neg (by unfold IntOp.SDivCorner; rintro (h | h); exacts [absurd h (by decide), absurd h.2 (by decide)])

theorem remsi_512 (v : BitVec 32) : Scalar.remsi v 512#32 = v.srem 512#32 := by
  show (if IntOp.SDivCorner v 512#32 then _ else _) = _
  exact if_neg (by unfold IntOp.SDivCorner; rintro (h | h); exacts [absurd h (by decide), absurd h.2 (by decide)])

theorem stop_nonneg {v : BitVec 32} (h : 0 ≤ v.toInt) : (stop v).toInt = v.toInt / 512 + 1 := by
  have hq : (v.sdiv 512#32).toInt = v.toInt.tdiv 512 := BitVec.toInt_sdiv_of_ne_or_ne v 512#32 (.inr (by decide))
  rw [Int.tdiv_eq_ediv_of_nonneg h] at hq
  have hhi : v.toInt < 2147483648 := by have := BitVec.toInt_lt (x := v); simpa using this
  have hlt : Scalar.cmpi .slt v 0#32 = 0#1 := by
    show BitVec.ofBool (v.slt 0#32) = _
    have : v.slt 0#32 = false := by rw [BitVec.slt_eq_decide]; simpa using h
    rw [this]; rfl
  have hc : Scalar.andi (Scalar.cmpi .ne (Scalar.subi (Scalar.extui (Scalar.cmpi .sgt v 0#32)) (Scalar.extui (0#1)))
      (Scalar.subi (Scalar.extui (Scalar.cmpi .sgt 512#32 0#32)) (Scalar.extui (Scalar.cmpi .slt 512#32 0#32))))
      (Scalar.cmpi .ne (v.srem 512#32) 0#32) = 0#1 := by
    by_cases h0 : v = 0#32
    · subst h0; decide
    · have hgt : Scalar.cmpi .sgt v 0#32 = 1#1 := by
        show BitVec.ofBool ((0#32).slt v) = _
        have : (0#32).slt v = true := by
          rw [BitVec.slt_eq_decide]
          have : v.toInt ≠ 0 := fun h => h0 (BitVec.eq_of_toInt_eq (by simpa using h))
          simp; omega
        rw [this]; rfl
      rw [hgt]
      have : ∀ b : BitVec 1, Scalar.andi (Scalar.cmpi .ne (Scalar.subi (Scalar.extui (1#1)) (Scalar.extui (0#1)))
        (Scalar.subi (Scalar.extui (Scalar.cmpi .sgt 512#32 0#32)) (Scalar.extui (Scalar.cmpi .slt 512#32 0#32)))) b = 0#1 := by decide
      exact this _
  unfold stop
  rw [hlt, divsi_512, remsi_512, hc]
  show (v.sdiv 512#32 + 1#32).toInt = _
  rw [BitVec.toInt_add, hq, show (1#32 : BitVec 32).toInt = 1 by decide, Int.bmod_eq_of_le (by omega) (by omega)]

theorem stop_neg {v : BitVec 32} (h : v.toInt < 0) : (stop v).toInt ≤ 0 := by
  have hq : (v.sdiv 512#32).toInt = v.toInt.tdiv 512 := BitVec.toInt_sdiv_of_ne_or_ne v 512#32 (.inr (by decide))
  have hm : (v.srem 512#32).toInt = v.toInt.tmod 512 := BitVec.toInt_srem v 512#32
  have hs : 512 * v.toInt.tdiv 512 + v.toInt.tmod 512 = v.toInt := Int.mul_tdiv_add_tmod ..
  have hl : -512 < v.toInt.tmod 512 := Int.lt_tmod_of_pos _ (by norm_num)
  have hlo : -2147483648 ≤ v.toInt := by have := BitVec.le_toInt v; simpa using this
  have hgt : Scalar.cmpi .sgt v 0#32 = 0#1 := by
    show BitVec.ofBool ((0#32).slt v) = _
    have : (0#32).slt v = false := by rw [BitVec.slt_eq_decide]; simp; omega
    rw [this]; rfl
  have hlt : Scalar.cmpi .slt v 0#32 = 1#1 := by
    show BitVec.ofBool (v.slt 0#32) = _
    have : v.slt 0#32 = true := by rw [BitVec.slt_eq_decide]; simpa using h
    rw [this]; rfl
  have hne : ∀ b : BitVec 1, Scalar.andi (Scalar.cmpi .ne (Scalar.subi (Scalar.extui (0#1)) (Scalar.extui (1#1)))
      (Scalar.subi (Scalar.extui (Scalar.cmpi .sgt 512#32 0#32)) (Scalar.extui (Scalar.cmpi .slt 512#32 0#32)))) b = b := by decide
  unfold stop
  rw [hgt, hlt, divsi_512, remsi_512, hne]
  by_cases h0 : v.srem 512#32 = 0#32
  · have : Scalar.cmpi .ne (v.srem 512#32) 0#32 = 0#1 := by rw [h0]; decide
    rw [this]
    show (v.sdiv 512#32 + 1#32).toInt ≤ 0
    rw [h0] at hm
    have hm : (0 : Int) = v.toInt.tmod 512 := by simpa using hm
    rw [BitVec.toInt_add, hq, show (1#32 : BitVec 32).toInt = 1 by decide, Int.bmod_eq_of_le (by omega) (by omega)]
    omega
  · have : Scalar.cmpi .ne (v.srem 512#32) 0#32 = 1#1 := by
      show BitVec.ofBool (v.srem 512#32 != 0#32) = _
      rw [bne_iff_ne.2 h0]; rfl
    rw [this]
    show (v.sdiv 512#32 - 1#32 + 1#32).toInt ≤ 0
    rw [BitVec.sub_add_cancel, hq]
    omega

/-- The blocks a block of queries with last position `v` reads. -/
def blocks (v : BitVec 32) : ℕ := Scf.trips 0#32 (stop v) 1#32

theorem blocks_eq (v : BitVec 32) : blocks v = (stop v).toInt.toNat := by
  unfold blocks Scf.trips
  rw [show (0#32 : BitVec 32).toInt = 0 by decide, show (1#32 : BitVec 32).toInt = 1 by decide, Int.ediv_one]
  congr 1; omega

theorem blocks_neg {v : BitVec 32} (h : v.toInt < 0) : blocks v = 0 := by
  rw [blocks_eq]; exact Int.toNat_of_nonpos (stop_neg h)

theorem blocks_nonneg {v : BitVec 32} (h : 0 ≤ v.toInt) : (blocks v : ℤ) = v.toInt / 512 + 1 := by
  rw [blocks_eq, stop_nonneg h]; omega

theorem blocks_le {v : BitVec 32} (h' : v.toInt < 8192) : blocks v ≤ 16 := by
  by_cases h : v.toInt < 0
  · rw [blocks_neg h]; omega
  · have := blocks_nonneg (v := v) (by omega); omega

/-- No key past the blocks that are read is at or before the last position. -/
theorem lt_of_blocks {v : BitVec 32} (h' : v.toInt < 8192) {j : ℕ} (hj : 512 * blocks v ≤ j) : v.toInt < j := by
  by_cases h : v.toInt < 0
  · omega
  · have := blocks_nonneg (v := v) (by omega); omega

theorem loop_ok {v : BitVec 32} (h' : v.toInt < 8192) : Scf.OK 0#32 (stop v) 1#32 := by
  have := blocks_le h'
  unfold blocks at this
  refine ⟨by decide, ?_⟩
  rw [show (0#32 : BitVec 32).toInt = 0 by decide, show (1#32 : BitVec 32).toInt = 1 by decide]
  omega

theorem trips_self (x : BitVec 32) : Scf.trips x x 1#32 = 0 := by
  unfold Scf.trips
  rw [show (1#32 : BitVec 32).toInt = 1 by decide, sub_self]; rfl

theorem ok_self (x : BitVec 32) : Scf.OK x x 1#32 := by
  refine ⟨by decide, ?_⟩
  rw [trips_self]
  have := BitVec.toInt_lt (x := x)
  simpa using this

/-- The first key of a block. -/
theorem start_eq {i : ℕ} (h : i < 16) : Scalar.muli (Scf.iv 0#32 1#32 i) 512#32 = BitVec.ofNat 32 (512 * i) := by
  show (0#32 + BitVec.ofNat 32 i * 1#32) * 512#32 = _
  apply BitVec.eq_of_toNat_eq
  simp [BitVec.toNat_mul, BitVec.toNat_add, BitVec.toNat_ofNat]
  omega

end Cert.TripCount
end
end
-- ==== Proof.AttendHyps.lean ====
/- Hand-written, untrusted: THE PRECONDITION IMPLIES THE SIDE CONDITIONS THAT THE ATTENTION CALL ASSUMES. The last position of a block of
   queries lies before the end of the sequence, so the blocks of keys read for it lie inside the keys; the second of the two loops over
   them has no trip. -/
module

public import proofs.«01_k».proof.Defs
public import proofs.«01_k».proof.Proof.TripCount
public import proofs.«01_k».proof.Proof.AttendFrame
public import proofs.«01_k».proof.Proof.Gen.Pre_ascending_positions

@[expose] public section

noncomputable section
namespace Cert.AttendHyps

open Cert.Attend Cert.Attend.Gen Cert.TripCount
open Idealize.ShloMosaic Idealize.ShloMosaic.TcCoe

theorem loop2_eq (v : BitVec 32) : k0_t2_loop v = ⟨0#32, stop v, 1#32⟩ :=
  congrArg (fun u => (⟨0#32, u, 1#32⟩ : Scf.Loop 32)) (bound_eq (stop v))

theorem loop3_eq (v : BitVec 32) : k0_t3_loop v = ⟨stop v, stop v, 1#32⟩ :=
  congrArg₂ (fun u w => (⟨u, w, 1#32⟩ : Scf.Loop 32)) (bound_eq (stop v)) (bound_eq' (stop v))

theorem trips2_eq (v : BitVec 32) : (k0_t2_loop v).trips = blocks v := by
  rw [loop2_eq, blocks]

theorem trips3_eq (v : BitVec 32) : (k0_t3_loop v).trips = 0 := by
  rw [loop3_eq]; exact trips_self _

/-- Where block `k` of keys starts. -/
theorem start2_toNat {v : BitVec 32} (h : v.toInt < 8192) (k : Fin (k0_t2_loop v).trips) :
    (Scalar.muli (Scf.iv 0#32 1#32 k.val) 512#32).toNat = 512 * k.val := by
  have hk : k.val < 16 := (k.isLt.trans_eq (trips2_eq v)).trans_le (blocks_le h)
  rw [start_eq hk, BitVec.toNat_ofNat]
  exact Nat.mod_eq_of_lt (by omega)

theorem lt_of_trip {v : BitVec 32} (h : v.toInt < 8192) (k : Fin (k0_t2_loop v).trips) : k.val < 16 :=
  (k.isLt.trans_eq (trips2_eq v)).trans_le (blocks_le h)

theorem off6_eq {v : BitVec 32} (h : v.toInt < 8192) (k : Fin (k0_t2_loop v).trips) : k0_off6 v k = ![512 * k.val, 0] := by
  rw [← start2_toNat h k]; rfl

theorem off7_eq {v : BitVec 32} (h : v.toInt < 8192) (k : Fin (k0_t2_loop v).trips) : k0_off7 v k = ![0, 512 * k.val] := by
  rw [← start2_toNat h k]; rfl

theorem chk_of_lt (v : BitVec 32) (h : v.toInt < 8192) : k0_chk1 v := by
  have n3 : ∀ k : Fin (k0_t3_loop v).trips, False := fun k => Nat.not_lt_zero _ (k.isLt.trans_eq (trips3_eq v))
  refine ⟨?_, fun k => ?_, fun k a => ?_, fun k a => ?_, ?_, fun k => (n3 k).elim, fun k => (n3 k).elim, fun k => (n3 k).elim⟩
  · rw [loop2_eq]; exact loop_ok h
  · exact (start2_toNat h k).symm ▸ Dvd.intro _ rfl
  · have := lt_of_trip h k
    rw [off6_eq h k]; fin_cases a
    · show 512 * k.val + 512 ≤ 8192; omega
    · exact Nat.le_of_ble_eq_true rfl
  · have := lt_of_trip h k
    rw [off7_eq h k]; fin_cases a
    · exact Nat.le_of_ble_eq_true rfl
    · show 512 * k.val + 512 ≤ 8192; omega
  · rw [loop3_eq]; exact ok_self _

theorem ok (m : (ℓ : Loc nD τ sig) → Buf (Elt Bits) ℓ) : Ok m := trivial

/-- The table of positions, as integers. -/
def pos (m : (ℓ : Loc nD τ sig) → Buf (Elt Bits) ℓ) (c : Dev nD) (b : Fin 6) (s : Fin 1280) : BitVec 32 :=
  m ((c.tc : Thread nD τ).loc main_arg0) (ValueIdx.ix2 b s)

theorem pos_lt (m : (ℓ : Loc nD τ sig) → Buf (Elt Bits) ℓ) (h : Cert.Pre_Attend (hPre_ascending_positions := Cert.Pre_ascending_positions.Gen.facts) m) (c : Dev nD) (i : S6x1280.Idx) :
    BitVec.toInt (n := 32) (m ((c.tc : Thread nD τ).loc main_arg0) i) < 8192 := by
  have := congrFun (h c).1 i
  exact (IntOp.cmpi_slt.mp this).trans_eq (show (8192#32 : BitVec 32).toInt = 8192 by decide)

theorem pos_le (m : (ℓ : Loc nD τ sig) → Buf (Elt Bits) ℓ) (h : Cert.Pre_Attend (hPre_ascending_positions := Cert.Pre_ascending_positions.Gen.facts) m) (c : Dev nD) (b : Fin 6) (s : Fin 1279) :
    (pos m c b s.castSucc).toInt ≤ (pos m c b s.succ).toInt := by
  have := IntOp.cmpi_sle.mp (congrFun (h c).2 (ValueIdx.ix2 b s))
  rw [show (pos m c b s.castSucc) = _ from (extractStridedSlice_apply (t := Cert.Pre_ascending_positions.S6x1279) ![0, 0] _
      Cert.Pre_ascending_positions.Gen.slices_S6x1280_S6x1279_0_0 (ValueIdx.ix2 b s) (ValueIdx.ix2 b s.castSucc)
      (fun a => by fin_cases a; exacts [(Nat.zero_add _).symm, (Nat.zero_add _).symm])).symm,
    show (pos m c b s.succ) = _ from (extractStridedSlice_apply (t := Cert.Pre_ascending_positions.S6x1279) ![0, 1] _
      Cert.Pre_ascending_positions.Gen.slices_S6x1280_S6x1279_0_1 (ValueIdx.ix2 b s) (ValueIdx.ix2 b s.succ)
      (fun a => by fin_cases a; exacts [(Nat.zero_add _).symm, Nat.add_comm _ _])).symm]
  exact this

/-- The positions ascend. -/
theorem pos_mono (m : (ℓ : Loc nD τ sig) → Buf (Elt Bits) ℓ) (h : Cert.Pre_Attend (hPre_ascending_positions := Cert.Pre_ascending_positions.Gen.facts) m) (c : Dev nD) (b : Fin 6) :
    Monotone fun s => (pos m c b s).toInt := Fin.monotone_iff_le_succ.mpr (pos_le m h c b)

theorem hyps (m : (ℓ : Loc nD τ sig) → Buf (Elt Bits) ℓ) (h : Cert.Pre_Attend (hPre_ascending_positions := Cert.Pre_ascending_positions.Gen.facts) m) : Hyps m (ok m) := by
  intro c t
  refine chk_of_lt _ (?_ : BitVec.toInt (n := 32) (View.readAt (Elt Bits) (s := S6x1280) (e := .i32) tbM0_0.view _ (tbl m 0) _) < 8192)
  exact pos_lt m h 0 _

end Cert.AttendHyps
-- ==== Proof.AttendIdealHyps.lean ====
/- Hand-written, untrusted: THE PRECONDITION IMPLIES THE SIDE CONDITIONS THAT THE ATTENTION CALL ASSUMES. The last position of a block of
   queries lies before the end of the sequence, so the blocks of keys read for it lie inside the keys; the second of the two loops over
   them has no trip. -/
module

public import proofs.«01_k».proof.Defs
public import proofs.«01_k».proof.Proof.TripCount
public import proofs.«01_k».proof.Proof.AttendIdealFrame
public import proofs.«01_k».proof.Proof.Gen.Pre_ascending_positions

@[expose] public section

noncomputable section
namespace Cert.AttendIdealHyps

open Cert.AttendIdeal Cert.AttendIdeal.Gen Cert.TripCount
open Idealize.ShloMosaic Idealize.ShloMosaic.TcCoe

theorem loop2_eq (v : BitVec 32) : k0_t2_loop v = ⟨0#32, stop v, 1#32⟩ :=
  congrArg (fun u => (⟨0#32, u, 1#32⟩ : Scf.Loop 32)) (bound_eq (stop v))

theorem loop3_eq (v : BitVec 32) : k0_t3_loop v = ⟨stop v, stop v, 1#32⟩ :=
  congrArg₂ (fun u w => (⟨u, w, 1#32⟩ : Scf.Loop 32)) (bound_eq (stop v)) (bound_eq' (stop v))

theorem trips2_eq (v : BitVec 32) : (k0_t2_loop v).trips = blocks v := by
  rw [loop2_eq, blocks]

theorem trips3_eq (v : BitVec 32) : (k0_t3_loop v).trips = 0 := by
  rw [loop3_eq]; exact trips_self _

/-- Where block `k` of keys starts. -/
theorem start2_toNat {v : BitVec 32} (h : v.toInt < 8192) (k : Fin (k0_t2_loop v).trips) :
    (Scalar.muli (Scf.iv 0#32 1#32 k.val) 512#32).toNat = 512 * k.val := by
  have hk : k.val < 16 := (k.isLt.trans_eq (trips2_eq v)).trans_le (blocks_le h)
  rw [start_eq hk, BitVec.toNat_ofNat]
  exact Nat.mod_eq_of_lt (by omega)

theorem lt_of_trip {v : BitVec 32} (h : v.toInt < 8192) (k : Fin (k0_t2_loop v).trips) : k.val < 16 :=
  (k.isLt.trans_eq (trips2_eq v)).trans_le (blocks_le h)

theorem off6_eq {v : BitVec 32} (h : v.toInt < 8192) (k : Fin (k0_t2_loop v).trips) : k0_off6 v k = ![512 * k.val, 0] := by
  rw [← start2_toNat h k]; rfl

theorem off7_eq {v : BitVec 32} (h : v.toInt < 8192) (k : Fin (k0_t2_loop v).trips) : k0_off7 v k = ![0, 512 * k.val] := by
  rw [← start2_toNat h k]; rfl

theorem chk_of_lt (v : BitVec 32) (h : v.toInt < 8192) : k0_chk1 v := by
  have n3 : ∀ k : Fin (k0_t3_loop v).trips, False := fun k => Nat.not_lt_zero _ (k.isLt.trans_eq (trips3_eq v))
  refine ⟨?_, fun k => ?_, fun k a => ?_, fun k a => ?_, ?_, fun k => (n3 k).elim, fun k => (n3 k).elim, fun k => (n3 k).elim⟩
  · rw [loop2_eq]; exact loop_ok h
  · exact (start2_toNat h k).symm ▸ Dvd.intro _ rfl
  · have := lt_of_trip h k
    rw [off6_eq h k]; fin_cases a
    · show 512 * k.val + 512 ≤ 8192; omega
    · exact Nat.le_of_ble_eq_true rfl
  · have := lt_of_trip h k
    rw [off7_eq h k]; fin_cases a
    · exact Nat.le_of_ble_eq_true rfl
    · show 512 * k.val + 512 ≤ 8192; omega
  · rw [loop3_eq]; exact ok_self _

theorem ok (m : (ℓ : Loc nD τ sig) → Buf (Elt Ideal) ℓ) : Ok m := trivial

/-- The table of positions, as integers. -/
def pos (m : (ℓ : Loc nD τ sig) → Buf (Elt Ideal) ℓ) (c : Dev nD) (b : Fin 6) (s : Fin 1280) : BitVec 32 :=
  m ((c.tc : Thread nD τ).loc main_arg0) (ValueIdx.ix2 b s)

theorem pos_lt (m : (ℓ : Loc nD τ sig) → Buf (Elt Ideal) ℓ) (h : Cert.Pre_AttendIdeal (hPre_ascending_positions := Cert.Pre_ascending_positions.Gen.facts) m) (c : Dev nD) (i : S6x1280.Idx) :
    BitVec.toInt (n := 32) (m ((c.tc : Thread nD τ).loc main_arg0) i) < 8192 := by
  have := congrFun (h c).1 i
  exact (IntOp.cmpi_slt.mp this).trans_eq (show (8192#32 : BitVec 32).toInt = 8192 by decide)

theorem pos_le (m : (ℓ : Loc nD τ sig) → Buf (Elt Ideal) ℓ) (h : Cert.Pre_AttendIdeal (hPre_ascending_positions := Cert.Pre_ascending_positions.Gen.facts) m) (c : Dev nD) (b : Fin 6) (s : Fin 1279) :
    (pos m c b s.castSucc).toInt ≤ (pos m c b s.succ).toInt := by
  have := IntOp.cmpi_sle.mp (congrFun (h c).2 (ValueIdx.ix2 b s))
  rw [show (pos m c b s.castSucc) = _ from (extractStridedSlice_apply (t := Cert.Pre_ascending_positions.S6x1279) ![0, 0] _
      Cert.Pre_ascending_positions.Gen.slices_S6x1280_S6x1279_0_0 (ValueIdx.ix2 b s) (ValueIdx.ix2 b s.castSucc)
      (fun a => by fin_cases a; exacts [(Nat.zero_add _).symm, (Nat.zero_add _).symm])).symm,
    show (pos m c b s.succ) = _ from (extractStridedSlice_apply (t := Cert.Pre_ascending_positions.S6x1279) ![0, 1] _
      Cert.Pre_ascending_positions.Gen.slices_S6x1280_S6x1279_0_1 (ValueIdx.ix2 b s) (ValueIdx.ix2 b s.succ)
      (fun a => by fin_cases a; exacts [(Nat.zero_add _).symm, Nat.add_comm _ _])).symm]
  exact this

/-- The positions ascend. -/
theorem pos_mono (m : (ℓ : Loc nD τ sig) → Buf (Elt Ideal) ℓ) (h : Cert.Pre_AttendIdeal (hPre_ascending_positions := Cert.Pre_ascending_positions.Gen.facts) m) (c : Dev nD) (b : Fin 6) :
    Monotone fun s => (pos m c b s).toInt := Fin.monotone_iff_le_succ.mpr (pos_le m h c b)

theorem hyps (m : (ℓ : Loc nD τ sig) → Buf (Elt Ideal) ℓ) (h : Cert.Pre_AttendIdeal (hPre_ascending_positions := Cert.Pre_ascending_positions.Gen.facts) m) : Hyps m (ok m) := by
  intro c t
  refine chk_of_lt _ (?_ : BitVec.toInt (n := 32) (View.readAt (Elt Ideal) (s := S6x1280) (e := .i32) tbM0_0.view _ (tbl m 0) _) < 8192)
  exact pos_lt m h 0 _

end Cert.AttendIdealHyps
-- ==== Proof.AttendScratch.lean ====
/- Hand-written, untrusted: WHAT THE ATTENTION CALL'S FIRST BLOCK OF QUERIES LEAVES IN THE FOUR SCRATCH ARRAYS: the keys, the values turned,
   the keys' scales with the softmax scale and log₂ e multiplied in and the values' scales, each scale along 128 columns. -/
module

public import proofs.«01_k».proof.Proof.AttendStep
public import proofs.«01_k».proof.Proof.AttendIdealFrame
public import Idealize.ShloMosaic.Lib.Pipeline.ReadBack
public import Idealize.ShloMosaic.Lib.ValueLayout

@[expose] public section

noncomputable section
namespace Cert.AttendScratch

open Idealize.ShloMosaic Idealize.SL.Sem Cert.AttendIdeal Cert.AttendIdeal.Gen Cert.RowQuant

/-- The softmax scale times log₂ e. -/
def unit : EReal := Ideal.ofBits .f32 0x3E0293EE#32

def keysOf (x : Vec Ideal S1x1x8192x128 .fp8e4m3) : Vec Ideal S8192x128 .bf16 :=
  fun y => x (ValueIdx.ix4 0 0 (y 0 : Fin 8192) (y 1 : Fin 128))

def valuesOf (x : Vec Ideal S1x1x8192x128 .fp8e4m3) : Vec Ideal S128x8192 .bf16 :=
  fun y => x (ValueIdx.ix4 0 0 (y 1 : Fin 8192) (y 0 : Fin 128))

def kscaleOf (x : Vec Ideal S1x1x1x8192 .f32) : Vec Ideal S8192x128 .f32 :=
  fun y => x (ValueIdx.ix4 0 0 0 (y 0 : Fin 8192)) * unit

def vscaleOf (x : Vec Ideal S1x1x1x8192 .f32) : Vec Ideal S8192x128 .f32 :=
  fun y => x (ValueIdx.ix4 0 0 0 (y 0 : Fin 8192))

theorem cast_4_2 {α : Type} {M K : ℕ} (x : (⟨4, ![1, 1, M, K]⟩ : Shape).Idx → α) (hc : (⟨4, ![1, 1, M, K]⟩ : Shape).ShapeCasts ⟨2, ![M, K]⟩)
    (r : Fin M) (l : Fin K) : shapeCast ⟨2, ![M, K]⟩ x hc (ValueIdx.ix2 r l) = x (ValueIdx.ix4 0 0 r l) :=
  shapeCast_apply x hc (ValueIdx.ix2 r l) (ValueIdx.ix4 0 0 r l) (by
    rw [Shape.rowMajor_val_four, Shape.rowMajor_val_two]
    show ((0 * 1 + 0) * M + r.val) * K + l.val = r.val * K + l.val
    simp only [Nat.zero_mul, Nat.zero_add])

theorem cast_self {α : Type} {M K : ℕ} (x : (⟨2, ![M, K]⟩ : Shape).Idx → α) (hc : (⟨2, ![M, K]⟩ : Shape).ShapeCasts ⟨2, ![M, K]⟩)
    (r : Fin M) (l : Fin K) : shapeCast ⟨2, ![M, K]⟩ x hc (ValueIdx.ix2 r l) = x (ValueIdx.ix2 r l) :=
  shapeCast_apply x hc _ _ rfl

theorem idx1 {i : grid0.Coords} {k0_h1 : k0_cond1 i = 1#1} (k : Fin k0_t1_loop.trips) (r l : Fin 128) (h : 128 * k.val + r.val < 8192) :
    (Rect.unit (s := S1x1x8192x128) (k0_off1 k) S1x1x128x128.size (k0_off1_inb i k k0_h1)).idx (ValueIdx.ix4 0 0 r l) = ValueIdx.ix4 0 0 (⟨128 * k.val + r.val, h⟩ : Fin 8192) l := by
  have e := k0_off1_eq k
  funext a
  refine Fin.ext ?_
  match a with
  | ⟨0, _⟩ => show k0_off1 k 0 + 1 * 0 = 0; rw [congrFun e 0]; rfl
  | ⟨1, _⟩ => show k0_off1 k 1 + 1 * 0 = 0; rw [congrFun e 1]; rfl
  | ⟨2, _⟩ => show k0_off1 k 2 + 1 * r.val = 128 * k.val + r.val; rw [congrFun e 2, Nat.one_mul]; rfl
  | ⟨3, _⟩ => show k0_off1 k 3 + 1 * l.val = l.val; rw [congrFun e 3]; show 0 + 1 * l.val = l.val; omega

theorem idx2 {i : grid0.Coords} {k0_h1 : k0_cond1 i = 1#1} (k : Fin k0_t1_loop.trips) (r l : Fin 128) (h : 128 * k.val + r.val < 8192) :
    (Rect.unit (s := S8192x128) (k0_off2 k) S128x128.size (k0_off2_inb i k k0_h1)).emb (ValueIdx.ix2 r l) = ValueIdx.ix2 (⟨128 * k.val + r.val, h⟩ : Fin 8192) l := by
  have e := k0_off2_eq k
  funext a
  refine Fin.ext ?_
  match a with
  | ⟨0, _⟩ => show k0_off2 k 0 + 1 * r.val = 128 * k.val + r.val; rw [congrFun e 0, Nat.one_mul]; rfl
  | ⟨1, _⟩ => show k0_off2 k 1 + 1 * l.val = l.val; rw [congrFun e 1]; show 0 + 1 * l.val = l.val; omega

theorem idx3 {i : grid0.Coords} {k0_h1 : k0_cond1 i = 1#1} (k : Fin k0_t1_loop.trips) (r l : Fin 128) (h : 128 * k.val + l.val < 8192) :
    (Rect.unit (s := S128x8192) (k0_off3 k) S128x128.size (k0_off3_inb i k k0_h1)).emb (ValueIdx.ix2 r l) = ValueIdx.ix2 r (⟨128 * k.val + l.val, h⟩ : Fin 8192) := by
  have e := k0_off3_eq k
  funext a
  refine Fin.ext ?_
  match a with
  | ⟨0, _⟩ => show k0_off3 k 0 + 1 * r.val = r.val; rw [congrFun e 0]; show 0 + 1 * r.val = r.val; omega
  | ⟨1, _⟩ => show k0_off3 k 1 + 1 * l.val = 128 * k.val + l.val; rw [congrFun e 1, Nat.one_mul]; rfl

theorem idx4 {i : grid0.Coords} {k0_h1 : k0_cond1 i = 1#1} (k : Fin k0_t1_loop.trips) (r : Fin 128) (h : 128 * k.val + r.val < 8192) :
    (Rect.unit (s := S1x1x1x8192) (k0_off4 k) S1x1x1x128.size (k0_off4_inb i k k0_h1)).idx (ValueIdx.ix4 0 0 0 r) = ValueIdx.ix4 0 0 0 (⟨128 * k.val + r.val, h⟩ : Fin 8192) := by
  have e := k0_off4_eq k
  funext a
  refine Fin.ext ?_
  match a with
  | ⟨0, _⟩ => show k0_off4 k 0 + 1 * 0 = 0; rw [congrFun e 0]; rfl
  | ⟨1, _⟩ => show k0_off4 k 1 + 1 * 0 = 0; rw [congrFun e 1]; rfl
  | ⟨2, _⟩ => show k0_off4 k 2 + 1 * 0 = 0; rw [congrFun e 2]; rfl
  | ⟨3, _⟩ => show k0_off4 k 3 + 1 * r.val = 128 * k.val + r.val; rw [congrFun e 3, Nat.one_mul]; rfl

theorem lt_rows (k : Fin k0_t1_loop.trips) (r : Fin 128) : 128 * k.val + r.val < 8192 := by
  have hk : k.val < 64 := Nat.lt_of_lt_of_le k.isLt k0_t1_abs.2.1
  have := r.isLt
  omega

theorem keyStrip {M K : ℕ} (x : FVec Ideal ⟨4, ![1, 1, M, K]⟩ .fp8e4m3) (h1 : (⟨4, ![1, 1, M, K]⟩ : Shape).ShapeCasts ⟨2, ![M, K]⟩)
    (h2 : (⟨2, ![M, K]⟩ : Shape).ShapeCasts ⟨2, ![M, K]⟩) (hb : FTy.fp8e4m3.bits < FTy.bf16.bits) (r : Fin M) (l : Fin K) :
    shapeCast ⟨2, ![M, K]⟩ (extf (F := Ideal) .bf16 (shapeCast ⟨2, ![M, K]⟩ x h1) hb) h2 (ValueIdx.ix2 r l) = x (ValueIdx.ix4 0 0 r l) :=
  (cast_self _ h2 r l).trans (cast_4_2 x h1 r l)

theorem valueStrip {M K : ℕ} (x : FVec Ideal ⟨4, ![1, 1, M, K]⟩ .fp8e4m3) (h1 : (⟨4, ![1, 1, M, K]⟩ : Shape).ShapeCasts ⟨2, ![M, K]⟩)
    (ht : (⟨2, ![M, K]⟩ : Shape).Transposes [1, 0] ⟨2, ![K, M]⟩) (h2 : (⟨2, ![K, M]⟩ : Shape).ShapeCasts ⟨2, ![K, M]⟩)
    (hb : FTy.fp8e4m3.bits < FTy.f32.bits) (hb' : FTy.bf16.bits < FTy.f32.bits) (r : Fin K) (l : Fin M) :
    shapeCast ⟨2, ![K, M]⟩ (truncf (F := Ideal) .bf16 (transpose ⟨2, ![K, M]⟩ [1, 0] (extf (F := Ideal) .f32 (shapeCast ⟨2, ![M, K]⟩ x h1) hb) ht) hb') h2
      (ValueIdx.ix2 r l) = x (ValueIdx.ix4 0 0 l r) :=
  (cast_self _ h2 r l).trans ((ValueIdx.transpose_ix2_apply (extf (F := Ideal) .f32 (shapeCast ⟨2, ![M, K]⟩ x h1) hb) ht r l).trans (cast_4_2 x h1 l r))

theorem vscaleStrip {M K : ℕ} (x : FVec Ideal ⟨2, ![1, M]⟩ .f32) (h1 : (⟨2, ![1, M]⟩ : Shape).ShapeCasts ⟨2, ![1, M]⟩)
    (hb : (⟨2, ![1, M]⟩ : Shape).Broadcasts ⟨2, ![K, M]⟩)
    (ht : (⟨2, ![K, M]⟩ : Shape).Transposes [1, 0] ⟨2, ![M, K]⟩) (h2 : (⟨2, ![M, K]⟩ : Shape).ShapeCasts ⟨2, ![M, K]⟩) (r : Fin M) (l : Fin K) :
    shapeCast ⟨2, ![M, K]⟩ (transpose ⟨2, ![M, K]⟩ [1, 0] (broadcastTo ⟨2, ![K, M]⟩ (shapeCast ⟨2, ![1, M]⟩ x h1) hb) ht) h2 (ValueIdx.ix2 r l)
      = x (ValueIdx.ix2 0 r) :=
  (cast_self _ h2 r l).trans ((ValueIdx.transpose_ix2_apply (broadcastTo ⟨2, ![K, M]⟩ (shapeCast ⟨2, ![1, M]⟩ x h1) hb) ht r l).trans
    ((bcastRow_apply (shapeCast ⟨2, ![1, M]⟩ x h1) hb l r).trans (cast_self x h1 0 r)))

theorem strip_keys {i : grid0.Coords} {k0_h1 : k0_cond1 i = 1#1} (x : Vec Ideal S1x1x8192x128 .fp8e4m3) (k : Fin k0_t1_loop.trips) (y : (Rect.unit (s := S8192x128) (k0_off2 k) S128x128.size (k0_off2_inb i k k0_h1)).shape.Idx) :
    k0_pay20 (F := Ideal) (View.ld x (Rect.unit (s := S1x1x8192x128) (k0_off1 k) S1x1x128x128.size (k0_off1_inb i k k0_h1))) y = keysOf x ((Rect.unit (s := S8192x128) (k0_off2 k) S128x128.size (k0_off2_inb i k k0_h1)).emb y) := by
  obtain ⟨r, l, rfl⟩ : ∃ (r l : Fin 128), y = ValueIdx.ix2 r l := ⟨y 0, y 1, ValueIdx.eq_ix2 y⟩
  rw [idx2 (i := i) (k0_h1 := k0_h1) k r l (lt_rows k r)]
  unfold k0_pay20
  refine (keyStrip (View.ld x (Rect.unit (s := S1x1x8192x128) (k0_off1 k) S1x1x128x128.size (k0_off1_inb i k k0_h1))) shapeCasts_S1x1x128x128_S128x128 shapeCasts_S128x128_S128x128 bitsLt_fp8e4m3_bf16 r l).trans ?_
  rw [View.ld_apply, idx1 (i := i) (k0_h1 := k0_h1) k r l (lt_rows k r)]; rfl

theorem strip_values {i : grid0.Coords} {k0_h1 : k0_cond1 i = 1#1} (x : Vec Ideal S1x1x8192x128 .fp8e4m3) (k : Fin k0_t1_loop.trips) (y : (Rect.unit (s := S128x8192) (k0_off3 k) S128x128.size (k0_off3_inb i k k0_h1)).shape.Idx) :
    k0_pay21 (F := Ideal) (View.ld x (Rect.unit (s := S1x1x8192x128) (k0_off1 k) S1x1x128x128.size (k0_off1_inb i k k0_h1))) y = valuesOf x ((Rect.unit (s := S128x8192) (k0_off3 k) S128x128.size (k0_off3_inb i k k0_h1)).emb y) := by
  obtain ⟨r, l, rfl⟩ : ∃ (r l : Fin 128), y = ValueIdx.ix2 r l := ⟨y 0, y 1, ValueIdx.eq_ix2 y⟩
  rw [idx3 (i := i) (k0_h1 := k0_h1) k r l (lt_rows k l)]
  unfold k0_pay21
  refine (valueStrip (View.ld x (Rect.unit (s := S1x1x8192x128) (k0_off1 k) S1x1x128x128.size (k0_off1_inb i k k0_h1))) shapeCasts_S1x1x128x128_S128x128 transposes_S128x128_p1_0_S128x128 shapeCasts_S128x128_S128x128
    bitsLt_fp8e4m3_f32 bitsLt_bf16_f32 r l).trans ?_
  rw [View.ld_apply, idx1 (i := i) (k0_h1 := k0_h1) k l r (lt_rows k l)]; rfl

theorem strip_kscale {i : grid0.Coords} {k0_h1 : k0_cond1 i = 1#1} (x : Vec Ideal S1x1x1x8192 .f32) (k : Fin k0_t1_loop.trips) (y : (Rect.unit (s := S8192x128) (k0_off2 k) S128x128.size (k0_off2_inb i k k0_h1)).shape.Idx) :
    k0_pay22 (F := Ideal) (View.ld x (Rect.unit (s := S1x1x1x8192) (k0_off4 k) S1x1x1x128.size (k0_off4_inb i k k0_h1))) y = kscaleOf x ((Rect.unit (s := S8192x128) (k0_off2 k) S128x128.size (k0_off2_inb i k k0_h1)).emb y) := by
  obtain ⟨r, l, rfl⟩ : ∃ (r l : Fin 128), y = ValueIdx.ix2 r l := ⟨y 0, y 1, ValueIdx.eq_ix2 y⟩
  rw [idx2 (i := i) (k0_h1 := k0_h1) k r l (lt_rows k r)]
  unfold k0_pay22
  refine (vscaleStrip (mulf (F := Ideal) (shapeCast S1x128 (View.ld x (Rect.unit (s := S1x1x1x8192) (k0_off4 k) S1x1x1x128.size (k0_off4_inb i k k0_h1))) shapeCasts_S1x1x1x128_S1x128) (broadcast S1x128 (Scalar.ofBits (F := Ideal) .f32 0x3E0293EE#32)))
    shapeCasts_S1x128_S1x128 broadcasts_S1x128_S128x128 transposes_S128x128_p1_0_S128x128 shapeCasts_S128x128_S128x128 r l).trans ?_
  refine congrArg (· * unit) ((cast_4_2 (View.ld x (Rect.unit (s := S1x1x1x8192) (k0_off4 k) S1x1x1x128.size (k0_off4_inb i k k0_h1))) shapeCasts_S1x1x1x128_S1x128 0 r).trans ?_)
  rw [View.ld_apply, idx4 (i := i) (k0_h1 := k0_h1) k r (lt_rows k r)]

theorem strip_vscale {i : grid0.Coords} {k0_h1 : k0_cond1 i = 1#1} (x : Vec Ideal S1x1x1x8192 .f32) (k : Fin k0_t1_loop.trips) (y : (Rect.unit (s := S8192x128) (k0_off2 k) S128x128.size (k0_off2_inb i k k0_h1)).shape.Idx) :
    k0_pay24 (F := Ideal) (k0_pay23 (F := Ideal) (View.ld x (Rect.unit (s := S1x1x1x8192) (k0_off4 k) S1x1x1x128.size (k0_off4_inb i k k0_h1)))) y = vscaleOf x ((Rect.unit (s := S8192x128) (k0_off2 k) S128x128.size (k0_off2_inb i k k0_h1)).emb y) := by
  obtain ⟨r, l, rfl⟩ : ∃ (r l : Fin 128), y = ValueIdx.ix2 r l := ⟨y 0, y 1, ValueIdx.eq_ix2 y⟩
  rw [idx2 (i := i) (k0_h1 := k0_h1) k r l (lt_rows k r)]
  unfold k0_pay24 k0_pay23
  refine (vscaleStrip (shapeCast S1x128 (View.ld x (Rect.unit (s := S1x1x1x8192) (k0_off4 k) S1x1x1x128.size (k0_off4_inb i k k0_h1))) shapeCasts_S1x1x1x128_S1x128)
    shapeCasts_S1x128_S1x128 broadcasts_S1x128_S128x128 transposes_S128x128_p1_0_S128x128 shapeCasts_S128x128_S128x128 r l).trans ?_
  refine (cast_4_2 (View.ld x (Rect.unit (s := S1x1x1x8192) (k0_off4 k) S1x1x1x128.size (k0_off4_inb i k k0_h1))) shapeCasts_S1x1x1x128_S1x128 0 r).trans ?_
  rw [View.ld_apply, idx4 (i := i) (k0_h1 := k0_h1) k r (lt_rows k r)]; rfl

/-- One trip stores a strip of each. -/
theorem trip_eq (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) (k : Fin k0_t1_loop.trips) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) k
      = ([⟨(Rect.unit (s := S8192x128) (k0_off2 k) S128x128.size (k0_off2_inb i k k0_h1)), k0_pay20 (F := Ideal) (View.ld x1 (Rect.unit (s := S1x1x8192x128) (k0_off1 k) S1x1x128x128.size (k0_off1_inb i k k0_h1)))⟩], [⟨(Rect.unit (s := S128x8192) (k0_off3 k) S128x128.size (k0_off3_inb i k k0_h1)), k0_pay21 (F := Ideal) (View.ld x3 (Rect.unit (s := S1x1x8192x128) (k0_off1 k) S1x1x128x128.size (k0_off1_inb i k k0_h1)))⟩],
         [⟨(Rect.unit (s := S8192x128) (k0_off2 k) S128x128.size (k0_off2_inb i k k0_h1)), k0_pay22 (F := Ideal) (View.ld x2 (Rect.unit (s := S1x1x1x8192) (k0_off4 k) S1x1x1x128.size (k0_off4_inb i k k0_h1)))⟩], [⟨(Rect.unit (s := S8192x128) (k0_off2 k) S128x128.size (k0_off2_inb i k k0_h1)), k0_pay24 (F := Ideal) (k0_pay23 (F := Ideal) (View.ld x4 (Rect.unit (s := S1x1x1x8192) (k0_off4 k) S1x1x1x128.size (k0_off4_inb i k k0_h1))))⟩]) := by
  have h5 : View.readAt (Elt Ideal) arg5.view (Rect.unit (s := S1x1x8192x128) (k0_off1 k) S1x1x128x128.size (k0_off1_inb i k k0_h1)).toLoadRect (harg5.unread x1) = View.ld x1 (Rect.unit (s := S1x1x8192x128) (k0_off1 k) S1x1x128x128.size (k0_off1_inb i k k0_h1)) := by rw [View.readAt_eq_ld, harg5.read_unread]
  have h6 : View.readAt (Elt Ideal) arg6.view (Rect.unit (s := S1x1x1x8192) (k0_off4 k) S1x1x1x128.size (k0_off4_inb i k k0_h1)).toLoadRect (harg6.unread x2) = View.ld x2 (Rect.unit (s := S1x1x1x8192) (k0_off4 k) S1x1x1x128.size (k0_off4_inb i k k0_h1)) := by rw [View.readAt_eq_ld, harg6.read_unread]
  have h7 : View.readAt (Elt Ideal) arg7.view (Rect.unit (s := S1x1x8192x128) (k0_off1 k) S1x1x128x128.size (k0_off1_inb i k k0_h1)).toLoadRect (harg7.unread x3) = View.ld x3 (Rect.unit (s := S1x1x8192x128) (k0_off1 k) S1x1x128x128.size (k0_off1_inb i k k0_h1)) := by rw [View.readAt_eq_ld, harg7.read_unread]
  have h8 : View.readAt (Elt Ideal) arg8.view (Rect.unit (s := S1x1x1x8192) (k0_off4 k) S1x1x1x128.size (k0_off4_inb i k k0_h1)).toLoadRect (harg8.unread x4) = View.ld x4 (Rect.unit (s := S1x1x1x8192) (k0_off4 k) S1x1x1x128.size (k0_off4_inb i k k0_h1)) := by rw [View.readAt_eq_ld, harg8.read_unread]
  rw [← h5, ← h6, ← h7, ← h8]
  unfold tripL_k0_t1 trip_k0_t1
  rfl

/-- One more store that is a block. -/
theorem piecesOf_cons {Val : EltTy → Type} {s : Shape} {e : EltTy} (G : s.Idx → Val e) (p : View.Piece Val s e) (L : List (View.Piece Val s e))
    (h : ∀ x : p.1.shape.Idx, p.2 x = G (p.1.emb x)) (hL : View.PiecesOf G L) : View.PiecesOf G ([p] ++ L) := ⟨h, hL⟩

set_option maxRecDepth 4000 in
/-- Every store of the first `n` trips is a block of the four arrays. -/
theorem pieces (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) (n : ℕ) (hn : n ≤ k0_t1_loop.trips) :
    View.PiecesOf (keysOf x1) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) n).1
      ∧ View.PiecesOf (valuesOf x3) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) n).2.1
      ∧ View.PiecesOf (kscaleOf x2) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) n).2.2.1
      ∧ View.PiecesOf (vscaleOf x4) (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) n).2.2.2 := by
  induction n with
  | zero => rw [pb_k0_t1.eq_1]; exact ⟨trivial, trivial, trivial, trivial⟩
  | succ n ih =>
    have ih := ih (Nat.le_of_succ_le hn)
    rw [pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) ⟨n, hn⟩, trip_eq]
    exact ⟨piecesOf_cons _ _ _ (strip_keys (i := i) (k0_h1 := k0_h1) x1 ⟨n, hn⟩) ih.1, piecesOf_cons _ _ _ (strip_values (i := i) (k0_h1 := k0_h1) x3 ⟨n, hn⟩) ih.2.1,
      piecesOf_cons _ _ _ (strip_kscale (i := i) (k0_h1 := k0_h1) x2 ⟨n, hn⟩) ih.2.2.1, piecesOf_cons _ _ _ (strip_vscale (i := i) (k0_h1 := k0_h1) x4 ⟨n, hn⟩) ih.2.2.2⟩

theorem canon_keys (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) :
    View.canon (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) (Scf.trips k0_t1_loop.lb k0_t1_loop.ub k0_t1_loop.st)).1 = keysOf x1 :=
  funext fun y => View.canon_apply_of_pieces _ _ (pieces 𝒱 c bd i arg3 harg3 arg4 harg4 arg5 harg5 arg6 harg6 arg7 harg7 arg8 harg8 arg9 harg9 arg10 harg10 arg11 harg11 arg12 harg12 arg13 harg13 arg14 harg14 k0_h1 x1 x3 x2 x4 _ (by decide +kernel)).1.mem y
    (View.cover_of_tiledL (s := S8192x128) _ S128x128.size (by sl_kernel_rfl) y)

theorem canon_values (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) :
    View.canon (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) (Scf.trips k0_t1_loop.lb k0_t1_loop.ub k0_t1_loop.st)).2.1 = valuesOf x3 :=
  funext fun y => View.canon_apply_of_pieces _ _ (pieces 𝒱 c bd i arg3 harg3 arg4 harg4 arg5 harg5 arg6 harg6 arg7 harg7 arg8 harg8 arg9 harg9 arg10 harg10 arg11 harg11 arg12 harg12 arg13 harg13 arg14 harg14 k0_h1 x1 x3 x2 x4 _ (by decide +kernel)).2.1.mem y
    (View.cover_of_tiledL (s := S128x8192) _ S128x128.size (by sl_kernel_rfl) y)

theorem canon_kscale (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) :
    View.canon (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) (Scf.trips k0_t1_loop.lb k0_t1_loop.ub k0_t1_loop.st)).2.2.1 = kscaleOf x2 :=
  funext fun y => View.canon_apply_of_pieces _ _ (pieces 𝒱 c bd i arg3 harg3 arg4 harg4 arg5 harg5 arg6 harg6 arg7 harg7 arg8 harg8 arg9 harg9 arg10 harg10 arg11 harg11 arg12 harg12 arg13 harg13 arg14 harg14 k0_h1 x1 x3 x2 x4 _ (by decide +kernel)).2.2.1.mem y
    (View.cover_of_tiledL (s := S8192x128) _ S128x128.size (by sl_kernel_rfl) y)

theorem canon_vscale (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (k0_h1 : k0_cond1 i = 1#1) (x1 x3 : Vec Ideal S1x1x8192x128 .fp8e4m3) (x2 x4 : Vec Ideal S1x1x1x8192 .f32) :
    View.canon (pb_k0_t1 (F := Ideal) 𝒱 c bd i arg3 harg3 arg4 harg4 arg5 harg5 arg6 harg6 arg7 harg7 arg8 harg8 arg9 harg9 arg10 harg10 arg11 harg11 arg12 harg12 arg13 harg13 arg14 harg14 k0_h1 (harg5.unread x1) (harg6.unread x2) (harg7.unread x3) (harg8.unread x4) (Scf.trips k0_t1_loop.lb k0_t1_loop.ub k0_t1_loop.st)).2.2.2 = vscaleOf x4 :=
  funext fun y => View.canon_apply_of_pieces _ _ (pieces 𝒱 c bd i arg3 harg3 arg4 harg4 arg5 harg5 arg6 harg6 arg7 harg7 arg8 harg8 arg9 harg9 arg10 harg10 arg11 harg11 arg12 harg12 arg13 harg13 arg14 harg14 k0_h1 x1 x3 x2 x4 _ (by decide +kernel)).2.2.2.mem y
    (View.cover_of_tiledL (s := S8192x128) _ S128x128.size (by sl_kernel_rfl) y)

end Cert.AttendScratch
end
-- ==== Proof.AttendLoop.lean ====
/- Hand-written, untrusted: WHAT THE LOOP OVER BLOCKS OF KEYS CARRIES. Each of its trips takes 512 more keys into the streaming softmax of
   every column; the second loop has no trip. -/
module

public import proofs.«01_k».proof.Proof.AttendStep
public import proofs.«01_k».proof.Proof.AttendIdealHyps

@[expose] public section

noncomputable section
namespace Cert.AttendLoop

open Idealize.ShloMosaic Idealize.SL.Sem Cert.AttendIdeal Cert.AttendIdeal.Gen Cert.AttendStep Cert.AttendIdealHyps Cert.TripCount

/-- The score of key `j` for the query in column `c`; minus infinity for a key past the query's position. -/
def score (q : FVec Ideal S128x256 .bf16) (pos : IVec S1x256 32) (kb : Vec Ideal S8192x128 .bf16) (ks : ℕ → EReal) (c : Fin 256) (j : ℕ) : EReal :=
  if h : j < 8192 then
    if (j : ℤ) ≤ (pos (ValueIdx.ix2 0 c)).toInt then (∑ d : Fin 128, kb (ValueIdx.ix2 (⟨j, h⟩ : Fin 8192) d) * q (ValueIdx.ix2 d c)) * ks j else ⊥
  else ⊥

/-- Feature `e` of the value of key `j`. -/
def value (vt : Vec Ideal S128x8192 .bf16) (e : Fin 128) (j : ℕ) : EReal :=
  if h : j < 8192 then vt (ValueIdx.ix2 e (⟨j, h⟩ : Fin 8192)) else 0

theorem ld_rows {φ : EltTy} {v : BitVec 32} (hv : v.toInt < 8192) (hw : k0_chk1 v) (k : Fin (k0_t2_loop v).trips) (x : Vec Ideal S8192x128 φ)
    (r : Fin 512) (l : Fin 128) (h : 512 * k.val + r.val < 8192) :
    View.ld x (Rect.unit (s := S8192x128) (k0_off6 v k) S512x128.size (k0_off6_inb v hw k)) (ValueIdx.ix2 r l)
      = x (ValueIdx.ix2 (⟨512 * k.val + r.val, h⟩ : Fin 8192) l) := by
  refine View.ld_unit_apply_of x _ _ _ _ _ fun a => ?_
  have e := off6_eq hv k
  match a with
  | ⟨0, _⟩ => exact congrArg (· + r.val) (congrFun e 0).symm
  | ⟨1, _⟩ => exact ((Nat.zero_add _).symm.trans (congrArg (· + l.val) (congrFun e 1).symm))

theorem ld_cols {φ : EltTy} {v : BitVec 32} (hv : v.toInt < 8192) (hw : k0_chk1 v) (k : Fin (k0_t2_loop v).trips) (x : Vec Ideal S128x8192 φ)
    (e : Fin 128) (r : Fin 512) (h : 512 * k.val + r.val < 8192) :
    View.ld x (Rect.unit (s := S128x8192) (k0_off7 v k) S128x512.size (k0_off7_inb v hw k)) (ValueIdx.ix2 e r)
      = x (ValueIdx.ix2 e (⟨512 * k.val + r.val, h⟩ : Fin 8192)) := by
  refine View.ld_unit_apply_of x _ _ _ _ _ fun a => ?_
  have e' := off7_eq hv k
  match a with
  | ⟨0, _⟩ => exact ((Nat.zero_add _).symm.trans (congrArg (· + e.val) (congrFun e' 0).symm))
  | ⟨1, _⟩ => exact congrArg (· + r.val) (congrFun e' 1).symm

/-- One trip: 512 more keys. -/
theorem pays_step {v : BitVec 32} (hv : v.toInt < 8192) (hw : k0_chk1 v) (k : Fin (k0_t2_loop v).trips)
    (q : FVec Ideal S128x256 .bf16) (pos : IVec S1x256 32) (kb : Vec Ideal S8192x128 .bf16) (vt : Vec Ideal S128x8192 .bf16)
    (ksb vsb : Vec Ideal S8192x128 .f32) (ks vs : ℕ → EReal) (hks : ∀ (j : Fin 8192) l, ksb (ValueIdx.ix2 j l) = ks j.val)
    (hvs : ∀ (j : Fin 8192) l, vsb (ValueIdx.ix2 j l) = vs j.val) (c : Fin 256)
    (acc : FVec Ideal S1x256 .f32 × FVec Ideal S1x256 .f32 × FVec Ideal S128x256 .f32)
    (h : Carried (score q pos kb ks c) vs (value vt) c (512 * k.val) acc) :
    Carried (score q pos kb ks c) vs (value vt) c (512 * (k.val + 1))
      (k0_pay2 (F := Ideal) q pos v k acc.1 (View.ld kb (Rect.unit (s := S8192x128) (k0_off6 v k) S512x128.size (k0_off6_inb v hw k)))
          (View.ld ksb (Rect.unit (s := S8192x128) (k0_off6 v k) S512x128.size (k0_off6_inb v hw k))),
       k0_pay5 (F := Ideal) q pos v k acc.1 acc.2.1 (View.ld kb (Rect.unit (s := S8192x128) (k0_off6 v k) S512x128.size (k0_off6_inb v hw k)))
          (View.ld ksb (Rect.unit (s := S8192x128) (k0_off6 v k) S512x128.size (k0_off6_inb v hw k))),
       k0_pay6 (F := Ideal) q pos v k acc.1 acc.2.2 (View.ld kb (Rect.unit (s := S8192x128) (k0_off6 v k) S512x128.size (k0_off6_inb v hw k)))
          (View.ld ksb (Rect.unit (s := S8192x128) (k0_off6 v k) S512x128.size (k0_off6_inb v hw k)))
          (View.ld vsb (Rect.unit (s := S8192x128) (k0_off6 v k) S512x128.size (k0_off6_inb v hw k)))
          (View.ld vt (Rect.unit (s := S128x8192) (k0_off7 v k) S128x512.size (k0_off7_inb v hw k)))) := by
  have hk := lt_of_trip hv k
  have lt : ∀ r : Fin 512, 512 * k.val + r.val < 8192 := fun r => by have := r.isLt; omega
  have key := Carried.step (L := 128) h dot_S128x512_S512x256_S128x256_1_0_0_1_n_n rfl concatenates_S512x128_S512x128_S512x256_d1
    broadcasts_S1x256_S512x256 broadcasts_S1x256_S128x256 reduces_S512x256_S256 shapeCasts_S256_S1x256 bitsLt_bf16_f32
    (scores dot_S512x128_S128x256_S512x256_1_0_0_1_n_n concatenates_S512x128_S512x128_S512x256_d1 iota_S512x256_d0_w32 broadcasts_S1x256_S512x256
      (Scalar.muli (Scf.iv 0#32 1#32 k.val) 512#32) q pos
      (View.ld kb (Rect.unit (s := S8192x128) (k0_off6 v k) S512x128.size (k0_off6_inb v hw k)))
      (View.ld ksb (Rect.unit (s := S8192x128) (k0_off6 v k) S512x128.size (k0_off6_inb v hw k))))
    (View.ld vt (Rect.unit (s := S128x8192) (k0_off7 v k) S128x512.size (k0_off7_inb v hw k)))
    (View.ld vsb (Rect.unit (s := S8192x128) (k0_off6 v k) S512x128.size (k0_off6_inb v hw k))) (by decide)
    (fun r => by
      rw [start_eq hk, scores_apply dot_S512x128_S128x256_S512x256_1_0_0_1_n_n rfl concatenates_S512x128_S512x128_S512x256_d1 iota_S512x256_d0_w32
        broadcasts_S1x256_S512x256 (512 * k.val) (by omega) q pos _ _ (by decide) (fun r => ks (512 * k.val + r))
        (fun r l => (ld_rows hv hw k ksb r l (lt r)).trans (hks _ l)) r c]
      unfold score
      rw [dif_pos (lt r)]
      refine if_congr Iff.rfl (congrArg (· * _) (Finset.sum_congr rfl fun d _ => ?_)) rfl
      rw [ld_rows hv hw k kb r d (lt r)])
    (fun e r => by unfold value; rw [dif_pos (lt r)]; exact ld_cols hv hw k vt e r (lt r))
    (fun r l => (ld_rows hv hw k vsb r l (lt r)).trans (hvs _ l))
  exact key

theorem tripR_eq (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole)
    (v4 : FVec Ideal S128x256 .bf16) (v7 : IVec S1x256 32) (v13 : Elt Ideal .i32) (hw : k0_chk1 v13)
    (kb : Vec Ideal S8192x128 .bf16) (vt : Vec Ideal S128x8192 .bf16) (ksb vsb : Vec Ideal S8192x128 .f32) (k : Fin (k0_t2_loop v13).trips)
    (acc : FVec Ideal S1x256 .f32 × FVec Ideal S1x256 .f32 × FVec Ideal S128x256 .f32) :
    tripR_k0_t2 (F := Ideal) 𝒱 c bd i arg3 harg3 arg4 harg4 arg5 harg5 arg6 harg6 arg7 harg7 arg8 harg8 arg9 harg9 arg10 harg10 arg11 harg11 arg12 harg12 arg13 harg13 arg14 harg14 v4 v7 v13 hw (harg11.unread kb) (harg12.unread vt) (harg13.unread ksb) (harg14.unread vsb) k acc
      = (k0_pay2 (F := Ideal) v4 v7 v13 k acc.1 (View.ld kb (Rect.unit (s := S8192x128) (k0_off6 v13 k) S512x128.size (k0_off6_inb v13 hw k)))
          (View.ld ksb (Rect.unit (s := S8192x128) (k0_off6 v13 k) S512x128.size (k0_off6_inb v13 hw k))),
       k0_pay5 (F := Ideal) v4 v7 v13 k acc.1 acc.2.1 (View.ld kb (Rect.unit (s := S8192x128) (k0_off6 v13 k) S512x128.size (k0_off6_inb v13 hw k)))
          (View.ld ksb (Rect.unit (s := S8192x128) (k0_off6 v13 k) S512x128.size (k0_off6_inb v13 hw k))),
       k0_pay6 (F := Ideal) v4 v7 v13 k acc.1 acc.2.2 (View.ld kb (Rect.unit (s := S8192x128) (k0_off6 v13 k) S512x128.size (k0_off6_inb v13 hw k)))
          (View.ld ksb (Rect.unit (s := S8192x128) (k0_off6 v13 k) S512x128.size (k0_off6_inb v13 hw k)))
          (View.ld vsb (Rect.unit (s := S8192x128) (k0_off6 v13 k) S512x128.size (k0_off6_inb v13 hw k)))
          (View.ld vt (Rect.unit (s := S128x8192) (k0_off7 v13 k) S128x512.size (k0_off7_inb v13 hw k)))) := by
  have h11 : View.readAt (Elt Ideal) arg11.view (Rect.unit (s := S8192x128) (k0_off6 v13 k) S512x128.size (k0_off6_inb v13 hw k)).toLoadRect (harg11.unread kb)
      = View.ld kb (Rect.unit (s := S8192x128) (k0_off6 v13 k) S512x128.size (k0_off6_inb v13 hw k)) := by
    rw [View.readAt_eq_ld, harg11.read_unread]
  have h12 : View.readAt (Elt Ideal) arg12.view (Rect.unit (s := S128x8192) (k0_off7 v13 k) S128x512.size (k0_off7_inb v13 hw k)).toLoadRect (harg12.unread vt)
      = View.ld vt (Rect.unit (s := S128x8192) (k0_off7 v13 k) S128x512.size (k0_off7_inb v13 hw k)) := by
    rw [View.readAt_eq_ld, harg12.read_unread]
  have h13 : View.readAt (Elt Ideal) arg13.view (Rect.unit (s := S8192x128) (k0_off6 v13 k) S512x128.size (k0_off6_inb v13 hw k)).toLoadRect (harg13.unread ksb)
      = View.ld ksb (Rect.unit (s := S8192x128) (k0_off6 v13 k) S512x128.size (k0_off6_inb v13 hw k)) := by
    rw [View.readAt_eq_ld, harg13.read_unread]
  have h14 : View.readAt (Elt Ideal) arg14.view (Rect.unit (s := S8192x128) (k0_off6 v13 k) S512x128.size (k0_off6_inb v13 hw k)).toLoadRect (harg14.unread vsb)
      = View.ld vsb (Rect.unit (s := S8192x128) (k0_off6 v13 k) S512x128.size (k0_off6_inb v13 hw k)) := by
    rw [View.readAt_eq_ld, harg14.read_unread]
  rw [← h11, ← h12, ← h13, ← h14]
  unfold tripR_k0_t2 trip_k0_t2
  rfl

set_option maxRecDepth 4000 in
/-- After `n` trips of the first loop. -/
theorem carried (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole)
    (v4 : FVec Ideal S128x256 .bf16) (v7 : IVec S1x256 32) (v13 : Elt Ideal .i32) (hw : k0_chk1 v13) (hv : BitVec.toInt (n := 32) v13 < 8192)
    (kb : Vec Ideal S8192x128 .bf16) (vt : Vec Ideal S128x8192 .bf16)
    (ksb vsb : Vec Ideal S8192x128 .f32) (ks vs : ℕ → EReal) (hks : ∀ (j : Fin 8192) l, ksb (ValueIdx.ix2 j l) = ks j.val)
    (hvs : ∀ (j : Fin 8192) l, vsb (ValueIdx.ix2 j l) = vs j.val) (col : Fin 256) (n : ℕ) (hn : n ≤ (k0_t2_loop v13).trips) :
    Carried (score v4 v7 kb ks col) vs (value vt) col (512 * n)
      (st_k0_t2 (F := Ideal) 𝒱 c bd i arg3 harg3 arg4 harg4 arg5 harg5 arg6 harg6 arg7 harg7 arg8 harg8 arg9 harg9 arg10 harg10 arg11 harg11 arg12 harg12 arg13 harg13 arg14 harg14 v4 v7 v13 hw (harg11.unread kb) (harg12.unread vt) (harg13.unread ksb) (harg14.unread vsb)
        (k0_pay27 (F := Ideal), k0_pay28 (F := Ideal), k0_pay29 (F := Ideal)) n) := by
  induction n with
  | zero => rw [st_k0_t2_zero]; exact Carried.zero _ _ _ _
  | succ n ih =>
    have ih := ih (Nat.le_of_succ_le hn)
    rw [st_k0_t2_succ (F := Ideal) 𝒱 c bd i arg3 harg3 arg4 harg4 arg5 harg5 arg6 harg6 arg7 harg7 arg8 harg8 arg9 harg9 arg10 harg10 arg11 harg11 arg12 harg12 arg13 harg13 arg14 harg14 v4 v7 v13 hw _ _ _ _ _ ⟨n, hn⟩, tripR_eq]
    exact pays_step hv hw ⟨n, hn⟩ v4 v7 kb vt ksb vsb ks vs hks hvs col _ ih

/-- The second loop has no trip. -/
theorem second (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole)
    (v4 : FVec Ideal S128x256 .bf16) (v7 : IVec S1x256 32) (v13 : Elt Ideal .i32) (hw : k0_chk1 v13) (v17 : BitVec 32) (v31 : BitVec 1)
    (X11 : BufTy.Contents (Elt Ideal) arg11.view.ty) (X12 : BufTy.Contents (Elt Ideal) arg12.view.ty) (X13 : BufTy.Contents (Elt Ideal) arg13.view.ty) (X14 : BufTy.Contents (Elt Ideal) arg14.view.ty)
    (init : FVec Ideal S1x256 .f32 × FVec Ideal S1x256 .f32 × FVec Ideal S128x256 .f32) :
    st_k0_t3 (F := Ideal) 𝒱 c bd i arg3 harg3 arg4 harg4 arg5 harg5 arg6 harg6 arg7 harg7 arg8 harg8 arg9 harg9 arg10 harg10 arg11 harg11 arg12 harg12 arg13 harg13 arg14 harg14 v4 v7 v13 hw v17 v31 X11 X12 X13 X14 init (k0_t3_loop v13).trips = init := by
  rw [trips3_eq, st_k0_t3_zero]

end Cert.AttendLoop
end
-- ==== Proof.AttendBlock.lean ====
/- Hand-written, untrusted: WHAT ONE GRID POINT OF THE ATTENTION CALL LEAVES in its output block, as a function of its input blocks: the
   softmax over the first blocks of keys, for 64 queries and four heads. -/
module

public import proofs.«01_k».proof.Proof.AttendScratch
public import proofs.«01_k».proof.Proof.AttendLoop

@[expose] public section

noncomputable section
namespace Cert.AttendBlock

open Idealize.ShloMosaic Idealize.SL.Sem Cert.AttendIdeal Cert.AttendIdeal.Gen Cert.RowQuant Cert.AttendStep Cert.AttendScratch Cert.AttendLoop Cert.TripCount

/-- The column of the products that belongs to an entry of the output block: group, then query. -/
def col (y : S1x64x512.Idx) : Fin 256 :=
  ⟨(y 2).val / 128 * 64 + (y 1).val, by have h1 : (y 1).val < 64 := (y 1).isLt; have h2 : (y 2).val < 512 := (y 2).isLt; omega⟩

/-- The feature that belongs to an entry of the output block. -/
def feat (y : S1x64x512.Idx) : Fin 128 := ⟨(y 2).val % 128, Nat.mod_lt _ (by decide)⟩

/-- The output block, from the two sums the streaming softmax carries. -/
def outTile (D : FVec Ideal S1x256 .f32) (N : FVec Ideal S128x256 .f32) : Vec Ideal S1x64x512 .f32 :=
  fun y => Ideal.div (N (ValueIdx.ix2 (feat y) (col y))) (D (ValueIdx.ix2 0 (col y)))

theorem cast_2_3 {α : Type} {M K : ℕ} (x : (⟨2, ![M, K]⟩ : Shape).Idx → α) (hc : (⟨2, ![M, K]⟩ : Shape).ShapeCasts ⟨3, ![1, M, K]⟩)
    (z : Fin 1) (r : Fin M) (l : Fin K) : shapeCast ⟨3, ![1, M, K]⟩ x hc (ValueIdx.ix3 z r l) = x (ValueIdx.ix2 r l) :=
  shapeCast_apply x hc (ValueIdx.ix3 z r l) (ValueIdx.ix2 r l) (by
    have hz : z.val = 0 := by have := z.isLt; omega
    rw [Shape.rowMajor_val_three, Shape.rowMajor_val_two]
    show r.val * K + l.val = (z.val * M + r.val) * K + l.val
    rw [hz, Nat.zero_mul, Nat.zero_add])

/-- Rows `ro …` of the transpose of columns `o …` of the quotients. -/
theorem strip_apply {A B C E : ℕ} (D : FVec Ideal ⟨2, ![1, C]⟩ .f32) (N : FVec Ideal ⟨2, ![A, C]⟩ .f32) (o ro : ℕ)
    (hb : (⟨2, ![1, C]⟩ : Shape).Broadcasts ⟨2, ![A, C]⟩) (hs : (⟨2, ![A, C]⟩ : Shape).Slices ![0, o] ⟨2, ![A, B]⟩)
    (ht : (⟨2, ![A, B]⟩ : Shape).Transposes [1, 0] ⟨2, ![B, A]⟩) (hs' : (⟨2, ![B, A]⟩ : Shape).Slices ![ro, 0] ⟨2, ![E, A]⟩)
    (hc : (⟨2, ![E, A]⟩ : Shape).ShapeCasts ⟨3, ![1, E, A]⟩) (z : Fin 1) (r : Fin E) (d : Fin A) (h1 : ro + r.val < B) (h2 : o + (ro + r.val) < C) :
    shapeCast ⟨3, ![1, E, A]⟩ (extractStridedSlice ⟨2, ![E, A]⟩ ![ro, 0] (transpose ⟨2, ![B, A]⟩ [1, 0]
        (extractStridedSlice ⟨2, ![A, B]⟩ ![0, o] (divf (F := Ideal) N (broadcastTo ⟨2, ![A, C]⟩ D hb)) hs) ht) hs') hc (ValueIdx.ix3 z r d)
      = Ideal.div (N (ValueIdx.ix2 d ⟨o + (ro + r.val), h2⟩)) (D (ValueIdx.ix2 0 ⟨o + (ro + r.val), h2⟩)) := by
  refine (cast_2_3 _ hc z r d).trans ?_
  refine (extractStridedSlice_apply (t := ⟨2, ![E, A]⟩) ![ro, 0] _ hs' (ValueIdx.ix2 r d) (ValueIdx.ix2 (⟨ro + r.val, h1⟩ : Fin B) d) (fun a => ?_)).trans ?_
  · match a with
    | ⟨0, _⟩ => rfl
    | ⟨1, _⟩ => exact (Nat.zero_add _).symm
  refine (ValueIdx.transpose_ix2_apply (extractStridedSlice ⟨2, ![A, B]⟩ ![0, o] (divf (F := Ideal) N (broadcastTo ⟨2, ![A, C]⟩ D hb)) hs) ht _ _).trans ?_
  refine (extractStridedSlice_apply (t := ⟨2, ![A, B]⟩) ![0, o] _ hs (ValueIdx.ix2 d (⟨ro + r.val, h1⟩ : Fin B)) (ValueIdx.ix2 d (⟨o + (ro + r.val), h2⟩ : Fin C)) (fun a => ?_)).trans ?_
  · match a with
    | ⟨0, _⟩ => exact (Nat.zero_add _).symm
    | ⟨1, _⟩ => rfl
  show Ideal.div _ (broadcastTo ⟨2, ![A, C]⟩ D hb (ValueIdx.ix2 d _)) = _
  rw [bcastRow_apply]

/-- The output's four stores are the output block. -/
theorem piece_eq (D : FVec Ideal S1x256 .f32) (N : FVec Ideal S128x256 .f32) (o : ℕ) (ho : ∀ a, (![0, 0, o] : Fin 3 → ℕ) a + (![1, 64, 128] : Fin 3 → ℕ) a ≤ S1x64x512.size a)
    (g : ℕ) (hg : o = g * 128) (z : Fin 1) (r : Fin 64) (d : Fin 128) (h2 : g * 64 + r.val < 256) :
    outTile D N ((Rect.unit (s := S1x64x512) ![0, 0, o] ![1, 64, 128] ho).emb (ValueIdx.ix3 z r d))
      = Ideal.div (N (ValueIdx.ix2 d ⟨g * 64 + r.val, h2⟩)) (D (ValueIdx.ix2 0 ⟨g * 64 + r.val, h2⟩)) := by
  have hc : col ((Rect.unit (s := S1x64x512) ![0, 0, o] ![1, 64, 128] ho).emb (ValueIdx.ix3 z r d)) = ⟨g * 64 + r.val, h2⟩ := by
    refine Fin.ext ?_
    show (o + 1 * d.val) / 128 * 64 + (0 + 1 * r.val) = g * 64 + r.val
    have := d.isLt
    omega
  have hf : feat ((Rect.unit (s := S1x64x512) ![0, 0, o] ![1, 64, 128] ho).emb (ValueIdx.ix3 z r d)) = d := by
    refine Fin.ext ?_
    show (o + 1 * d.val) % 128 = d.val
    have := d.isLt
    omega
  unfold outTile
  rw [hc, hf]

theorem tiles (D : FVec Ideal S1x256 .f32) (N : FVec Ideal S128x256 .f32) (y : S1x64x512.Idx) :
    View.canon (Val := Elt Ideal) (e := .f32)
      [⟨Rect.unit (s := S1x64x512) ![0, 0, 384] ![1, 64, 128] inb_S1x64x512_S1x64x128_0_0_384, k0_pay19 (F := Ideal) D N⟩,
       ⟨Rect.unit (s := S1x64x512) ![0, 0, 256] ![1, 64, 128] inb_S1x64x512_S1x64x128_0_0_256, k0_pay18 (F := Ideal) D N⟩,
       ⟨Rect.unit (s := S1x64x512) ![0, 0, 128] ![1, 64, 128] inb_S1x64x512_S1x64x128_0_0_128, k0_pay16 (F := Ideal) D N⟩,
       ⟨Rect.unit (s := S1x64x512) ![0, 0, 0] ![1, 64, 128] inb_S1x64x512_S1x64x128_0_0_0, k0_pay15 (F := Ideal) D N⟩] y = outTile D N y := by
  refine View.canon_apply_of_pieces (outTile D N) _ ?_ y
    (View.cover_of_tiledL (s := S1x64x512) _ ![1, 64, 128] (by sl_kernel_rfl) y)
  refine View.PiecesOf.mem ?_
  refine ⟨?_, ?_, ?_, ?_, trivial⟩
  · intro x
    obtain ⟨z, r, d, rfl⟩ : ∃ (z : Fin 1) (r : Fin 64) (d : Fin 128), x = ValueIdx.ix3 z r d := ⟨x 0, x 1, x 2, ValueIdx.eq_ix3 x⟩
    have hr := r.isLt
    refine Eq.trans ?_ (piece_eq D N 384 inb_S1x64x512_S1x64x128_0_0_384 3 rfl z r d (by omega)).symm
    show k0_pay19 (F := Ideal) D N (ValueIdx.ix3 z r d) = _
    unfold k0_pay19 k0_pay17 k0_pay13
    refine (strip_apply D N 128 64 broadcasts_S1x256_S128x256 slices_S128x256_o0_128_S128x128 transposes_S128x128_p1_0_S128x128
      slices_S128x128_o64_0_S64x128 shapeCasts_S64x128_S1x64x128 z r d (by omega) (by omega)).trans ?_
    have e : (⟨128 + (64 + r.val), by omega⟩ : Fin 256) = ⟨3 * 64 + r.val, by omega⟩ := Fin.ext (by show 128 + (64 + r.val) = 3 * 64 + r.val; omega)
    rw [e]
  · intro x
    obtain ⟨z, r, d, rfl⟩ : ∃ (z : Fin 1) (r : Fin 64) (d : Fin 128), x = ValueIdx.ix3 z r d := ⟨x 0, x 1, x 2, ValueIdx.eq_ix3 x⟩
    have hr := r.isLt
    refine Eq.trans ?_ (piece_eq D N 256 inb_S1x64x512_S1x64x128_0_0_256 2 rfl z r d (by omega)).symm
    show k0_pay18 (F := Ideal) D N (ValueIdx.ix3 z r d) = _
    unfold k0_pay18 k0_pay17 k0_pay13
    refine (strip_apply D N 128 0 broadcasts_S1x256_S128x256 slices_S128x256_o0_128_S128x128 transposes_S128x128_p1_0_S128x128
      slices_S128x128_o0_0_S64x128 shapeCasts_S64x128_S1x64x128 z r d (by omega) (by omega)).trans ?_
    have e : (⟨128 + (0 + r.val), by omega⟩ : Fin 256) = ⟨2 * 64 + r.val, by omega⟩ := Fin.ext (by show 128 + (0 + r.val) = 2 * 64 + r.val; omega)
    rw [e]
  · intro x
    obtain ⟨z, r, d, rfl⟩ : ∃ (z : Fin 1) (r : Fin 64) (d : Fin 128), x = ValueIdx.ix3 z r d := ⟨x 0, x 1, x 2, ValueIdx.eq_ix3 x⟩
    have hr := r.isLt
    refine Eq.trans ?_ (piece_eq D N 128 inb_S1x64x512_S1x64x128_0_0_128 1 rfl z r d (by omega)).symm
    show k0_pay16 (F := Ideal) D N (ValueIdx.ix3 z r d) = _
    unfold k0_pay16 k0_pay14 k0_pay13
    refine (strip_apply D N 0 64 broadcasts_S1x256_S128x256 slices_S128x256_o0_0_S128x128 transposes_S128x128_p1_0_S128x128
      slices_S128x128_o64_0_S64x128 shapeCasts_S64x128_S1x64x128 z r d (by omega) (by omega)).trans ?_
    have e : (⟨0 + (64 + r.val), by omega⟩ : Fin 256) = ⟨1 * 64 + r.val, by omega⟩ := Fin.ext (by show 0 + (64 + r.val) = 1 * 64 + r.val; omega)
    rw [e]
  · intro x
    obtain ⟨z, r, d, rfl⟩ : ∃ (z : Fin 1) (r : Fin 64) (d : Fin 128), x = ValueIdx.ix3 z r d := ⟨x 0, x 1, x 2, ValueIdx.eq_ix3 x⟩
    have hr := r.isLt
    refine Eq.trans ?_ (piece_eq D N 0 inb_S1x64x512_S1x64x128_0_0_0 0 rfl z r d (by omega)).symm
    show k0_pay15 (F := Ideal) D N (ValueIdx.ix3 z r d) = _
    unfold k0_pay15 k0_pay14 k0_pay13
    refine (strip_apply D N 0 0 broadcasts_S1x256_S128x256 slices_S128x256_o0_0_S128x128 transposes_S128x128_p1_0_S128x128
      slices_S128x128_o0_0_S64x128 shapeCasts_S64x128_S1x64x128 z r d (by omega) (by omega)).trans ?_
    have e : (⟨0 + (0 + r.val), by omega⟩ : Fin 256) = ⟨0 * 64 + r.val, by omega⟩ := Fin.ext (by show 0 + (0 + r.val) = 0 * 64 + r.val; omega)
    rw [e]

/-- The scales of the keys, with the softmax scale and log₂ e multiplied in. -/
def kscale (x : Vec Ideal S1x1x1x8192 .f32) (j : ℕ) : EReal := if h : j < 8192 then x (ValueIdx.ix4 0 0 0 (⟨j, h⟩ : Fin 8192)) * unit else 0

/-- The scales of the values. -/
def vscale (x : Vec Ideal S1x1x1x8192 .f32) (j : ℕ) : EReal := if h : j < 8192 then x (ValueIdx.ix4 0 0 0 (⟨j, h⟩ : Fin 8192)) else 0

/-- The output block: the softmax over the first `n` keys. -/
def blockOut (x0 : Vec Ideal S1x1x1x128x256 .bf16) (x1 : Vec Ideal S1x1x8192x128 .fp8e4m3) (x2 : Vec Ideal S1x1x1x8192 .f32)
    (x3 : Vec Ideal S1x1x8192x128 .fp8e4m3) (x4 : Vec Ideal S1x1x1x8192 .f32) (x5 : Vec Ideal S1x1x1x64 .i32) (n : ℕ) : Vec Ideal S1x64x512 .f32 :=
  fun y => Softmax.attn (score (k0_pay25 (F := Ideal) x0) (k0_pay26 (F := Ideal) x5) (keysOf x1) (kscale x2) (col y)) (vscale x4) (value (valuesOf x3) (feat y)) n

/-- The two loops over keys, from scratch arrays that hold the keys and values. -/
theorem core (𝒱 : Variants) (c : Dev nD) (bd : Option 𝒱.V) (i : grid0.Coords) (arg3 : Memref sig .tc .smem S6x1280 .i32) (harg3 : arg3.IsWhole) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole)
    (x0 : Vec Ideal S1x1x1x128x256 .bf16) (x1 : Vec Ideal S1x1x8192x128 .fp8e4m3) (x2 : Vec Ideal S1x1x1x8192 .f32)
    (x3 : Vec Ideal S1x1x8192x128 .fp8e4m3) (x4 : Vec Ideal S1x1x1x8192 .f32) (x5 : Vec Ideal S1x1x1x64 .i32)
    (v13 : Elt Ideal .i32) (hw : k0_chk1 v13) (hv : BitVec.toInt (n := 32) v13 < 8192) (v17 : BitVec 32) (v31 : BitVec 1)
    (X11 : BufTy.Contents (Elt Ideal) arg11.view.ty) (X12 : BufTy.Contents (Elt Ideal) arg12.view.ty) (X13 : BufTy.Contents (Elt Ideal) arg13.view.ty) (X14 : BufTy.Contents (Elt Ideal) arg14.view.ty)
    (h11 : X11 = harg11.unread (keysOf x1)) (h12 : X12 = harg12.unread (valuesOf x3)) (h13 : X13 = harg13.unread (kscaleOf x2)) (h14 : X14 = harg14.unread (vscaleOf x4))
    (y : S1x64x512.Idx) :
    outTile
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 (k0_pay25 x0) (k0_pay26 (F := Ideal) x5) v13 hw v17 v31 X11 X12 X13 X14
        (st_k0_t2 (F := Ideal) 𝒱 c bd i arg3 harg3 arg4 harg4 arg5 harg5 arg6 harg6 arg7 harg7 arg8 harg8 arg9 harg9 arg10 harg10 arg11 harg11 arg12 harg12 arg13 harg13 arg14 harg14 (k0_pay25 x0) (k0_pay26 (F := Ideal) x5) v13 hw X11 X12 X13 X14 (k0_pay27, k0_pay28, k0_pay29) (k0_t2_loop v13).trips) (k0_t3_loop v13).trips).2.1
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 (k0_pay25 x0) (k0_pay26 (F := Ideal) x5) v13 hw v17 v31 X11 X12 X13 X14
        (st_k0_t2 (F := Ideal) 𝒱 c bd i arg3 harg3 arg4 harg4 arg5 harg5 arg6 harg6 arg7 harg7 arg8 harg8 arg9 harg9 arg10 harg10 arg11 harg11 arg12 harg12 arg13 harg13 arg14 harg14 (k0_pay25 x0) (k0_pay26 (F := Ideal) x5) v13 hw X11 X12 X13 X14 (k0_pay27, k0_pay28, k0_pay29) (k0_t2_loop v13).trips) (k0_t3_loop v13).trips).2.2 y
      = blockOut x0 x1 x2 x3 x4 x5 (512 * blocks v13) y := by
  subst h11 h12 h13 h14
  rw [second]
  have h := carried 𝒱 c bd i arg3 harg3 arg4 harg4 arg5 harg5 arg6 harg6 arg7 harg7 arg8 harg8 arg9 harg9 arg10 harg10 arg11 harg11 arg12 harg12 arg13 harg13 arg14 harg14 (k0_pay25 (F := Ideal) x0) (k0_pay26 (F := Ideal) x5) v13 hw hv (keysOf x1) (valuesOf x3) (kscaleOf x2) (vscaleOf x4)
    (kscale x2) (vscale x4) (fun j l => by unfold kscale; rw [dif_pos j.isLt]; rfl) (fun j l => by unfold vscale; rw [dif_pos j.isLt]; rfl)
    (col y) (k0_t2_loop v13).trips le_rfl
  unfold outTile blockOut Softmax.attn
  rw [h.num (feat y), h.den, Cert.AttendIdealHyps.trips2_eq]

theorem out_A (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos))))
    (hv : BitVec.toInt (n := 32) (tbM0_0.view.readAt (Elt Ideal) (Rect.unit (s := S6x1280) (k0_off5 i) S1x1.size (k0_off5_inb i)).toLoadRect xt0 (Shape.Idx.first (numel1_S1x1.symm ▸ Nat.one_pos))) < 8192) (y : S1x64x512.Idx) :
    out0_A_6 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 k0_hw1 y = blockOut x0 x1 x2 x3 x4 x5 (512 * blocks (tbM0_0.view.readAt (Elt Ideal) (Rect.unit (s := S6x1280) (k0_off5 i) S1x1.size (k0_off5_inb i)).toLoadRect xt0 (Shape.Idx.first (numel1_S1x1.symm ▸ Nat.one_pos)))) y := by
  frame_out
  refine (tiles _ _ y).trans ?_
  exact core Variants.none c none i tbM0_0 htbM0_0 arg4 harg4 arg5 harg5 arg6 harg6 arg7 harg7 arg8 harg8 arg9 harg9 arg10 harg10 arg11 harg11 arg12 harg12 arg13 harg13 arg14 harg14 x0 x1 x2 x3 x4 x5 _ k0_hw1 hv _ _ _ _ _ _
    ((WholeWrites.writes_junk_eq_unread arg11 harg11 _).trans (congrArg harg11.unread (canon_keys Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)))
    ((WholeWrites.writes_junk_eq_unread arg12 harg12 _).trans (congrArg harg12.unread (canon_values Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)))
    ((WholeWrites.writes_junk_eq_unread arg13 harg13 _).trans (congrArg harg13.unread (canon_kscale Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)))
    ((WholeWrites.writes_junk_eq_unread arg14 harg14 _).trans (congrArg harg14.unread (canon_vscale Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4))) y

theorem out_B (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : ¬cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (xs0 : Vec Ideal S8192x128 .bf16) (xs1 : Vec Ideal S128x8192 .bf16) (xs2 : Vec Ideal S8192x128 .f32) (xs3 : Vec Ideal S8192x128 .f32) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos))))
    (hv : BitVec.toInt (n := 32) (tbM0_0.view.readAt (Elt Ideal) (Rect.unit (s := S6x1280) (k0_off5 i) S1x1.size (k0_off5_inb i)).toLoadRect xt0 (Shape.Idx.first (numel1_S1x1.symm ▸ Nat.one_pos))) < 8192) (y : S1x64x512.Idx) (y1 : Vec Ideal S1x1x8192x128 .fp8e4m3) (y2 : Vec Ideal S1x1x1x8192 .f32)
    (y3 : Vec Ideal S1x1x8192x128 .fp8e4m3) (y4 : Vec Ideal S1x1x1x8192 .f32)
    (e0 : xs0 = keysOf y1) (e1 : xs1 = valuesOf y3) (e2 : xs2 = kscaleOf y2) (e3 : xs3 = vscaleOf y4) :
    out0_B_6 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 xs0 xs1 xs2 xs3 k0_hw1 y = blockOut x0 y1 y2 y3 y4 x5 (512 * blocks (tbM0_0.view.readAt (Elt Ideal) (Rect.unit (s := S6x1280) (k0_off5 i) S1x1.size (k0_off5_inb i)).toLoadRect xt0 (Shape.Idx.first (numel1_S1x1.symm ▸ Nat.one_pos)))) y := by
  frame_out
  refine (tiles _ _ y).trans ?_
  exact core Variants.none c none i tbM0_0 htbM0_0 arg4 harg4 arg5 harg5 arg6 harg6 arg7 harg7 arg8 harg8 arg9 harg9 arg10 harg10 arg11 harg11 arg12 harg12 arg13 harg13 arg14 harg14 x0 y1 y2 y3 y4 x5 _ k0_hw1 hv _ _ _ _ _ _
    (congrArg harg11.unread e0) (congrArg harg12.unread e1) (congrArg harg13.unread e2) (congrArg harg14.unread e3) y

theorem sout_A_0 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos)))) :
    sout0_A_0 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 k0_hw1 = keysOf x1 := by
  unfold sout0_A_0 kernelRun0_A
  exact (View.read_writes_junk_eq_canon _ _).trans (canon_keys Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)

theorem sout_A_1 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos)))) :
    sout0_A_1 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 k0_hw1 = valuesOf x3 := by
  unfold sout0_A_1 kernelRun0_A
  exact (View.read_writes_junk_eq_canon _ _).trans (canon_values Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)

theorem sout_A_2 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos)))) :
    sout0_A_2 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 k0_hw1 = kscaleOf x2 := by
  unfold sout0_A_2 kernelRun0_A
  exact (View.read_writes_junk_eq_canon _ _).trans (canon_kscale Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)

theorem sout_A_3 (c : Dev nD) (i : grid0.Coords) (arg4 : Memref sig .tc .vmem S1x1x1x128x256 .bf16) (harg4 : arg4.IsWhole) (arg5 : Memref sig .tc .vmem S1x1x8192x128 .fp8e4m3) (harg5 : arg5.IsWhole) (arg6 : Memref sig .tc .vmem S1x1x1x8192 .f32) (harg6 : arg6.IsWhole) (arg7 : Memref sig .tc .vmem S1x1x8192x128 .fp8e4m3) (harg7 : arg7.IsWhole) (arg8 : Memref sig .tc .vmem S1x1x1x8192 .f32) (harg8 : arg8.IsWhole) (arg9 : Memref sig .tc .vmem S1x1x1x64 .i32) (harg9 : arg9.IsWhole) (arg10 : Memref sig .tc .vmem S1x64x512 .f32) (harg10 : arg10.IsWhole) (arg11 : Memref sig .tc .vmem S8192x128 .bf16) (harg11 : arg11.IsWhole) (arg12 : Memref sig .tc .vmem S128x8192 .bf16) (harg12 : arg12.IsWhole) (arg13 : Memref sig .tc .vmem S8192x128 .f32) (harg13 : arg13.IsWhole) (arg14 : Memref sig .tc .vmem S8192x128 .f32) (harg14 : arg14.IsWhole) (hc0 : cond0_0 i)
    (x0 : Vec Ideal S1x1x1x128x256 .bf16) (x1 : Vec Ideal S1x1x8192x128 .fp8e4m3) (x2 : Vec Ideal S1x1x1x8192 .f32) (x3 : Vec Ideal S1x1x8192x128 .fp8e4m3) (x4 : Vec Ideal S1x1x1x8192 .f32) (x5 : Vec Ideal S1x1x1x64 .i32) (xt0 : TbBuf0 (F := Ideal) c tbM0_0) (k0_hw1 : k0_chk1 (tbM0_0.view.readAt (Elt Ideal) (Rect.unit (s := S6x1280) (k0_off5 i) S1x1.size (k0_off5_inb i)).toLoadRect xt0 (Shape.Idx.first (numel1_S1x1.symm ▸ Nat.one_pos)))) :
    sout0_A_3 (F := Ideal) c i arg4 harg4 arg5 harg5 arg6 harg6 arg7 harg7 arg8 harg8 arg9 harg9 arg10 harg10 arg11 harg11 arg12 harg12 arg13 harg13 arg14 harg14 hc0 x0 x1 x2 x3 x4 x5 xt0 k0_hw1 = vscaleOf x4 := by
  unfold sout0_A_3 kernelRun0_A
  exact (View.read_writes_junk_eq_canon _ _).trans (canon_vscale Variants.none c none i tbM0_0 htbM0_0 arg4 harg4 arg5 harg5 arg6 harg6 arg7 harg7 arg8 harg8 arg9 harg9 arg10 harg10 arg11 harg11 arg12 harg12 arg13 harg13 arg14 harg14 hc0 x1 x3 x2 x4)

end Cert.AttendBlock
end
-- ==== Proof.AttendArray.lean ====
/- Hand-written, untrusted: WHAT THE ATTENTION KERNEL LEAVES IN ITS RESULT, at an index. Point `(b, h, n)` of the grid writes, for 64
   queries and the four heads of group `h`, the attention over the keys and values of sequence `b` and group `h`; the buffers filled at
   `n = 0` are still the same keys and values at every other `n`. -/
module

public import proofs.«01_k».proof.Proof.AttendBlock
public import proofs.«01_k».proof.Proof.AttnAt

@[expose] public section

noncomputable section
namespace Cert.AttendArray

open Idealize.ShloMosaic Idealize.ShloMosaic.TcCoe Idealize.SL Idealize.SL.Sem Cert.AttendIdeal Cert.AttendIdeal.Gen Cert.AttendScratch Cert.AttendBlock
  Cert.TripCount
open Idealize.ShloMosaic.Pipeline (Dat)

/-! ## The points of the grid -/

def bOf (t : Fin grid0.N) : Fin 6 := ⟨t.val / 160, by have h : t.val < 960 := t.isLt; omega⟩
def hOf (t : Fin grid0.N) : Fin 8 := ⟨t.val / 20 % 8, Nat.mod_lt _ (by decide)⟩
def nOf (t : Fin grid0.N) : Fin 20 := ⟨t.val % 20, Nat.mod_lt _ (by decide)⟩

/-- Query `r` of block `n`. -/
def row (n : Fin 20) (r : Fin 64) : Fin 1280 := ⟨n.val * 64 + r.val, by have := n.isLt; have := r.isLt; omega⟩

/-- Feature `d` of head `g` of group `h`. -/
def lane (h : Fin 8) (l : Fin 512) : Fin 4096 := ⟨h.val * 512 + l.val, by have := h.isLt; have := l.isLt; omega⟩

theorem idx0 : ∀ t : Fin grid0.N, cc0_transform_0 (grid0.coords t) (0 : Fin 5) = t.val / 160 ∧ cc0_transform_0 (grid0.coords t) (1 : Fin 5) = t.val / 20 % 8 ∧ cc0_transform_0 (grid0.coords t) (2 : Fin 5) = t.val % 20 ∧ cc0_transform_0 (grid0.coords t) (3 : Fin 5) = 0 ∧ cc0_transform_0 (grid0.coords t) (4 : Fin 5) = 0 := by decide +kernel

theorem idx1 : ∀ t : Fin grid0.N, cc0_transform_1 (grid0.coords t) (0 : Fin 4) = t.val / 160 ∧ cc0_transform_1 (grid0.coords t) (1 : Fin 4) = t.val / 20 % 8 ∧ cc0_transform_1 (grid0.coords t) (2 : Fin 4) = 0 ∧ cc0_transform_1 (grid0.coords t) (3 : Fin 4) = 0 := by decide +kernel

theorem idx2 : ∀ t : Fin grid0.N, cc0_transform_2 (grid0.coords t) (0 : Fin 4) = t.val / 160 ∧ cc0_transform_2 (grid0.coords t) (1 : Fin 4) = t.val / 20 % 8 ∧ cc0_transform_2 (grid0.coords t) (2 : Fin 4) = 0 ∧ cc0_transform_2 (grid0.coords t) (3 : Fin 4) = 0 := by decide +kernel

theorem idx3 : ∀ t : Fin grid0.N, cc0_transform_3 (grid0.coords t) (0 : Fin 4) = t.val / 160 ∧ cc0_transform_3 (grid0.coords t) (1 : Fin 4) = t.val / 20 % 8 ∧ cc0_transform_3 (grid0.coords t) (2 : Fin 4) = 0 ∧ cc0_transform_3 (grid0.coords t) (3 : Fin 4) = 0 := by decide +kernel

theorem idx4 : ∀ t : Fin grid0.N, cc0_transform_4 (grid0.coords t) (0 : Fin 4) = t.val / 160 ∧ cc0_transform_4 (grid0.coords t) (1 : Fin 4) = t.val / 20 % 8 ∧ cc0_transform_4 (grid0.coords t) (2 : Fin 4) = 0 ∧ cc0_transform_4 (grid0.coords t) (3 : Fin 4) = 0 := by decide +kernel

theorem idx5 : ∀ t : Fin grid0.N, cc0_transform_5 (grid0.coords t) (0 : Fin 4) = t.val / 160 ∧ cc0_transform_5 (grid0.coords t) (1 : Fin 4) = t.val % 20 ∧ cc0_transform_5 (grid0.coords t) (2 : Fin 4) = 0 ∧ cc0_transform_5 (grid0.coords t) (3 : Fin 4) = 0 := by decide +kernel

theorem idx6 : ∀ t : Fin grid0.N, cc0_transform_6 (grid0.coords t) (0 : Fin 3) = t.val / 160 ∧ cc0_transform_6 (grid0.coords t) (1 : Fin 3) = t.val % 20 ∧ cc0_transform_6 (grid0.coords t) (2 : Fin 3) = t.val / 20 % 8 := by decide +kernel

theorem off5 : ∀ t : Fin grid0.N, k0_off5 (grid0.coords t) (0 : Fin 2) = t.val / 160 ∧ k0_off5 (grid0.coords t) (1 : Fin 2) = t.val % 20 * 64 + 63 := by
  decide +kernel

section Blocks

variable (m : (ℓ : Loc nD τ sig) → Buf (Elt Ideal) ℓ) (hO : Ok m)

theorem emb0 (t : Fin (cfgM m hO).N) (d : Fin 128) (e : Fin 256) :
    (((cfgM m hO).win 0).blk t).view.emb (ValueIdx.ix5 0 0 0 d e) = ValueIdx.ix5 (bOf t) (hOf t) (nOf t) d e := by
  obtain ⟨e0, e1, e2, e3, e4⟩ := idx0 t
  funext a; apply Fin.ext
  match a with
  | ⟨0, _⟩ => show cc0_transform_0 (grid0.coords t) (0 : Fin 5) * 1 + 1 * 0 = t.val / 160; omega
  | ⟨1, _⟩ => show cc0_transform_0 (grid0.coords t) (1 : Fin 5) * 1 + 1 * 0 = t.val / 20 % 8; omega
  | ⟨2, _⟩ => show cc0_transform_0 (grid0.coords t) (2 : Fin 5) * 1 + 1 * 0 = t.val % 20; omega
  | ⟨3, _⟩ => show cc0_transform_0 (grid0.coords t) (3 : Fin 5) * 128 + 1 * d.val = d.val; omega
  | ⟨4, _⟩ => show cc0_transform_0 (grid0.coords t) (4 : Fin 5) * 256 + 1 * e.val = e.val; omega

theorem iblk0_apply (c : Dev nD) (t : Fin (cfgM m hO).N) (d : Fin 128) (e : Fin 256) :
    iblk m hO c 0 t (ValueIdx.ix5 0 0 0 d e) = m ((c : Thread nD τ).loc main_arg1) (ValueIdx.ix5 (bOf t) (hOf t) (nOf t) d e) := by
  show V m c main_arg1 ((((cfgM m hO).win 0).blk t).view.emb (ValueIdx.ix5 0 0 0 d e)) = _
  rw [emb0, V_main_arg1]

theorem emb1 (t : Fin (cfgM m hO).N) (d : Fin 8192) (e : Fin 128) :
    (((cfgM m hO).win 1).blk t).view.emb (ValueIdx.ix4 0 0 d e) = ValueIdx.ix4 (bOf t) (hOf t) d e := by
  obtain ⟨e0, e1, e2, e3⟩ := idx1 t
  funext a; apply Fin.ext
  match a with
  | ⟨0, _⟩ => show cc0_transform_1 (grid0.coords t) (0 : Fin 4) * 1 + 1 * 0 = t.val / 160; omega
  | ⟨1, _⟩ => show cc0_transform_1 (grid0.coords t) (1 : Fin 4) * 1 + 1 * 0 = t.val / 20 % 8; omega
  | ⟨2, _⟩ => show cc0_transform_1 (grid0.coords t) (2 : Fin 4) * 8192 + 1 * d.val = d.val; omega
  | ⟨3, _⟩ => show cc0_transform_1 (grid0.coords t) (3 : Fin 4) * 128 + 1 * e.val = e.val; omega

theorem iblk1_apply (c : Dev nD) (t : Fin (cfgM m hO).N) (d : Fin 8192) (e : Fin 128) :
    iblk m hO c 1 t (ValueIdx.ix4 0 0 d e) = m ((c : Thread nD τ).loc main_arg2) (ValueIdx.ix4 (bOf t) (hOf t) d e) := by
  show V m c main_arg2 ((((cfgM m hO).win 1).blk t).view.emb (ValueIdx.ix4 0 0 d e)) = _
  rw [emb1, V_main_arg2]

theorem emb2 (t : Fin (cfgM m hO).N) (e : Fin 8192) :
    (((cfgM m hO).win 2).blk t).view.emb (ValueIdx.ix4 0 0 0 e) = ValueIdx.ix4 (bOf t) (hOf t) 0 e := by
  obtain ⟨e0, e1, e2, e3⟩ := idx2 t
  funext a; apply Fin.ext
  match a with
  | ⟨0, _⟩ => show cc0_transform_2 (grid0.coords t) (0 : Fin 4) * 1 + 1 * 0 = t.val / 160; omega
  | ⟨1, _⟩ => show cc0_transform_2 (grid0.coords t) (1 : Fin 4) * 1 + 1 * 0 = t.val / 20 % 8; omega
  | ⟨2, _⟩ => show cc0_transform_2 (grid0.coords t) (2 : Fin 4) * 1 + 1 * 0 = 0; omega
  | ⟨3, _⟩ => show cc0_transform_2 (grid0.coords t) (3 : Fin 4) * 8192 + 1 * e.val = e.val; omega

theorem V_main_v0 (c : Dev nD) : V m c main_v0 = shapeCast S6x8x1x8192 (m ((c : Thread nD τ).loc main_arg3)) shapeCasts_S6x8x8192_S6x8x1x8192 := by
  show StableHlo.after hostOps0 _ _ = _
  after_results
  rfl

theorem iblk2_apply (c : Dev nD) (t : Fin (cfgM m hO).N) (e : Fin 8192) :
    iblk m hO c 2 t (ValueIdx.ix4 0 0 0 e) = m ((c : Thread nD τ).loc main_arg3) (ValueIdx.ix3 (bOf t) (hOf t) e) := by
  show V m c main_v0 ((((cfgM m hO).win 2).blk t).view.emb (ValueIdx.ix4 0 0 0 e)) = _
  rw [emb2, V_main_v0]
  exact shapeCast_apply _ _ _ (ValueIdx.ix3 (bOf t) (hOf t) e) (by
    rw [Shape.rowMajor_val_three, Shape.rowMajor_val_four]
    show ((bOf t).val * 8 + (hOf t).val) * 8192 + e.val = (((bOf t).val * 8 + (hOf t).val) * 1 + 0) * 8192 + e.val
    omega)

theorem emb3 (t : Fin (cfgM m hO).N) (d : Fin 8192) (e : Fin 128) :
    (((cfgM m hO).win 3).blk t).view.emb (ValueIdx.ix4 0 0 d e) = ValueIdx.ix4 (bOf t) (hOf t) d e := by
  obtain ⟨e0, e1, e2, e3⟩ := idx3 t
  funext a; apply Fin.ext
  match a with
  | ⟨0, _⟩ => show cc0_transform_3 (grid0.coords t) (0 : Fin 4) * 1 + 1 * 0 = t.val / 160; omega
  | ⟨1, _⟩ => show cc0_transform_3 (grid0.coords t) (1 : Fin 4) * 1 + 1 * 0 = t.val / 20 % 8; omega
  | ⟨2, _⟩ => show cc0_transform_3 (grid0.coords t) (2 : Fin 4) * 8192 + 1 * d.val = d.val; omega
  | ⟨3, _⟩ => show cc0_transform_3 (grid0.coords t) (3 : Fin 4) * 128 + 1 * e.val = e.val; omega

theorem iblk3_apply (c : Dev nD) (t : Fin (cfgM m hO).N) (d : Fin 8192) (e : Fin 128) :
    iblk m hO c 3 t (ValueIdx.ix4 0 0 d e) = m ((c : Thread nD τ).loc main_arg4) (ValueIdx.ix4 (bOf t) (hOf t) d e) := by
  show V m c main_arg4 ((((cfgM m hO).win 3).blk t).view.emb (ValueIdx.ix4 0 0 d e)) = _
  rw [emb3, V_main_arg4]

theorem emb4 (t : Fin (cfgM m hO).N) (e : Fin 8192) :
    (((cfgM m hO).win 4).blk t).view.emb (ValueIdx.ix4 0 0 0 e) = ValueIdx.ix4 (bOf t) (hOf t) 0 e := by
  obtain ⟨e0, e1, e2, e3⟩ := idx4 t
  funext a; apply Fin.ext
  match a with
  | ⟨0, _⟩ => show cc0_transform_4 (grid0.coords t) (0 : Fin 4) * 1 + 1 * 0 = t.val / 160; omega
  | ⟨1, _⟩ => show cc0_transform_4 (grid0.coords t) (1 : Fin 4) * 1 + 1 * 0 = t.val / 20 % 8; omega
  | ⟨2, _⟩ => show cc0_transform_4 (grid0.coords t) (2 : Fin 4) * 1 + 1 * 0 = 0; omega
  | ⟨3, _⟩ => show cc0_transform_4 (grid0.coords t) (3 : Fin 4) * 8192 + 1 * e.val = e.val; omega

theorem V_main_v1 (c : Dev nD) : V m c main_v1 = shapeCast S6x8x1x8192 (m ((c : Thread nD τ).loc main_arg5)) shapeCasts_S6x8x8192_S6x8x1x8192 := by
  show StableHlo.after hostOps0 _ _ = _
  after_results
  rfl

theorem iblk4_apply (c : Dev nD) (t : Fin (cfgM m hO).N) (e : Fin 8192) :
    iblk m hO c 4 t (ValueIdx.ix4 0 0 0 e) = m ((c : Thread nD τ).loc main_arg5) (ValueIdx.ix3 (bOf t) (hOf t) e) := by
  show V m c main_v1 ((((cfgM m hO).win 4).blk t).view.emb (ValueIdx.ix4 0 0 0 e)) = _
  rw [emb4, V_main_v1]
  exact shapeCast_apply _ _ _ (ValueIdx.ix3 (bOf t) (hOf t) e) (by
    rw [Shape.rowMajor_val_three, Shape.rowMajor_val_four]
    show ((bOf t).val * 8 + (hOf t).val) * 8192 + e.val = (((bOf t).val * 8 + (hOf t).val) * 1 + 0) * 8192 + e.val
    omega)

theorem emb5 (t : Fin (cfgM m hO).N) (e : Fin 64) :
    (((cfgM m hO).win 5).blk t).view.emb (ValueIdx.ix4 0 0 0 e) = ValueIdx.ix4 (bOf t) (nOf t) 0 e := by
  obtain ⟨e0, e1, e2, e3⟩ := idx5 t
  funext a; apply Fin.ext
  match a with
  | ⟨0, _⟩ => show cc0_transform_5 (grid0.coords t) (0 : Fin 4) * 1 + 1 * 0 = t.val / 160; omega
  | ⟨1, _⟩ => show cc0_transform_5 (grid0.coords t) (1 : Fin 4) * 1 + 1 * 0 = t.val % 20; omega
  | ⟨2, _⟩ => show cc0_transform_5 (grid0.coords t) (2 : Fin 4) * 1 + 1 * 0 = 0; omega
  | ⟨3, _⟩ => show cc0_transform_5 (grid0.coords t) (3 : Fin 4) * 64 + 1 * e.val = e.val; omega

theorem V_main_v2 (c : Dev nD) : V m c main_v2 = shapeCast S6x20x1x64 (m ((c : Thread nD τ).loc main_arg0)) shapeCasts_S6x1280_S6x20x1x64 := by
  show StableHlo.after hostOps0 _ _ = _
  after_results
  rfl

theorem iblk5_apply (c : Dev nD) (t : Fin (cfgM m hO).N) (e : Fin 64) :
    iblk m hO c 5 t (ValueIdx.ix4 0 0 0 e) = m ((c : Thread nD τ).loc main_arg0) (ValueIdx.ix2 (bOf t) (row (nOf t) e)) := by
  show V m c main_v2 ((((cfgM m hO).win 5).blk t).view.emb (ValueIdx.ix4 0 0 0 e)) = _
  rw [emb5, V_main_v2]
  exact shapeCast_apply _ _ _ (ValueIdx.ix2 (bOf t) (row (nOf t) e)) (by
    rw [Shape.rowMajor_val_two, Shape.rowMajor_val_four]
    show (bOf t).val * 1280 + ((nOf t).val * 64 + e.val) = (((bOf t).val * 20 + (nOf t).val) * 1 + 0) * 64 + e.val
    omega)

theorem emb6 (t : Fin (cfgM m hO).N) (r : Fin 64) (l : Fin 512) :
    (((cfgM m hO).win 6).blk t).view.emb (ValueIdx.ix3 0 r l) = ValueIdx.ix3 (bOf t) (row (nOf t) r) (lane (hOf t) l) := by
  obtain ⟨e0, e1, e2⟩ := idx6 t
  funext a; apply Fin.ext
  match a with
  | ⟨0, _⟩ => show cc0_transform_6 (grid0.coords t) (0 : Fin 3) * 1 + 1 * 0 = t.val / 160; omega
  | ⟨1, _⟩ => show cc0_transform_6 (grid0.coords t) (1 : Fin 3) * 64 + 1 * r.val = t.val % 20 * 64 + r.val; omega
  | ⟨2, _⟩ => show cc0_transform_6 (grid0.coords t) (2 : Fin 3) * 512 + 1 * l.val = t.val / 20 % 8 * 512 + l.val; omega

/-- The word of the table that ends the loop over keys at point `t`: the position of the last query of the block. -/
theorem word_eq (t : Fin (cfgM m hO).N) :
    (tbM0_0.view.readAt (Elt Ideal) (Rect.unit (s := S6x1280) (k0_off5 (grid0.coords t)) S1x1.size (k0_off5_inb (grid0.coords t))).toLoadRect (tbl m 0)
      (Shape.Idx.first (numel1_S1x1.symm ▸ Nat.one_pos))) = Cert.AttendIdealHyps.pos m 0 (bOf t) (row (nOf t) 63) := by
  show m (((0 : Dev nD) : Thread nD τ).loc main_arg0) _ = m (((0 : Dev nD) : Thread nD τ).loc main_arg0) _
  obtain ⟨e0, e1⟩ := off5 t
  refine congrArg _ (funext fun a => Fin.ext ?_)
  match a with
  | ⟨0, _⟩ => show k0_off5 (grid0.coords t) (0 : Fin 2) + 1 * 0 = t.val / 160; omega
  | ⟨1, _⟩ => show k0_off5 (grid0.coords t) (1 : Fin 2) + 1 * 0 = t.val % 20 * 64 + 63; omega

end Blocks
end Cert.AttendArray
end
-- ==== Proof.AttendFinal.lean ====
/- Hand-written, untrusted: THE ATTENTION KERNEL'S RESULT, at an index, and its run. By induction on the points the four buffers hold the keys
   and values of the point's sequence and group; so each point's output block is the attention over them, and the blocks make up the result. -/
module

public import proofs.«01_k».proof.Proof.AttendArray
public import Idealize.ShloMosaic.Lib.Pipeline.Value

@[expose] public section

noncomputable section
namespace Cert.AttendFinal

open Idealize.ShloMosaic Idealize.ShloMosaic.TcCoe Idealize.SL Idealize.SL.Sem Cert.AttendIdeal Cert.AttendIdeal.Gen Cert.AttendScratch Cert.AttendBlock
  Cert.AttendArray Cert.AttnAt Cert.TripCount
open Idealize.ShloMosaic.Pipeline (Dat)

/-! ## The buffers -/

section Scratch

variable (m : (ℓ : Loc nD τ sig) → Buf (Elt Ideal) ℓ) (hO : Ok m) (hH : Hyps m hO) (c : Dev nD)

theorem same1 (t t' : Fin (cfgM m hO).N) (hb : bOf t = bOf t') (hh : hOf t = hOf t') :
    (iblk m hO c 1 t : Vec Ideal S1x1x8192x128 .fp8e4m3) = iblk m hO c 1 t' := by
  funext (y : Shape.Idx S1x1x8192x128)
  obtain ⟨a, b, d, e, rfl⟩ : ∃ (a b : Fin 1) (d : Fin 8192) (e : Fin 128), y = ValueIdx.ix4 a b d e := ⟨y 0, y 1, y 2, y 3, ValueIdx.eq_ix4 y⟩
  obtain rfl : a = 0 := Subsingleton.elim _ _
  obtain rfl : b = 0 := Subsingleton.elim _ _
  refine (iblk1_apply m hO c t d e).trans ?_
  rw [hb, hh]
  exact (iblk1_apply m hO c t' d e).symm

theorem same2 (t t' : Fin (cfgM m hO).N) (hb : bOf t = bOf t') (hh : hOf t = hOf t') :
    (iblk m hO c 2 t : Vec Ideal S1x1x1x8192 .f32) = iblk m hO c 2 t' := by
  funext (y : Shape.Idx S1x1x1x8192)
  obtain ⟨a, b, d, e, rfl⟩ : ∃ (a b d : Fin 1) (e : Fin 8192), y = ValueIdx.ix4 a b d e := ⟨y 0, y 1, y 2, y 3, ValueIdx.eq_ix4 y⟩
  obtain rfl : a = 0 := Subsingleton.elim _ _
  obtain rfl : b = 0 := Subsingleton.elim _ _
  obtain rfl : d = 0 := Subsingleton.elim _ _
  refine (iblk2_apply m hO c t e).trans ?_
  rw [hb, hh]
  exact (iblk2_apply m hO c t' e).symm

theorem same3 (t t' : Fin (cfgM m hO).N) (hb : bOf t = bOf t') (hh : hOf t = hOf t') :
    (iblk m hO c 3 t : Vec Ideal S1x1x8192x128 .fp8e4m3) = iblk m hO c 3 t' := by
  funext (y : Shape.Idx S1x1x8192x128)
  obtain ⟨a, b, d, e, rfl⟩ : ∃ (a b : Fin 1) (d : Fin 8192) (e : Fin 128), y = ValueIdx.ix4 a b d e := ⟨y 0, y 1, y 2, y 3, ValueIdx.eq_ix4 y⟩
  obtain rfl : a = 0 := Subsingleton.elim _ _
  obtain rfl : b = 0 := Subsingleton.elim _ _
  refine (iblk3_apply m hO c t d e).trans ?_
  rw [hb, hh]
  exact (iblk3_apply m hO c t' d e).symm

theorem same4 (t t' : Fin (cfgM m hO).N) (hb : bOf t = bOf t') (hh : hOf t = hOf t') :
    (iblk m hO c 4 t : Vec Ideal S1x1x1x8192 .f32) = iblk m hO c 4 t' := by
  funext (y : Shape.Idx S1x1x1x8192)
  obtain ⟨a, b, d, e, rfl⟩ : ∃ (a b d : Fin 1) (e : Fin 8192), y = ValueIdx.ix4 a b d e := ⟨y 0, y 1, y 2, y 3, ValueIdx.eq_ix4 y⟩
  obtain rfl : a = 0 := Subsingleton.elim _ _
  obtain rfl : b = 0 := Subsingleton.elim _ _
  obtain rfl : d = 0 := Subsingleton.elim _ _
  refine (iblk4_apply m hO c t e).trans ?_
  rw [hb, hh]
  exact (iblk4_apply m hO c t' e).symm

/-- What the four buffers hold after a point. -/
theorem scratch : ∀ (n : ℕ) (hn : n < (cfgM m hO).N),
    (outsAt0 m hO hH c n hn).2 = (keysOf (iblk m hO c 1 ⟨n, hn⟩), valuesOf (iblk m hO c 3 ⟨n, hn⟩), kscaleOf (iblk m hO c 2 ⟨n, hn⟩), vscaleOf (iblk m hO c 4 ⟨n, hn⟩)) := by
  intro n
  induction n with
  | zero =>
    intro hn
    rw [outsAt0_A m hO hH c ⟨0, hn⟩ (Nat.zero_mod _)]
    exact Prod.ext (sout_A_0 ..) (Prod.ext (sout_A_1 ..) (Prod.ext (sout_A_2 ..) (sout_A_3 ..)))
  | succ n ih =>
    intro hn
    by_cases h0 : (n + 1) % 20 = 0
    · rw [outsAt0_A m hO hH c ⟨n + 1, hn⟩ h0]
      exact Prod.ext (sout_A_0 ..) (Prod.ext (sout_A_1 ..) (Prod.ext (sout_A_2 ..) (sout_A_3 ..)))
    · rw [outsAt0_B m hO hH c ⟨n + 1, hn⟩ h0]
      have e := ih (Nat.lt_of_succ_lt hn)
      have hb : bOf (⟨n, Nat.lt_of_succ_lt hn⟩ : Fin grid0.N) = bOf (⟨n + 1, hn⟩ : Fin grid0.N) := Fin.ext (show n / 160 = (n + 1) / 160 by omega)
      have hh : hOf (⟨n, Nat.lt_of_succ_lt hn⟩ : Fin grid0.N) = hOf (⟨n + 1, hn⟩ : Fin grid0.N) := Fin.ext (show n / 20 % 8 = (n + 1) / 20 % 8 by omega)
      rw [same1 m hO c _ _ hb hh, same2 m hO c _ _ hb hh, same3 m hO c _ _ hb hh, same4 m hO c _ _ hb hh] at e
      exact e

end Scratch

/-! ## The output block -/

section Block

variable (m : (ℓ : Loc nD τ sig) → Buf (Elt Ideal) ℓ)
  (h : Cert.Pre_AttendIdeal (hPre_ascending_positions := Cert.Pre_ascending_positions.Gen.facts) m)

theorem out_eq (c : Dev nD) (t : Fin (cfgM m (Cert.AttendIdealHyps.ok m)).N) (y : S1x64x512.Idx) :
    (outsAt0 m (Cert.AttendIdealHyps.ok m) (Cert.AttendIdealHyps.hyps m h) c t.val t.isLt).1 y
      = blockOut (iblk m (Cert.AttendIdealHyps.ok m) c 0 t) (iblk m (Cert.AttendIdealHyps.ok m) c 1 t) (iblk m (Cert.AttendIdealHyps.ok m) c 2 t) (iblk m (Cert.AttendIdealHyps.ok m) c 3 t) (iblk m (Cert.AttendIdealHyps.ok m) c 4 t) (iblk m (Cert.AttendIdealHyps.ok m) c 5 t)
          (512 * blocks (Cert.AttendIdealHyps.pos m 0 (bOf t) (row (nOf t) 63))) y := by
  by_cases h0 : t.val % 20 = 0
  · rw [outsAt0_A m (Cert.AttendIdealHyps.ok m) (Cert.AttendIdealHyps.hyps m h) c t h0, ← word_eq m (Cert.AttendIdealHyps.ok m) t]
    exact out_A _ _ _ _ _ _ _ _ _ _ _ _ _ _ _ _ _ _ _ _ _ _ _ _ _ _ _ _ _ _ _ _ (Hyps.c0 (Cert.AttendIdealHyps.hyps m h) c t) (by rw [word_eq m (Cert.AttendIdealHyps.ok m) t]; exact Cert.AttendIdealHyps.pos_lt m h 0 _) y
  · have hz : t.val - 1 + 1 = t.val := by omega
    have hn : t.val - 1 < (cfgM m (Cert.AttendIdealHyps.ok m)).N := Nat.lt_of_le_of_lt (Nat.sub_le _ _) t.isLt
    have e := scratch m (Cert.AttendIdealHyps.ok m) (Cert.AttendIdealHyps.hyps m h) c (t.val - 1) hn
    have hb : bOf (⟨t.val - 1, hn⟩ : Fin grid0.N) = bOf t := Fin.ext (show (t.val - 1) / 160 = t.val / 160 by omega)
    have hh : hOf (⟨t.val - 1, hn⟩ : Fin grid0.N) = hOf t := Fin.ext (show (t.val - 1) / 20 % 8 = t.val / 20 % 8 by omega)
    rw [same1 m (Cert.AttendIdealHyps.ok m) c _ _ hb hh, same2 m (Cert.AttendIdealHyps.ok m) c _ _ hb hh, same3 m (Cert.AttendIdealHyps.ok m) c _ _ hb hh, same4 m (Cert.AttendIdealHyps.ok m) c _ _ hb hh] at e
    rw [outsAt0_B m (Cert.AttendIdealHyps.ok m) (Cert.AttendIdealHyps.hyps m h) c t h0, ← word_eq m (Cert.AttendIdealHyps.ok m) t]
    have e1 := congrArg (fun p => p.1) e
    have e2 := congrArg (fun p => p.2.1) e
    have e3 := congrArg (fun p => p.2.2.1) e
    have e4 := congrArg (fun p => p.2.2.2) e
    dsimp only at e1 e2 e3 e4
    have hv : BitVec.toInt (n := 32) (tbM0_0.view.readAt (Elt Ideal) (Rect.unit (s := S6x1280) (k0_off5 (grid0.coords t)) S1x1.size (k0_off5_inb (grid0.coords t))).toLoadRect (tbl m 0)
      (Shape.Idx.first (numel1_S1x1.symm ▸ Nat.one_pos))) < 8192 := by rw [word_eq m (Cert.AttendIdealHyps.ok m) t]; exact Cert.AttendIdealHyps.pos_lt m h 0 _
    dsimp only
    exact out_B c (grid0.coords t) (ms0_0 m (Cert.AttendIdealHyps.ok m) t) (hs0_0 m (Cert.AttendIdealHyps.ok m) t) (ms0_1 m (Cert.AttendIdealHyps.ok m) t) (hs0_1 m (Cert.AttendIdealHyps.ok m) t) (ms0_2 m (Cert.AttendIdealHyps.ok m) t) (hs0_2 m (Cert.AttendIdealHyps.ok m) t) (ms0_3 m (Cert.AttendIdealHyps.ok m) t) (hs0_3 m (Cert.AttendIdealHyps.ok m) t) (ms0_4 m (Cert.AttendIdealHyps.ok m) t) (hs0_4 m (Cert.AttendIdealHyps.ok m) t) (ms0_5 m (Cert.AttendIdealHyps.ok m) t) (hs0_5 m (Cert.AttendIdealHyps.ok m) t) (ms0_6 m (Cert.AttendIdealHyps.ok m) t) (hs0_6 m (Cert.AttendIdealHyps.ok m) t) scM0_0 (Memref.isWhole_whole _) scM0_1 (Memref.isWhole_whole _) scM0_2 (Memref.isWhole_whole _) scM0_3 (Memref.isWhole_whole _) (fun h => h0 ((hcond0_0 t).mp h)) (iblk m (Cert.AttendIdealHyps.ok m) c 0 t) (iblk m (Cert.AttendIdealHyps.ok m) c 1 t) (iblk m (Cert.AttendIdealHyps.ok m) c 2 t) (iblk m (Cert.AttendIdealHyps.ok m) c 3 t) (iblk m (Cert.AttendIdealHyps.ok m) c 4 t) (iblk m (Cert.AttendIdealHyps.ok m) c 5 t) (tbl m 0) (outsAt0 m (Cert.AttendIdealHyps.ok m) (Cert.AttendIdealHyps.hyps m h) c (t.val - 1) (Nat.lt_of_le_of_lt (Nat.sub_le _ _) t.isLt)).2.1 (outsAt0 m (Cert.AttendIdealHyps.ok m) (Cert.AttendIdealHyps.hyps m h) c (t.val - 1) (Nat.lt_of_le_of_lt (Nat.sub_le _ _) t.isLt)).2.2.1 (outsAt0 m (Cert.AttendIdealHyps.ok m) (Cert.AttendIdealHyps.hyps m h) c (t.val - 1) (Nat.lt_of_le_of_lt (Nat.sub_le _ _) t.isLt)).2.2.2.1 (outsAt0 m (Cert.AttendIdealHyps.ok m) (Cert.AttendIdealHyps.hyps m h) c (t.val - 1) (Nat.lt_of_le_of_lt (Nat.sub_le _ _) t.isLt)).2.2.2.2 (Hyps.c0 (Cert.AttendIdealHyps.hyps m h) c t) hv y
      (iblk m (Cert.AttendIdealHyps.ok m) c 1 t) (iblk m (Cert.AttendIdealHyps.ok m) c 2 t) (iblk m (Cert.AttendIdealHyps.ok m) c 3 t) (iblk m (Cert.AttendIdealHyps.ok m) c 4 t) e1 e2 e3 e4

end Block

/-! ## The output block, from the arguments -/

theorem cast_5_2 {α : Type} {M K : ℕ} (x : (⟨5, ![1, 1, 1, M, K]⟩ : Shape).Idx → α) (hc : (⟨5, ![1, 1, 1, M, K]⟩ : Shape).ShapeCasts ⟨2, ![M, K]⟩)
    (r : Fin M) (l : Fin K) : shapeCast ⟨2, ![M, K]⟩ x hc (ValueIdx.ix2 r l) = x (ValueIdx.ix5 0 0 0 r l) :=
  shapeCast_apply x hc (ValueIdx.ix2 r l) (ValueIdx.ix5 0 0 0 r l) (by
    rw [Shape.rowMajor_val_five, Shape.rowMajor_val_two]
    show (((0 * 1 + 0) * 1 + 0) * M + r.val) * K + l.val = r.val * K + l.val
    simp only [Nat.zero_mul, Nat.zero_add])

theorem query_apply (x : Vec Ideal S1x1x1x128x256 .bf16) (d : Fin 128) (e : Fin 256) :
    k0_pay25 (F := Ideal) x (ValueIdx.ix2 d e) = x (ValueIdx.ix5 0 0 0 d e) := by
  unfold k0_pay25
  exact cast_5_2 x _ d e

theorem concat4_apply {L N : ℕ} (x : IVec ⟨2, ![1, L]⟩ 32)
    (h : Shape.Concatenates [⟨2, ![1, L]⟩, ⟨2, ![1, L]⟩, ⟨2, ![1, L]⟩, ⟨2, ![1, L]⟩] ⟨2, ![1, N]⟩ 1) (hL : 0 < L) (z : Fin 1) (c : Fin N) :
    concatenate ⟨2, ![1, N]⟩ 1 [⟨⟨2, ![1, L]⟩, x⟩, ⟨⟨2, ![1, L]⟩, x⟩, ⟨⟨2, ![1, L]⟩, x⟩, ⟨⟨2, ![1, L]⟩, x⟩] h (ValueIdx.ix2 z c)
      = x (ValueIdx.ix2 z ⟨c.val % L, Nat.mod_lt _ hL⟩) := by
  refine (concatenate_replicate_apply (t := ⟨2, ![1, N]⟩) 1 4 x h rfl (ValueIdx.ix2 z c) (ValueIdx.ix2 z ⟨c.val % L, Nat.mod_lt _ hL⟩) rfl
    (fun b hb => ?_))
  match b, hb with
  | ⟨0, _⟩, _ => rfl
  | ⟨1, _⟩, hb => exact absurd rfl hb

theorem position_apply (x : Vec Ideal S1x1x1x64 .i32) (e : Fin 256) :
    k0_pay26 (F := Ideal) x (ValueIdx.ix2 0 e) = x (ValueIdx.ix4 0 0 0 ⟨e.val % 64, Nat.mod_lt _ (by decide)⟩) := by
  unfold k0_pay26
  refine (concat4_apply (shapeCast S1x64 x shapeCasts_S1x1x1x64_S1x64) _ (by decide) 0 e).trans ?_
  exact cast_4_2 x _ _ _

/-- The column of query `r` of the head that lane `l` belongs to. -/
def column (r : Fin 64) (l : Fin 512) : Fin 256 := ⟨l.val / 128 * 64 + r.val, by have := r.isLt; have := l.isLt; omega⟩

theorem blockOut_apply (x0 : Vec Ideal S1x1x1x128x256 .bf16) (x1 : Vec Ideal S1x1x8192x128 .fp8e4m3) (x2 : Vec Ideal S1x1x1x8192 .f32)
    (x3 : Vec Ideal S1x1x8192x128 .fp8e4m3) (x4 : Vec Ideal S1x1x1x8192 .f32) (x5 : Vec Ideal S1x1x1x64 .i32) (n : ℕ) (r : Fin 64) (l : Fin 512) :
    blockOut x0 x1 x2 x3 x4 x5 n (ValueIdx.ix3 0 r l)
      = Softmax.attn (score (fun d => x0 (ValueIdx.ix5 0 0 0 d (column r l))) (BitVec.toInt (n := 32) (x5 (ValueIdx.ix4 0 0 0 r)))
          (fun j d => x1 (ValueIdx.ix4 0 0 j d)) (fun j => x2 (ValueIdx.ix4 0 0 0 j) * unit))
        (spread fun j => x4 (ValueIdx.ix4 0 0 0 j)) (spread fun j => x3 (ValueIdx.ix4 0 0 j (⟨l.val % 128, Nat.mod_lt _ (by decide)⟩ : Fin 128))) n := by
  have ec : col (ValueIdx.ix3 (0 : Fin 1) r l) = column r l := rfl
  have ef : feat (ValueIdx.ix3 (0 : Fin 1) r l) = (⟨l.val % 128, Nat.mod_lt _ (by decide)⟩ : Fin 128) := rfl
  have hp : k0_pay26 (F := Ideal) x5 (ValueIdx.ix2 0 (column r l)) = x5 (ValueIdx.ix4 0 0 0 r) := by
    refine (position_apply x5 (column r l)).trans ?_
    have er : (⟨(column r l).val % 64, Nat.mod_lt _ (by decide)⟩ : Fin 64) = r := Fin.ext (by
      have := r.isLt
      show (l.val / 128 * 64 + r.val) % 64 = r.val
      omega)
    rw [er]
  unfold blockOut
  rw [ec, ef]
  have s1 : Cert.AttendLoop.score (k0_pay25 (F := Ideal) x0) (k0_pay26 (F := Ideal) x5) (keysOf x1) (kscale x2) (column r l)
      = score (fun d => x0 (ValueIdx.ix5 0 0 0 d (column r l))) (BitVec.toInt (n := 32) (x5 (ValueIdx.ix4 0 0 0 r)))
          (fun j d => x1 (ValueIdx.ix4 0 0 j d)) (fun j => x2 (ValueIdx.ix4 0 0 0 j) * unit) := by
    funext j
    unfold Cert.AttendLoop.score score kscale
    rw [hp]
    by_cases hj : j < 8192
    · simp only [dif_pos hj]
      rw [Finset.sum_congr rfl fun d _ => congrArg (keysOf x1 (ValueIdx.ix2 (⟨j, hj⟩ : Fin 8192) d) * ·) (query_apply x0 d (column r l))]
      rfl
    · simp only [dif_neg hj]
  rw [s1]
  rfl

/-- The attention of query `r` of block `n` of sequence `b`, at lane `l` of group `g`, from the call's arguments. -/
def result (a0 : Vec Ideal S6x1280 .i32) (a1 : Vec Ideal S6x8x20x128x256 .bf16) (a2 : Vec Ideal S6x8x8192x128 .fp8e4m3) (a3 : Vec Ideal S6x8x8192 .f32)
    (a4 : Vec Ideal S6x8x8192x128 .fp8e4m3) (a5 : Vec Ideal S6x8x8192 .f32) (b : Fin 6) (g : Fin 8) (n : Fin 20) (r : Fin 64) (l : Fin 512) : EReal :=
  attnAt (fun d => a1 (ValueIdx.ix5 b g n d (column r l))) (BitVec.toInt (n := 32) (a0 (ValueIdx.ix2 b (row n r))))
    (fun j d => a2 (ValueIdx.ix4 b g j d)) (fun j => a3 (ValueIdx.ix3 b g j) * unit)
    (fun j => a4 (ValueIdx.ix4 b g j (⟨l.val % 128, Nat.mod_lt _ (by decide)⟩ : Fin 128))) (fun j => a5 (ValueIdx.ix3 b g j))

section Final

variable (m : (ℓ : Loc nD τ sig) → Buf (Elt Ideal) ℓ)
  (h : Cert.Pre_AttendIdeal (hPre_ascending_positions := Cert.Pre_ascending_positions.Gen.facts) m)

/-- The same from the memory. -/
abbrev resultAt (c : Dev nD) : Fin 6 → Fin 8 → Fin 20 → Fin 64 → Fin 512 → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

include h in
theorem block_eq (c : Dev nD) (t : Fin (cfgM m (Cert.AttendIdealHyps.ok m)).N) (r : Fin 64) (l : Fin 512) :
    blockOut (iblk m (Cert.AttendIdealHyps.ok m) c 0 t) (iblk m (Cert.AttendIdealHyps.ok m) c 1 t) (iblk m (Cert.AttendIdealHyps.ok m) c 2 t) (iblk m (Cert.AttendIdealHyps.ok m) c 3 t) (iblk m (Cert.AttendIdealHyps.ok m) c 4 t) (iblk m (Cert.AttendIdealHyps.ok m) c 5 t)
        (512 * blocks (Cert.AttendIdealHyps.pos m 0 (bOf t) (row (nOf t) 63))) (ValueIdx.ix3 0 r l)
      = resultAt m c (bOf t) (hOf t) (nOf t) r l := by
  have hl : BitVec.toInt (n := 32) (Cert.AttendIdealHyps.pos m 0 (bOf t) (row (nOf t) 63)) < 8192 := Cert.AttendIdealHyps.pos_lt m h 0 _
  have hb : 512 * blocks (Cert.AttendIdealHyps.pos m 0 (bOf t) (row (nOf t) 63)) ≤ 8192 := by
    have := blocks_le hl
    omega
  refine (blockOut_apply (iblk m (Cert.AttendIdealHyps.ok m) c 0 t) (iblk m (Cert.AttendIdealHyps.ok m) c 1 t) (iblk m (Cert.AttendIdealHyps.ok m) c 2 t) (iblk m (Cert.AttendIdealHyps.ok m) c 3 t) (iblk m (Cert.AttendIdealHyps.ok m) c 4 t) (iblk m (Cert.AttendIdealHyps.ok m) c 5 t) _ r l).trans ?_
  refine Eq.trans ?_ (attn_prefix _ _ _ _ _ _ hb (fun j hj => ?_))
  · have q0 := funext fun d => iblk0_apply m (Cert.AttendIdealHyps.ok m) c t d (column r l)
    have q1 := funext fun j => funext fun d => iblk1_apply m (Cert.AttendIdealHyps.ok m) c t j d
    have q2 := funext fun j => congrArg (fun z : EReal => z * unit) (iblk2_apply m (Cert.AttendIdealHyps.ok m) c t j)
    have q3 := funext fun j => iblk3_apply m (Cert.AttendIdealHyps.ok m) c t j (⟨l.val % 128, Nat.mod_lt _ (by decide)⟩ : Fin 128)
    have q4 := funext fun j => iblk4_apply m (Cert.AttendIdealHyps.ok m) c t j
    have q5 := congrArg (fun z : BitVec 32 => z.toInt) (iblk5_apply m (Cert.AttendIdealHyps.ok m) c t r)
    have e1 := congr (congr (congr (congrArg score q0) q5) q1) q2
    exact congrFun (congr (congr (congrArg Softmax.attn e1) (congrArg spread q4)) (congrArg spread q3)) _
  · obtain rfl : c = 0 := Subsingleton.elim _ _
    refine lt_of_le_of_lt ?_ (lt_of_blocks hl hj)
    exact Cert.AttendIdealHyps.pos_mono m h 0 (bOf t) (Fin.le_def.mpr (show (nOf t).val * 64 + r.val ≤ (nOf t).val * 64 + 63 by have := r.isLt; omega))

/-! ## The result -/

theorem flushed6 (c : Dev nD) (t : Fin (cfgM m (Cert.AttendIdealHyps.ok m)).N) :
    (dats m (Cert.AttendIdealHyps.ok m) (Cert.AttendIdealHyps.hyps m h) 0 c).flushed 6 t = ((cfgM m (Cert.AttendIdealHyps.ok m)).win 6).cut (grid0.coords t) ((outsAt0 m (Cert.AttendIdealHyps.ok m) (Cert.AttendIdealHyps.hyps m h) c t.val t.isLt).1) := by
  show ((cfgM m (Cert.AttendIdealHyps.ok m)).win 6).cut (grid0.coords t) ((dats m (Cert.AttendIdealHyps.ok m) (Cert.AttendIdealHyps.hyps m h) 0 c).after 6 t) = _
  rw [after0_6]

theorem point_inj : ∀ t t' : Fin grid0.N, cc0_transform_6 (grid0.coords t) = cc0_transform_6 (grid0.coords t') → t = t' := by
  intro t t' e
  obtain ⟨a0, a1, a2⟩ := idx6 t
  obtain ⟨b0, b1, b2⟩ := idx6 t'
  have h0 := congrFun e (0 : Fin 3)
  have h1 := congrFun e (1 : Fin 3)
  have h2 := congrFun e (2 : Fin 3)
  have ht : t.val < 960 := t.isLt
  have ht' : t'.val < 960 := t'.isLt
  exact Fin.ext (by omega)

theorem disjoint6 : ∀ t t' : Fin (cfgM m (Cert.AttendIdealHyps.ok m)).N, ((cfgM m (Cert.AttendIdealHyps.ok m)).win 6).flush t = true → ((cfgM m (Cert.AttendIdealHyps.ok m)).win 6).flush t' = true → t ≠ t' →
    Disjoint (((cfgM m (Cert.AttendIdealHyps.ok m)).win 6).blk t).view.set (((cfgM m (Cert.AttendIdealHyps.ok m)).win 6).blk t').view.set :=
  fun t t' _ _ hne => ((cfgM m (Cert.AttendIdealHyps.ok m)).win 6).disjoint_blk fun e => hne (point_inj t t' e)

theorem blocks6 (c : Dev nD) (t : Fin (cfgM m (Cert.AttendIdealHyps.ok m)).N) :
    (((cfgM m (Cert.AttendIdealHyps.ok m)).win 6).blk t).view.read (Elt Ideal) ((dats m (Cert.AttendIdealHyps.ok m) (Cert.AttendIdealHyps.hyps m h) 0 c).arrAt 6 (cfgM m (Cert.AttendIdealHyps.ok m)).N) = (dats m (Cert.AttendIdealHyps.ok m) (Cert.AttendIdealHyps.hyps m h) 0 c).flushed 6 t :=
  (dats m (Cert.AttendIdealHyps.ok m) (Cert.AttendIdealHyps.hyps m h) 0 c).read_blk_arrAt_eq_flushed 6 (disjoint6 m) (cfgM m (Cert.AttendIdealHyps.ok m)).N t t.isLt (flush0_6 (adm m (Cert.AttendIdealHyps.ok m)) t)

/-- The point that covers query block `n` of sequence `b` and group `g`. -/
def point (b : Fin 6) (g : Fin 8) (n : Fin 20) : Fin grid0.N :=
  ⟨b.val * 160 + g.val * 20 + n.val, by have := b.isLt; have := g.isLt; have := n.isLt; show _ < 960; omega⟩

theorem bOf_point (b : Fin 6) (g : Fin 8) (n : Fin 20) : bOf (point b g n) = b :=
  Fin.ext (by have := g.isLt; have := n.isLt; show (b.val * 160 + g.val * 20 + n.val) / 160 = b.val; omega)
theorem hOf_point (b : Fin 6) (g : Fin 8) (n : Fin 20) : hOf (point b g n) = g :=
  Fin.ext (by have := g.isLt; have := n.isLt; show (b.val * 160 + g.val * 20 + n.val) / 20 % 8 = g.val; omega)
theorem nOf_point (b : Fin 6) (g : Fin 8) (n : Fin 20) : nOf (point b g n) = n :=
  Fin.ext (by have := g.isLt; have := n.isLt; show (b.val * 160 + g.val * 20 + n.val) % 20 = n.val; omega)

theorem cut6 (hO' : Ok m) (t : Fin (cfgM m hO').N) (v : Vec Ideal S1x64x512 .f32) (y : S1x64x512.Idx) :
    ((cfgM m hO').win 6).cut (grid0.coords t) v y = v y := rfl

theorem read6 (hO' : Ok m) (t : Fin (cfgM m hO').N) (A : Vec Ideal S6x1280x4096 .f32) (y : S1x64x512.Idx) :
    (((cfgM m hO').win 6).blk t).view.read (Elt Ideal) A y = A ((((cfgM m hO').win 6).blk t).view.emb y) := rfl

theorem final_at (c : Dev nD) (t : Fin (cfgM m (Cert.AttendIdealHyps.ok m)).N) (r : Fin 64) (l : Fin 512) :
    (dats m (Cert.AttendIdealHyps.ok m) (Cert.AttendIdealHyps.hyps m h) 0 c).arrAt 6 (cfgM m (Cert.AttendIdealHyps.ok m)).N (ValueIdx.ix3 (bOf t) (row (nOf t) r) (lane (hOf t) l)) = resultAt m c (bOf t) (hOf t) (nOf t) r l := by
  have e := congrFun ((blocks6 m h c t).trans (flushed6 m h c t)) (ValueIdx.ix3 0 r l)
  have e1 := read6 m (Cert.AttendIdealHyps.ok m) t ((dats m (Cert.AttendIdealHyps.ok m) (Cert.AttendIdealHyps.hyps m h) 0 c).arrAt 6 (cfgM m (Cert.AttendIdealHyps.ok m)).N) (ValueIdx.ix3 0 r l)
  have e2 := cut6 m (Cert.AttendIdealHyps.ok m) t (outsAt0 m (Cert.AttendIdealHyps.ok m) (Cert.AttendIdealHyps.hyps m h) c t.val t.isLt).1 (ValueIdx.ix3 0 r l)
  have e' := e1.symm.trans (e.trans e2)
  rw [emb6] at e'
  exact e'.trans ((out_eq m h c t _).trans (block_eq m h c t r l))

theorem final6 (c : Dev nD) (b : Fin 6) (g : Fin 8) (n : Fin 20) (r : Fin 64) (l : Fin 512) :
    (dats m (Cert.AttendIdealHyps.ok m) (Cert.AttendIdealHyps.hyps m h) 0 c).arrAt 6 (cfgM m (Cert.AttendIdealHyps.ok m)).N (ValueIdx.ix3 b (row n r) (lane g l)) = resultAt m c b g n r l := by
  have e := final_at m h c (point b g n) r l
  rw [bOf_point, hOf_point, nOf_point] at e
  exact e

/-! ## The run -/

abbrev Post := Pipeline.FramePost (Pipeline.pin pcfgs fun _ => adm m (Cert.AttendIdealHyps.ok m)) (dats m (Cert.AttendIdealHyps.ok m) (Cert.AttendIdealHyps.hyps m h)) 0 (V m)

/-- The run, its result the array the blocks make up. -/
theorem run_blocks (ρ : Dev nD → PrngReg) : θ_run defs (onTc (τ := τ) (main (F := Ideal))) ⟨m, fun _ => 0, ρ⟩ fun r => ∀ c : Dev nD,
      r.2.mem ((c : Thread nD τ).loc main_v3) = (dats m (Cert.AttendIdealHyps.ok m) (Cert.AttendIdealHyps.hyps m h) 0 c).arrAt 6 (cfgM m (Cert.AttendIdealHyps.ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr.1 c).1 6, hr.2 c⟩)
    (θ_run_and (run_main m ρ (Cert.AttendIdealHyps.ok m) (Cert.AttendIdealHyps.hyps m h)) (unchanged m ρ (Cert.AttendIdealHyps.ok m) (Cert.AttendIdealHyps.hyps m h)))

end Final

end Cert.AttendFinal
end
-- ==== Proof.AttendRefRun.lean ====
/- Hand-written, untrusted: THE RUN OF THE ATTENTION'S REFERENCE: its one call leaves `G` of the arrays it reads, and the host operations after
   it lay that out as the result. -/
module

public import proofs.«01_k».proof.Proof.Gen.AttendReferenceIdeal.Frame
public import proofs.«01_k».proof.Proof.Gen.AttendReferenceIdeal.Points
public import Idealize.ShloMosaic.Lib.Pipeline.Value
public import Idealize.ShloMosaic.Lib.ValueIdxRank6
public import proofs.«01_k».proof.Proof.Softmax

@[expose] public section

noncomputable section
namespace Cert.AttendRefRun

open Cert.AttendReferenceIdeal Cert.AttendReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## Every window's block is its array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (j : S48x5120x1.Idx) : ((cfg0.win 0).blk t).view.emb j = j := by
  obtain ⟨e0, e1, e2⟩ := idx_zero0 t
  funext a; apply Fin.ext
  match a with
  | ⟨0, _⟩ => show win0_0.index t (0 : Fin 3) * 48 + 1 * (j 0).val = (j 0).val; omega
  | ⟨1, _⟩ => show win0_0.index t (1 : Fin 3) * 5120 + 1 * (j 1).val = (j 1).val; omega
  | ⟨2, _⟩ => show win0_0.index t (2 : Fin 3) * 1 + 1 * (j 2).val = (j 2).val; omega

theorem iblk0_eq (c : Dev nD) (t : Fin cfg0.N) : iblk m c 0 t = V m c main_v5 := by
  funext j; show V m c main_v5 (((cfg0.win 0).blk t).view.emb j) = V m c main_v5 j; rw [emb0]

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S48x5120x128.Idx) : ((cfg0.win 1).blk t).view.emb j = j := by
  obtain ⟨e0, e1, e2⟩ := idx_zero1 t
  funext a; apply Fin.ext
  match a with
  | ⟨0, _⟩ => show win0_1.index t (0 : Fin 3) * 48 + 1 * (j 0).val = (j 0).val; omega
  | ⟨1, _⟩ => show win0_1.index t (1 : Fin 3) * 5120 + 1 * (j 1).val = (j 1).val; omega
  | ⟨2, _⟩ => show win0_1.index t (2 : Fin 3) * 128 + 1 * (j 2).val = (j 2).val; omega

theorem iblk1_eq (c : Dev nD) (t : Fin cfg0.N) : iblk m c 1 t = V m c main_v2 := by
  funext j; show V m c main_v2 (((cfg0.win 1).blk t).view.emb j) = V m c main_v2 j; rw [emb1]

theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S48x8192x128.Idx) : ((cfg0.win 2).blk t).view.emb j = j := by
  obtain ⟨e0, e1, e2⟩ := idx_zero2 t
  funext a; apply Fin.ext
  match a with
  | ⟨0, _⟩ => show win0_2.index t (0 : Fin 3) * 48 + 1 * (j 0).val = (j 0).val; omega
  | ⟨1, _⟩ => show win0_2.index t (1 : Fin 3) * 8192 + 1 * (j 1).val = (j 1).val; omega
  | ⟨2, _⟩ => show win0_2.index t (2 : Fin 3) * 128 + 1 * (j 2).val = (j 2).val; omega

theorem iblk2_eq (c : Dev nD) (t : Fin cfg0.N) : iblk m c 2 t = V m c main_v6 := by
  funext j; show V m c main_v6 (((cfg0.win 2).blk t).view.emb j) = V m c main_v6 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (j : S48x1x8192.Idx) : ((cfg0.win 3).blk t).view.emb j = j := by
  obtain ⟨e0, e1, e2⟩ := idx_zero3 t
  funext a; apply Fin.ext
  match a with
  | ⟨0, _⟩ => show win0_3.index t (0 : Fin 3) * 48 + 1 * (j 0).val = (j 0).val; omega
  | ⟨1, _⟩ => show win0_3.index t (1 : Fin 3) * 1 + 1 * (j 1).val = (j 1).val; omega
  | ⟨2, _⟩ => show win0_3.index t (2 : Fin 3) * 8192 + 1 * (j 2).val = (j 2).val; omega

theorem iblk3_eq (c : Dev nD) (t : Fin cfg0.N) : iblk m c 3 t = V m c main_v7 := by
  funext j; show V m c main_v7 (((cfg0.win 3).blk t).view.emb j) = V m c main_v7 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb4 (t : Fin cfg0.N) (j : S48x8192x128.Idx) : ((cfg0.win 4).blk t).view.emb j = j := by
  obtain ⟨e0, e1, e2⟩ := idx_zero4 t
  funext a; apply Fin.ext
  match a with
  | ⟨0, _⟩ => show win0_4.index t (0 : Fin 3) * 48 + 1 * (j 0).val = (j 0).val; omega
  | ⟨1, _⟩ => show win0_4.index t (1 : Fin 3) * 8192 + 1 * (j 1).val = (j 1).val; omega
  | ⟨2, _⟩ => show win0_4.index t (2 : Fin 3) * 128 + 1 * (j 2).val = (j 2).val; omega

theorem iblk4_eq (c : Dev nD) (t : Fin cfg0.N) : iblk m c 4 t = V m c main_v8 := by
  funext j; show V m c main_v8 (((cfg0.win 4).blk t).view.emb j) = V m c main_v8 j; rw [emb4]

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (j : S48x1x8192.Idx) : ((cfg0.win 5).blk t).view.emb j = j := by
  obtain ⟨e0, e1, e2⟩ := idx_zero5 t
  funext a; apply Fin.ext
  match a with
  | ⟨0, _⟩ => show win0_5.index t (0 : Fin 3) * 48 + 1 * (j 0).val = (j 0).val; omega
  | ⟨1, _⟩ => show win0_5.index t (1 : Fin 3) * 1 + 1 * (j 1).val = (j 1).val; omega
  | ⟨2, _⟩ => show win0_5.index t (2 : Fin 3) * 8192 + 1 * (j 2).val = (j 2).val; omega

theorem iblk5_eq (c : Dev nD) (t : Fin cfg0.N) : iblk m c 5 t = V m c main_v9 := by
  funext j; show V m c main_v9 (((cfg0.win 5).blk t).view.emb j) = V m c main_v9 j; rw [emb5]

theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S48x5120x128.Idx) : ((cfg0.win 6).blk t).view.emb j = j := by
  obtain ⟨e0, e1, e2⟩ := idx_zero6 t
  funext a; apply Fin.ext
  match a with
  | ⟨0, _⟩ => show win0_6.index t (0 : Fin 3) * 48 + 1 * (j 0).val = (j 0).val; omega
  | ⟨1, _⟩ => show win0_6.index t (1 : Fin 3) * 5120 + 1 * (j 1).val = (j 1).val; omega
  | ⟨2, _⟩ => show win0_6.index t (2 : Fin 3) * 128 + 1 * (j 2).val = (j 2).val; omega

/-! ## The call's result -/

/-- What the call leaves, from the arrays it reads. -/
abbrev G (x0 : Vec Ideal S48x5120x1 .i32) (x1 : Vec Ideal S48x5120x128 .bf16) (x2 : Vec Ideal S48x8192x128 .fp8e4m3) (x3 : Vec Ideal S48x1x8192 .f32) (x4 : Vec Ideal S48x8192x128 .fp8e4m3) (x5 : Vec Ideal S48x1x8192 .f32) : Vec Ideal S48x5120x128 .f32 :=
  k0_pay1 (k0_pay3 x1 x0 x2 x3) (k0_pay4 x1 x4 x5 x0 x2 x3)

theorem out_eq (x0 : Vec Ideal S48x5120x1 .i32) (x1 : Vec Ideal S48x5120x128 .bf16) (x2 : Vec Ideal S48x8192x128 .fp8e4m3) (x3 : Vec Ideal S48x1x8192 .f32) (x4 : Vec Ideal S48x8192x128 .fp8e4m3) (x5 : Vec Ideal S48x1x8192 .f32) : out0_6 (F := Ideal) x0 x1 x2 x3 x4 x5 = G x0 x1 x2 x3 x4 x5 := by
  unfold out0_6
  rw [View.canon_unit_zero hz, View.ld_unit_zero (S := S48x5120x1) hz _ x0, View.ld_unit_zero (S := S48x5120x128) hz _ x1,
    View.ld_unit_zero (S := S48x8192x128) hz _ x2, View.ld_unit_zero (S := S48x1x8192) hz _ x3, View.ld_unit_zero (S := S48x8192x128) hz _ x4,
    View.ld_unit_zero (S := S48x1x8192) hz _ x5]

theorem cut_eq (t : Fin cfg0.N) (X : Vec Ideal S48x5120x128 .f32) :
    (cfg0.win 6).cut (grid0.coords t) X = ((cfg0.win 6).blk t).view.read (Elt Ideal) X := by
  funext j
  show X j = X (((cfg0.win 6).blk t).view.emb j)
  rw [emb6]

theorem flushed_eq (c : Dev nD) (t : Fin cfg0.N) :
    (dats m 0 c).flushed 6 t = ((cfg0.win 6).blk t).view.read (Elt Ideal)
      (G (V m c main_v5) (V m c main_v2) (V m c main_v6) (V m c main_v7) (V m c main_v8) (V m c main_v9)) := by
  show (cfg0.win 6).cut (grid0.coords t) ((dats m 0 c).after 6 t) = _
  rw [after0_6, out_eq, iblk0_eq, iblk1_eq, iblk2_eq, iblk3_eq, iblk4_eq, iblk5_eq]
  exact cut_eq t _

theorem covered (i : S48x5120x128.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final (c : Dev nD) : (dats m 0 c).arrAt 6 cfg0.N
    = G (V m c main_v5) (V m c main_v2) (V m c main_v6) (V m c main_v7) (V m c main_v8) (V m c main_v9) :=
  (dats m 0 c).arrAt_eq_of_cover 6 _ (fun t _ => flushed_eq m c t) covered

/-! ## The arrays the call reads -/

theorem V_v2 (c : Dev nD) : V m c main_v2 = shapeCast S48x5120x128 (transpose S6x8x4x20x64x128 [0, 1, 4, 2, 5, 3]
    (shapeCast S6x8x20x128x4x64 (m ((c : Thread nD τ).loc main_arg1)) shapeCasts_S6x8x20x128x256_S6x8x20x128x4x64)
    transposes_S6x8x20x128x4x64_S6x8x4x20x64x128_0_1_4_2_5_3) shapeCasts_S6x8x4x20x64x128_S48x5120x128 := by
  show StableHlo.after hostOps0 _ _ = _
  after_results
  rfl

theorem V_v5 (c : Dev nD) : V m c main_v5 = shapeCast S48x5120x1 (broadcastInDim S6x8x4x1280 ![0, 1, 2, 3] bcast_S6x1x1x1280_S6x8x4x1280_0_1_2_3
    (broadcastInDim S6x1x1x1280 ![0, 3] bcast_S6x1280_S6x1x1x1280_0_3 (m ((c : Thread nD τ).loc main_arg0)))) shapeCasts_S6x8x4x1280_S48x5120x1 := by
  show StableHlo.after hostOps0 _ _ = _
  after_results
  rfl

theorem V_v6 (c : Dev nD) : V m c main_v6 = shapeCast S48x8192x128 (m ((c : Thread nD τ).loc main_arg2)) shapeCasts_S6x8x8192x128_S48x8192x128 := by
  show StableHlo.after hostOps0 _ _ = _
  after_results
  rfl

theorem V_v7 (c : Dev nD) : V m c main_v7 = shapeCast S48x1x8192 (m ((c : Thread nD τ).loc main_arg3)) shapeCasts_S6x8x8192_S48x1x8192 := by
  show StableHlo.after hostOps0 _ _ = _
  after_results
  rfl

theorem V_v8 (c : Dev nD) : V m c main_v8 = shapeCast S48x8192x128 (m ((c : Thread nD τ).loc main_arg4)) shapeCasts_S6x8x8192x128_S48x8192x128 := by
  show StableHlo.after hostOps0 _ _ = _
  after_results
  rfl

theorem V_v9 (c : Dev nD) : V m c main_v9 = shapeCast S48x1x8192 (m ((c : Thread nD τ).loc main_arg5)) shapeCasts_S6x8x8192_S48x1x8192 := by
  show StableHlo.after hostOps0 _ _ = _
  after_results
  rfl

/-! ## The result -/

/-- The call's result laid out as the program's. -/
abbrev layout (x : Vec Ideal S48x5120x128 .f32) : Vec Ideal S6x1280x4096 .f32 :=
  shapeCast S6x1280x4096 (transpose S6x1280x8x4x128 [0, 3, 1, 2, 4] (shapeCast S6x8x4x1280x128 x shapeCasts_S48x5120x128_S6x8x4x1280x128)
    transposes_S6x8x4x1280x128_S6x1280x8x4x128_0_3_1_2_4) shapeCasts_S6x1280x8x4x128_S6x1280x4096

theorem tail (c : Dev nD) : Pipeline.afterTail₀ cfgs (dats m) 0 (V0 m) [hostOps1] c main_v13 = layout ((dats m 0 c).arrAt 6 cfg0.N) := by
  have e := Pipeline.withArrays_arr spec0 winFacts0.arr_inj c (V0 m c) (fun w => (dats m 0 c).arrAt w cfg0.N) 6
  unfold Pipeline.afterTail₀
  show StableHlo.after hostOps1 _ _ = _
  after_results
  rw [← e]
  rfl

theorem run : θ_run defs (onTc (τ := τ) (main (F := Ideal))) ⟨m, fun _ => 0, ρ⟩ fun r => ∀ c : Dev nD,
      r.2.mem ((c : Thread nD τ).loc main_v13)
        = layout (G (V m c main_v5) (V m c main_v2) (V m c main_v6) (V m c main_v7) (V m c main_v8) (V m c main_v9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨((hr.1 c).2 main_v13 (Pipeline.mem_restRefs_of main_v13 (by decide) (by decide))).trans
      ((tail m c).trans (congrArg layout (final m c))), hr.2 c⟩)
    (θ_run_and (run_main m ρ) (unchanged m ρ))

end Cert.AttendRefRun
end
-- ==== Proof.AttendRef.lean ====
/- Hand-written, untrusted: WHAT THE ATTENTION'S REFERENCE RETURNS, at an index, as a function of its arguments. -/
module

public import proofs.«01_k».proof.Proof.AttendRefRun
public import proofs.«01_k».proof.Proof.AttendDots
public import proofs.«01_k».proof.Proof.AttendFinal

@[expose] public section

noncomputable section
namespace Cert.AttendRef

open Cert.AttendReferenceIdeal Cert.AttendReferenceIdeal.Gen Idealize.ShloMosaic Idealize.ShloMosaic.TcCoe Idealize.SL.Sem
open Cert.AttendDots Cert.AttendRefRun Cert.AttnAt Cert.AttendArray Cert.Softmax
open scoped BigOperators

/-! ## The call -/

variable (pos : Vec Ideal S48x5120x1 .i32) (q : Vec Ideal S48x5120x128 .bf16) (k : Vec Ideal S48x8192x128 .fp8e4m3) (ks : Vec Ideal S48x1x8192 .f32)
  (v : Vec Ideal S48x8192x128 .fp8e4m3) (vs : Vec Ideal S48x1x8192 .f32)

/-- The scores of query `R` of stack `N`. -/
abbrev scoreOf (N : Fin 48) (R : Fin 5120) : ℕ → EReal :=
  score (fun d => q (ValueIdx.ix3 N R d)) (BitVec.toInt (n := 32) (pos (ValueIdx.ix3 N R 0))) (fun j d => k (ValueIdx.ix3 N j d))
    (fun j => ks (ValueIdx.ix3 N 0 j) * Cert.AttendScratch.unit)

theorem weight_apply (N : Fin 48) (R : Fin 5120) (j : Fin 8192) :
    k0_pay2 (F := Ideal) q pos k ks (ValueIdx.ix3 N R j) = weight (scoreOf pos q k ks N R) 8192 j.val := by
  unfold k0_pay2
  refine (weights3_apply (scores3 dot_S48x5120x128_S48x8192x128_S48x5120x8192_2_2_1_1_0_0 iota_S48x5120x8192_d2_w32
      broadcasts_S48x5120x1_S48x5120x8192 broadcasts_S48x1x8192_S48x5120x8192 0x3E0293EE#32
      (shapeCast S48x5120x128 q shapeCasts_S48x5120x128_S48x5120x128) (shapeCast S48x5120x1 pos shapeCasts_S48x5120x1_S48x5120x1)
      (extf .bf16 (shapeCast S48x8192x128 k shapeCasts_S48x8192x128_S48x8192x128) bitsLt_fp8e4m3_bf16)
      (shapeCast S48x1x8192 ks shapeCasts_S48x1x8192_S48x1x8192)) reduces_S48x5120x8192_S48x5120 shapeCasts_S48x5120_S48x5120x1
      broadcasts_S48x5120x1_S48x5120x8192 (scoreOf pos q k ks N R) N R (fun j => ?_) j)
  refine (scores3_apply (by decide) _ rfl _ _ _ _ _ _ _ _ N R j).trans ?_
  rw [shapeCast_self, shapeCast_self, shapeCast_self, shapeCast_self]
  unfold scoreOf score
  rw [dif_pos j.isLt]
  rfl

theorem call_apply (N : Fin 48) (R : Fin 5120) (e : Fin 128) :
    G pos q k ks v vs (ValueIdx.ix3 N R e)
      = attnAt (fun d => q (ValueIdx.ix3 N R d)) (BitVec.toInt (n := 32) (pos (ValueIdx.ix3 N R 0))) (fun j d => k (ValueIdx.ix3 N j d))
          (fun j => ks (ValueIdx.ix3 N 0 j) * Cert.AttendScratch.unit) (fun j => v (ValueIdx.ix3 N j e)) (fun j => vs (ValueIdx.ix3 N 0 j)) := by
  unfold G k0_pay1 k0_pay3 k0_pay4
  refine (mixed_apply (by decide) dot_S48x5120x8192_S48x8192x128_S48x5120x128_2_1_1_2_0_0 rfl bitsLt_bf16_f32 reduces_S48x5120x8192_S48x5120
    shapeCasts_S48x5120_S48x5120x1 broadcasts_S48x1x8192_S48x5120x8192 broadcasts_S48x5120x1_S48x5120x128 (k0_pay2 (F := Ideal) q pos k ks)
    (extf .bf16 (shapeCast S48x8192x128 v shapeCasts_S48x8192x128_S48x8192x128) bitsLt_fp8e4m3_bf16)
    (shapeCast S48x1x8192 vs shapeCasts_S48x1x8192_S48x1x8192) (scoreOf pos q k ks N R) (spread fun j => vs (ValueIdx.ix3 N 0 j))
    (spread fun j => v (ValueIdx.ix3 N j e)) N R e (weight_apply pos q k ks N R) (fun j => ?_) (fun j => ?_)).trans ?_
  · rw [shapeCast_self]; unfold spread; rw [dif_pos j.isLt]
  · rw [shapeCast_self]; unfold spread; rw [dif_pos j.isLt]; rfl
  · rfl

/-! ## The arrays the call reads, at an index -/

section Host

variable (m : (ℓ : Loc nD τ sig) → Buf (Elt Ideal) ℓ) (c : Dev nD)

/-- Sequence `b`, group `g` as one stack. -/
def stack (b : Fin 6) (g : Fin 8) : Fin 48 := ⟨b.val * 8 + g.val, by have := b.isLt; have := g.isLt; omega⟩

/-- Query `r` of block `n` for head `u` of the group. -/
def query (u : Fin 4) (n : Fin 20) (r : Fin 64) : Fin 5120 :=
  ⟨u.val * 1280 + (n.val * 64 + r.val), by have := u.isLt; have := n.isLt; have := r.isLt; omega⟩

theorem q_apply (b : Fin 6) (g : Fin 8) (u : Fin 4) (n : Fin 20) (r : Fin 64) (d : Fin 128) :
    V m c main_v2 (ValueIdx.ix3 (stack b g) (query u n r) d)
      = m ((c : Thread nD τ).loc main_arg1) (ValueIdx.ix5 b g n d (⟨u.val * 64 + r.val, by have := u.isLt; have := r.isLt; omega⟩ : Fin 256)) := by
  rw [V_v2]
  refine (shapeCast_apply _ _ _ (ValueIdx.ix6 b g u n r d) (by
    rw [Shape.rowMajor_val_six, Shape.rowMajor_val_three]
    show ((((b.val * 8 + g.val) * 4 + u.val) * 20 + n.val) * 64 + r.val) * 128 + d.val
      = ((b.val * 8 + g.val) * 5120 + (u.val * 1280 + (n.val * 64 + r.val))) * 128 + d.val
    omega)).trans ?_
  refine (transpose_apply _ _ _ _ (ValueIdx.ix6 b g n d u r) (fun a => by
    match a with
    | ⟨0, _⟩ => rfl
    | ⟨1, _⟩ => rfl
    | ⟨2, _⟩ => rfl
    | ⟨3, _⟩ => rfl
    | ⟨4, _⟩ => rfl
    | ⟨5, _⟩ => rfl)).trans ?_
  exact shapeCast_apply _ _ _ (ValueIdx.ix5 b g n d (⟨u.val * 64 + r.val, by have := u.isLt; have := r.isLt; omega⟩ : Fin 256)) (by
    rw [Shape.rowMajor_val_six, Shape.rowMajor_val_five]
    show (((b.val * 8 + g.val) * 20 + n.val) * 128 + d.val) * 256 + (u.val * 64 + r.val)
      = ((((b.val * 8 + g.val) * 20 + n.val) * 128 + d.val) * 4 + u.val) * 64 + r.val
    omega)

theorem pos_apply (b : Fin 6) (g : Fin 8) (u : Fin 4) (n : Fin 20) (r : Fin 64) :
    V m c main_v5 (ValueIdx.ix3 (stack b g) (query u n r) 0) = m ((c : Thread nD τ).loc main_arg0) (ValueIdx.ix2 b (row n r)) := by
  rw [V_v5]
  refine (shapeCast_apply _ _ _ (ValueIdx.ix4 b g u (row n r)) (by
    rw [Shape.rowMajor_val_four, Shape.rowMajor_val_three]
    show ((b.val * 8 + g.val) * 4 + u.val) * 1280 + (n.val * 64 + r.val)
      = ((b.val * 8 + g.val) * 5120 + (u.val * 1280 + (n.val * 64 + r.val))) * 1 + 0
    omega)).trans ?_
  refine (broadcastInDim_apply _ _ _ _ (ValueIdx.ix4 b 0 0 (row n r)) (fun a => by
    match a with
    | ⟨0, _⟩ => rfl
    | ⟨1, _⟩ => rfl
    | ⟨2, _⟩ => rfl
    | ⟨3, _⟩ => rfl)).trans ?_
  exact broadcastInDim_apply _ _ _ _ (ValueIdx.ix2 b (row n r)) (fun a => by
    match a with
    | ⟨0, _⟩ => rfl
    | ⟨1, _⟩ => rfl)

theorem k_apply (b : Fin 6) (g : Fin 8) (j : Fin 8192) (d : Fin 128) :
    V m c main_v6 (ValueIdx.ix3 (stack b g) j d) = m ((c : Thread nD τ).loc main_arg2) (ValueIdx.ix4 b g j d) := by
  rw [V_v6]
  exact shapeCast_apply _ _ _ (ValueIdx.ix4 b g j d) (by
    rw [Shape.rowMajor_val_four, Shape.rowMajor_val_three]; rfl)

theorem ks_apply (b : Fin 6) (g : Fin 8) (j : Fin 8192) :
    V m c main_v7 (ValueIdx.ix3 (stack b g) 0 j) = m ((c : Thread nD τ).loc main_arg3) (ValueIdx.ix3 b g j) := by
  rw [V_v7]
  exact shapeCast_apply _ _ _ (ValueIdx.ix3 b g j) (by
    rw [Shape.rowMajor_val_three, Shape.rowMajor_val_three]
    show (b.val * 8 + g.val) * 8192 + j.val = ((b.val * 8 + g.val) * 1 + 0) * 8192 + j.val
    omega)

theorem v_apply (b : Fin 6) (g : Fin 8) (j : Fin 8192) (d : Fin 128) :
    V m c main_v8 (ValueIdx.ix3 (stack b g) j d) = m ((c : Thread nD τ).loc main_arg4) (ValueIdx.ix4 b g j d) := by
  rw [V_v8]
  exact shapeCast_apply _ _ _ (ValueIdx.ix4 b g j d) (by
    rw [Shape.rowMajor_val_four, Shape.rowMajor_val_three]; rfl)

theorem vs_apply (b : Fin 6) (g : Fin 8) (j : Fin 8192) :
    V m c main_v9 (ValueIdx.ix3 (stack b g) 0 j) = m ((c : Thread nD τ).loc main_arg5) (ValueIdx.ix3 b g j) := by
  rw [V_v9]
  exact shapeCast_apply _ _ _ (ValueIdx.ix3 b g j) (by
    rw [Shape.rowMajor_val_three, Shape.rowMajor_val_three]
    show (b.val * 8 + g.val) * 8192 + j.val = ((b.val * 8 + g.val) * 1 + 0) * 8192 + j.val
    omega)

/-! ## The result, at an index -/

/-- Head and feature of a lane of a group. -/
def headOf (l : Fin 512) : Fin 4 := ⟨l.val / 128, by have := l.isLt; omega⟩
def featOf (l : Fin 512) : Fin 128 := ⟨l.val % 128, Nat.mod_lt _ (by decide)⟩

theorem layout_apply (x : Vec Ideal S48x5120x128 .f32) (b : Fin 6) (g : Fin 8) (n : Fin 20) (r : Fin 64) (l : Fin 512) :
    layout x (ValueIdx.ix3 b (row n r) (lane g l)) = x (ValueIdx.ix3 (stack b g) (query (headOf l) n r) (featOf l)) := by
  refine (shapeCast_apply _ _ _ (ValueIdx.ix5 b (row n r) g (headOf l) (featOf l)) (by
    rw [Shape.rowMajor_val_five, Shape.rowMajor_val_three]
    show (((b.val * 1280 + (n.val * 64 + r.val)) * 8 + g.val) * 4 + l.val / 128) * 128 + l.val % 128
      = (b.val * 1280 + (n.val * 64 + r.val)) * 4096 + (g.val * 512 + l.val)
    omega)).trans ?_
  refine (transpose_apply _ _ _ _ (ValueIdx.ix5 b g (headOf l) (row n r) (featOf l)) (fun a => by
    match a with
    | ⟨0, _⟩ => rfl
    | ⟨1, _⟩ => rfl
    | ⟨2, _⟩ => rfl
    | ⟨3, _⟩ => rfl
    | ⟨4, _⟩ => rfl)).trans ?_
  exact shapeCast_apply _ _ _ (ValueIdx.ix3 (stack b g) (query (headOf l) n r) (featOf l)) (by
    rw [Shape.rowMajor_val_five, Shape.rowMajor_val_three]
    show ((b.val * 8 + g.val) * 5120 + (l.val / 128 * 1280 + (n.val * 64 + r.val))) * 128 + l.val % 128
      = (((b.val * 8 + g.val) * 4 + l.val / 128) * 1280 + (n.val * 64 + r.val)) * 128 + l.val % 128
    omega)

theorem result_apply (b : Fin 6) (g : Fin 8) (n : Fin 20) (r : Fin 64) (l : Fin 512) :
    layout (G (V m c main_v5) (V m c main_v2) (V m c main_v6) (V m c main_v7) (V m c main_v8) (V m c main_v9)) (ValueIdx.ix3 b (row n r) (lane g l))
      = Cert.AttendFinal.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b g n r l := by
  rw [layout_apply, call_apply]
  unfold Cert.AttendFinal.result
  have hq := funext fun d => q_apply m c b g (headOf l) n r d
  have hp := congrArg (BitVec.toInt (n := 32)) (pos_apply m c b g (headOf l) n r)
  have hk := funext fun j => funext fun d => k_apply m c b g j d
  have hks := funext fun j => congrArg (fun z : EReal => z * Cert.AttendScratch.unit) (ks_apply m c b g j)
  have hv := funext fun j => v_apply m c b g j (featOf l)
  have hvs := funext fun j => vs_apply m c b g j
  exact congr (congr (congr (congr (congr (congrArg attnAt hq) hp) hk) hks) hv) hvs

end Host

end Cert.AttendRef
end
-- ==== Proof.AttendEq.lean ====
/- Hand-written, untrusted: THE ATTENTION'S EQUATION: over the extended reals the kernel's result is the reference's. -/
module

public import proofs.«01_k».proof.Defs
public import proofs.«01_k».proof.Proof.AttendFinal
public import proofs.«01_k».proof.Proof.AttendRef

@[expose] public section

noncomputable section
namespace Cert.AttendEq

open Idealize.ShloMosaic Idealize.ShloMosaic.TcCoe Idealize.SL.Sem Cert.AttendArray

variable (m : (ℓ : Loc Cert.AttendIdeal.nD Cert.AttendIdeal.τ Cert.AttendIdeal.sig) → Buf (Elt Ideal) ℓ)
  (h : Cert.Pre_AttendIdeal (hPre_ascending_positions := Cert.Pre_ascending_positions.Gen.facts) m)

/-- Every index of the result is a query of a block and a lane of a group. -/
theorem split_index (y : Cert.AttendIdeal.S6x1280x4096.Idx) :
    ∃ (b : Fin 6) (g : Fin 8) (n : Fin 20) (r : Fin 64) (l : Fin 512), y = ValueIdx.ix3 b (row n r) (lane g l) := by
  have h1 : (y 1).val < 1280 := (y 1).isLt
  have h2 : (y 2).val < 4096 := (y 2).isLt
  refine ⟨y 0, ⟨(y 2).val / 512, by omega⟩, ⟨(y 1).val / 64, by omega⟩, ⟨(y 1).val % 64, Nat.mod_lt _ (by decide)⟩,
    ⟨(y 2).val % 512, Nat.mod_lt _ (by decide)⟩, ?_⟩
  funext a; apply Fin.ext
  match a with
  | ⟨0, _⟩ => rfl
  | ⟨1, _⟩ => show (y 1).val = (y 1).val / 64 * 64 + (y 1).val % 64; omega
  | ⟨2, _⟩ => show (y 2).val = (y 2).val / 512 * 512 + (y 2).val % 512; omega

variable (m' : (ℓ : Loc Cert.AttendReferenceIdeal.nD Cert.AttendReferenceIdeal.τ Cert.AttendReferenceIdeal.sig) → Buf (Elt Ideal) ℓ)

theorem out_eq (c : Dev Cert.AttendIdeal.nD)
    (e0 : m' ((c : Thread Cert.AttendReferenceIdeal.nD Cert.AttendReferenceIdeal.τ).loc Cert.AttendReferenceIdeal.main_arg0)
      = m ((c : Thread Cert.AttendIdeal.nD Cert.AttendIdeal.τ).loc Cert.AttendIdeal.main_arg0))
    (e1 : m' ((c : Thread Cert.AttendReferenceIdeal.nD Cert.AttendReferenceIdeal.τ).loc Cert.AttendReferenceIdeal.main_arg1)
      = m ((c : Thread Cert.AttendIdeal.nD Cert.AttendIdeal.τ).loc Cert.AttendIdeal.main_arg1))
    (e2 : m' ((c : Thread Cert.AttendReferenceIdeal.nD Cert.AttendReferenceIdeal.τ).loc Cert.AttendReferenceIdeal.main_arg2)
      = m ((c : Thread Cert.AttendIdeal.nD Cert.AttendIdeal.τ).loc Cert.AttendIdeal.main_arg2))
    (e3 : m' ((c : Thread Cert.AttendReferenceIdeal.nD Cert.AttendReferenceIdeal.τ).loc Cert.AttendReferenceIdeal.main_arg3)
      = m ((c : Thread Cert.AttendIdeal.nD Cert.AttendIdeal.τ).loc Cert.AttendIdeal.main_arg3))
    (e4 : m' ((c : Thread Cert.AttendReferenceIdeal.nD Cert.AttendReferenceIdeal.τ).loc Cert.AttendReferenceIdeal.main_arg4)
      = m ((c : Thread Cert.AttendIdeal.nD Cert.AttendIdeal.τ).loc Cert.AttendIdeal.main_arg4))
    (e5 : m' ((c : Thread Cert.AttendReferenceIdeal.nD Cert.AttendReferenceIdeal.τ).loc Cert.AttendReferenceIdeal.main_arg5)
      = m ((c : Thread Cert.AttendIdeal.nD Cert.AttendIdeal.τ).loc Cert.AttendIdeal.main_arg5)) :
    Cert.AttendRefRun.layout (Cert.AttendRefRun.G (Cert.AttendReferenceIdeal.Gen.V m' c Cert.AttendReferenceIdeal.main_v5)
        (Cert.AttendReferenceIdeal.Gen.V m' c Cert.AttendReferenceIdeal.main_v2) (Cert.AttendReferenceIdeal.Gen.V m' c Cert.AttendReferenceIdeal.main_v6)
        (Cert.AttendReferenceIdeal.Gen.V m' c Cert.AttendReferenceIdeal.main_v7) (Cert.AttendReferenceIdeal.Gen.V m' c Cert.AttendReferenceIdeal.main_v8)
        (Cert.AttendReferenceIdeal.Gen.V m' c Cert.AttendReferenceIdeal.main_v9))
      = (Cert.AttendIdeal.Gen.dats m (Cert.AttendIdealHyps.ok m) (Cert.AttendIdealHyps.hyps m h) 0 c).arrAt 6
          (Cert.AttendIdeal.Gen.cfgM m (Cert.AttendIdealHyps.ok m)).N := by
  funext y
  obtain ⟨b, g, n, r, l, rfl⟩ := split_index y
  refine (Cert.AttendRef.result_apply m' c b g n r l).trans (Eq.trans ?_ (Cert.AttendFinal.final6 m h c b g n r l).symm)
  rw [e0, e1, e2, e3, e4, e5]

theorem algebraic : Cert.algebraic_AttendIdeal_AttendReferenceIdeal (hAttendIdeal := Cert.AttendIdeal.Gen.facts)
    (hAttendReferenceIdeal := Cert.AttendReferenceIdeal.Gen.facts) (hPre_ascending_positions := Cert.Pre_ascending_positions.Gen.facts) := by
  intro m g m' g' h hm
  refine ⟨fun c => (Cert.AttendIdeal.Gen.dats m (Cert.AttendIdealHyps.ok m) (Cert.AttendIdealHyps.hyps m h) 0 c).arrAt 6
      (Cert.AttendIdeal.Gen.cfgM m (Cert.AttendIdealHyps.ok m)).N, Cert.AttendFinal.run_blocks m h g, ?_⟩
  refine (θ_run _ _ _).mono (fun r hr c => ?_) (Cert.AttendRefRun.run m' g')
  obtain ⟨h0, hk⟩ := hr c
  obtain ⟨e0, e1, e2, e3, e4, e5⟩ := hm c
  exact ⟨h0.trans (out_eq m h m' c e0 e1 e2 e3 e4 e5), hk⟩

end Cert.AttendEq
end
-- ==== Proof.lean ====
module

public import proofs.«01_k».proof.Defs
public import proofs.«01_k».proof.Proof.Gen.Oproj
public import proofs.«01_k».proof.Proof.Gen.Oproj.Skeleton
public import proofs.«01_k».proof.Proof.Gen.Oproj.Loops
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Loops
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojReferenceIdeal
public import proofs.«01_k».proof.Proof.Gen.OprojReferenceIdeal.Skeleton
public import proofs.«01_k».proof.Proof.Gen.OprojReferenceIdeal.Launch
public import proofs.«01_k».proof.Proof.Gen.OprojReferenceIdeal.Points
public import proofs.«01_k».proof.Proof.Gen.OprojReferenceIdeal.Frame
public import proofs.«01_k».proof.Proof.Gen.OprojIdeal.Value
public import proofs.«01_k».proof.Proof.Gen.OprojReferenceIdeal.Value
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.AttendFrame
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.AttendIdealFrame
public import proofs.«01_k».proof.Proof.Gen.AttendReferenceIdeal
public import proofs.«01_k».proof.Proof.Gen.AttendReferenceIdeal.Skeleton
public import proofs.«01_k».proof.Proof.Gen.AttendReferenceIdeal.Launch
public import proofs.«01_k».proof.Proof.Gen.AttendReferenceIdeal.Points
public import proofs.«01_k».proof.Proof.Gen.AttendReferenceIdeal.Frame
public import proofs.«01_k».proof.Proof.Gen.Qkv
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.Pre_ascending_positions
public import proofs.«01_k».proof.Proof.OprojEq
public import proofs.«01_k».proof.Proof.QkvEq
public import proofs.«01_k».proof.Proof.AttendHyps
public import proofs.«01_k».proof.Proof.AttendIdealHyps
public import proofs.«01_k».proof.Proof.AttendEq
public import Idealize.ShloMosaic.Adequacy
public import Idealize.ShloMosaic.Init

@[expose] public section

noncomputable section

namespace Cert.Proof

open Idealize.ShloMosaic Idealize.SL.Sem Cert.Oproj

theorem claim : Cert.Claim := ⟨Cert.Oproj.Gen.facts, Cert.OprojIdeal.Gen.facts, Cert.OprojReferenceIdeal.Gen.facts,
  Cert.Qkv.Gen.facts, Cert.QkvIdeal.Gen.facts, Cert.QkvReferenceIdeal.Gen.facts,
  Cert.Attend.Gen.facts, Cert.AttendIdeal.Gen.facts, Cert.AttendReferenceIdeal.Gen.facts, Cert.Pre_ascending_positions.Gen.facts,
  fun m ρ _ => Cert.Oproj.Gen.frame m ρ, fun m ρ _ => Cert.OprojIdeal.Gen.frame m ρ, fun m ρ _ => Cert.OprojReferenceIdeal.Gen.frame m ρ,
  fun m ρ _ => Cert.Qkv.Gen.frame m ρ, fun m ρ _ => Cert.QkvIdeal.Gen.frame m ρ, fun m ρ _ => Cert.QkvReferenceIdeal.Gen.frame m ρ,
  fun m ρ h => Cert.Attend.Gen.frame m ρ (Cert.AttendHyps.ok m) (Cert.AttendHyps.hyps m h),
  fun m ρ h => Cert.AttendIdeal.Gen.frame m ρ (Cert.AttendIdealHyps.ok m) (Cert.AttendIdealHyps.hyps m h),
  fun m ρ _ => Cert.AttendReferenceIdeal.Gen.frame m ρ, trivial, Cert.OprojEq.algebraic, trivial, Cert.QkvEq.algebraic,
  trivial, Cert.AttendEq.algebraic⟩

end Cert.Proof

end
